-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct [hPre_distinct : Cert.Pre_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct [hPre_distinct : Cert.Pre_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_distinct [hKernelIdeal : Cert.KernelIdeal.Facts] [hPre_distinct : Cert.Pre_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_distinct [hReferenceIdeal : Cert.ReferenceIdeal.Facts] [hPre_distinct : Cert.Pre_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_distinct [hKernelIdeal : Cert.KernelIdeal.Facts] [hReferenceIdeal : Cert.ReferenceIdeal.Facts] [hPre_distinct : Cert.Pre_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_distinct : Cert.Pre_distinct.Facts),
    quiescent_Kernel (hKernel := hKernel)
    ∧ quiescent_KernelIdeal (hKernelIdeal := hKernelIdeal)
    ∧ quiescent_KernelIdeal_pre_distinct (hKernelIdeal := hKernelIdeal) (hPre_distinct := hPre_distinct)
    ∧ quiescent_ReferenceIdeal (hReferenceIdeal := hReferenceIdeal)
    ∧ quiescent_ReferenceIdeal_pre_distinct (hReferenceIdeal := hReferenceIdeal) (hPre_distinct := hPre_distinct)
    ∧ preserves_Kernel_KernelIdeal
    ∧ algebraic_KernelIdeal_ReferenceIdeal_pre_distinct (hKernelIdeal := hKernelIdeal) (hReferenceIdeal := hReferenceIdeal) (hPre_distinct := hPre_distinct)
-- ==== Pre_distinct.lean ====
abbrev S2x1024x7168 : Shape := ⟨3, ![2, 1024, 7168]⟩
abbrev S2x1024 : Shape := ⟨2, ![2, 1024]⟩
abbrev S7168x256 : Shape := ⟨2, ![7168, 256]⟩
abbrev S2x1024x8 : Shape := ⟨3, ![2, 1024, 8]⟩
abbrev S2x1024x8x1 : Shape := ⟨4, ![2, 1024, 8, 1]⟩
abbrev S2x1024x1x8 : Shape := ⟨4, ![2, 1024, 1, 8]⟩
abbrev S2x1024x8x8 : Shape := ⟨4, ![2, 1024, 8, 8]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S1x1x8x8 : Shape := ⟨4, ![1, 1, 8, 8]⟩

class Facts : Prop where
  bcast_S2x1024x8_S2x1024x8x1_0_1_2 : S2x1024x8.BroadcastsInDim S2x1024x8x1 (![0, 1, 2] : Fin 3 → Fin S2x1024x8x1.rank)
  bcast_S2x1024x8_S2x1024x1x8_0_1_3 : S2x1024x8.BroadcastsInDim S2x1024x1x8 (![0, 1, 3] : Fin 3 → Fin S2x1024x1x8.rank)
  bcast_S2x1024x8x1_S2x1024x8x8_0_1_2_3 : S2x1024x8x1.BroadcastsInDim S2x1024x8x8 (![0, 1, 2, 3] : Fin 4 → Fin S2x1024x8x8.rank)
  bcast_S2x1024x1x8_S2x1024x8x8_0_1_2_3 : S2x1024x1x8.BroadcastsInDim S2x1024x8x8 (![0, 1, 2, 3] : Fin 4 → Fin S2x1024x8x8.rank)
  bcast_S8_S8x1_0 : S8.BroadcastsInDim S8x1 (![0] : Fin 1 → Fin S8x1.rank)
  bcast_S8_S1x8_1 : S8.BroadcastsInDim S1x8 (![1] : Fin 1 → Fin S1x8.rank)
  bcast_S8x1_S8x8_0_1 : S8x1.BroadcastsInDim S8x8 (![0, 1] : Fin 2 → Fin S8x8.rank)
  bcast_S1x8_S8x8_0_1 : S1x8.BroadcastsInDim S8x8 (![0, 1] : Fin 2 → Fin S8x8.rank)
  bcast_S8x8_S1x1x8x8_2_3 : S8x8.BroadcastsInDim S1x1x8x8 (![2, 3] : Fin 2 → Fin S1x1x8x8.rank)
  bcast_S1x1x8x8_S2x1024x8x8_0_1_2_3 : S1x1x8x8.BroadcastsInDim S2x1024x8x8 (![0, 1, 2, 3] : Fin 4 → Fin S2x1024x8x8.rank)

variable [Facts]

def fn {F : FTy → Type} [FloatOps F] (main_arg0 : FVec F S2x1024x7168 .fp8e4m3) (main_arg1 : FVec F S2x1024 .f32) (main_arg2 : FVec F S7168x256 .bf16) (main_arg3 : IVec S2x1024x8 32) (main_arg4 : FVec F S2x1024x8 .bf16) (main_arg5 : FVec F S2x1024x7168 .bf16) : IVec S2x1024x8x8 1 :=
  let main_v0 : IVec S2x1024x8x1 32 := broadcastInDim S2x1024x8x1 ![0, 1, 2] bcast_S2x1024x8_S2x1024x8x1_0_1_2 main_arg3
  let main_v1 : IVec S2x1024x1x8 32 := broadcastInDim S2x1024x1x8 ![0, 1, 3] bcast_S2x1024x8_S2x1024x1x8_0_1_3 main_arg3
  let main_v2 : IVec S2x1024x8x8 32 := broadcastInDim S2x1024x8x8 ![0, 1, 2, 3] bcast_S2x1024x8x1_S2x1024x8x8_0_1_2_3 main_v0
  let main_v3 : IVec S2x1024x8x8 32 := broadcastInDim S2x1024x8x8 ![0, 1, 2, 3] bcast_S2x1024x1x8_S2x1024x8x8_0_1_2_3 main_v1
  let main_v4 : IVec S2x1024x8x8 1 := cmpi .eq main_v2 main_v3
  let main_v5 : IVec S8 32 := iotaInDim S8 32 0
  let main_v6 : IVec S2x1024x8x8 1 := noti main_v4
  let main_v7 : IVec S8x1 32 := broadcastInDim S8x1 ![0] bcast_S8_S8x1_0 main_v5
  let main_v8 : IVec S1x8 32 := broadcastInDim S1x8 ![1] bcast_S8_S1x8_1 main_v5
  let main_v9 : IVec S8x8 32 := broadcastInDim S8x8 ![0, 1] bcast_S8x1_S8x8_0_1 main_v7
  let main_v10 : IVec S8x8 32 := broadcastInDim S8x8 ![0, 1] bcast_S1x8_S8x8_0_1 main_v8
  let main_v11 : IVec S8x8 1 := cmpi .eq main_v9 main_v10
  let main_v12 : IVec S1x1x8x8 1 := broadcastInDim S1x1x8x8 ![2, 3] bcast_S8x8_S1x1x8x8_2_3 main_v11
  let main_v13 : IVec S2x1024x8x8 1 := broadcastInDim S2x1024x8x8 ![0, 1, 2, 3] bcast_S1x1x8x8_S2x1024x8x8_0_1_2_3 main_v12
  let main_v14 : IVec S2x1024x8x8 1 := ori main_v6 main_v13
  main_v14
-- ==== Kernel.lean ====
abbrev S2x1024x7168 : Shape := ⟨3, ![2, 1024, 7168]⟩
abbrev S2x1024 : Shape := ⟨2, ![2, 1024]⟩
abbrev S7168x256 : Shape := ⟨2, ![7168, 256]⟩
abbrev S2x1024x8 : Shape := ⟨3, ![2, 1024, 8]⟩
abbrev S2048x7168 : Shape := ⟨2, ![2048, 7168]⟩
abbrev S2x8x1024 : Shape := ⟨3, ![2, 8, 1024]⟩
abbrev S2048x256 : Shape := ⟨2, ![2048, 256]⟩
abbrev S256x7168 : Shape := ⟨2, ![256, 7168]⟩
abbrev S256x512 : Shape := ⟨2, ![256, 512]⟩
abbrev S512x256 : Shape := ⟨2, ![512, 256]⟩
abbrev S4x512x1024 : Shape := ⟨3, ![4, 512, 1024]⟩
abbrev S3x512x1024 : Shape := ⟨3, ![3, 512, 1024]⟩
abbrev S2x1024x256 : Shape := ⟨3, ![2, 1024, 256]⟩
abbrev S_ : Shape := ⟨0, ![]⟩
abbrev S7 : Shape := ⟨1, ![7]⟩
abbrev S2 : Shape := ⟨1, ![2]⟩
abbrev S4 : Shape := ⟨1, ![4]⟩
abbrev S3 : Shape := ⟨1, ![3]⟩
abbrev S1 : Shape := ⟨1, ![1]⟩
abbrev S1024x256 : Shape := ⟨2, ![1024, 256]⟩
abbrev S512x1024 : Shape := ⟨2, ![512, 1024]⟩
abbrev S1x512x1024 : Shape := ⟨3, ![1, 512, 1024]⟩
abbrev S256x1024 : Shape := ⟨2, ![256, 1024]⟩
abbrev S256x256 : Shape := ⟨2, ![256, 256]⟩
abbrev S1x8x128 : Shape := ⟨3, ![1, 8, 128]⟩
abbrev S8x128 : Shape := ⟨2, ![8, 128]⟩
abbrev S2x128 : Shape := ⟨2, ![2, 128]⟩
abbrev S1x128 : Shape := ⟨2, ![1, 128]⟩
abbrev S8x128x1 : Shape := ⟨3, ![8, 128, 1]⟩
abbrev S128 : Shape := ⟨1, ![128]⟩
abbrev S256x128 : Shape := ⟨2, ![256, 128]⟩
abbrev S128x256 : Shape := ⟨2, ![128, 256]⟩
abbrev S1x256x512 : Shape := ⟨3, ![1, 256, 512]⟩
abbrev S1x1024x256 : Shape := ⟨3, ![1, 1024, 256]⟩
abbrev S1x256x256 : Shape := ⟨3, ![1, 256, 256]⟩

abbrev nBuf : Space → Nat
  | .hbm => 13
  | .vmem => 14
  | .smem => 0
  | _ => 0

abbrev bufTy : (tb : Table) → Fin (tcTables nBuf tb) → BufTy
  | .hbm, ⟨0, _⟩ => ⟨S2x1024x7168, .fp8e4m3⟩
  | .hbm, ⟨1, _⟩ => ⟨S2x1024, .f32⟩
  | .hbm, ⟨2, _⟩ => ⟨S7168x256, .bf16⟩
  | .hbm, ⟨3, _⟩ => ⟨S2x1024x8, .i32⟩
  | .hbm, ⟨4, _⟩ => ⟨S2x1024x8, .bf16⟩
  | .hbm, ⟨5, _⟩ => ⟨S2x1024x7168, .bf16⟩
  | .hbm, ⟨6, _⟩ => ⟨S2048x7168, .fp8e4m3⟩
  | .hbm, ⟨7, _⟩ => ⟨S2x8x1024, .i32⟩
  | .hbm, ⟨8, _⟩ => ⟨S2x8x1024, .bf16⟩
  | .hbm, ⟨9, _⟩ => ⟨S2048x7168, .bf16⟩
  | .hbm, ⟨10, _⟩ => ⟨S2048x7168, .bf16⟩
  | .hbm, ⟨11, _⟩ => ⟨S7168x256, .f32⟩
  | .hbm, ⟨12, _⟩ => ⟨S2048x256, .f32⟩
  | .local _ .vmem, ⟨0, _⟩ => ⟨S2048x7168, .fp8e4m3⟩
  | .local _ .vmem, ⟨1, _⟩ => ⟨S7168x256, .bf16⟩
  | .local _ .vmem, ⟨2, _⟩ => ⟨S256x7168, .bf16⟩
  | .local _ .vmem, ⟨3, _⟩ => ⟨S256x7168, .f32⟩
  | .local _ .vmem, ⟨4, _⟩ => ⟨S256x512, .f32⟩
  | .local _ .vmem, ⟨5, _⟩ => ⟨S512x256, .bf16⟩
  | .local _ .vmem, ⟨6, _⟩ => ⟨S256x512, .bf16⟩
  | .local _ .vmem, ⟨7, _⟩ => ⟨S4x512x1024, .bf16⟩
  | .local _ .vmem, ⟨8, _⟩ => ⟨S3x512x1024, .bf16⟩
  | .local _ .vmem, ⟨9, _⟩ => ⟨S512x256, .f32⟩
  | .local _ .vmem, ⟨10, _⟩ => ⟨S2x1024x256, .f32⟩
  | .local _ .vmem, ⟨11, _⟩ => ⟨S2x8x1024, .i32⟩
  | .local _ .vmem, ⟨12, _⟩ => ⟨S2x8x1024, .bf16⟩
  | .local _ .vmem, ⟨13, _⟩ => ⟨S2x1024, .f32⟩
  | _, _ => ⟨S2x1024x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩

abbrev nD : Nat := 1
abbrev τ : Topo := Topo.v7x

variable {F : FTy → Type} [FloatOps F]

abbrev grid0 : Pipeline.Grid := .none

def k0_mult1 : BitVec 32 :=
  let c0_i32 : BitVec 32 := 0#32
  c0_i32
def k0_mult2 : BitVec 32 :=
  let c0_i32_3 : BitVec 32 := 0#32
  c0_i32_3
def k0_mult3 : BitVec 32 :=
  let c0_i32_4 : BitVec 32 := 0#32
  c0_i32_4
def k0_mult4 : BitVec 32 :=
  let c1024_i32 : BitVec 32 := 1024#32
  c1024_i32
def k0_mult5 : BitVec 32 :=
  let c0_i32_8 : BitVec 32 := 0#32
  c0_i32_8
def k0_mult6 : BitVec 32 :=
  let c1024_i32_9 : BitVec 32 := 1024#32
  c1024_i32_9
def k0_mult7 : BitVec 32 :=
  let c2048_i32 : BitVec 32 := 2048#32
  c2048_i32
def k0_mult8 : BitVec 32 :=
  let c0_i32_13 : BitVec 32 := 0#32
  c0_i32_13
def k0_mult9 : BitVec 32 :=
  let c2048_i32_14 : BitVec 32 := 2048#32
  c2048_i32_14
def k0_mult10 : BitVec 32 :=
  let c3072_i32 : BitVec 32 := 3072#32
  c3072_i32
def k0_mult11 : BitVec 32 :=
  let c0_i32_18 : BitVec 32 := 0#32
  c0_i32_18
def k0_mult12 : BitVec 32 :=
  let c3072_i32_19 : BitVec 32 := 3072#32
  c3072_i32_19
def k0_mult13 : BitVec 32 :=
  let c4096_i32 : BitVec 32 := 4096#32
  c4096_i32
def k0_mult14 : BitVec 32 :=
  let c0_i32_23 : BitVec 32 := 0#32
  c0_i32_23
def k0_mult15 : BitVec 32 :=
  let c4096_i32_24 : BitVec 32 := 4096#32
  c4096_i32_24
def k0_mult16 : BitVec 32 :=
  let c5120_i32 : BitVec 32 := 5120#32
  c5120_i32
def k0_mult17 : BitVec 32 :=
  let c0_i32_28 : BitVec 32 := 0#32
  c0_i32_28
def k0_mult18 : BitVec 32 :=
  let c5120_i32_29 : BitVec 32 := 5120#32
  c5120_i32_29
def k0_mult19 : BitVec 32 :=
  let c6144_i32 : BitVec 32 := 6144#32
  c6144_i32
def k0_mult20 : BitVec 32 :=
  let c0_i32_33 : BitVec 32 := 0#32
  c0_i32_33
def k0_mult21 : BitVec 32 :=
  let c6144_i32_34 : BitVec 32 := 6144#32
  c6144_i32_34
def k0_mult22 : BitVec 32 :=
  let c0_i32_36 : BitVec 32 := 0#32
  c0_i32_36
def k0_mult23 : BitVec 32 :=
  let c0_i32_37 : BitVec 32 := 0#32
  c0_i32_37
def k0_mult24 : BitVec 32 :=
  let c0_i32_42 : BitVec 32 := 0#32
  c0_i32_42
def k0_mult25 : BitVec 32 :=
  let c1024_i32_43 : BitVec 32 := 1024#32
  c1024_i32_43
def k0_mult26 : BitVec 32 :=
  let c0_i32_48 : BitVec 32 := 0#32
  c0_i32_48
def k0_mult27 : BitVec 32 :=
  let c2048_i32_49 : BitVec 32 := 2048#32
  c2048_i32_49
def k0_mult28 : BitVec 32 :=
  let c0_i32_54 : BitVec 32 := 0#32
  c0_i32_54
def k0_mult29 : BitVec 32 :=
  let c3072_i32_55 : BitVec 32 := 3072#32
  c3072_i32_55
def k0_mult30 : BitVec 32 :=
  let c512_i32 : BitVec 32 := 512#32
  c512_i32
def k0_mult31 : BitVec 32 :=
  let c0_i32_60 : BitVec 32 := 0#32
  c0_i32_60
def k0_mult32 : BitVec 32 :=
  let c512_i32_62 : BitVec 32 := 512#32
  c512_i32_62
def k0_mult33 : BitVec 32 :=
  let c1024_i32_63 : BitVec 32 := 1024#32
  c1024_i32_63
def k0_mult34 : BitVec 32 :=
  let c512_i32_65 : BitVec 32 := 512#32
  c512_i32_65
def k0_mult35 : BitVec 32 :=
  let c2048_i32_66 : BitVec 32 := 2048#32
  c2048_i32_66
def k0_mult36 : BitVec 32 :=
  let c512_i32_68 : BitVec 32 := 512#32
  c512_i32_68
def k0_mult37 : BitVec 32 :=
  let c3072_i32_69 : BitVec 32 := 3072#32
  c3072_i32_69
def k0_mult38 : BitVec 32 :=
  let c512_i32_71 : BitVec 32 := 512#32
  c512_i32_71
def k0_mult39 : BitVec 32 :=
  let c4096_i32_72 : BitVec 32 := 4096#32
  c4096_i32_72
def k0_mult40 : BitVec 32 :=
  let c512_i32_74 : BitVec 32 := 512#32
  c512_i32_74
def k0_mult41 : BitVec 32 :=
  let c5120_i32_75 : BitVec 32 := 5120#32
  c5120_i32_75
def k0_mult42 : BitVec 32 :=
  let c512_i32_77 : BitVec 32 := 512#32
  c512_i32_77
def k0_mult43 : BitVec 32 :=
  let c6144_i32_78 : BitVec 32 := 6144#32
  c6144_i32_78
@[reducible] def k0_t1_loop : Scf.Loop 32 :=
  let c0_i32_84 : BitVec 32 := 0#32
  let c7_i32 : BitVec 32 := 7#32
  let v155 : BitVec 32 := Scalar.addi c0_i32_84 c7_i32
  let c1_i32_85 : BitVec 32 := 1#32
  ⟨c0_i32_84, v155, c1_i32_85⟩
def k0_mult44 (k0_t1 : Fin k0_t1_loop.trips) : BitVec 32 :=
  let c0_i32_1940 : BitVec 32 := 0#32
  let c0_i32_84 : BitVec 32 := 0#32
  let c1_i32_85 : BitVec 32 := 1#32
  let arg30 : BitVec 32 := Scf.iv c0_i32_84 c1_i32_85 k0_t1
  let c1_i32_1939 : BitVec 32 := 1#32
  let v5459 : BitVec 32 := Scalar.muli arg30 c1_i32_1939
  let v5460 : BitVec 32 := Scalar.addi c0_i32_1940 v5459
  let c1024_i32_1941 : BitVec 32 := 1024#32
  let v5461 : BitVec 32 := Scalar.muli v5460 c1024_i32_1941
  v5461
def k0_off1 (k0_t1 : Fin k0_t1_loop.trips) : Fin 1 → Nat :=
  let c0_i32_1940 : BitVec 32 := 0#32
  let c0_i32_84 : BitVec 32 := 0#32
  let c1_i32_85 : BitVec 32 := 1#32
  let arg30 : BitVec 32 := Scf.iv c0_i32_84 c1_i32_85 k0_t1
  let c1_i32_1939 : BitVec 32 := 1#32
  let v5459 : BitVec 32 := Scalar.muli arg30 c1_i32_1939
  let v5460 : BitVec 32 := Scalar.addi c0_i32_1940 v5459
  ![v5460.toNat]
def k0_off2 (k0_t1 : Fin k0_t1_loop.trips) : Fin 2 → Nat :=
  let c0_i32_1940 : BitVec 32 := 0#32
  let c0_i32_84 : BitVec 32 := 0#32
  let c1_i32_85 : BitVec 32 := 1#32
  let arg30 : BitVec 32 := Scf.iv c0_i32_84 c1_i32_85 k0_t1
  let c1_i32_1939 : BitVec 32 := 1#32
  let v5459 : BitVec 32 := Scalar.muli arg30 c1_i32_1939
  let v5460 : BitVec 32 := Scalar.addi c0_i32_1940 v5459
  let c1024_i32_1941 : BitVec 32 := 1024#32
  let v5461 : BitVec 32 := Scalar.muli v5460 c1024_i32_1941
  let v5462 : BitVec 32 := v5461
  let c0_i32_1942 : BitVec 32 := 0#32
  ![v5462.toNat, 0]
def k0_mult45 : BitVec 32 :=
  let c0_i32_1944 : BitVec 32 := 0#32
  c0_i32_1944
def k0_mult46 (k0_t1 : Fin k0_t1_loop.trips) : BitVec 32 :=
  let c0_i32_1940 : BitVec 32 := 0#32
  let c0_i32_84 : BitVec 32 := 0#32
  let c1_i32_85 : BitVec 32 := 1#32
  let arg30 : BitVec 32 := Scf.iv c0_i32_84 c1_i32_85 k0_t1
  let c1_i32_1939 : BitVec 32 := 1#32
  let v5459 : BitVec 32 := Scalar.muli arg30 c1_i32_1939
  let v5460 : BitVec 32 := Scalar.addi c0_i32_1940 v5459
  let c1024_i32_1945 : BitVec 32 := 1024#32
  let v5468 : BitVec 32 := Scalar.muli v5460 c1024_i32_1945
  v5468
def k0_off3 (k0_t1 : Fin k0_t1_loop.trips) : Fin 2 → Nat :=
  let c0_i32_1944 : BitVec 32 := 0#32
  let v5467 : BitVec 32 := c0_i32_1944
  let c0_i32_1940 : BitVec 32 := 0#32
  let c0_i32_84 : BitVec 32 := 0#32
  let c1_i32_85 : BitVec 32 := 1#32
  let arg30 : BitVec 32 := Scf.iv c0_i32_84 c1_i32_85 k0_t1
  let c1_i32_1939 : BitVec 32 := 1#32
  let v5459 : BitVec 32 := Scalar.muli arg30 c1_i32_1939
  let v5460 : BitVec 32 := Scalar.addi c0_i32_1940 v5459
  let c1024_i32_1945 : BitVec 32 := 1024#32
  let v5468 : BitVec 32 := Scalar.muli v5460 c1024_i32_1945
  let v5469 : BitVec 32 := v5468
  ![0, v5469.toNat]
def k0_mult47 (k0_t1 : Fin k0_t1_loop.trips) : BitVec 32 :=
  let c0_i32_1940 : BitVec 32 := 0#32
  let c0_i32_84 : BitVec 32 := 0#32
  let c1_i32_85 : BitVec 32 := 1#32
  let arg30 : BitVec 32 := Scf.iv c0_i32_84 c1_i32_85 k0_t1
  let c1_i32_1939 : BitVec 32 := 1#32
  let v5459 : BitVec 32 := Scalar.muli arg30 c1_i32_1939
  let v5460 : BitVec 32 := Scalar.addi c0_i32_1940 v5459
  let c1024_i32_1946 : BitVec 32 := 1024#32
  let v5474 : BitVec 32 := Scalar.muli v5460 c1024_i32_1946
  v5474
def k0_off4 (k0_t1 : Fin k0_t1_loop.trips) : Fin 2 → Nat :=
  let c0_i32_1940 : BitVec 32 := 0#32
  let c0_i32_84 : BitVec 32 := 0#32
  let c1_i32_85 : BitVec 32 := 1#32
  let arg30 : BitVec 32 := Scf.iv c0_i32_84 c1_i32_85 k0_t1
  let c1_i32_1939 : BitVec 32 := 1#32
  let v5459 : BitVec 32 := Scalar.muli arg30 c1_i32_1939
  let v5460 : BitVec 32 := Scalar.addi c0_i32_1940 v5459
  let c1024_i32_1946 : BitVec 32 := 1024#32
  let v5474 : BitVec 32 := Scalar.muli v5460 c1024_i32_1946
  let v5475 : BitVec 32 := v5474
  let v5476 : Index := Scalar.indexCast v5475
  let c0_1947 : Index := 0#32
  ![v5476.toNat, 0]
def k0_off5 (k0_t1 : Fin k0_t1_loop.trips) : Fin 2 → Nat :=
  let c0_1948 : Index := 0#32
  let c0_i32_1940 : BitVec 32 := 0#32
  let c0_i32_84 : BitVec 32 := 0#32
  let c1_i32_85 : BitVec 32 := 1#32
  let arg30 : BitVec 32 := Scf.iv c0_i32_84 c1_i32_85 k0_t1
  let c1_i32_1939 : BitVec 32 := 1#32
  let v5459 : BitVec 32 := Scalar.muli arg30 c1_i32_1939
  let v5460 : BitVec 32 := Scalar.addi c0_i32_1940 v5459
  let c1024_i32_1946 : BitVec 32 := 1024#32
  let v5474 : BitVec 32 := Scalar.muli v5460 c1024_i32_1946
  let v5475 : BitVec 32 := v5474
  let v5479 : Index := Scalar.indexCast v5475
  ![0, v5479.toNat]
def k0_mult48 (k0_t1 : Fin k0_t1_loop.trips) : BitVec 32 :=
  let c0_i32_1940 : BitVec 32 := 0#32
  let c0_i32_84 : BitVec 32 := 0#32
  let c1_i32_85 : BitVec 32 := 1#32
  let arg30 : BitVec 32 := Scf.iv c0_i32_84 c1_i32_85 k0_t1
  let c1_i32_1939 : BitVec 32 := 1#32
  let v5459 : BitVec 32 := Scalar.muli arg30 c1_i32_1939
  let v5460 : BitVec 32 := Scalar.addi c0_i32_1940 v5459
  let c1024_i32_1949 : BitVec 32 := 1024#32
  let v5483 : BitVec 32 := Scalar.muli v5460 c1024_i32_1949
  v5483
def k0_mult49 : BitVec 32 :=
  let c0_i32_1950 : BitVec 32 := 0#32
  c0_i32_1950
def k0_off6 (k0_t1 : Fin k0_t1_loop.trips) (c0_i32_1951 : BitVec 32) : Fin 2 → Nat :=
  let c0_i32_1950 : BitVec 32 := 0#32
  let v5485 : BitVec 32 := c0_i32_1950
  let v5486 : BitVec 32 := Scalar.addi v5485 c0_i32_1951
  let v5490 : Index := Scalar.indexCast v5486
  let c0_i32_1940 : BitVec 32 := 0#32
  let c0_i32_84 : BitVec 32 := 0#32
  let c1_i32_85 : BitVec 32 := 1#32
  let arg30 : BitVec 32 := Scf.iv c0_i32_84 c1_i32_85 k0_t1
  let c1_i32_1939 : BitVec 32 := 1#32
  let v5459 : BitVec 32 := Scalar.muli arg30 c1_i32_1939
  let v5460 : BitVec 32 := Scalar.addi c0_i32_1940 v5459
  let c1024_i32_1949 : BitVec 32 := 1024#32
  let v5483 : BitVec 32 := Scalar.muli v5460 c1024_i32_1949
  let v5484 : BitVec 32 := v5483
  let v5491 : Index := Scalar.indexCast v5484
  ![v5490.toNat, v5491.toNat]
def k0_mult50 (k0_t1 : Fin k0_t1_loop.trips) : BitVec 32 :=
  let c0_i32_1940 : BitVec 32 := 0#32
  let c0_i32_84 : BitVec 32 := 0#32
  let c1_i32_85 : BitVec 32 := 1#32
  let arg30 : BitVec 32 := Scf.iv c0_i32_84 c1_i32_85 k0_t1
  let c1_i32_1939 : BitVec 32 := 1#32
  let v5459 : BitVec 32 := Scalar.muli arg30 c1_i32_1939
  let v5460 : BitVec 32 := Scalar.addi c0_i32_1940 v5459
  let c1024_i32_1958 : BitVec 32 := 1024#32
  let v5498 : BitVec 32 := Scalar.muli v5460 c1024_i32_1958
  v5498
def k0_mult51 : BitVec 32 :=
  let c0_i32_1959 : BitVec 32 := 0#32
  c0_i32_1959
def k0_mult52 : BitVec 32 :=
  let c0_i32_87 : BitVec 32 := 0#32
  c0_i32_87
def k0_off7 (c0_i32_88 : BitVec 32) : Fin 3 → Nat :=
  let c0_89 : Index := 0#32
  let c0_90 : Index := 0#32
  let c0_i32_87 : BitVec 32 := 0#32
  let v156 : BitVec 32 := c0_i32_87
  let v157 : BitVec 32 := Scalar.addi v156 c0_i32_88
  let v158 : Index := Scalar.indexCast v157
  ![0, 0, v158.toNat]
def k0_off8 (c0_i32_88 : BitVec 32) : Fin 2 → Nat :=
  let c0_91 : Index := 0#32
  let c0_i32_87 : BitVec 32 := 0#32
  let v156 : BitVec 32 := c0_i32_87
  let v157 : BitVec 32 := Scalar.addi v156 c0_i32_88
  let v161 : Index := Scalar.indexCast v157
  ![0, v161.toNat]
def k0_mult53 : BitVec 32 :=
  let c0_i32_477 : BitVec 32 := 0#32
  c0_i32_477
def k0_mult54 : BitVec 32 :=
  let c0_i32_951 : BitVec 32 := 0#32
  c0_i32_951
def k0_mult55 : BitVec 32 :=
  let c0_i32_1423 : BitVec 32 := 0#32
  c0_i32_1423
def k0_mult56 : BitVec 32 :=
  let c0_i32_1898 : BitVec 32 := 0#32
  c0_i32_1898
@[reducible] def k0_t2_loop : Scf.Loop 32 :=
  let c0_i32_1900 : BitVec 32 := 0#32
  let c3_i32_1901 : BitVec 32 := 3#32
  let v5422 : BitVec 32 := Scalar.addi c0_i32_1900 c3_i32_1901
  let c1_i32_1902 : BitVec 32 := 1#32
  ⟨c0_i32_1900, v5422, c1_i32_1902⟩
@[reducible] def k0_t3_loop : Scf.Loop 32 :=
  let c0_i32_1941 : BitVec 32 := 0#32
  let c7_i32_1942 : BitVec 32 := 7#32
  let v5461 : BitVec 32 := Scalar.addi c0_i32_1941 c7_i32_1942
  let c1_i32_1943 : BitVec 32 := 1#32
  ⟨c0_i32_1941, v5461, c1_i32_1943⟩
def k0_mult57 (k0_t2 : Fin k0_t2_loop.trips) : BitVec 32 :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c1_i32_3879 : BitVec 32 := 1#32
  let v10810 : BitVec 32 := Scalar.addi v5460 c1_i32_3879
  let c512_i32_3887 : BitVec 32 := 512#32
  let v10822 : BitVec 32 := Scalar.muli v10810 c512_i32_3887
  v10822
def k0_mult58 (k0_t3 : Fin k0_t3_loop.trips) : BitVec 32 :=
  let c0_i32_3878 : BitVec 32 := 0#32
  let c0_i32_1941 : BitVec 32 := 0#32
  let c1_i32_1943 : BitVec 32 := 1#32
  let arg31 : BitVec 32 := Scf.iv c0_i32_1941 c1_i32_1943 k0_t3
  let c1_i32_3877 : BitVec 32 := 1#32
  let v10808 : BitVec 32 := Scalar.muli arg31 c1_i32_3877
  let v10809 : BitVec 32 := Scalar.addi c0_i32_3878 v10808
  let c1024_i32_3888 : BitVec 32 := 1024#32
  let v10824 : BitVec 32 := Scalar.muli v10809 c1024_i32_3888
  v10824
def k0_off9 (k0_t2 : Fin k0_t2_loop.trips) : Fin 1 → Nat :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c1_i32_3880 : BitVec 32 := 1#32
  let v10811 : BitVec 32 := Scalar.addi v5460 c1_i32_3880
  let c2_i32_3881 : BitVec 32 := 2#32
  let c0_i32_3882 : BitVec 32 := 0#32
  let v10812 : BitVec 1 := Scalar.cmpi .eq c2_i32_3881 c0_i32_3882
  let c1_i32_3883 : BitVec 32 := 1#32
  let v10813 : BitVec 32 := Scalar.select v10812 c1_i32_3883 c2_i32_3881
  let v10814 : BitVec 32 := Scalar.remsi v10811 v10813
  let c0_i32_3885 : BitVec 32 := 0#32
  let v10816 : BitVec 1 := Scalar.cmpi .slt v10814 c0_i32_3885
  let c0_i32_3886 : BitVec 32 := 0#32
  let v10817 : BitVec 1 := Scalar.cmpi .slt v10813 c0_i32_3886
  let v10818 : BitVec 1 := Scalar.xori v10816 v10817
  let c0_i32_3884 : BitVec 32 := 0#32
  let v10815 : BitVec 1 := Scalar.cmpi .ne v10814 c0_i32_3884
  let v10819 : BitVec 1 := Scalar.andi v10818 v10815
  let v10820 : BitVec 32 := Scalar.addi v10814 v10813
  let v10821 : BitVec 32 := Scalar.select v10819 v10820 v10814
  ![v10821.toNat]
def k0_off10 (k0_t2 : Fin k0_t2_loop.trips) (k0_t3 : Fin k0_t3_loop.trips) : Fin 2 → Nat :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c1_i32_3879 : BitVec 32 := 1#32
  let v10810 : BitVec 32 := Scalar.addi v5460 c1_i32_3879
  let c512_i32_3887 : BitVec 32 := 512#32
  let v10822 : BitVec 32 := Scalar.muli v10810 c512_i32_3887
  let v10823 : BitVec 32 := v10822
  let c0_i32_3878 : BitVec 32 := 0#32
  let c0_i32_1941 : BitVec 32 := 0#32
  let c1_i32_1943 : BitVec 32 := 1#32
  let arg31 : BitVec 32 := Scf.iv c0_i32_1941 c1_i32_1943 k0_t3
  let c1_i32_3877 : BitVec 32 := 1#32
  let v10808 : BitVec 32 := Scalar.muli arg31 c1_i32_3877
  let v10809 : BitVec 32 := Scalar.addi c0_i32_3878 v10808
  let c1024_i32_3888 : BitVec 32 := 1024#32
  let v10824 : BitVec 32 := Scalar.muli v10809 c1024_i32_3888
  let v10825 : BitVec 32 := v10824
  ![v10823.toNat, v10825.toNat]
@[reducible] def k0_t4_loop : Scf.Loop 32 :=
  let c0_i32_1945 : BitVec 32 := 0#32
  let c7_i32_1946 : BitVec 32 := 7#32
  let v5462 : BitVec 32 := Scalar.addi c0_i32_1945 c7_i32_1946
  let c1_i32_1947 : BitVec 32 := 1#32
  ⟨c0_i32_1945, v5462, c1_i32_1947⟩
def k0_mult59 (k0_t2 : Fin k0_t2_loop.trips) (k0_t4 : Fin k0_t4_loop.trips) : BitVec 32 :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c7_i32_3879 : BitVec 32 := 7#32
  let v10810 : BitVec 32 := Scalar.muli v5460 c7_i32_3879
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let v10811 : BitVec 32 := Scalar.addi v10810 v10809
  let c0_i32_3881 : BitVec 32 := 0#32
  let v10813 : BitVec 1 := Scalar.cmpi .sgt v10811 c0_i32_3881
  let v10814 : BitVec 32 := Scalar.extui v10813
  let c0_i32_3882 : BitVec 32 := 0#32
  let v10815 : BitVec 1 := Scalar.cmpi .slt v10811 c0_i32_3882
  let v10816 : BitVec 32 := Scalar.extui v10815
  let v10817 : BitVec 32 := Scalar.subi v10814 v10816
  let c7_i32_3880 : BitVec 32 := 7#32
  let c0_i32_3883 : BitVec 32 := 0#32
  let v10818 : BitVec 1 := Scalar.cmpi .sgt c7_i32_3880 c0_i32_3883
  let v10819 : BitVec 32 := Scalar.extui v10818
  let c0_i32_3884 : BitVec 32 := 0#32
  let v10820 : BitVec 1 := Scalar.cmpi .slt c7_i32_3880 c0_i32_3884
  let v10821 : BitVec 32 := Scalar.extui v10820
  let v10822 : BitVec 32 := Scalar.subi v10819 v10821
  let v10823 : BitVec 1 := Scalar.cmpi .ne v10817 v10822
  let v10824 : BitVec 32 := Scalar.remsi v10811 c7_i32_3880
  let c0_i32_3885 : BitVec 32 := 0#32
  let v10825 : BitVec 1 := Scalar.cmpi .ne v10824 c0_i32_3885
  let v10826 : BitVec 1 := Scalar.andi v10823 v10825
  let v10812 : BitVec 32 := Scalar.divsi v10811 c7_i32_3880
  let c1_i32_3886 : BitVec 32 := 1#32
  let v10827 : BitVec 32 := Scalar.subi v10812 c1_i32_3886
  let v10828 : BitVec 32 := Scalar.select v10826 v10827 v10812
  let c512_i32_3893 : BitVec 32 := 512#32
  let v10839 : BitVec 32 := Scalar.muli v10828 c512_i32_3893
  v10839
def k0_mult60 (k0_t2 : Fin k0_t2_loop.trips) (k0_t4 : Fin k0_t4_loop.trips) : BitVec 32 :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c7_i32_3879 : BitVec 32 := 7#32
  let v10810 : BitVec 32 := Scalar.muli v5460 c7_i32_3879
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let v10811 : BitVec 32 := Scalar.addi v10810 v10809
  let c7_i32_3887 : BitVec 32 := 7#32
  let c0_i32_3888 : BitVec 32 := 0#32
  let v10829 : BitVec 1 := Scalar.cmpi .eq c7_i32_3887 c0_i32_3888
  let c1_i32_3889 : BitVec 32 := 1#32
  let v10830 : BitVec 32 := Scalar.select v10829 c1_i32_3889 c7_i32_3887
  let v10831 : BitVec 32 := Scalar.remsi v10811 v10830
  let c0_i32_3891 : BitVec 32 := 0#32
  let v10833 : BitVec 1 := Scalar.cmpi .slt v10831 c0_i32_3891
  let c0_i32_3892 : BitVec 32 := 0#32
  let v10834 : BitVec 1 := Scalar.cmpi .slt v10830 c0_i32_3892
  let v10835 : BitVec 1 := Scalar.xori v10833 v10834
  let c0_i32_3890 : BitVec 32 := 0#32
  let v10832 : BitVec 1 := Scalar.cmpi .ne v10831 c0_i32_3890
  let v10836 : BitVec 1 := Scalar.andi v10835 v10832
  let v10837 : BitVec 32 := Scalar.addi v10831 v10830
  let v10838 : BitVec 32 := Scalar.select v10836 v10837 v10831
  let c1024_i32_3894 : BitVec 32 := 1024#32
  let v10841 : BitVec 32 := Scalar.muli v10838 c1024_i32_3894
  v10841
def k0_off11 (k0_t2 : Fin k0_t2_loop.trips) (k0_t4 : Fin k0_t4_loop.trips) : Fin 1 → Nat :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c7_i32_3879 : BitVec 32 := 7#32
  let v10810 : BitVec 32 := Scalar.muli v5460 c7_i32_3879
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let v10811 : BitVec 32 := Scalar.addi v10810 v10809
  let c4_i32_3895 : BitVec 32 := 4#32
  let c0_i32_3896 : BitVec 32 := 0#32
  let v10843 : BitVec 1 := Scalar.cmpi .eq c4_i32_3895 c0_i32_3896
  let c1_i32_3897 : BitVec 32 := 1#32
  let v10844 : BitVec 32 := Scalar.select v10843 c1_i32_3897 c4_i32_3895
  let v10845 : BitVec 32 := Scalar.remsi v10811 v10844
  let c0_i32_3899 : BitVec 32 := 0#32
  let v10847 : BitVec 1 := Scalar.cmpi .slt v10845 c0_i32_3899
  let c0_i32_3900 : BitVec 32 := 0#32
  let v10848 : BitVec 1 := Scalar.cmpi .slt v10844 c0_i32_3900
  let v10849 : BitVec 1 := Scalar.xori v10847 v10848
  let c0_i32_3898 : BitVec 32 := 0#32
  let v10846 : BitVec 1 := Scalar.cmpi .ne v10845 c0_i32_3898
  let v10850 : BitVec 1 := Scalar.andi v10849 v10846
  let v10851 : BitVec 32 := Scalar.addi v10845 v10844
  let v10852 : BitVec 32 := Scalar.select v10850 v10851 v10845
  ![v10852.toNat]
def k0_off12 (k0_t2 : Fin k0_t2_loop.trips) (k0_t4 : Fin k0_t4_loop.trips) : Fin 3 → Nat :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c7_i32_3879 : BitVec 32 := 7#32
  let v10810 : BitVec 32 := Scalar.muli v5460 c7_i32_3879
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let v10811 : BitVec 32 := Scalar.addi v10810 v10809
  let c4_i32_3895 : BitVec 32 := 4#32
  let c0_i32_3896 : BitVec 32 := 0#32
  let v10843 : BitVec 1 := Scalar.cmpi .eq c4_i32_3895 c0_i32_3896
  let c1_i32_3897 : BitVec 32 := 1#32
  let v10844 : BitVec 32 := Scalar.select v10843 c1_i32_3897 c4_i32_3895
  let v10845 : BitVec 32 := Scalar.remsi v10811 v10844
  let c0_i32_3899 : BitVec 32 := 0#32
  let v10847 : BitVec 1 := Scalar.cmpi .slt v10845 c0_i32_3899
  let c0_i32_3900 : BitVec 32 := 0#32
  let v10848 : BitVec 1 := Scalar.cmpi .slt v10844 c0_i32_3900
  let v10849 : BitVec 1 := Scalar.xori v10847 v10848
  let c0_i32_3898 : BitVec 32 := 0#32
  let v10846 : BitVec 1 := Scalar.cmpi .ne v10845 c0_i32_3898
  let v10850 : BitVec 1 := Scalar.andi v10849 v10846
  let v10851 : BitVec 32 := Scalar.addi v10845 v10844
  let v10852 : BitVec 32 := Scalar.select v10850 v10851 v10845
  let c0_i32_3901 : BitVec 32 := 0#32
  let c0_i32_3902 : BitVec 32 := 0#32
  ![v10852.toNat, 0, 0]
def k0_off13 (k0_t2 : Fin k0_t2_loop.trips) (k0_t4 : Fin k0_t4_loop.trips) : Fin 2 → Nat :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c7_i32_3879 : BitVec 32 := 7#32
  let v10810 : BitVec 32 := Scalar.muli v5460 c7_i32_3879
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let v10811 : BitVec 32 := Scalar.addi v10810 v10809
  let c0_i32_3881 : BitVec 32 := 0#32
  let v10813 : BitVec 1 := Scalar.cmpi .sgt v10811 c0_i32_3881
  let v10814 : BitVec 32 := Scalar.extui v10813
  let c0_i32_3882 : BitVec 32 := 0#32
  let v10815 : BitVec 1 := Scalar.cmpi .slt v10811 c0_i32_3882
  let v10816 : BitVec 32 := Scalar.extui v10815
  let v10817 : BitVec 32 := Scalar.subi v10814 v10816
  let c7_i32_3880 : BitVec 32 := 7#32
  let c0_i32_3883 : BitVec 32 := 0#32
  let v10818 : BitVec 1 := Scalar.cmpi .sgt c7_i32_3880 c0_i32_3883
  let v10819 : BitVec 32 := Scalar.extui v10818
  let c0_i32_3884 : BitVec 32 := 0#32
  let v10820 : BitVec 1 := Scalar.cmpi .slt c7_i32_3880 c0_i32_3884
  let v10821 : BitVec 32 := Scalar.extui v10820
  let v10822 : BitVec 32 := Scalar.subi v10819 v10821
  let v10823 : BitVec 1 := Scalar.cmpi .ne v10817 v10822
  let v10824 : BitVec 32 := Scalar.remsi v10811 c7_i32_3880
  let c0_i32_3885 : BitVec 32 := 0#32
  let v10825 : BitVec 1 := Scalar.cmpi .ne v10824 c0_i32_3885
  let v10826 : BitVec 1 := Scalar.andi v10823 v10825
  let v10812 : BitVec 32 := Scalar.divsi v10811 c7_i32_3880
  let c1_i32_3886 : BitVec 32 := 1#32
  let v10827 : BitVec 32 := Scalar.subi v10812 c1_i32_3886
  let v10828 : BitVec 32 := Scalar.select v10826 v10827 v10812
  let c512_i32_3893 : BitVec 32 := 512#32
  let v10839 : BitVec 32 := Scalar.muli v10828 c512_i32_3893
  let v10840 : BitVec 32 := v10839
  let c7_i32_3887 : BitVec 32 := 7#32
  let c0_i32_3888 : BitVec 32 := 0#32
  let v10829 : BitVec 1 := Scalar.cmpi .eq c7_i32_3887 c0_i32_3888
  let c1_i32_3889 : BitVec 32 := 1#32
  let v10830 : BitVec 32 := Scalar.select v10829 c1_i32_3889 c7_i32_3887
  let v10831 : BitVec 32 := Scalar.remsi v10811 v10830
  let c0_i32_3891 : BitVec 32 := 0#32
  let v10833 : BitVec 1 := Scalar.cmpi .slt v10831 c0_i32_3891
  let c0_i32_3892 : BitVec 32 := 0#32
  let v10834 : BitVec 1 := Scalar.cmpi .slt v10830 c0_i32_3892
  let v10835 : BitVec 1 := Scalar.xori v10833 v10834
  let c0_i32_3890 : BitVec 32 := 0#32
  let v10832 : BitVec 1 := Scalar.cmpi .ne v10831 c0_i32_3890
  let v10836 : BitVec 1 := Scalar.andi v10835 v10832
  let v10837 : BitVec 32 := Scalar.addi v10831 v10830
  let v10838 : BitVec 32 := Scalar.select v10836 v10837 v10831
  let c1024_i32_3894 : BitVec 32 := 1024#32
  let v10841 : BitVec 32 := Scalar.muli v10838 c1024_i32_3894
  let v10842 : BitVec 32 := v10841
  ![v10840.toNat, v10842.toNat]
def k0_cond1 (k0_t2 : Fin k0_t2_loop.trips) (k0_t4 : Fin k0_t4_loop.trips) : BitVec 1 :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c7_i32_3879 : BitVec 32 := 7#32
  let v10810 : BitVec 32 := Scalar.muli v5460 c7_i32_3879
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let v10811 : BitVec 32 := Scalar.addi v10810 v10809
  let c3_i32_3903 : BitVec 32 := 3#32
  let v10858 : BitVec 1 := Scalar.cmpi .sge v10811 c3_i32_3903
  let v10859 : BitVec 32 := Scalar.extui v10858
  let c0_i32_3904 : BitVec 32 := 0#32
  let v10860 : BitVec 1 := Scalar.cmpi .ne v10859 c0_i32_3904
  v10860

def k0_mult61 (k0_t2 : Fin k0_t2_loop.trips) (k0_t4 : Fin k0_t4_loop.trips) : BitVec 32 :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c7_i32_3879 : BitVec 32 := 7#32
  let v10810 : BitVec 32 := Scalar.muli v5460 c7_i32_3879
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let v10811 : BitVec 32 := Scalar.addi v10810 v10809
  let c3_i32_4072 : BitVec 32 := 3#32
  let v11165 : BitVec 32 := Scalar.subi v10811 c3_i32_4072
  let c0_i32_4074 : BitVec 32 := 0#32
  let v11167 : BitVec 1 := Scalar.cmpi .sgt v11165 c0_i32_4074
  let v11168 : BitVec 32 := Scalar.extui v11167
  let c0_i32_4075 : BitVec 32 := 0#32
  let v11169 : BitVec 1 := Scalar.cmpi .slt v11165 c0_i32_4075
  let v11170 : BitVec 32 := Scalar.extui v11169
  let v11171 : BitVec 32 := Scalar.subi v11168 v11170
  let c7_i32_4073 : BitVec 32 := 7#32
  let c0_i32_4076 : BitVec 32 := 0#32
  let v11172 : BitVec 1 := Scalar.cmpi .sgt c7_i32_4073 c0_i32_4076
  let v11173 : BitVec 32 := Scalar.extui v11172
  let c0_i32_4077 : BitVec 32 := 0#32
  let v11174 : BitVec 1 := Scalar.cmpi .slt c7_i32_4073 c0_i32_4077
  let v11175 : BitVec 32 := Scalar.extui v11174
  let v11176 : BitVec 32 := Scalar.subi v11173 v11175
  let v11177 : BitVec 1 := Scalar.cmpi .ne v11171 v11176
  let v11178 : BitVec 32 := Scalar.remsi v11165 c7_i32_4073
  let c0_i32_4078 : BitVec 32 := 0#32
  let v11179 : BitVec 1 := Scalar.cmpi .ne v11178 c0_i32_4078
  let v11180 : BitVec 1 := Scalar.andi v11177 v11179
  let v11166 : BitVec 32 := Scalar.divsi v11165 c7_i32_4073
  let c1_i32_4079 : BitVec 32 := 1#32
  let v11181 : BitVec 32 := Scalar.subi v11166 c1_i32_4079
  let v11182 : BitVec 32 := Scalar.select v11180 v11181 v11166
  let c512_i32_4086 : BitVec 32 := 512#32
  let v11193 : BitVec 32 := Scalar.muli v11182 c512_i32_4086
  v11193
def k0_mult62 (k0_t2 : Fin k0_t2_loop.trips) (k0_t4 : Fin k0_t4_loop.trips) : BitVec 32 :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c7_i32_3879 : BitVec 32 := 7#32
  let v10810 : BitVec 32 := Scalar.muli v5460 c7_i32_3879
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let v10811 : BitVec 32 := Scalar.addi v10810 v10809
  let c3_i32_4072 : BitVec 32 := 3#32
  let v11165 : BitVec 32 := Scalar.subi v10811 c3_i32_4072
  let c7_i32_4080 : BitVec 32 := 7#32
  let c0_i32_4081 : BitVec 32 := 0#32
  let v11183 : BitVec 1 := Scalar.cmpi .eq c7_i32_4080 c0_i32_4081
  let c1_i32_4082 : BitVec 32 := 1#32
  let v11184 : BitVec 32 := Scalar.select v11183 c1_i32_4082 c7_i32_4080
  let v11185 : BitVec 32 := Scalar.remsi v11165 v11184
  let c0_i32_4084 : BitVec 32 := 0#32
  let v11187 : BitVec 1 := Scalar.cmpi .slt v11185 c0_i32_4084
  let c0_i32_4085 : BitVec 32 := 0#32
  let v11188 : BitVec 1 := Scalar.cmpi .slt v11184 c0_i32_4085
  let v11189 : BitVec 1 := Scalar.xori v11187 v11188
  let c0_i32_4083 : BitVec 32 := 0#32
  let v11186 : BitVec 1 := Scalar.cmpi .ne v11185 c0_i32_4083
  let v11190 : BitVec 1 := Scalar.andi v11189 v11186
  let v11191 : BitVec 32 := Scalar.addi v11185 v11184
  let v11192 : BitVec 32 := Scalar.select v11190 v11191 v11185
  let c1024_i32_4087 : BitVec 32 := 1024#32
  let v11195 : BitVec 32 := Scalar.muli v11192 c1024_i32_4087
  v11195
def k0_off14 (k0_t2 : Fin k0_t2_loop.trips) (k0_t4 : Fin k0_t4_loop.trips) : Fin 1 → Nat :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c7_i32_3879 : BitVec 32 := 7#32
  let v10810 : BitVec 32 := Scalar.muli v5460 c7_i32_3879
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let v10811 : BitVec 32 := Scalar.addi v10810 v10809
  let c3_i32_4072 : BitVec 32 := 3#32
  let v11165 : BitVec 32 := Scalar.subi v10811 c3_i32_4072
  let c3_i32_4088 : BitVec 32 := 3#32
  let c0_i32_4089 : BitVec 32 := 0#32
  let v11197 : BitVec 1 := Scalar.cmpi .eq c3_i32_4088 c0_i32_4089
  let c1_i32_4090 : BitVec 32 := 1#32
  let v11198 : BitVec 32 := Scalar.select v11197 c1_i32_4090 c3_i32_4088
  let v11199 : BitVec 32 := Scalar.remsi v11165 v11198
  let c0_i32_4092 : BitVec 32 := 0#32
  let v11201 : BitVec 1 := Scalar.cmpi .slt v11199 c0_i32_4092
  let c0_i32_4093 : BitVec 32 := 0#32
  let v11202 : BitVec 1 := Scalar.cmpi .slt v11198 c0_i32_4093
  let v11203 : BitVec 1 := Scalar.xori v11201 v11202
  let c0_i32_4091 : BitVec 32 := 0#32
  let v11200 : BitVec 1 := Scalar.cmpi .ne v11199 c0_i32_4091
  let v11204 : BitVec 1 := Scalar.andi v11203 v11200
  let v11205 : BitVec 32 := Scalar.addi v11199 v11198
  let v11206 : BitVec 32 := Scalar.select v11204 v11205 v11199
  ![v11206.toNat]
def k0_off15 (k0_t2 : Fin k0_t2_loop.trips) (k0_t4 : Fin k0_t4_loop.trips) : Fin 2 → Nat :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c7_i32_3879 : BitVec 32 := 7#32
  let v10810 : BitVec 32 := Scalar.muli v5460 c7_i32_3879
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let v10811 : BitVec 32 := Scalar.addi v10810 v10809
  let c3_i32_4072 : BitVec 32 := 3#32
  let v11165 : BitVec 32 := Scalar.subi v10811 c3_i32_4072
  let c0_i32_4074 : BitVec 32 := 0#32
  let v11167 : BitVec 1 := Scalar.cmpi .sgt v11165 c0_i32_4074
  let v11168 : BitVec 32 := Scalar.extui v11167
  let c0_i32_4075 : BitVec 32 := 0#32
  let v11169 : BitVec 1 := Scalar.cmpi .slt v11165 c0_i32_4075
  let v11170 : BitVec 32 := Scalar.extui v11169
  let v11171 : BitVec 32 := Scalar.subi v11168 v11170
  let c7_i32_4073 : BitVec 32 := 7#32
  let c0_i32_4076 : BitVec 32 := 0#32
  let v11172 : BitVec 1 := Scalar.cmpi .sgt c7_i32_4073 c0_i32_4076
  let v11173 : BitVec 32 := Scalar.extui v11172
  let c0_i32_4077 : BitVec 32 := 0#32
  let v11174 : BitVec 1 := Scalar.cmpi .slt c7_i32_4073 c0_i32_4077
  let v11175 : BitVec 32 := Scalar.extui v11174
  let v11176 : BitVec 32 := Scalar.subi v11173 v11175
  let v11177 : BitVec 1 := Scalar.cmpi .ne v11171 v11176
  let v11178 : BitVec 32 := Scalar.remsi v11165 c7_i32_4073
  let c0_i32_4078 : BitVec 32 := 0#32
  let v11179 : BitVec 1 := Scalar.cmpi .ne v11178 c0_i32_4078
  let v11180 : BitVec 1 := Scalar.andi v11177 v11179
  let v11166 : BitVec 32 := Scalar.divsi v11165 c7_i32_4073
  let c1_i32_4079 : BitVec 32 := 1#32
  let v11181 : BitVec 32 := Scalar.subi v11166 c1_i32_4079
  let v11182 : BitVec 32 := Scalar.select v11180 v11181 v11166
  let c512_i32_4086 : BitVec 32 := 512#32
  let v11193 : BitVec 32 := Scalar.muli v11182 c512_i32_4086
  let v11194 : BitVec 32 := v11193
  let c7_i32_4080 : BitVec 32 := 7#32
  let c0_i32_4081 : BitVec 32 := 0#32
  let v11183 : BitVec 1 := Scalar.cmpi .eq c7_i32_4080 c0_i32_4081
  let c1_i32_4082 : BitVec 32 := 1#32
  let v11184 : BitVec 32 := Scalar.select v11183 c1_i32_4082 c7_i32_4080
  let v11185 : BitVec 32 := Scalar.remsi v11165 v11184
  let c0_i32_4084 : BitVec 32 := 0#32
  let v11187 : BitVec 1 := Scalar.cmpi .slt v11185 c0_i32_4084
  let c0_i32_4085 : BitVec 32 := 0#32
  let v11188 : BitVec 1 := Scalar.cmpi .slt v11184 c0_i32_4085
  let v11189 : BitVec 1 := Scalar.xori v11187 v11188
  let c0_i32_4083 : BitVec 32 := 0#32
  let v11186 : BitVec 1 := Scalar.cmpi .ne v11185 c0_i32_4083
  let v11190 : BitVec 1 := Scalar.andi v11189 v11186
  let v11191 : BitVec 32 := Scalar.addi v11185 v11184
  let v11192 : BitVec 32 := Scalar.select v11190 v11191 v11185
  let c1024_i32_4087 : BitVec 32 := 1024#32
  let v11195 : BitVec 32 := Scalar.muli v11192 c1024_i32_4087
  let v11196 : BitVec 32 := v11195
  ![v11194.toNat, v11196.toNat]
def k0_off16 (k0_t2 : Fin k0_t2_loop.trips) (k0_t4 : Fin k0_t4_loop.trips) : Fin 3 → Nat :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c7_i32_3879 : BitVec 32 := 7#32
  let v10810 : BitVec 32 := Scalar.muli v5460 c7_i32_3879
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let v10811 : BitVec 32 := Scalar.addi v10810 v10809
  let c3_i32_4072 : BitVec 32 := 3#32
  let v11165 : BitVec 32 := Scalar.subi v10811 c3_i32_4072
  let c3_i32_4088 : BitVec 32 := 3#32
  let c0_i32_4089 : BitVec 32 := 0#32
  let v11197 : BitVec 1 := Scalar.cmpi .eq c3_i32_4088 c0_i32_4089
  let c1_i32_4090 : BitVec 32 := 1#32
  let v11198 : BitVec 32 := Scalar.select v11197 c1_i32_4090 c3_i32_4088
  let v11199 : BitVec 32 := Scalar.remsi v11165 v11198
  let c0_i32_4092 : BitVec 32 := 0#32
  let v11201 : BitVec 1 := Scalar.cmpi .slt v11199 c0_i32_4092
  let c0_i32_4093 : BitVec 32 := 0#32
  let v11202 : BitVec 1 := Scalar.cmpi .slt v11198 c0_i32_4093
  let v11203 : BitVec 1 := Scalar.xori v11201 v11202
  let c0_i32_4091 : BitVec 32 := 0#32
  let v11200 : BitVec 1 := Scalar.cmpi .ne v11199 c0_i32_4091
  let v11204 : BitVec 1 := Scalar.andi v11203 v11200
  let v11205 : BitVec 32 := Scalar.addi v11199 v11198
  let v11206 : BitVec 32 := Scalar.select v11204 v11205 v11199
  let c0_i32_4094 : BitVec 32 := 0#32
  let c0_i32_4095 : BitVec 32 := 0#32
  ![v11206.toNat, 0, 0]
def k0_mult63 (k0_t4 : Fin k0_t4_loop.trips) : BitVec 32 :=
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let c1024_i32_3907 : BitVec 32 := 1024#32
  let v10862 : BitVec 32 := Scalar.muli v10809 c1024_i32_3907
  v10862
def k0_off17 (k0_t4 : Fin k0_t4_loop.trips) (c0_i32_3908 : BitVec 32) : Fin 2 → Nat :=
  let c0_3909 : Index := 0#32
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let c1024_i32_3907 : BitVec 32 := 1024#32
  let v10862 : BitVec 32 := Scalar.muli v10809 c1024_i32_3907
  let v10863 : BitVec 32 := v10862
  let v10864 : BitVec 32 := Scalar.addi v10863 c0_i32_3908
  let v10865 : Index := Scalar.indexCast v10864
  ![0, v10865.toNat]
def k0_off18 (k0_t2 : Fin k0_t2_loop.trips) (k0_t4 : Fin k0_t4_loop.trips) : Fin 3 → Nat :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c7_i32_3879 : BitVec 32 := 7#32
  let v10810 : BitVec 32 := Scalar.muli v5460 c7_i32_3879
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let v10811 : BitVec 32 := Scalar.addi v10810 v10809
  let c4_i32_3911 : BitVec 32 := 4#32
  let c0_i32_3912 : BitVec 32 := 0#32
  let v10868 : BitVec 1 := Scalar.cmpi .eq c4_i32_3911 c0_i32_3912
  let c1_i32_3913 : BitVec 32 := 1#32
  let v10869 : BitVec 32 := Scalar.select v10868 c1_i32_3913 c4_i32_3911
  let v10870 : BitVec 32 := Scalar.remsi v10811 v10869
  let c0_i32_3915 : BitVec 32 := 0#32
  let v10872 : BitVec 1 := Scalar.cmpi .slt v10870 c0_i32_3915
  let c0_i32_3916 : BitVec 32 := 0#32
  let v10873 : BitVec 1 := Scalar.cmpi .slt v10869 c0_i32_3916
  let v10874 : BitVec 1 := Scalar.xori v10872 v10873
  let c0_i32_3914 : BitVec 32 := 0#32
  let v10871 : BitVec 1 := Scalar.cmpi .ne v10870 c0_i32_3914
  let v10875 : BitVec 1 := Scalar.andi v10874 v10871
  let v10876 : BitVec 32 := Scalar.addi v10870 v10869
  let v10877 : BitVec 32 := Scalar.select v10875 v10876 v10870
  let v10878 : Index := Scalar.indexCast v10877
  let c0_3917 : Index := 0#32
  let c0_3918 : Index := 0#32
  ![v10878.toNat, 0, 0]
def k0_off19 (k0_t2 : Fin k0_t2_loop.trips) (k0_t4 : Fin k0_t4_loop.trips) : Fin 3 → Nat :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c7_i32_3879 : BitVec 32 := 7#32
  let v10810 : BitVec 32 := Scalar.muli v5460 c7_i32_3879
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let v10811 : BitVec 32 := Scalar.addi v10810 v10809
  let c3_i32_3919 : BitVec 32 := 3#32
  let c0_i32_3920 : BitVec 32 := 0#32
  let v10884 : BitVec 1 := Scalar.cmpi .eq c3_i32_3919 c0_i32_3920
  let c1_i32_3921 : BitVec 32 := 1#32
  let v10885 : BitVec 32 := Scalar.select v10884 c1_i32_3921 c3_i32_3919
  let v10886 : BitVec 32 := Scalar.remsi v10811 v10885
  let c0_i32_3923 : BitVec 32 := 0#32
  let v10888 : BitVec 1 := Scalar.cmpi .slt v10886 c0_i32_3923
  let c0_i32_3924 : BitVec 32 := 0#32
  let v10889 : BitVec 1 := Scalar.cmpi .slt v10885 c0_i32_3924
  let v10890 : BitVec 1 := Scalar.xori v10888 v10889
  let c0_i32_3922 : BitVec 32 := 0#32
  let v10887 : BitVec 1 := Scalar.cmpi .ne v10886 c0_i32_3922
  let v10891 : BitVec 1 := Scalar.andi v10890 v10887
  let v10892 : BitVec 32 := Scalar.addi v10886 v10885
  let v10893 : BitVec 32 := Scalar.select v10891 v10892 v10886
  let v10894 : Index := Scalar.indexCast v10893
  let c0_3925 : Index := 0#32
  let c0_3926 : Index := 0#32
  ![v10894.toNat, 0, 0]
def k0_mult64 (k0_t4 : Fin k0_t4_loop.trips) : BitVec 32 :=
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let c1024_i32_3928 : BitVec 32 := 1024#32
  let v10899 : BitVec 32 := Scalar.muli v10809 c1024_i32_3928
  v10899
def k0_mult65 (k0_t2 : Fin k0_t2_loop.trips) : BitVec 32 :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c1_i32_3927 : BitVec 32 := 1#32
  let v10898 : BitVec 32 := Scalar.addi v5460 c1_i32_3927
  let c512_i32_3929 : BitVec 32 := 512#32
  let v10901 : BitVec 32 := Scalar.muli v10898 c512_i32_3929
  v10901
def k0_off20 (k0_t4 : Fin k0_t4_loop.trips) : Fin 2 → Nat :=
  let c0_3933 : Index := 0#32
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let c1024_i32_3928 : BitVec 32 := 1024#32
  let v10899 : BitVec 32 := Scalar.muli v10809 c1024_i32_3928
  let v10900 : BitVec 32 := v10899
  let v10905 : Index := Scalar.indexCast v10900
  ![0, v10905.toNat]
def k0_off21 (k0_t2 : Fin k0_t2_loop.trips) (k0_t4 : Fin k0_t4_loop.trips) (c0_i32_3930 : BitVec 32) : Fin 2 → Nat :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c1_i32_3927 : BitVec 32 := 1#32
  let v10898 : BitVec 32 := Scalar.addi v5460 c1_i32_3927
  let c512_i32_3929 : BitVec 32 := 512#32
  let v10901 : BitVec 32 := Scalar.muli v10898 c512_i32_3929
  let v10902 : BitVec 32 := v10901
  let v10903 : BitVec 32 := Scalar.addi v10902 c0_i32_3930
  let v10907 : Index := Scalar.indexCast v10903
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let c1024_i32_3928 : BitVec 32 := 1024#32
  let v10899 : BitVec 32 := Scalar.muli v10809 c1024_i32_3928
  let v10900 : BitVec 32 := v10899
  let v10908 : Index := Scalar.indexCast v10900
  ![v10907.toNat, v10908.toNat]
def k0_mult66 (k0_t4 : Fin k0_t4_loop.trips) : BitVec 32 :=
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let c1024_i32_3937 : BitVec 32 := 1024#32
  let v10915 : BitVec 32 := Scalar.muli v10809 c1024_i32_3937
  v10915
def k0_mult67 (k0_t2 : Fin k0_t2_loop.trips) : BitVec 32 :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c512_i32_3941 : BitVec 32 := 512#32
  let v10919 : BitVec 32 := Scalar.muli v5460 c512_i32_3941
  v10919
def k0_off22 (k0_t2 : Fin k0_t2_loop.trips) (k0_t4 : Fin k0_t4_loop.trips) (c0_i32_3938 : BitVec 32) : Fin 2 → Nat :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c512_i32_3941 : BitVec 32 := 512#32
  let v10919 : BitVec 32 := Scalar.muli v5460 c512_i32_3941
  let v10920 : BitVec 32 := v10919
  let v10921 : Index := Scalar.indexCast v10920
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let c1024_i32_3937 : BitVec 32 := 1024#32
  let v10915 : BitVec 32 := Scalar.muli v10809 c1024_i32_3937
  let v10916 : BitVec 32 := v10915
  let v10917 : BitVec 32 := Scalar.addi v10916 c0_i32_3938
  let v10922 : Index := Scalar.indexCast v10917
  ![v10921.toNat, v10922.toNat]
def k0_off23 (k0_t4 : Fin k0_t4_loop.trips) (c0_i32_3938 : BitVec 32) : Fin 2 → Nat :=
  let c0_3943 : Index := 0#32
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let c1024_i32_3937 : BitVec 32 := 1024#32
  let v10915 : BitVec 32 := Scalar.muli v10809 c1024_i32_3937
  let v10916 : BitVec 32 := v10915
  let v10917 : BitVec 32 := Scalar.addi v10916 c0_i32_3938
  let v10925 : Index := Scalar.indexCast v10917
  ![0, v10925.toNat]
def k0_mult68 (k0_t4 : Fin k0_t4_loop.trips) : BitVec 32 :=
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let c1024_i32_3947 : BitVec 32 := 1024#32
  let v10933 : BitVec 32 := Scalar.muli v10809 c1024_i32_3947
  v10933
def k0_off24 (k0_t2 : Fin k0_t2_loop.trips) (k0_t4 : Fin k0_t4_loop.trips) : Fin 3 → Nat :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c7_i32_3879 : BitVec 32 := 7#32
  let v10810 : BitVec 32 := Scalar.muli v5460 c7_i32_3879
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let v10811 : BitVec 32 := Scalar.addi v10810 v10809
  let c4_i32_3951 : BitVec 32 := 4#32
  let c0_i32_3952 : BitVec 32 := 0#32
  let v10939 : BitVec 1 := Scalar.cmpi .eq c4_i32_3951 c0_i32_3952
  let c1_i32_3953 : BitVec 32 := 1#32
  let v10940 : BitVec 32 := Scalar.select v10939 c1_i32_3953 c4_i32_3951
  let v10941 : BitVec 32 := Scalar.remsi v10811 v10940
  let c0_i32_3955 : BitVec 32 := 0#32
  let v10943 : BitVec 1 := Scalar.cmpi .slt v10941 c0_i32_3955
  let c0_i32_3956 : BitVec 32 := 0#32
  let v10944 : BitVec 1 := Scalar.cmpi .slt v10940 c0_i32_3956
  let v10945 : BitVec 1 := Scalar.xori v10943 v10944
  let c0_i32_3954 : BitVec 32 := 0#32
  let v10942 : BitVec 1 := Scalar.cmpi .ne v10941 c0_i32_3954
  let v10946 : BitVec 1 := Scalar.andi v10945 v10942
  let v10947 : BitVec 32 := Scalar.addi v10941 v10940
  let v10948 : BitVec 32 := Scalar.select v10946 v10947 v10941
  let v10949 : Index := Scalar.indexCast v10948
  let c256_3957 : Index := 256#32
  let c0_3958 : Index := 0#32
  ![v10949.toNat, 256, 0]
def k0_off25 (k0_t2 : Fin k0_t2_loop.trips) (k0_t4 : Fin k0_t4_loop.trips) : Fin 3 → Nat :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c7_i32_3879 : BitVec 32 := 7#32
  let v10810 : BitVec 32 := Scalar.muli v5460 c7_i32_3879
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let v10811 : BitVec 32 := Scalar.addi v10810 v10809
  let c3_i32_3959 : BitVec 32 := 3#32
  let c0_i32_3960 : BitVec 32 := 0#32
  let v10955 : BitVec 1 := Scalar.cmpi .eq c3_i32_3959 c0_i32_3960
  let c1_i32_3961 : BitVec 32 := 1#32
  let v10956 : BitVec 32 := Scalar.select v10955 c1_i32_3961 c3_i32_3959
  let v10957 : BitVec 32 := Scalar.remsi v10811 v10956
  let c0_i32_3963 : BitVec 32 := 0#32
  let v10959 : BitVec 1 := Scalar.cmpi .slt v10957 c0_i32_3963
  let c0_i32_3964 : BitVec 32 := 0#32
  let v10960 : BitVec 1 := Scalar.cmpi .slt v10956 c0_i32_3964
  let v10961 : BitVec 1 := Scalar.xori v10959 v10960
  let c0_i32_3962 : BitVec 32 := 0#32
  let v10958 : BitVec 1 := Scalar.cmpi .ne v10957 c0_i32_3962
  let v10962 : BitVec 1 := Scalar.andi v10961 v10958
  let v10963 : BitVec 32 := Scalar.addi v10957 v10956
  let v10964 : BitVec 32 := Scalar.select v10962 v10963 v10957
  let v10965 : Index := Scalar.indexCast v10964
  let c256_3965 : Index := 256#32
  let c0_3966 : Index := 0#32
  ![v10965.toNat, 256, 0]
def k0_mult69 (k0_t4 : Fin k0_t4_loop.trips) : BitVec 32 :=
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let c1024_i32_3968 : BitVec 32 := 1024#32
  let v10970 : BitVec 32 := Scalar.muli v10809 c1024_i32_3968
  v10970
def k0_mult70 (k0_t2 : Fin k0_t2_loop.trips) : BitVec 32 :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c1_i32_3967 : BitVec 32 := 1#32
  let v10969 : BitVec 32 := Scalar.addi v5460 c1_i32_3967
  let c512_i32_3969 : BitVec 32 := 512#32
  let v10972 : BitVec 32 := Scalar.muli v10969 c512_i32_3969
  v10972
def k0_mult71 (k0_t4 : Fin k0_t4_loop.trips) : BitVec 32 :=
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let c1024_i32_3977 : BitVec 32 := 1024#32
  let v10986 : BitVec 32 := Scalar.muli v10809 c1024_i32_3977
  v10986
def k0_mult72 (k0_t2 : Fin k0_t2_loop.trips) : BitVec 32 :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c512_i32_3981 : BitVec 32 := 512#32
  let v10990 : BitVec 32 := Scalar.muli v5460 c512_i32_3981
  v10990
def k0_mult73 (k0_t4 : Fin k0_t4_loop.trips) : BitVec 32 :=
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let c1024_i32_3987 : BitVec 32 := 1024#32
  let v11004 : BitVec 32 := Scalar.muli v10809 c1024_i32_3987
  v11004
def k0_off26 (k0_t2 : Fin k0_t2_loop.trips) (k0_t4 : Fin k0_t4_loop.trips) : Fin 3 → Nat :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c7_i32_3879 : BitVec 32 := 7#32
  let v10810 : BitVec 32 := Scalar.muli v5460 c7_i32_3879
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let v10811 : BitVec 32 := Scalar.addi v10810 v10809
  let c4_i32_3991 : BitVec 32 := 4#32
  let c0_i32_3992 : BitVec 32 := 0#32
  let v11010 : BitVec 1 := Scalar.cmpi .eq c4_i32_3991 c0_i32_3992
  let c1_i32_3993 : BitVec 32 := 1#32
  let v11011 : BitVec 32 := Scalar.select v11010 c1_i32_3993 c4_i32_3991
  let v11012 : BitVec 32 := Scalar.remsi v10811 v11011
  let c0_i32_3995 : BitVec 32 := 0#32
  let v11014 : BitVec 1 := Scalar.cmpi .slt v11012 c0_i32_3995
  let c0_i32_3996 : BitVec 32 := 0#32
  let v11015 : BitVec 1 := Scalar.cmpi .slt v11011 c0_i32_3996
  let v11016 : BitVec 1 := Scalar.xori v11014 v11015
  let c0_i32_3994 : BitVec 32 := 0#32
  let v11013 : BitVec 1 := Scalar.cmpi .ne v11012 c0_i32_3994
  let v11017 : BitVec 1 := Scalar.andi v11016 v11013
  let v11018 : BitVec 32 := Scalar.addi v11012 v11011
  let v11019 : BitVec 32 := Scalar.select v11017 v11018 v11012
  let v11020 : Index := Scalar.indexCast v11019
  let c0_3997 : Index := 0#32
  let c512 : Index := 512#32
  ![v11020.toNat, 0, 512]
def k0_off27 (k0_t2 : Fin k0_t2_loop.trips) (k0_t4 : Fin k0_t4_loop.trips) : Fin 3 → Nat :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c7_i32_3879 : BitVec 32 := 7#32
  let v10810 : BitVec 32 := Scalar.muli v5460 c7_i32_3879
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let v10811 : BitVec 32 := Scalar.addi v10810 v10809
  let c3_i32_3998 : BitVec 32 := 3#32
  let c0_i32_3999 : BitVec 32 := 0#32
  let v11026 : BitVec 1 := Scalar.cmpi .eq c3_i32_3998 c0_i32_3999
  let c1_i32_4000 : BitVec 32 := 1#32
  let v11027 : BitVec 32 := Scalar.select v11026 c1_i32_4000 c3_i32_3998
  let v11028 : BitVec 32 := Scalar.remsi v10811 v11027
  let c0_i32_4002 : BitVec 32 := 0#32
  let v11030 : BitVec 1 := Scalar.cmpi .slt v11028 c0_i32_4002
  let c0_i32_4003 : BitVec 32 := 0#32
  let v11031 : BitVec 1 := Scalar.cmpi .slt v11027 c0_i32_4003
  let v11032 : BitVec 1 := Scalar.xori v11030 v11031
  let c0_i32_4001 : BitVec 32 := 0#32
  let v11029 : BitVec 1 := Scalar.cmpi .ne v11028 c0_i32_4001
  let v11033 : BitVec 1 := Scalar.andi v11032 v11029
  let v11034 : BitVec 32 := Scalar.addi v11028 v11027
  let v11035 : BitVec 32 := Scalar.select v11033 v11034 v11028
  let v11036 : Index := Scalar.indexCast v11035
  let c0_4004 : Index := 0#32
  let c512_4005 : Index := 512#32
  ![v11036.toNat, 0, 512]
def k0_mult74 (k0_t4 : Fin k0_t4_loop.trips) : BitVec 32 :=
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let c1024_i32_4006 : BitVec 32 := 1024#32
  let v11040 : BitVec 32 := Scalar.muli v10809 c1024_i32_4006
  v11040
def k0_mult75 (k0_t2 : Fin k0_t2_loop.trips) : BitVec 32 :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c512_i32_4010 : BitVec 32 := 512#32
  let v11044 : BitVec 32 := Scalar.muli v5460 c512_i32_4010
  v11044
def k0_mult76 (k0_t4 : Fin k0_t4_loop.trips) : BitVec 32 :=
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let c1024_i32_4016 : BitVec 32 := 1024#32
  let v11058 : BitVec 32 := Scalar.muli v10809 c1024_i32_4016
  v11058
def k0_off28 (k0_t2 : Fin k0_t2_loop.trips) (k0_t4 : Fin k0_t4_loop.trips) : Fin 3 → Nat :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c7_i32_3879 : BitVec 32 := 7#32
  let v10810 : BitVec 32 := Scalar.muli v5460 c7_i32_3879
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let v10811 : BitVec 32 := Scalar.addi v10810 v10809
  let c4_i32_4020 : BitVec 32 := 4#32
  let c0_i32_4021 : BitVec 32 := 0#32
  let v11064 : BitVec 1 := Scalar.cmpi .eq c4_i32_4020 c0_i32_4021
  let c1_i32_4022 : BitVec 32 := 1#32
  let v11065 : BitVec 32 := Scalar.select v11064 c1_i32_4022 c4_i32_4020
  let v11066 : BitVec 32 := Scalar.remsi v10811 v11065
  let c0_i32_4024 : BitVec 32 := 0#32
  let v11068 : BitVec 1 := Scalar.cmpi .slt v11066 c0_i32_4024
  let c0_i32_4025 : BitVec 32 := 0#32
  let v11069 : BitVec 1 := Scalar.cmpi .slt v11065 c0_i32_4025
  let v11070 : BitVec 1 := Scalar.xori v11068 v11069
  let c0_i32_4023 : BitVec 32 := 0#32
  let v11067 : BitVec 1 := Scalar.cmpi .ne v11066 c0_i32_4023
  let v11071 : BitVec 1 := Scalar.andi v11070 v11067
  let v11072 : BitVec 32 := Scalar.addi v11066 v11065
  let v11073 : BitVec 32 := Scalar.select v11071 v11072 v11066
  let v11074 : Index := Scalar.indexCast v11073
  let c256_4026 : Index := 256#32
  let c512_4027 : Index := 512#32
  ![v11074.toNat, 256, 512]
def k0_off29 (k0_t2 : Fin k0_t2_loop.trips) (k0_t4 : Fin k0_t4_loop.trips) : Fin 3 → Nat :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c7_i32_3879 : BitVec 32 := 7#32
  let v10810 : BitVec 32 := Scalar.muli v5460 c7_i32_3879
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let v10811 : BitVec 32 := Scalar.addi v10810 v10809
  let c3_i32_4028 : BitVec 32 := 3#32
  let c0_i32_4029 : BitVec 32 := 0#32
  let v11080 : BitVec 1 := Scalar.cmpi .eq c3_i32_4028 c0_i32_4029
  let c1_i32_4030 : BitVec 32 := 1#32
  let v11081 : BitVec 32 := Scalar.select v11080 c1_i32_4030 c3_i32_4028
  let v11082 : BitVec 32 := Scalar.remsi v10811 v11081
  let c0_i32_4032 : BitVec 32 := 0#32
  let v11084 : BitVec 1 := Scalar.cmpi .slt v11082 c0_i32_4032
  let c0_i32_4033 : BitVec 32 := 0#32
  let v11085 : BitVec 1 := Scalar.cmpi .slt v11081 c0_i32_4033
  let v11086 : BitVec 1 := Scalar.xori v11084 v11085
  let c0_i32_4031 : BitVec 32 := 0#32
  let v11083 : BitVec 1 := Scalar.cmpi .ne v11082 c0_i32_4031
  let v11087 : BitVec 1 := Scalar.andi v11086 v11083
  let v11088 : BitVec 32 := Scalar.addi v11082 v11081
  let v11089 : BitVec 32 := Scalar.select v11087 v11088 v11082
  let v11090 : Index := Scalar.indexCast v11089
  let c256_4034 : Index := 256#32
  let c512_4035 : Index := 512#32
  ![v11090.toNat, 256, 512]
def k0_mult77 (k0_t4 : Fin k0_t4_loop.trips) : BitVec 32 :=
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let c1024_i32_4036 : BitVec 32 := 1024#32
  let v11094 : BitVec 32 := Scalar.muli v10809 c1024_i32_4036
  v11094
def k0_mult78 (k0_t2 : Fin k0_t2_loop.trips) : BitVec 32 :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c512_i32_4039 : BitVec 32 := 512#32
  let v11098 : BitVec 32 := Scalar.muli v5460 c512_i32_4039
  v11098
def k0_mult79 (k0_t2 : Fin k0_t2_loop.trips) (k0_t4 : Fin k0_t4_loop.trips) : BitVec 32 :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c7_i32_3879 : BitVec 32 := 7#32
  let v10810 : BitVec 32 := Scalar.muli v5460 c7_i32_3879
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let v10811 : BitVec 32 := Scalar.addi v10810 v10809
  let c0_i32_4044 : BitVec 32 := 0#32
  let v11112 : BitVec 1 := Scalar.cmpi .sgt v10811 c0_i32_4044
  let v11113 : BitVec 32 := Scalar.extui v11112
  let c0_i32_4045 : BitVec 32 := 0#32
  let v11114 : BitVec 1 := Scalar.cmpi .slt v10811 c0_i32_4045
  let v11115 : BitVec 32 := Scalar.extui v11114
  let v11116 : BitVec 32 := Scalar.subi v11113 v11115
  let c7_i32_4043 : BitVec 32 := 7#32
  let c0_i32_4046 : BitVec 32 := 0#32
  let v11117 : BitVec 1 := Scalar.cmpi .sgt c7_i32_4043 c0_i32_4046
  let v11118 : BitVec 32 := Scalar.extui v11117
  let c0_i32_4047 : BitVec 32 := 0#32
  let v11119 : BitVec 1 := Scalar.cmpi .slt c7_i32_4043 c0_i32_4047
  let v11120 : BitVec 32 := Scalar.extui v11119
  let v11121 : BitVec 32 := Scalar.subi v11118 v11120
  let v11122 : BitVec 1 := Scalar.cmpi .ne v11116 v11121
  let v11123 : BitVec 32 := Scalar.remsi v10811 c7_i32_4043
  let c0_i32_4048 : BitVec 32 := 0#32
  let v11124 : BitVec 1 := Scalar.cmpi .ne v11123 c0_i32_4048
  let v11125 : BitVec 1 := Scalar.andi v11122 v11124
  let v11111 : BitVec 32 := Scalar.divsi v10811 c7_i32_4043
  let c1_i32_4049 : BitVec 32 := 1#32
  let v11126 : BitVec 32 := Scalar.subi v11111 c1_i32_4049
  let v11127 : BitVec 32 := Scalar.select v11125 v11126 v11111
  let c512_i32_4056 : BitVec 32 := 512#32
  let v11138 : BitVec 32 := Scalar.muli v11127 c512_i32_4056
  v11138
def k0_mult80 (k0_t2 : Fin k0_t2_loop.trips) (k0_t4 : Fin k0_t4_loop.trips) : BitVec 32 :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c7_i32_3879 : BitVec 32 := 7#32
  let v10810 : BitVec 32 := Scalar.muli v5460 c7_i32_3879
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let v10811 : BitVec 32 := Scalar.addi v10810 v10809
  let c7_i32_4050 : BitVec 32 := 7#32
  let c0_i32_4051 : BitVec 32 := 0#32
  let v11128 : BitVec 1 := Scalar.cmpi .eq c7_i32_4050 c0_i32_4051
  let c1_i32_4052 : BitVec 32 := 1#32
  let v11129 : BitVec 32 := Scalar.select v11128 c1_i32_4052 c7_i32_4050
  let v11130 : BitVec 32 := Scalar.remsi v10811 v11129
  let c0_i32_4054 : BitVec 32 := 0#32
  let v11132 : BitVec 1 := Scalar.cmpi .slt v11130 c0_i32_4054
  let c0_i32_4055 : BitVec 32 := 0#32
  let v11133 : BitVec 1 := Scalar.cmpi .slt v11129 c0_i32_4055
  let v11134 : BitVec 1 := Scalar.xori v11132 v11133
  let c0_i32_4053 : BitVec 32 := 0#32
  let v11131 : BitVec 1 := Scalar.cmpi .ne v11130 c0_i32_4053
  let v11135 : BitVec 1 := Scalar.andi v11134 v11131
  let v11136 : BitVec 32 := Scalar.addi v11130 v11129
  let v11137 : BitVec 32 := Scalar.select v11135 v11136 v11130
  let c1024_i32_4057 : BitVec 32 := 1024#32
  let v11140 : BitVec 32 := Scalar.muli v11137 c1024_i32_4057
  v11140
def k0_off30 (k0_t2 : Fin k0_t2_loop.trips) (k0_t4 : Fin k0_t4_loop.trips) : Fin 1 → Nat :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c7_i32_3879 : BitVec 32 := 7#32
  let v10810 : BitVec 32 := Scalar.muli v5460 c7_i32_3879
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let v10811 : BitVec 32 := Scalar.addi v10810 v10809
  let c3_i32_4058 : BitVec 32 := 3#32
  let c0_i32_4059 : BitVec 32 := 0#32
  let v11142 : BitVec 1 := Scalar.cmpi .eq c3_i32_4058 c0_i32_4059
  let c1_i32_4060 : BitVec 32 := 1#32
  let v11143 : BitVec 32 := Scalar.select v11142 c1_i32_4060 c3_i32_4058
  let v11144 : BitVec 32 := Scalar.remsi v10811 v11143
  let c0_i32_4062 : BitVec 32 := 0#32
  let v11146 : BitVec 1 := Scalar.cmpi .slt v11144 c0_i32_4062
  let c0_i32_4063 : BitVec 32 := 0#32
  let v11147 : BitVec 1 := Scalar.cmpi .slt v11143 c0_i32_4063
  let v11148 : BitVec 1 := Scalar.xori v11146 v11147
  let c0_i32_4061 : BitVec 32 := 0#32
  let v11145 : BitVec 1 := Scalar.cmpi .ne v11144 c0_i32_4061
  let v11149 : BitVec 1 := Scalar.andi v11148 v11145
  let v11150 : BitVec 32 := Scalar.addi v11144 v11143
  let v11151 : BitVec 32 := Scalar.select v11149 v11150 v11144
  ![v11151.toNat]
def k0_off31 (k0_t2 : Fin k0_t2_loop.trips) (k0_t4 : Fin k0_t4_loop.trips) : Fin 3 → Nat :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c7_i32_3879 : BitVec 32 := 7#32
  let v10810 : BitVec 32 := Scalar.muli v5460 c7_i32_3879
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let v10811 : BitVec 32 := Scalar.addi v10810 v10809
  let c3_i32_4058 : BitVec 32 := 3#32
  let c0_i32_4059 : BitVec 32 := 0#32
  let v11142 : BitVec 1 := Scalar.cmpi .eq c3_i32_4058 c0_i32_4059
  let c1_i32_4060 : BitVec 32 := 1#32
  let v11143 : BitVec 32 := Scalar.select v11142 c1_i32_4060 c3_i32_4058
  let v11144 : BitVec 32 := Scalar.remsi v10811 v11143
  let c0_i32_4062 : BitVec 32 := 0#32
  let v11146 : BitVec 1 := Scalar.cmpi .slt v11144 c0_i32_4062
  let c0_i32_4063 : BitVec 32 := 0#32
  let v11147 : BitVec 1 := Scalar.cmpi .slt v11143 c0_i32_4063
  let v11148 : BitVec 1 := Scalar.xori v11146 v11147
  let c0_i32_4061 : BitVec 32 := 0#32
  let v11145 : BitVec 1 := Scalar.cmpi .ne v11144 c0_i32_4061
  let v11149 : BitVec 1 := Scalar.andi v11148 v11145
  let v11150 : BitVec 32 := Scalar.addi v11144 v11143
  let v11151 : BitVec 32 := Scalar.select v11149 v11150 v11144
  let c0_i32_4064 : BitVec 32 := 0#32
  let c0_i32_4065 : BitVec 32 := 0#32
  ![v11151.toNat, 0, 0]
def k0_cond2 (k0_t2 : Fin k0_t2_loop.trips) (k0_t4 : Fin k0_t4_loop.trips) : BitVec 1 :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c7_i32_3879 : BitVec 32 := 7#32
  let v10810 : BitVec 32 := Scalar.muli v5460 c7_i32_3879
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let v10811 : BitVec 32 := Scalar.addi v10810 v10809
  let c4_i32_4066 : BitVec 32 := 4#32
  let v11157 : BitVec 32 := Scalar.addi v10811 c4_i32_4066
  let c28_i32_4067 : BitVec 32 := 28#32
  let v11158 : BitVec 1 := Scalar.cmpi .slt v11157 c28_i32_4067
  let v11159 : BitVec 32 := Scalar.extui v11158
  let c0_i32_4068 : BitVec 32 := 0#32
  let v11160 : BitVec 1 := Scalar.cmpi .ne v11159 c0_i32_4068
  v11160

def k0_mult81 (k0_t2 : Fin k0_t2_loop.trips) (k0_t4 : Fin k0_t4_loop.trips) : BitVec 32 :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c7_i32_3879 : BitVec 32 := 7#32
  let v10810 : BitVec 32 := Scalar.muli v5460 c7_i32_3879
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let v10811 : BitVec 32 := Scalar.addi v10810 v10809
  let c4_i32_4072 : BitVec 32 := 4#32
  let v11165 : BitVec 32 := Scalar.addi v10811 c4_i32_4072
  let c0_i32_4074 : BitVec 32 := 0#32
  let v11167 : BitVec 1 := Scalar.cmpi .sgt v11165 c0_i32_4074
  let v11168 : BitVec 32 := Scalar.extui v11167
  let c0_i32_4075 : BitVec 32 := 0#32
  let v11169 : BitVec 1 := Scalar.cmpi .slt v11165 c0_i32_4075
  let v11170 : BitVec 32 := Scalar.extui v11169
  let v11171 : BitVec 32 := Scalar.subi v11168 v11170
  let c7_i32_4073 : BitVec 32 := 7#32
  let c0_i32_4076 : BitVec 32 := 0#32
  let v11172 : BitVec 1 := Scalar.cmpi .sgt c7_i32_4073 c0_i32_4076
  let v11173 : BitVec 32 := Scalar.extui v11172
  let c0_i32_4077 : BitVec 32 := 0#32
  let v11174 : BitVec 1 := Scalar.cmpi .slt c7_i32_4073 c0_i32_4077
  let v11175 : BitVec 32 := Scalar.extui v11174
  let v11176 : BitVec 32 := Scalar.subi v11173 v11175
  let v11177 : BitVec 1 := Scalar.cmpi .ne v11171 v11176
  let v11178 : BitVec 32 := Scalar.remsi v11165 c7_i32_4073
  let c0_i32_4078 : BitVec 32 := 0#32
  let v11179 : BitVec 1 := Scalar.cmpi .ne v11178 c0_i32_4078
  let v11180 : BitVec 1 := Scalar.andi v11177 v11179
  let v11166 : BitVec 32 := Scalar.divsi v11165 c7_i32_4073
  let c1_i32_4079 : BitVec 32 := 1#32
  let v11181 : BitVec 32 := Scalar.subi v11166 c1_i32_4079
  let v11182 : BitVec 32 := Scalar.select v11180 v11181 v11166
  let c512_i32_4086 : BitVec 32 := 512#32
  let v11193 : BitVec 32 := Scalar.muli v11182 c512_i32_4086
  v11193
def k0_mult82 (k0_t2 : Fin k0_t2_loop.trips) (k0_t4 : Fin k0_t4_loop.trips) : BitVec 32 :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c7_i32_3879 : BitVec 32 := 7#32
  let v10810 : BitVec 32 := Scalar.muli v5460 c7_i32_3879
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let v10811 : BitVec 32 := Scalar.addi v10810 v10809
  let c4_i32_4072 : BitVec 32 := 4#32
  let v11165 : BitVec 32 := Scalar.addi v10811 c4_i32_4072
  let c7_i32_4080 : BitVec 32 := 7#32
  let c0_i32_4081 : BitVec 32 := 0#32
  let v11183 : BitVec 1 := Scalar.cmpi .eq c7_i32_4080 c0_i32_4081
  let c1_i32_4082 : BitVec 32 := 1#32
  let v11184 : BitVec 32 := Scalar.select v11183 c1_i32_4082 c7_i32_4080
  let v11185 : BitVec 32 := Scalar.remsi v11165 v11184
  let c0_i32_4084 : BitVec 32 := 0#32
  let v11187 : BitVec 1 := Scalar.cmpi .slt v11185 c0_i32_4084
  let c0_i32_4085 : BitVec 32 := 0#32
  let v11188 : BitVec 1 := Scalar.cmpi .slt v11184 c0_i32_4085
  let v11189 : BitVec 1 := Scalar.xori v11187 v11188
  let c0_i32_4083 : BitVec 32 := 0#32
  let v11186 : BitVec 1 := Scalar.cmpi .ne v11185 c0_i32_4083
  let v11190 : BitVec 1 := Scalar.andi v11189 v11186
  let v11191 : BitVec 32 := Scalar.addi v11185 v11184
  let v11192 : BitVec 32 := Scalar.select v11190 v11191 v11185
  let c1024_i32_4087 : BitVec 32 := 1024#32
  let v11195 : BitVec 32 := Scalar.muli v11192 c1024_i32_4087
  v11195
def k0_off32 (k0_t2 : Fin k0_t2_loop.trips) (k0_t4 : Fin k0_t4_loop.trips) : Fin 1 → Nat :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c7_i32_3879 : BitVec 32 := 7#32
  let v10810 : BitVec 32 := Scalar.muli v5460 c7_i32_3879
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let v10811 : BitVec 32 := Scalar.addi v10810 v10809
  let c4_i32_4072 : BitVec 32 := 4#32
  let v11165 : BitVec 32 := Scalar.addi v10811 c4_i32_4072
  let c4_i32_4088 : BitVec 32 := 4#32
  let c0_i32_4089 : BitVec 32 := 0#32
  let v11197 : BitVec 1 := Scalar.cmpi .eq c4_i32_4088 c0_i32_4089
  let c1_i32_4090 : BitVec 32 := 1#32
  let v11198 : BitVec 32 := Scalar.select v11197 c1_i32_4090 c4_i32_4088
  let v11199 : BitVec 32 := Scalar.remsi v11165 v11198
  let c0_i32_4092 : BitVec 32 := 0#32
  let v11201 : BitVec 1 := Scalar.cmpi .slt v11199 c0_i32_4092
  let c0_i32_4093 : BitVec 32 := 0#32
  let v11202 : BitVec 1 := Scalar.cmpi .slt v11198 c0_i32_4093
  let v11203 : BitVec 1 := Scalar.xori v11201 v11202
  let c0_i32_4091 : BitVec 32 := 0#32
  let v11200 : BitVec 1 := Scalar.cmpi .ne v11199 c0_i32_4091
  let v11204 : BitVec 1 := Scalar.andi v11203 v11200
  let v11205 : BitVec 32 := Scalar.addi v11199 v11198
  let v11206 : BitVec 32 := Scalar.select v11204 v11205 v11199
  ![v11206.toNat]
def k0_off33 (k0_t2 : Fin k0_t2_loop.trips) (k0_t4 : Fin k0_t4_loop.trips) : Fin 3 → Nat :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c7_i32_3879 : BitVec 32 := 7#32
  let v10810 : BitVec 32 := Scalar.muli v5460 c7_i32_3879
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let v10811 : BitVec 32 := Scalar.addi v10810 v10809
  let c4_i32_4072 : BitVec 32 := 4#32
  let v11165 : BitVec 32 := Scalar.addi v10811 c4_i32_4072
  let c4_i32_4088 : BitVec 32 := 4#32
  let c0_i32_4089 : BitVec 32 := 0#32
  let v11197 : BitVec 1 := Scalar.cmpi .eq c4_i32_4088 c0_i32_4089
  let c1_i32_4090 : BitVec 32 := 1#32
  let v11198 : BitVec 32 := Scalar.select v11197 c1_i32_4090 c4_i32_4088
  let v11199 : BitVec 32 := Scalar.remsi v11165 v11198
  let c0_i32_4092 : BitVec 32 := 0#32
  let v11201 : BitVec 1 := Scalar.cmpi .slt v11199 c0_i32_4092
  let c0_i32_4093 : BitVec 32 := 0#32
  let v11202 : BitVec 1 := Scalar.cmpi .slt v11198 c0_i32_4093
  let v11203 : BitVec 1 := Scalar.xori v11201 v11202
  let c0_i32_4091 : BitVec 32 := 0#32
  let v11200 : BitVec 1 := Scalar.cmpi .ne v11199 c0_i32_4091
  let v11204 : BitVec 1 := Scalar.andi v11203 v11200
  let v11205 : BitVec 32 := Scalar.addi v11199 v11198
  let v11206 : BitVec 32 := Scalar.select v11204 v11205 v11199
  let c0_i32_4094 : BitVec 32 := 0#32
  let c0_i32_4095 : BitVec 32 := 0#32
  ![v11206.toNat, 0, 0]
def k0_off34 (k0_t2 : Fin k0_t2_loop.trips) (k0_t4 : Fin k0_t4_loop.trips) : Fin 2 → Nat :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c7_i32_3879 : BitVec 32 := 7#32
  let v10810 : BitVec 32 := Scalar.muli v5460 c7_i32_3879
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let v10811 : BitVec 32 := Scalar.addi v10810 v10809
  let c4_i32_4072 : BitVec 32 := 4#32
  let v11165 : BitVec 32 := Scalar.addi v10811 c4_i32_4072
  let c0_i32_4074 : BitVec 32 := 0#32
  let v11167 : BitVec 1 := Scalar.cmpi .sgt v11165 c0_i32_4074
  let v11168 : BitVec 32 := Scalar.extui v11167
  let c0_i32_4075 : BitVec 32 := 0#32
  let v11169 : BitVec 1 := Scalar.cmpi .slt v11165 c0_i32_4075
  let v11170 : BitVec 32 := Scalar.extui v11169
  let v11171 : BitVec 32 := Scalar.subi v11168 v11170
  let c7_i32_4073 : BitVec 32 := 7#32
  let c0_i32_4076 : BitVec 32 := 0#32
  let v11172 : BitVec 1 := Scalar.cmpi .sgt c7_i32_4073 c0_i32_4076
  let v11173 : BitVec 32 := Scalar.extui v11172
  let c0_i32_4077 : BitVec 32 := 0#32
  let v11174 : BitVec 1 := Scalar.cmpi .slt c7_i32_4073 c0_i32_4077
  let v11175 : BitVec 32 := Scalar.extui v11174
  let v11176 : BitVec 32 := Scalar.subi v11173 v11175
  let v11177 : BitVec 1 := Scalar.cmpi .ne v11171 v11176
  let v11178 : BitVec 32 := Scalar.remsi v11165 c7_i32_4073
  let c0_i32_4078 : BitVec 32 := 0#32
  let v11179 : BitVec 1 := Scalar.cmpi .ne v11178 c0_i32_4078
  let v11180 : BitVec 1 := Scalar.andi v11177 v11179
  let v11166 : BitVec 32 := Scalar.divsi v11165 c7_i32_4073
  let c1_i32_4079 : BitVec 32 := 1#32
  let v11181 : BitVec 32 := Scalar.subi v11166 c1_i32_4079
  let v11182 : BitVec 32 := Scalar.select v11180 v11181 v11166
  let c512_i32_4086 : BitVec 32 := 512#32
  let v11193 : BitVec 32 := Scalar.muli v11182 c512_i32_4086
  let v11194 : BitVec 32 := v11193
  let c7_i32_4080 : BitVec 32 := 7#32
  let c0_i32_4081 : BitVec 32 := 0#32
  let v11183 : BitVec 1 := Scalar.cmpi .eq c7_i32_4080 c0_i32_4081
  let c1_i32_4082 : BitVec 32 := 1#32
  let v11184 : BitVec 32 := Scalar.select v11183 c1_i32_4082 c7_i32_4080
  let v11185 : BitVec 32 := Scalar.remsi v11165 v11184
  let c0_i32_4084 : BitVec 32 := 0#32
  let v11187 : BitVec 1 := Scalar.cmpi .slt v11185 c0_i32_4084
  let c0_i32_4085 : BitVec 32 := 0#32
  let v11188 : BitVec 1 := Scalar.cmpi .slt v11184 c0_i32_4085
  let v11189 : BitVec 1 := Scalar.xori v11187 v11188
  let c0_i32_4083 : BitVec 32 := 0#32
  let v11186 : BitVec 1 := Scalar.cmpi .ne v11185 c0_i32_4083
  let v11190 : BitVec 1 := Scalar.andi v11189 v11186
  let v11191 : BitVec 32 := Scalar.addi v11185 v11184
  let v11192 : BitVec 32 := Scalar.select v11190 v11191 v11185
  let c1024_i32_4087 : BitVec 32 := 1024#32
  let v11195 : BitVec 32 := Scalar.muli v11192 c1024_i32_4087
  let v11196 : BitVec 32 := v11195
  ![v11194.toNat, v11196.toNat]
def k0_cond3 (k0_t2 : Fin k0_t2_loop.trips) : BitVec 1 :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c2_i32_4069 : BitVec 32 := 2#32
  let v11161 : BitVec 32 := Scalar.addi v5460 c2_i32_4069
  let c4_i32_4070 : BitVec 32 := 4#32
  let v11162 : BitVec 1 := Scalar.cmpi .slt v11161 c4_i32_4070
  let v11163 : BitVec 32 := Scalar.extui v11162
  let c0_i32_4071 : BitVec 32 := 0#32
  let v11164 : BitVec 1 := Scalar.cmpi .ne v11163 c0_i32_4071
  v11164

def k0_mult83 (k0_t2 : Fin k0_t2_loop.trips) : BitVec 32 :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c2_i32_4072 : BitVec 32 := 2#32
  let v11165 : BitVec 32 := Scalar.addi v5460 c2_i32_4072
  let c512_i32_4079 : BitVec 32 := 512#32
  let v11176 : BitVec 32 := Scalar.muli v11165 c512_i32_4079
  v11176
def k0_mult84 (k0_t4 : Fin k0_t4_loop.trips) : BitVec 32 :=
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let c1024_i32_4080 : BitVec 32 := 1024#32
  let v11178 : BitVec 32 := Scalar.muli v10809 c1024_i32_4080
  v11178
def k0_off35 (k0_t2 : Fin k0_t2_loop.trips) : Fin 1 → Nat :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c2_i32_4073 : BitVec 32 := 2#32
  let c0_i32_4074 : BitVec 32 := 0#32
  let v11166 : BitVec 1 := Scalar.cmpi .eq c2_i32_4073 c0_i32_4074
  let c1_i32_4075 : BitVec 32 := 1#32
  let v11167 : BitVec 32 := Scalar.select v11166 c1_i32_4075 c2_i32_4073
  let v11168 : BitVec 32 := Scalar.remsi v5460 v11167
  let c0_i32_4077 : BitVec 32 := 0#32
  let v11170 : BitVec 1 := Scalar.cmpi .slt v11168 c0_i32_4077
  let c0_i32_4078 : BitVec 32 := 0#32
  let v11171 : BitVec 1 := Scalar.cmpi .slt v11167 c0_i32_4078
  let v11172 : BitVec 1 := Scalar.xori v11170 v11171
  let c0_i32_4076 : BitVec 32 := 0#32
  let v11169 : BitVec 1 := Scalar.cmpi .ne v11168 c0_i32_4076
  let v11173 : BitVec 1 := Scalar.andi v11172 v11169
  let v11174 : BitVec 32 := Scalar.addi v11168 v11167
  let v11175 : BitVec 32 := Scalar.select v11173 v11174 v11168
  ![v11175.toNat]
def k0_off36 (k0_t2 : Fin k0_t2_loop.trips) (k0_t4 : Fin k0_t4_loop.trips) : Fin 2 → Nat :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c2_i32_4072 : BitVec 32 := 2#32
  let v11165 : BitVec 32 := Scalar.addi v5460 c2_i32_4072
  let c512_i32_4079 : BitVec 32 := 512#32
  let v11176 : BitVec 32 := Scalar.muli v11165 c512_i32_4079
  let v11177 : BitVec 32 := v11176
  let c0_i32_3878 : BitVec 32 := 0#32
  let c0_i32_1945 : BitVec 32 := 0#32
  let c1_i32_1947 : BitVec 32 := 1#32
  let arg31 : BitVec 32 := Scf.iv c0_i32_1945 c1_i32_1947 k0_t4
  let c1_i32_3877 : BitVec 32 := 1#32
  let v10808 : BitVec 32 := Scalar.muli arg31 c1_i32_3877
  let v10809 : BitVec 32 := Scalar.addi c0_i32_3878 v10808
  let c1024_i32_4080 : BitVec 32 := 1024#32
  let v11178 : BitVec 32 := Scalar.muli v10809 c1024_i32_4080
  let v11179 : BitVec 32 := v11178
  ![v11177.toNat, v11179.toNat]
def k0_mult85 (k0_t2 : Fin k0_t2_loop.trips) : BitVec 32 :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c512_i32_1949 : BitVec 32 := 512#32
  let v5463 : BitVec 32 := Scalar.muli v5460 c512_i32_1949
  v5463
def k0_off37 (k0_t2 : Fin k0_t2_loop.trips) : Fin 2 → Nat :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c512_i32_1949 : BitVec 32 := 512#32
  let v5463 : BitVec 32 := Scalar.muli v5460 c512_i32_1949
  let v5464 : BitVec 32 := v5463
  let c0_i32_1950 : BitVec 32 := 0#32
  ![v5464.toNat, 0]
def k0_mult86 (k0_t2 : Fin k0_t2_loop.trips) : BitVec 32 :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c1_i32_1951 : BitVec 32 := 1#32
  let v5466 : BitVec 32 := Scalar.addi v5460 c1_i32_1951
  let c2_i32_1959 : BitVec 32 := 2#32
  let c0_i32_1960 : BitVec 32 := 0#32
  let v5484 : BitVec 1 := Scalar.cmpi .eq c2_i32_1959 c0_i32_1960
  let c1_i32_1961 : BitVec 32 := 1#32
  let v5485 : BitVec 32 := Scalar.select v5484 c1_i32_1961 c2_i32_1959
  let v5486 : BitVec 32 := Scalar.remsi v5466 v5485
  let c0_i32_1963 : BitVec 32 := 0#32
  let v5488 : BitVec 1 := Scalar.cmpi .slt v5486 c0_i32_1963
  let c0_i32_1964 : BitVec 32 := 0#32
  let v5489 : BitVec 1 := Scalar.cmpi .slt v5485 c0_i32_1964
  let v5490 : BitVec 1 := Scalar.xori v5488 v5489
  let c0_i32_1962 : BitVec 32 := 0#32
  let v5487 : BitVec 1 := Scalar.cmpi .ne v5486 c0_i32_1962
  let v5491 : BitVec 1 := Scalar.andi v5490 v5487
  let v5492 : BitVec 32 := Scalar.addi v5486 v5485
  let v5493 : BitVec 32 := Scalar.select v5491 v5492 v5486
  let c512_i32_1965 : BitVec 32 := 512#32
  let v5494 : BitVec 32 := Scalar.muli v5493 c512_i32_1965
  v5494
def k0_off38 (k0_t2 : Fin k0_t2_loop.trips) (c0_i32_1966 : BitVec 32) : Fin 3 → Nat :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c1_i32_1951 : BitVec 32 := 1#32
  let v5466 : BitVec 32 := Scalar.addi v5460 c1_i32_1951
  let c0_i32_1953 : BitVec 32 := 0#32
  let v5468 : BitVec 1 := Scalar.cmpi .sgt v5466 c0_i32_1953
  let v5469 : BitVec 32 := Scalar.extui v5468
  let c0_i32_1954 : BitVec 32 := 0#32
  let v5470 : BitVec 1 := Scalar.cmpi .slt v5466 c0_i32_1954
  let v5471 : BitVec 32 := Scalar.extui v5470
  let v5472 : BitVec 32 := Scalar.subi v5469 v5471
  let c2_i32_1952 : BitVec 32 := 2#32
  let c0_i32_1955 : BitVec 32 := 0#32
  let v5473 : BitVec 1 := Scalar.cmpi .sgt c2_i32_1952 c0_i32_1955
  let v5474 : BitVec 32 := Scalar.extui v5473
  let c0_i32_1956 : BitVec 32 := 0#32
  let v5475 : BitVec 1 := Scalar.cmpi .slt c2_i32_1952 c0_i32_1956
  let v5476 : BitVec 32 := Scalar.extui v5475
  let v5477 : BitVec 32 := Scalar.subi v5474 v5476
  let v5478 : BitVec 1 := Scalar.cmpi .ne v5472 v5477
  let v5479 : BitVec 32 := Scalar.remsi v5466 c2_i32_1952
  let c0_i32_1957 : BitVec 32 := 0#32
  let v5480 : BitVec 1 := Scalar.cmpi .ne v5479 c0_i32_1957
  let v5481 : BitVec 1 := Scalar.andi v5478 v5480
  let v5467 : BitVec 32 := Scalar.divsi v5466 c2_i32_1952
  let c1_i32_1958 : BitVec 32 := 1#32
  let v5482 : BitVec 32 := Scalar.subi v5467 c1_i32_1958
  let v5483 : BitVec 32 := Scalar.select v5481 v5482 v5467
  let v5497 : Index := Scalar.indexCast v5483
  let c0_1967 : Index := 0#32
  let c2_i32_1959 : BitVec 32 := 2#32
  let c0_i32_1960 : BitVec 32 := 0#32
  let v5484 : BitVec 1 := Scalar.cmpi .eq c2_i32_1959 c0_i32_1960
  let c1_i32_1961 : BitVec 32 := 1#32
  let v5485 : BitVec 32 := Scalar.select v5484 c1_i32_1961 c2_i32_1959
  let v5486 : BitVec 32 := Scalar.remsi v5466 v5485
  let c0_i32_1963 : BitVec 32 := 0#32
  let v5488 : BitVec 1 := Scalar.cmpi .slt v5486 c0_i32_1963
  let c0_i32_1964 : BitVec 32 := 0#32
  let v5489 : BitVec 1 := Scalar.cmpi .slt v5485 c0_i32_1964
  let v5490 : BitVec 1 := Scalar.xori v5488 v5489
  let c0_i32_1962 : BitVec 32 := 0#32
  let v5487 : BitVec 1 := Scalar.cmpi .ne v5486 c0_i32_1962
  let v5491 : BitVec 1 := Scalar.andi v5490 v5487
  let v5492 : BitVec 32 := Scalar.addi v5486 v5485
  let v5493 : BitVec 32 := Scalar.select v5491 v5492 v5486
  let c512_i32_1965 : BitVec 32 := 512#32
  let v5494 : BitVec 32 := Scalar.muli v5493 c512_i32_1965
  let v5495 : BitVec 32 := v5494
  let v5496 : BitVec 32 := Scalar.addi v5495 c0_i32_1966
  let v5498 : Index := Scalar.indexCast v5496
  ![v5497.toNat, 0, v5498.toNat]
def k0_off39 (k0_t2 : Fin k0_t2_loop.trips) (c0_i32_1966 : BitVec 32) : Fin 2 → Nat :=
  let c0_1968 : Index := 0#32
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c1_i32_1951 : BitVec 32 := 1#32
  let v5466 : BitVec 32 := Scalar.addi v5460 c1_i32_1951
  let c2_i32_1959 : BitVec 32 := 2#32
  let c0_i32_1960 : BitVec 32 := 0#32
  let v5484 : BitVec 1 := Scalar.cmpi .eq c2_i32_1959 c0_i32_1960
  let c1_i32_1961 : BitVec 32 := 1#32
  let v5485 : BitVec 32 := Scalar.select v5484 c1_i32_1961 c2_i32_1959
  let v5486 : BitVec 32 := Scalar.remsi v5466 v5485
  let c0_i32_1963 : BitVec 32 := 0#32
  let v5488 : BitVec 1 := Scalar.cmpi .slt v5486 c0_i32_1963
  let c0_i32_1964 : BitVec 32 := 0#32
  let v5489 : BitVec 1 := Scalar.cmpi .slt v5485 c0_i32_1964
  let v5490 : BitVec 1 := Scalar.xori v5488 v5489
  let c0_i32_1962 : BitVec 32 := 0#32
  let v5487 : BitVec 1 := Scalar.cmpi .ne v5486 c0_i32_1962
  let v5491 : BitVec 1 := Scalar.andi v5490 v5487
  let v5492 : BitVec 32 := Scalar.addi v5486 v5485
  let v5493 : BitVec 32 := Scalar.select v5491 v5492 v5486
  let c512_i32_1965 : BitVec 32 := 512#32
  let v5494 : BitVec 32 := Scalar.muli v5493 c512_i32_1965
  let v5495 : BitVec 32 := v5494
  let v5496 : BitVec 32 := Scalar.addi v5495 c0_i32_1966
  let v5501 : Index := Scalar.indexCast v5496
  ![0, v5501.toNat]
def k0_mult87 (k0_t2 : Fin k0_t2_loop.trips) : BitVec 32 :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c1_i32_1951 : BitVec 32 := 1#32
  let v5466 : BitVec 32 := Scalar.addi v5460 c1_i32_1951
  let c2_i32_2437 : BitVec 32 := 2#32
  let c0_i32_2438 : BitVec 32 := 0#32
  let v6813 : BitVec 1 := Scalar.cmpi .eq c2_i32_2437 c0_i32_2438
  let c1_i32_2439 : BitVec 32 := 1#32
  let v6814 : BitVec 32 := Scalar.select v6813 c1_i32_2439 c2_i32_2437
  let v6815 : BitVec 32 := Scalar.remsi v5466 v6814
  let c0_i32_2441 : BitVec 32 := 0#32
  let v6817 : BitVec 1 := Scalar.cmpi .slt v6815 c0_i32_2441
  let c0_i32_2442 : BitVec 32 := 0#32
  let v6818 : BitVec 1 := Scalar.cmpi .slt v6814 c0_i32_2442
  let v6819 : BitVec 1 := Scalar.xori v6817 v6818
  let c0_i32_2440 : BitVec 32 := 0#32
  let v6816 : BitVec 1 := Scalar.cmpi .ne v6815 c0_i32_2440
  let v6820 : BitVec 1 := Scalar.andi v6819 v6816
  let v6821 : BitVec 32 := Scalar.addi v6815 v6814
  let v6822 : BitVec 32 := Scalar.select v6820 v6821 v6815
  let c512_i32_2443 : BitVec 32 := 512#32
  let v6823 : BitVec 32 := Scalar.muli v6822 c512_i32_2443
  v6823
def k0_mult88 (k0_t2 : Fin k0_t2_loop.trips) : BitVec 32 :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c1_i32_1951 : BitVec 32 := 1#32
  let v5466 : BitVec 32 := Scalar.addi v5460 c1_i32_1951
  let c2_i32_2915 : BitVec 32 := 2#32
  let c0_i32_2916 : BitVec 32 := 0#32
  let v8142 : BitVec 1 := Scalar.cmpi .eq c2_i32_2915 c0_i32_2916
  let c1_i32_2917 : BitVec 32 := 1#32
  let v8143 : BitVec 32 := Scalar.select v8142 c1_i32_2917 c2_i32_2915
  let v8144 : BitVec 32 := Scalar.remsi v5466 v8143
  let c0_i32_2919 : BitVec 32 := 0#32
  let v8146 : BitVec 1 := Scalar.cmpi .slt v8144 c0_i32_2919
  let c0_i32_2920 : BitVec 32 := 0#32
  let v8147 : BitVec 1 := Scalar.cmpi .slt v8143 c0_i32_2920
  let v8148 : BitVec 1 := Scalar.xori v8146 v8147
  let c0_i32_2918 : BitVec 32 := 0#32
  let v8145 : BitVec 1 := Scalar.cmpi .ne v8144 c0_i32_2918
  let v8149 : BitVec 1 := Scalar.andi v8148 v8145
  let v8150 : BitVec 32 := Scalar.addi v8144 v8143
  let v8151 : BitVec 32 := Scalar.select v8149 v8150 v8144
  let c512_i32_2921 : BitVec 32 := 512#32
  let v8152 : BitVec 32 := Scalar.muli v8151 c512_i32_2921
  v8152
def k0_mult89 (k0_t2 : Fin k0_t2_loop.trips) : BitVec 32 :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c1_i32_1951 : BitVec 32 := 1#32
  let v5466 : BitVec 32 := Scalar.addi v5460 c1_i32_1951
  let c2_i32_3393 : BitVec 32 := 2#32
  let c0_i32_3394 : BitVec 32 := 0#32
  let v9471 : BitVec 1 := Scalar.cmpi .eq c2_i32_3393 c0_i32_3394
  let c1_i32_3395 : BitVec 32 := 1#32
  let v9472 : BitVec 32 := Scalar.select v9471 c1_i32_3395 c2_i32_3393
  let v9473 : BitVec 32 := Scalar.remsi v5466 v9472
  let c0_i32_3397 : BitVec 32 := 0#32
  let v9475 : BitVec 1 := Scalar.cmpi .slt v9473 c0_i32_3397
  let c0_i32_3398 : BitVec 32 := 0#32
  let v9476 : BitVec 1 := Scalar.cmpi .slt v9472 c0_i32_3398
  let v9477 : BitVec 1 := Scalar.xori v9475 v9476
  let c0_i32_3396 : BitVec 32 := 0#32
  let v9474 : BitVec 1 := Scalar.cmpi .ne v9473 c0_i32_3396
  let v9478 : BitVec 1 := Scalar.andi v9477 v9474
  let v9479 : BitVec 32 := Scalar.addi v9473 v9472
  let v9480 : BitVec 32 := Scalar.select v9478 v9479 v9473
  let c512_i32_3399 : BitVec 32 := 512#32
  let v9481 : BitVec 32 := Scalar.muli v9480 c512_i32_3399
  v9481
def k0_mult90 (k0_t2 : Fin k0_t2_loop.trips) : BitVec 32 :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c1_i32_3874 : BitVec 32 := 1#32
  let v10804 : BitVec 32 := Scalar.addi v5460 c1_i32_3874
  let c512_i32_3875 : BitVec 32 := 512#32
  let v10805 : BitVec 32 := Scalar.muli v10804 c512_i32_3875
  v10805
def k0_off40 (k0_t2 : Fin k0_t2_loop.trips) : Fin 2 → Nat :=
  let c0_i32_1940 : BitVec 32 := 0#32
  let c0_i32_1900 : BitVec 32 := 0#32
  let c1_i32_1902 : BitVec 32 := 1#32
  let arg30 : BitVec 32 := Scf.iv c0_i32_1900 c1_i32_1902 k0_t2
  let c1_i32_1939 : BitVec 32 := 1#32
  let v5459 : BitVec 32 := Scalar.muli arg30 c1_i32_1939
  let v5460 : BitVec 32 := Scalar.addi c0_i32_1940 v5459
  let c1_i32_3874 : BitVec 32 := 1#32
  let v10804 : BitVec 32 := Scalar.addi v5460 c1_i32_3874
  let c512_i32_3875 : BitVec 32 := 512#32
  let v10805 : BitVec 32 := Scalar.muli v10804 c512_i32_3875
  let v10806 : BitVec 32 := v10805
  let c0_i32_3876 : BitVec 32 := 0#32
  ![v10806.toNat, 0]
@[reducible] def k0_t5_loop : Scf.Loop 32 :=
  let c0_i32_1904 : BitVec 32 := 0#32
  let c7_i32_1905 : BitVec 32 := 7#32
  let v5423 : BitVec 32 := Scalar.addi c0_i32_1904 c7_i32_1905
  let c1_i32_1906 : BitVec 32 := 1#32
  ⟨c0_i32_1904, v5423, c1_i32_1906⟩
def k0_mult91 (k0_t5 : Fin k0_t5_loop.trips) : BitVec 32 :=
  let c21_i32_1941 : BitVec 32 := 21#32
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let v5461 : BitVec 32 := Scalar.addi c21_i32_1941 v5460
  let c0_i32_1943 : BitVec 32 := 0#32
  let v5463 : BitVec 1 := Scalar.cmpi .sgt v5461 c0_i32_1943
  let v5464 : BitVec 32 := Scalar.extui v5463
  let c0_i32_1944 : BitVec 32 := 0#32
  let v5465 : BitVec 1 := Scalar.cmpi .slt v5461 c0_i32_1944
  let v5466 : BitVec 32 := Scalar.extui v5465
  let v5467 : BitVec 32 := Scalar.subi v5464 v5466
  let c7_i32_1942 : BitVec 32 := 7#32
  let c0_i32_1945 : BitVec 32 := 0#32
  let v5468 : BitVec 1 := Scalar.cmpi .sgt c7_i32_1942 c0_i32_1945
  let v5469 : BitVec 32 := Scalar.extui v5468
  let c0_i32_1946 : BitVec 32 := 0#32
  let v5470 : BitVec 1 := Scalar.cmpi .slt c7_i32_1942 c0_i32_1946
  let v5471 : BitVec 32 := Scalar.extui v5470
  let v5472 : BitVec 32 := Scalar.subi v5469 v5471
  let v5473 : BitVec 1 := Scalar.cmpi .ne v5467 v5472
  let v5474 : BitVec 32 := Scalar.remsi v5461 c7_i32_1942
  let c0_i32_1947 : BitVec 32 := 0#32
  let v5475 : BitVec 1 := Scalar.cmpi .ne v5474 c0_i32_1947
  let v5476 : BitVec 1 := Scalar.andi v5473 v5475
  let v5462 : BitVec 32 := Scalar.divsi v5461 c7_i32_1942
  let c1_i32_1948 : BitVec 32 := 1#32
  let v5477 : BitVec 32 := Scalar.subi v5462 c1_i32_1948
  let v5478 : BitVec 32 := Scalar.select v5476 v5477 v5462
  let c512_i32_1955 : BitVec 32 := 512#32
  let v5489 : BitVec 32 := Scalar.muli v5478 c512_i32_1955
  v5489
def k0_mult92 (k0_t5 : Fin k0_t5_loop.trips) : BitVec 32 :=
  let c21_i32_1941 : BitVec 32 := 21#32
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let v5461 : BitVec 32 := Scalar.addi c21_i32_1941 v5460
  let c7_i32_1949 : BitVec 32 := 7#32
  let c0_i32_1950 : BitVec 32 := 0#32
  let v5479 : BitVec 1 := Scalar.cmpi .eq c7_i32_1949 c0_i32_1950
  let c1_i32_1951 : BitVec 32 := 1#32
  let v5480 : BitVec 32 := Scalar.select v5479 c1_i32_1951 c7_i32_1949
  let v5481 : BitVec 32 := Scalar.remsi v5461 v5480
  let c0_i32_1953 : BitVec 32 := 0#32
  let v5483 : BitVec 1 := Scalar.cmpi .slt v5481 c0_i32_1953
  let c0_i32_1954 : BitVec 32 := 0#32
  let v5484 : BitVec 1 := Scalar.cmpi .slt v5480 c0_i32_1954
  let v5485 : BitVec 1 := Scalar.xori v5483 v5484
  let c0_i32_1952 : BitVec 32 := 0#32
  let v5482 : BitVec 1 := Scalar.cmpi .ne v5481 c0_i32_1952
  let v5486 : BitVec 1 := Scalar.andi v5485 v5482
  let v5487 : BitVec 32 := Scalar.addi v5481 v5480
  let v5488 : BitVec 32 := Scalar.select v5486 v5487 v5481
  let c1024_i32_1956 : BitVec 32 := 1024#32
  let v5491 : BitVec 32 := Scalar.muli v5488 c1024_i32_1956
  v5491
def k0_off41 (k0_t5 : Fin k0_t5_loop.trips) : Fin 1 → Nat :=
  let c21_i32_1941 : BitVec 32 := 21#32
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let v5461 : BitVec 32 := Scalar.addi c21_i32_1941 v5460
  let c4_i32_1957 : BitVec 32 := 4#32
  let c0_i32_1958 : BitVec 32 := 0#32
  let v5493 : BitVec 1 := Scalar.cmpi .eq c4_i32_1957 c0_i32_1958
  let c1_i32_1959 : BitVec 32 := 1#32
  let v5494 : BitVec 32 := Scalar.select v5493 c1_i32_1959 c4_i32_1957
  let v5495 : BitVec 32 := Scalar.remsi v5461 v5494
  let c0_i32_1961 : BitVec 32 := 0#32
  let v5497 : BitVec 1 := Scalar.cmpi .slt v5495 c0_i32_1961
  let c0_i32_1962 : BitVec 32 := 0#32
  let v5498 : BitVec 1 := Scalar.cmpi .slt v5494 c0_i32_1962
  let v5499 : BitVec 1 := Scalar.xori v5497 v5498
  let c0_i32_1960 : BitVec 32 := 0#32
  let v5496 : BitVec 1 := Scalar.cmpi .ne v5495 c0_i32_1960
  let v5500 : BitVec 1 := Scalar.andi v5499 v5496
  let v5501 : BitVec 32 := Scalar.addi v5495 v5494
  let v5502 : BitVec 32 := Scalar.select v5500 v5501 v5495
  ![v5502.toNat]
def k0_off42 (k0_t5 : Fin k0_t5_loop.trips) : Fin 3 → Nat :=
  let c21_i32_1941 : BitVec 32 := 21#32
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let v5461 : BitVec 32 := Scalar.addi c21_i32_1941 v5460
  let c4_i32_1957 : BitVec 32 := 4#32
  let c0_i32_1958 : BitVec 32 := 0#32
  let v5493 : BitVec 1 := Scalar.cmpi .eq c4_i32_1957 c0_i32_1958
  let c1_i32_1959 : BitVec 32 := 1#32
  let v5494 : BitVec 32 := Scalar.select v5493 c1_i32_1959 c4_i32_1957
  let v5495 : BitVec 32 := Scalar.remsi v5461 v5494
  let c0_i32_1961 : BitVec 32 := 0#32
  let v5497 : BitVec 1 := Scalar.cmpi .slt v5495 c0_i32_1961
  let c0_i32_1962 : BitVec 32 := 0#32
  let v5498 : BitVec 1 := Scalar.cmpi .slt v5494 c0_i32_1962
  let v5499 : BitVec 1 := Scalar.xori v5497 v5498
  let c0_i32_1960 : BitVec 32 := 0#32
  let v5496 : BitVec 1 := Scalar.cmpi .ne v5495 c0_i32_1960
  let v5500 : BitVec 1 := Scalar.andi v5499 v5496
  let v5501 : BitVec 32 := Scalar.addi v5495 v5494
  let v5502 : BitVec 32 := Scalar.select v5500 v5501 v5495
  let c0_i32_1963 : BitVec 32 := 0#32
  let c0_i32_1964 : BitVec 32 := 0#32
  ![v5502.toNat, 0, 0]
def k0_off43 (k0_t5 : Fin k0_t5_loop.trips) : Fin 2 → Nat :=
  let c21_i32_1941 : BitVec 32 := 21#32
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let v5461 : BitVec 32 := Scalar.addi c21_i32_1941 v5460
  let c0_i32_1943 : BitVec 32 := 0#32
  let v5463 : BitVec 1 := Scalar.cmpi .sgt v5461 c0_i32_1943
  let v5464 : BitVec 32 := Scalar.extui v5463
  let c0_i32_1944 : BitVec 32 := 0#32
  let v5465 : BitVec 1 := Scalar.cmpi .slt v5461 c0_i32_1944
  let v5466 : BitVec 32 := Scalar.extui v5465
  let v5467 : BitVec 32 := Scalar.subi v5464 v5466
  let c7_i32_1942 : BitVec 32 := 7#32
  let c0_i32_1945 : BitVec 32 := 0#32
  let v5468 : BitVec 1 := Scalar.cmpi .sgt c7_i32_1942 c0_i32_1945
  let v5469 : BitVec 32 := Scalar.extui v5468
  let c0_i32_1946 : BitVec 32 := 0#32
  let v5470 : BitVec 1 := Scalar.cmpi .slt c7_i32_1942 c0_i32_1946
  let v5471 : BitVec 32 := Scalar.extui v5470
  let v5472 : BitVec 32 := Scalar.subi v5469 v5471
  let v5473 : BitVec 1 := Scalar.cmpi .ne v5467 v5472
  let v5474 : BitVec 32 := Scalar.remsi v5461 c7_i32_1942
  let c0_i32_1947 : BitVec 32 := 0#32
  let v5475 : BitVec 1 := Scalar.cmpi .ne v5474 c0_i32_1947
  let v5476 : BitVec 1 := Scalar.andi v5473 v5475
  let v5462 : BitVec 32 := Scalar.divsi v5461 c7_i32_1942
  let c1_i32_1948 : BitVec 32 := 1#32
  let v5477 : BitVec 32 := Scalar.subi v5462 c1_i32_1948
  let v5478 : BitVec 32 := Scalar.select v5476 v5477 v5462
  let c512_i32_1955 : BitVec 32 := 512#32
  let v5489 : BitVec 32 := Scalar.muli v5478 c512_i32_1955
  let v5490 : BitVec 32 := v5489
  let c7_i32_1949 : BitVec 32 := 7#32
  let c0_i32_1950 : BitVec 32 := 0#32
  let v5479 : BitVec 1 := Scalar.cmpi .eq c7_i32_1949 c0_i32_1950
  let c1_i32_1951 : BitVec 32 := 1#32
  let v5480 : BitVec 32 := Scalar.select v5479 c1_i32_1951 c7_i32_1949
  let v5481 : BitVec 32 := Scalar.remsi v5461 v5480
  let c0_i32_1953 : BitVec 32 := 0#32
  let v5483 : BitVec 1 := Scalar.cmpi .slt v5481 c0_i32_1953
  let c0_i32_1954 : BitVec 32 := 0#32
  let v5484 : BitVec 1 := Scalar.cmpi .slt v5480 c0_i32_1954
  let v5485 : BitVec 1 := Scalar.xori v5483 v5484
  let c0_i32_1952 : BitVec 32 := 0#32
  let v5482 : BitVec 1 := Scalar.cmpi .ne v5481 c0_i32_1952
  let v5486 : BitVec 1 := Scalar.andi v5485 v5482
  let v5487 : BitVec 32 := Scalar.addi v5481 v5480
  let v5488 : BitVec 32 := Scalar.select v5486 v5487 v5481
  let c1024_i32_1956 : BitVec 32 := 1024#32
  let v5491 : BitVec 32 := Scalar.muli v5488 c1024_i32_1956
  let v5492 : BitVec 32 := v5491
  ![v5490.toNat, v5492.toNat]
def k0_cond4 (k0_t5 : Fin k0_t5_loop.trips) : BitVec 1 :=
  let c21_i32_1941 : BitVec 32 := 21#32
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let v5461 : BitVec 32 := Scalar.addi c21_i32_1941 v5460
  let c3_i32_1965 : BitVec 32 := 3#32
  let v5508 : BitVec 1 := Scalar.cmpi .sge v5461 c3_i32_1965
  let v5509 : BitVec 32 := Scalar.extui v5508
  let c0_i32_1966 : BitVec 32 := 0#32
  let v5510 : BitVec 1 := Scalar.cmpi .ne v5509 c0_i32_1966
  v5510

def k0_mult93 (k0_t5 : Fin k0_t5_loop.trips) : BitVec 32 :=
  let c21_i32_1941 : BitVec 32 := 21#32
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let v5461 : BitVec 32 := Scalar.addi c21_i32_1941 v5460
  let c3_i32_2150 : BitVec 32 := 3#32
  let v5837 : BitVec 32 := Scalar.subi v5461 c3_i32_2150
  let c0_i32_2152 : BitVec 32 := 0#32
  let v5839 : BitVec 1 := Scalar.cmpi .sgt v5837 c0_i32_2152
  let v5840 : BitVec 32 := Scalar.extui v5839
  let c0_i32_2153 : BitVec 32 := 0#32
  let v5841 : BitVec 1 := Scalar.cmpi .slt v5837 c0_i32_2153
  let v5842 : BitVec 32 := Scalar.extui v5841
  let v5843 : BitVec 32 := Scalar.subi v5840 v5842
  let c7_i32_2151 : BitVec 32 := 7#32
  let c0_i32_2154 : BitVec 32 := 0#32
  let v5844 : BitVec 1 := Scalar.cmpi .sgt c7_i32_2151 c0_i32_2154
  let v5845 : BitVec 32 := Scalar.extui v5844
  let c0_i32_2155 : BitVec 32 := 0#32
  let v5846 : BitVec 1 := Scalar.cmpi .slt c7_i32_2151 c0_i32_2155
  let v5847 : BitVec 32 := Scalar.extui v5846
  let v5848 : BitVec 32 := Scalar.subi v5845 v5847
  let v5849 : BitVec 1 := Scalar.cmpi .ne v5843 v5848
  let v5850 : BitVec 32 := Scalar.remsi v5837 c7_i32_2151
  let c0_i32_2156 : BitVec 32 := 0#32
  let v5851 : BitVec 1 := Scalar.cmpi .ne v5850 c0_i32_2156
  let v5852 : BitVec 1 := Scalar.andi v5849 v5851
  let v5838 : BitVec 32 := Scalar.divsi v5837 c7_i32_2151
  let c1_i32_2157 : BitVec 32 := 1#32
  let v5853 : BitVec 32 := Scalar.subi v5838 c1_i32_2157
  let v5854 : BitVec 32 := Scalar.select v5852 v5853 v5838
  let c512_i32_2164 : BitVec 32 := 512#32
  let v5865 : BitVec 32 := Scalar.muli v5854 c512_i32_2164
  v5865
def k0_mult94 (k0_t5 : Fin k0_t5_loop.trips) : BitVec 32 :=
  let c21_i32_1941 : BitVec 32 := 21#32
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let v5461 : BitVec 32 := Scalar.addi c21_i32_1941 v5460
  let c3_i32_2150 : BitVec 32 := 3#32
  let v5837 : BitVec 32 := Scalar.subi v5461 c3_i32_2150
  let c7_i32_2158 : BitVec 32 := 7#32
  let c0_i32_2159 : BitVec 32 := 0#32
  let v5855 : BitVec 1 := Scalar.cmpi .eq c7_i32_2158 c0_i32_2159
  let c1_i32_2160 : BitVec 32 := 1#32
  let v5856 : BitVec 32 := Scalar.select v5855 c1_i32_2160 c7_i32_2158
  let v5857 : BitVec 32 := Scalar.remsi v5837 v5856
  let c0_i32_2162 : BitVec 32 := 0#32
  let v5859 : BitVec 1 := Scalar.cmpi .slt v5857 c0_i32_2162
  let c0_i32_2163 : BitVec 32 := 0#32
  let v5860 : BitVec 1 := Scalar.cmpi .slt v5856 c0_i32_2163
  let v5861 : BitVec 1 := Scalar.xori v5859 v5860
  let c0_i32_2161 : BitVec 32 := 0#32
  let v5858 : BitVec 1 := Scalar.cmpi .ne v5857 c0_i32_2161
  let v5862 : BitVec 1 := Scalar.andi v5861 v5858
  let v5863 : BitVec 32 := Scalar.addi v5857 v5856
  let v5864 : BitVec 32 := Scalar.select v5862 v5863 v5857
  let c1024_i32_2165 : BitVec 32 := 1024#32
  let v5867 : BitVec 32 := Scalar.muli v5864 c1024_i32_2165
  v5867
def k0_off44 (k0_t5 : Fin k0_t5_loop.trips) : Fin 1 → Nat :=
  let c21_i32_1941 : BitVec 32 := 21#32
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let v5461 : BitVec 32 := Scalar.addi c21_i32_1941 v5460
  let c3_i32_2150 : BitVec 32 := 3#32
  let v5837 : BitVec 32 := Scalar.subi v5461 c3_i32_2150
  let c3_i32_2166 : BitVec 32 := 3#32
  let c0_i32_2167 : BitVec 32 := 0#32
  let v5869 : BitVec 1 := Scalar.cmpi .eq c3_i32_2166 c0_i32_2167
  let c1_i32_2168 : BitVec 32 := 1#32
  let v5870 : BitVec 32 := Scalar.select v5869 c1_i32_2168 c3_i32_2166
  let v5871 : BitVec 32 := Scalar.remsi v5837 v5870
  let c0_i32_2170 : BitVec 32 := 0#32
  let v5873 : BitVec 1 := Scalar.cmpi .slt v5871 c0_i32_2170
  let c0_i32_2171 : BitVec 32 := 0#32
  let v5874 : BitVec 1 := Scalar.cmpi .slt v5870 c0_i32_2171
  let v5875 : BitVec 1 := Scalar.xori v5873 v5874
  let c0_i32_2169 : BitVec 32 := 0#32
  let v5872 : BitVec 1 := Scalar.cmpi .ne v5871 c0_i32_2169
  let v5876 : BitVec 1 := Scalar.andi v5875 v5872
  let v5877 : BitVec 32 := Scalar.addi v5871 v5870
  let v5878 : BitVec 32 := Scalar.select v5876 v5877 v5871
  ![v5878.toNat]
def k0_off45 (k0_t5 : Fin k0_t5_loop.trips) : Fin 2 → Nat :=
  let c21_i32_1941 : BitVec 32 := 21#32
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let v5461 : BitVec 32 := Scalar.addi c21_i32_1941 v5460
  let c3_i32_2150 : BitVec 32 := 3#32
  let v5837 : BitVec 32 := Scalar.subi v5461 c3_i32_2150
  let c0_i32_2152 : BitVec 32 := 0#32
  let v5839 : BitVec 1 := Scalar.cmpi .sgt v5837 c0_i32_2152
  let v5840 : BitVec 32 := Scalar.extui v5839
  let c0_i32_2153 : BitVec 32 := 0#32
  let v5841 : BitVec 1 := Scalar.cmpi .slt v5837 c0_i32_2153
  let v5842 : BitVec 32 := Scalar.extui v5841
  let v5843 : BitVec 32 := Scalar.subi v5840 v5842
  let c7_i32_2151 : BitVec 32 := 7#32
  let c0_i32_2154 : BitVec 32 := 0#32
  let v5844 : BitVec 1 := Scalar.cmpi .sgt c7_i32_2151 c0_i32_2154
  let v5845 : BitVec 32 := Scalar.extui v5844
  let c0_i32_2155 : BitVec 32 := 0#32
  let v5846 : BitVec 1 := Scalar.cmpi .slt c7_i32_2151 c0_i32_2155
  let v5847 : BitVec 32 := Scalar.extui v5846
  let v5848 : BitVec 32 := Scalar.subi v5845 v5847
  let v5849 : BitVec 1 := Scalar.cmpi .ne v5843 v5848
  let v5850 : BitVec 32 := Scalar.remsi v5837 c7_i32_2151
  let c0_i32_2156 : BitVec 32 := 0#32
  let v5851 : BitVec 1 := Scalar.cmpi .ne v5850 c0_i32_2156
  let v5852 : BitVec 1 := Scalar.andi v5849 v5851
  let v5838 : BitVec 32 := Scalar.divsi v5837 c7_i32_2151
  let c1_i32_2157 : BitVec 32 := 1#32
  let v5853 : BitVec 32 := Scalar.subi v5838 c1_i32_2157
  let v5854 : BitVec 32 := Scalar.select v5852 v5853 v5838
  let c512_i32_2164 : BitVec 32 := 512#32
  let v5865 : BitVec 32 := Scalar.muli v5854 c512_i32_2164
  let v5866 : BitVec 32 := v5865
  let c7_i32_2158 : BitVec 32 := 7#32
  let c0_i32_2159 : BitVec 32 := 0#32
  let v5855 : BitVec 1 := Scalar.cmpi .eq c7_i32_2158 c0_i32_2159
  let c1_i32_2160 : BitVec 32 := 1#32
  let v5856 : BitVec 32 := Scalar.select v5855 c1_i32_2160 c7_i32_2158
  let v5857 : BitVec 32 := Scalar.remsi v5837 v5856
  let c0_i32_2162 : BitVec 32 := 0#32
  let v5859 : BitVec 1 := Scalar.cmpi .slt v5857 c0_i32_2162
  let c0_i32_2163 : BitVec 32 := 0#32
  let v5860 : BitVec 1 := Scalar.cmpi .slt v5856 c0_i32_2163
  let v5861 : BitVec 1 := Scalar.xori v5859 v5860
  let c0_i32_2161 : BitVec 32 := 0#32
  let v5858 : BitVec 1 := Scalar.cmpi .ne v5857 c0_i32_2161
  let v5862 : BitVec 1 := Scalar.andi v5861 v5858
  let v5863 : BitVec 32 := Scalar.addi v5857 v5856
  let v5864 : BitVec 32 := Scalar.select v5862 v5863 v5857
  let c1024_i32_2165 : BitVec 32 := 1024#32
  let v5867 : BitVec 32 := Scalar.muli v5864 c1024_i32_2165
  let v5868 : BitVec 32 := v5867
  ![v5866.toNat, v5868.toNat]
def k0_off46 (k0_t5 : Fin k0_t5_loop.trips) : Fin 3 → Nat :=
  let c21_i32_1941 : BitVec 32 := 21#32
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let v5461 : BitVec 32 := Scalar.addi c21_i32_1941 v5460
  let c3_i32_2150 : BitVec 32 := 3#32
  let v5837 : BitVec 32 := Scalar.subi v5461 c3_i32_2150
  let c3_i32_2166 : BitVec 32 := 3#32
  let c0_i32_2167 : BitVec 32 := 0#32
  let v5869 : BitVec 1 := Scalar.cmpi .eq c3_i32_2166 c0_i32_2167
  let c1_i32_2168 : BitVec 32 := 1#32
  let v5870 : BitVec 32 := Scalar.select v5869 c1_i32_2168 c3_i32_2166
  let v5871 : BitVec 32 := Scalar.remsi v5837 v5870
  let c0_i32_2170 : BitVec 32 := 0#32
  let v5873 : BitVec 1 := Scalar.cmpi .slt v5871 c0_i32_2170
  let c0_i32_2171 : BitVec 32 := 0#32
  let v5874 : BitVec 1 := Scalar.cmpi .slt v5870 c0_i32_2171
  let v5875 : BitVec 1 := Scalar.xori v5873 v5874
  let c0_i32_2169 : BitVec 32 := 0#32
  let v5872 : BitVec 1 := Scalar.cmpi .ne v5871 c0_i32_2169
  let v5876 : BitVec 1 := Scalar.andi v5875 v5872
  let v5877 : BitVec 32 := Scalar.addi v5871 v5870
  let v5878 : BitVec 32 := Scalar.select v5876 v5877 v5871
  let c0_i32_2172 : BitVec 32 := 0#32
  let c0_i32_2173 : BitVec 32 := 0#32
  ![v5878.toNat, 0, 0]
def k0_cond5 (k0_t5 : Fin k0_t5_loop.trips) : BitVec 1 :=
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let c2_i32_1967 : BitVec 32 := 2#32
  let v5511 : BitVec 1 := Scalar.cmpi .sge v5460 c2_i32_1967
  let v5512 : BitVec 32 := Scalar.extui v5511
  let c0_i32_1968 : BitVec 32 := 0#32
  let v5513 : BitVec 1 := Scalar.cmpi .ne v5512 c0_i32_1968
  v5513

def k0_mult95 (k0_t5 : Fin k0_t5_loop.trips) : BitVec 32 :=
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let c2_i32_2150 : BitVec 32 := 2#32
  let v5837 : BitVec 32 := Scalar.subi v5460 c2_i32_2150
  let c1024_i32_2157 : BitVec 32 := 1024#32
  let v5848 : BitVec 32 := Scalar.muli v5837 c1024_i32_2157
  v5848
def k0_off47 (k0_t5 : Fin k0_t5_loop.trips) : Fin 1 → Nat :=
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let c2_i32_2150 : BitVec 32 := 2#32
  let v5837 : BitVec 32 := Scalar.subi v5460 c2_i32_2150
  let c2_i32_2151 : BitVec 32 := 2#32
  let c0_i32_2152 : BitVec 32 := 0#32
  let v5838 : BitVec 1 := Scalar.cmpi .eq c2_i32_2151 c0_i32_2152
  let c1_i32_2153 : BitVec 32 := 1#32
  let v5839 : BitVec 32 := Scalar.select v5838 c1_i32_2153 c2_i32_2151
  let v5840 : BitVec 32 := Scalar.remsi v5837 v5839
  let c0_i32_2155 : BitVec 32 := 0#32
  let v5842 : BitVec 1 := Scalar.cmpi .slt v5840 c0_i32_2155
  let c0_i32_2156 : BitVec 32 := 0#32
  let v5843 : BitVec 1 := Scalar.cmpi .slt v5839 c0_i32_2156
  let v5844 : BitVec 1 := Scalar.xori v5842 v5843
  let c0_i32_2154 : BitVec 32 := 0#32
  let v5841 : BitVec 1 := Scalar.cmpi .ne v5840 c0_i32_2154
  let v5845 : BitVec 1 := Scalar.andi v5844 v5841
  let v5846 : BitVec 32 := Scalar.addi v5840 v5839
  let v5847 : BitVec 32 := Scalar.select v5845 v5846 v5840
  ![v5847.toNat]
def k0_off48 (k0_t5 : Fin k0_t5_loop.trips) : Fin 2 → Nat :=
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let c2_i32_2150 : BitVec 32 := 2#32
  let v5837 : BitVec 32 := Scalar.subi v5460 c2_i32_2150
  let c1024_i32_2157 : BitVec 32 := 1024#32
  let v5848 : BitVec 32 := Scalar.muli v5837 c1024_i32_2157
  let v5849 : BitVec 32 := v5848
  let c0_i32_2158 : BitVec 32 := 0#32
  ![v5849.toNat, 0]
def k0_off49 (k0_t5 : Fin k0_t5_loop.trips) : Fin 3 → Nat :=
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let c2_i32_2150 : BitVec 32 := 2#32
  let v5837 : BitVec 32 := Scalar.subi v5460 c2_i32_2150
  let c2_i32_2151 : BitVec 32 := 2#32
  let c0_i32_2152 : BitVec 32 := 0#32
  let v5838 : BitVec 1 := Scalar.cmpi .eq c2_i32_2151 c0_i32_2152
  let c1_i32_2153 : BitVec 32 := 1#32
  let v5839 : BitVec 32 := Scalar.select v5838 c1_i32_2153 c2_i32_2151
  let v5840 : BitVec 32 := Scalar.remsi v5837 v5839
  let c0_i32_2155 : BitVec 32 := 0#32
  let v5842 : BitVec 1 := Scalar.cmpi .slt v5840 c0_i32_2155
  let c0_i32_2156 : BitVec 32 := 0#32
  let v5843 : BitVec 1 := Scalar.cmpi .slt v5839 c0_i32_2156
  let v5844 : BitVec 1 := Scalar.xori v5842 v5843
  let c0_i32_2154 : BitVec 32 := 0#32
  let v5841 : BitVec 1 := Scalar.cmpi .ne v5840 c0_i32_2154
  let v5845 : BitVec 1 := Scalar.andi v5844 v5841
  let v5846 : BitVec 32 := Scalar.addi v5840 v5839
  let v5847 : BitVec 32 := Scalar.select v5845 v5846 v5840
  let c0_i32_2159 : BitVec 32 := 0#32
  let c0_i32_2160 : BitVec 32 := 0#32
  ![v5847.toNat, 0, 0]
def k0_mult96 (k0_t5 : Fin k0_t5_loop.trips) : BitVec 32 :=
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let c1024_i32_1971 : BitVec 32 := 1024#32
  let v5515 : BitVec 32 := Scalar.muli v5460 c1024_i32_1971
  v5515
def k0_off50 (k0_t5 : Fin k0_t5_loop.trips) (c0_i32_1972 : BitVec 32) : Fin 2 → Nat :=
  let c0_1973 : Index := 0#32
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let c1024_i32_1971 : BitVec 32 := 1024#32
  let v5515 : BitVec 32 := Scalar.muli v5460 c1024_i32_1971
  let v5516 : BitVec 32 := v5515
  let v5517 : BitVec 32 := Scalar.addi v5516 c0_i32_1972
  let v5518 : Index := Scalar.indexCast v5517
  ![0, v5518.toNat]
def k0_off51 (k0_t5 : Fin k0_t5_loop.trips) : Fin 3 → Nat :=
  let c21_i32_1941 : BitVec 32 := 21#32
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let v5461 : BitVec 32 := Scalar.addi c21_i32_1941 v5460
  let c4_i32_1975 : BitVec 32 := 4#32
  let c0_i32_1976 : BitVec 32 := 0#32
  let v5521 : BitVec 1 := Scalar.cmpi .eq c4_i32_1975 c0_i32_1976
  let c1_i32_1977 : BitVec 32 := 1#32
  let v5522 : BitVec 32 := Scalar.select v5521 c1_i32_1977 c4_i32_1975
  let v5523 : BitVec 32 := Scalar.remsi v5461 v5522
  let c0_i32_1979 : BitVec 32 := 0#32
  let v5525 : BitVec 1 := Scalar.cmpi .slt v5523 c0_i32_1979
  let c0_i32_1980 : BitVec 32 := 0#32
  let v5526 : BitVec 1 := Scalar.cmpi .slt v5522 c0_i32_1980
  let v5527 : BitVec 1 := Scalar.xori v5525 v5526
  let c0_i32_1978 : BitVec 32 := 0#32
  let v5524 : BitVec 1 := Scalar.cmpi .ne v5523 c0_i32_1978
  let v5528 : BitVec 1 := Scalar.andi v5527 v5524
  let v5529 : BitVec 32 := Scalar.addi v5523 v5522
  let v5530 : BitVec 32 := Scalar.select v5528 v5529 v5523
  let v5531 : Index := Scalar.indexCast v5530
  let c0_1981 : Index := 0#32
  let c0_1982 : Index := 0#32
  ![v5531.toNat, 0, 0]
def k0_off52 (k0_t5 : Fin k0_t5_loop.trips) : Fin 3 → Nat :=
  let c21_i32_1941 : BitVec 32 := 21#32
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let v5461 : BitVec 32 := Scalar.addi c21_i32_1941 v5460
  let c3_i32_1983 : BitVec 32 := 3#32
  let c0_i32_1984 : BitVec 32 := 0#32
  let v5537 : BitVec 1 := Scalar.cmpi .eq c3_i32_1983 c0_i32_1984
  let c1_i32_1985 : BitVec 32 := 1#32
  let v5538 : BitVec 32 := Scalar.select v5537 c1_i32_1985 c3_i32_1983
  let v5539 : BitVec 32 := Scalar.remsi v5461 v5538
  let c0_i32_1987 : BitVec 32 := 0#32
  let v5541 : BitVec 1 := Scalar.cmpi .slt v5539 c0_i32_1987
  let c0_i32_1988 : BitVec 32 := 0#32
  let v5542 : BitVec 1 := Scalar.cmpi .slt v5538 c0_i32_1988
  let v5543 : BitVec 1 := Scalar.xori v5541 v5542
  let c0_i32_1986 : BitVec 32 := 0#32
  let v5540 : BitVec 1 := Scalar.cmpi .ne v5539 c0_i32_1986
  let v5544 : BitVec 1 := Scalar.andi v5543 v5540
  let v5545 : BitVec 32 := Scalar.addi v5539 v5538
  let v5546 : BitVec 32 := Scalar.select v5544 v5545 v5539
  let v5547 : Index := Scalar.indexCast v5546
  let c0_1989 : Index := 0#32
  let c0_1990 : Index := 0#32
  ![v5547.toNat, 0, 0]
def k0_mult97 (k0_t5 : Fin k0_t5_loop.trips) : BitVec 32 :=
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let c1024_i32_1991 : BitVec 32 := 1024#32
  let v5551 : BitVec 32 := Scalar.muli v5460 c1024_i32_1991
  v5551
def k0_mult98 : BitVec 32 :=
  let c1536_i32_1995 : BitVec 32 := 1536#32
  c1536_i32_1995
def k0_off53 (k0_t5 : Fin k0_t5_loop.trips) (c0_i32_1992 : BitVec 32) : Fin 2 → Nat :=
  let c1536_i32_1995 : BitVec 32 := 1536#32
  let v5555 : BitVec 32 := c1536_i32_1995
  let v5556 : Index := Scalar.indexCast v5555
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let c1024_i32_1991 : BitVec 32 := 1024#32
  let v5551 : BitVec 32 := Scalar.muli v5460 c1024_i32_1991
  let v5552 : BitVec 32 := v5551
  let v5553 : BitVec 32 := Scalar.addi v5552 c0_i32_1992
  let v5557 : Index := Scalar.indexCast v5553
  ![1536, v5557.toNat]
def k0_off54 (k0_t5 : Fin k0_t5_loop.trips) (c0_i32_1992 : BitVec 32) : Fin 2 → Nat :=
  let c0_1997 : Index := 0#32
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let c1024_i32_1991 : BitVec 32 := 1024#32
  let v5551 : BitVec 32 := Scalar.muli v5460 c1024_i32_1991
  let v5552 : BitVec 32 := v5551
  let v5553 : BitVec 32 := Scalar.addi v5552 c0_i32_1992
  let v5560 : Index := Scalar.indexCast v5553
  ![0, v5560.toNat]
def k0_off55 (k0_t5 : Fin k0_t5_loop.trips) : Fin 3 → Nat :=
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let c2_i32_1998 : BitVec 32 := 2#32
  let c0_i32_1999 : BitVec 32 := 0#32
  let v5564 : BitVec 1 := Scalar.cmpi .eq c2_i32_1998 c0_i32_1999
  let c1_i32_2000 : BitVec 32 := 1#32
  let v5565 : BitVec 32 := Scalar.select v5564 c1_i32_2000 c2_i32_1998
  let v5566 : BitVec 32 := Scalar.remsi v5460 v5565
  let c0_i32_2002 : BitVec 32 := 0#32
  let v5568 : BitVec 1 := Scalar.cmpi .slt v5566 c0_i32_2002
  let c0_i32_2003 : BitVec 32 := 0#32
  let v5569 : BitVec 1 := Scalar.cmpi .slt v5565 c0_i32_2003
  let v5570 : BitVec 1 := Scalar.xori v5568 v5569
  let c0_i32_2001 : BitVec 32 := 0#32
  let v5567 : BitVec 1 := Scalar.cmpi .ne v5566 c0_i32_2001
  let v5571 : BitVec 1 := Scalar.andi v5570 v5567
  let v5572 : BitVec 32 := Scalar.addi v5566 v5565
  let v5573 : BitVec 32 := Scalar.select v5571 v5572 v5566
  let v5574 : Index := Scalar.indexCast v5573
  let c0_2004 : Index := 0#32
  let c0_2005 : Index := 0#32
  ![v5574.toNat, 0, 0]
def k0_mult99 (k0_t5 : Fin k0_t5_loop.trips) : BitVec 32 :=
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let c1024_i32_2008 : BitVec 32 := 1024#32
  let v5579 : BitVec 32 := Scalar.muli v5460 c1024_i32_2008
  v5579
def k0_off56 (k0_t5 : Fin k0_t5_loop.trips) : Fin 3 → Nat :=
  let c21_i32_1941 : BitVec 32 := 21#32
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let v5461 : BitVec 32 := Scalar.addi c21_i32_1941 v5460
  let c4_i32_2012 : BitVec 32 := 4#32
  let c0_i32_2013 : BitVec 32 := 0#32
  let v5585 : BitVec 1 := Scalar.cmpi .eq c4_i32_2012 c0_i32_2013
  let c1_i32_2014 : BitVec 32 := 1#32
  let v5586 : BitVec 32 := Scalar.select v5585 c1_i32_2014 c4_i32_2012
  let v5587 : BitVec 32 := Scalar.remsi v5461 v5586
  let c0_i32_2016 : BitVec 32 := 0#32
  let v5589 : BitVec 1 := Scalar.cmpi .slt v5587 c0_i32_2016
  let c0_i32_2017 : BitVec 32 := 0#32
  let v5590 : BitVec 1 := Scalar.cmpi .slt v5586 c0_i32_2017
  let v5591 : BitVec 1 := Scalar.xori v5589 v5590
  let c0_i32_2015 : BitVec 32 := 0#32
  let v5588 : BitVec 1 := Scalar.cmpi .ne v5587 c0_i32_2015
  let v5592 : BitVec 1 := Scalar.andi v5591 v5588
  let v5593 : BitVec 32 := Scalar.addi v5587 v5586
  let v5594 : BitVec 32 := Scalar.select v5592 v5593 v5587
  let v5595 : Index := Scalar.indexCast v5594
  let c256_2018 : Index := 256#32
  let c0_2019 : Index := 0#32
  ![v5595.toNat, 256, 0]
def k0_off57 (k0_t5 : Fin k0_t5_loop.trips) : Fin 3 → Nat :=
  let c21_i32_1941 : BitVec 32 := 21#32
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let v5461 : BitVec 32 := Scalar.addi c21_i32_1941 v5460
  let c3_i32_2020 : BitVec 32 := 3#32
  let c0_i32_2021 : BitVec 32 := 0#32
  let v5601 : BitVec 1 := Scalar.cmpi .eq c3_i32_2020 c0_i32_2021
  let c1_i32_2022 : BitVec 32 := 1#32
  let v5602 : BitVec 32 := Scalar.select v5601 c1_i32_2022 c3_i32_2020
  let v5603 : BitVec 32 := Scalar.remsi v5461 v5602
  let c0_i32_2024 : BitVec 32 := 0#32
  let v5605 : BitVec 1 := Scalar.cmpi .slt v5603 c0_i32_2024
  let c0_i32_2025 : BitVec 32 := 0#32
  let v5606 : BitVec 1 := Scalar.cmpi .slt v5602 c0_i32_2025
  let v5607 : BitVec 1 := Scalar.xori v5605 v5606
  let c0_i32_2023 : BitVec 32 := 0#32
  let v5604 : BitVec 1 := Scalar.cmpi .ne v5603 c0_i32_2023
  let v5608 : BitVec 1 := Scalar.andi v5607 v5604
  let v5609 : BitVec 32 := Scalar.addi v5603 v5602
  let v5610 : BitVec 32 := Scalar.select v5608 v5609 v5603
  let v5611 : Index := Scalar.indexCast v5610
  let c256_2026 : Index := 256#32
  let c0_2027 : Index := 0#32
  ![v5611.toNat, 256, 0]
def k0_mult100 (k0_t5 : Fin k0_t5_loop.trips) : BitVec 32 :=
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let c1024_i32_2028 : BitVec 32 := 1024#32
  let v5615 : BitVec 32 := Scalar.muli v5460 c1024_i32_2028
  v5615
def k0_mult101 : BitVec 32 :=
  let c1536_i32_2032 : BitVec 32 := 1536#32
  c1536_i32_2032
def k0_off58 (k0_t5 : Fin k0_t5_loop.trips) : Fin 3 → Nat :=
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let c2_i32_2035 : BitVec 32 := 2#32
  let c0_i32_2036 : BitVec 32 := 0#32
  let v5628 : BitVec 1 := Scalar.cmpi .eq c2_i32_2035 c0_i32_2036
  let c1_i32_2037 : BitVec 32 := 1#32
  let v5629 : BitVec 32 := Scalar.select v5628 c1_i32_2037 c2_i32_2035
  let v5630 : BitVec 32 := Scalar.remsi v5460 v5629
  let c0_i32_2039 : BitVec 32 := 0#32
  let v5632 : BitVec 1 := Scalar.cmpi .slt v5630 c0_i32_2039
  let c0_i32_2040 : BitVec 32 := 0#32
  let v5633 : BitVec 1 := Scalar.cmpi .slt v5629 c0_i32_2040
  let v5634 : BitVec 1 := Scalar.xori v5632 v5633
  let c0_i32_2038 : BitVec 32 := 0#32
  let v5631 : BitVec 1 := Scalar.cmpi .ne v5630 c0_i32_2038
  let v5635 : BitVec 1 := Scalar.andi v5634 v5631
  let v5636 : BitVec 32 := Scalar.addi v5630 v5629
  let v5637 : BitVec 32 := Scalar.select v5635 v5636 v5630
  let v5638 : Index := Scalar.indexCast v5637
  let c256_2041 : Index := 256#32
  let c0_2042 : Index := 0#32
  ![v5638.toNat, 256, 0]
def k0_mult102 (k0_t5 : Fin k0_t5_loop.trips) : BitVec 32 :=
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let c1024_i32_2045 : BitVec 32 := 1024#32
  let v5643 : BitVec 32 := Scalar.muli v5460 c1024_i32_2045
  v5643
def k0_off59 (k0_t5 : Fin k0_t5_loop.trips) : Fin 3 → Nat :=
  let c21_i32_1941 : BitVec 32 := 21#32
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let v5461 : BitVec 32 := Scalar.addi c21_i32_1941 v5460
  let c4_i32_2049 : BitVec 32 := 4#32
  let c0_i32_2050 : BitVec 32 := 0#32
  let v5649 : BitVec 1 := Scalar.cmpi .eq c4_i32_2049 c0_i32_2050
  let c1_i32_2051 : BitVec 32 := 1#32
  let v5650 : BitVec 32 := Scalar.select v5649 c1_i32_2051 c4_i32_2049
  let v5651 : BitVec 32 := Scalar.remsi v5461 v5650
  let c0_i32_2053 : BitVec 32 := 0#32
  let v5653 : BitVec 1 := Scalar.cmpi .slt v5651 c0_i32_2053
  let c0_i32_2054 : BitVec 32 := 0#32
  let v5654 : BitVec 1 := Scalar.cmpi .slt v5650 c0_i32_2054
  let v5655 : BitVec 1 := Scalar.xori v5653 v5654
  let c0_i32_2052 : BitVec 32 := 0#32
  let v5652 : BitVec 1 := Scalar.cmpi .ne v5651 c0_i32_2052
  let v5656 : BitVec 1 := Scalar.andi v5655 v5652
  let v5657 : BitVec 32 := Scalar.addi v5651 v5650
  let v5658 : BitVec 32 := Scalar.select v5656 v5657 v5651
  let v5659 : Index := Scalar.indexCast v5658
  let c0_2055 : Index := 0#32
  let c512 : Index := 512#32
  ![v5659.toNat, 0, 512]
def k0_off60 (k0_t5 : Fin k0_t5_loop.trips) : Fin 3 → Nat :=
  let c21_i32_1941 : BitVec 32 := 21#32
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let v5461 : BitVec 32 := Scalar.addi c21_i32_1941 v5460
  let c3_i32_2056 : BitVec 32 := 3#32
  let c0_i32_2057 : BitVec 32 := 0#32
  let v5665 : BitVec 1 := Scalar.cmpi .eq c3_i32_2056 c0_i32_2057
  let c1_i32_2058 : BitVec 32 := 1#32
  let v5666 : BitVec 32 := Scalar.select v5665 c1_i32_2058 c3_i32_2056
  let v5667 : BitVec 32 := Scalar.remsi v5461 v5666
  let c0_i32_2060 : BitVec 32 := 0#32
  let v5669 : BitVec 1 := Scalar.cmpi .slt v5667 c0_i32_2060
  let c0_i32_2061 : BitVec 32 := 0#32
  let v5670 : BitVec 1 := Scalar.cmpi .slt v5666 c0_i32_2061
  let v5671 : BitVec 1 := Scalar.xori v5669 v5670
  let c0_i32_2059 : BitVec 32 := 0#32
  let v5668 : BitVec 1 := Scalar.cmpi .ne v5667 c0_i32_2059
  let v5672 : BitVec 1 := Scalar.andi v5671 v5668
  let v5673 : BitVec 32 := Scalar.addi v5667 v5666
  let v5674 : BitVec 32 := Scalar.select v5672 v5673 v5667
  let v5675 : Index := Scalar.indexCast v5674
  let c0_2062 : Index := 0#32
  let c512_2063 : Index := 512#32
  ![v5675.toNat, 0, 512]
def k0_mult103 (k0_t5 : Fin k0_t5_loop.trips) : BitVec 32 :=
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let c1024_i32_2064 : BitVec 32 := 1024#32
  let v5679 : BitVec 32 := Scalar.muli v5460 c1024_i32_2064
  v5679
def k0_mult104 : BitVec 32 :=
  let c1536_i32_2068 : BitVec 32 := 1536#32
  c1536_i32_2068
def k0_off61 (k0_t5 : Fin k0_t5_loop.trips) : Fin 3 → Nat :=
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let c2_i32_2071 : BitVec 32 := 2#32
  let c0_i32_2072 : BitVec 32 := 0#32
  let v5692 : BitVec 1 := Scalar.cmpi .eq c2_i32_2071 c0_i32_2072
  let c1_i32_2073 : BitVec 32 := 1#32
  let v5693 : BitVec 32 := Scalar.select v5692 c1_i32_2073 c2_i32_2071
  let v5694 : BitVec 32 := Scalar.remsi v5460 v5693
  let c0_i32_2075 : BitVec 32 := 0#32
  let v5696 : BitVec 1 := Scalar.cmpi .slt v5694 c0_i32_2075
  let c0_i32_2076 : BitVec 32 := 0#32
  let v5697 : BitVec 1 := Scalar.cmpi .slt v5693 c0_i32_2076
  let v5698 : BitVec 1 := Scalar.xori v5696 v5697
  let c0_i32_2074 : BitVec 32 := 0#32
  let v5695 : BitVec 1 := Scalar.cmpi .ne v5694 c0_i32_2074
  let v5699 : BitVec 1 := Scalar.andi v5698 v5695
  let v5700 : BitVec 32 := Scalar.addi v5694 v5693
  let v5701 : BitVec 32 := Scalar.select v5699 v5700 v5694
  let v5702 : Index := Scalar.indexCast v5701
  let c512_2077 : Index := 512#32
  let c0_2078 : Index := 0#32
  ![v5702.toNat, 512, 0]
def k0_mult105 (k0_t5 : Fin k0_t5_loop.trips) : BitVec 32 :=
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let c1024_i32_2081 : BitVec 32 := 1024#32
  let v5707 : BitVec 32 := Scalar.muli v5460 c1024_i32_2081
  v5707
def k0_off62 (k0_t5 : Fin k0_t5_loop.trips) : Fin 3 → Nat :=
  let c21_i32_1941 : BitVec 32 := 21#32
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let v5461 : BitVec 32 := Scalar.addi c21_i32_1941 v5460
  let c4_i32_2085 : BitVec 32 := 4#32
  let c0_i32_2086 : BitVec 32 := 0#32
  let v5713 : BitVec 1 := Scalar.cmpi .eq c4_i32_2085 c0_i32_2086
  let c1_i32_2087 : BitVec 32 := 1#32
  let v5714 : BitVec 32 := Scalar.select v5713 c1_i32_2087 c4_i32_2085
  let v5715 : BitVec 32 := Scalar.remsi v5461 v5714
  let c0_i32_2089 : BitVec 32 := 0#32
  let v5717 : BitVec 1 := Scalar.cmpi .slt v5715 c0_i32_2089
  let c0_i32_2090 : BitVec 32 := 0#32
  let v5718 : BitVec 1 := Scalar.cmpi .slt v5714 c0_i32_2090
  let v5719 : BitVec 1 := Scalar.xori v5717 v5718
  let c0_i32_2088 : BitVec 32 := 0#32
  let v5716 : BitVec 1 := Scalar.cmpi .ne v5715 c0_i32_2088
  let v5720 : BitVec 1 := Scalar.andi v5719 v5716
  let v5721 : BitVec 32 := Scalar.addi v5715 v5714
  let v5722 : BitVec 32 := Scalar.select v5720 v5721 v5715
  let v5723 : Index := Scalar.indexCast v5722
  let c256_2091 : Index := 256#32
  let c512_2092 : Index := 512#32
  ![v5723.toNat, 256, 512]
def k0_off63 (k0_t5 : Fin k0_t5_loop.trips) : Fin 3 → Nat :=
  let c21_i32_1941 : BitVec 32 := 21#32
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let v5461 : BitVec 32 := Scalar.addi c21_i32_1941 v5460
  let c3_i32_2093 : BitVec 32 := 3#32
  let c0_i32_2094 : BitVec 32 := 0#32
  let v5729 : BitVec 1 := Scalar.cmpi .eq c3_i32_2093 c0_i32_2094
  let c1_i32_2095 : BitVec 32 := 1#32
  let v5730 : BitVec 32 := Scalar.select v5729 c1_i32_2095 c3_i32_2093
  let v5731 : BitVec 32 := Scalar.remsi v5461 v5730
  let c0_i32_2097 : BitVec 32 := 0#32
  let v5733 : BitVec 1 := Scalar.cmpi .slt v5731 c0_i32_2097
  let c0_i32_2098 : BitVec 32 := 0#32
  let v5734 : BitVec 1 := Scalar.cmpi .slt v5730 c0_i32_2098
  let v5735 : BitVec 1 := Scalar.xori v5733 v5734
  let c0_i32_2096 : BitVec 32 := 0#32
  let v5732 : BitVec 1 := Scalar.cmpi .ne v5731 c0_i32_2096
  let v5736 : BitVec 1 := Scalar.andi v5735 v5732
  let v5737 : BitVec 32 := Scalar.addi v5731 v5730
  let v5738 : BitVec 32 := Scalar.select v5736 v5737 v5731
  let v5739 : Index := Scalar.indexCast v5738
  let c256_2099 : Index := 256#32
  let c512_2100 : Index := 512#32
  ![v5739.toNat, 256, 512]
def k0_mult106 (k0_t5 : Fin k0_t5_loop.trips) : BitVec 32 :=
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let c1024_i32_2101 : BitVec 32 := 1024#32
  let v5743 : BitVec 32 := Scalar.muli v5460 c1024_i32_2101
  v5743
def k0_mult107 : BitVec 32 :=
  let c1536_i32_2104 : BitVec 32 := 1536#32
  c1536_i32_2104
def k0_off64 (k0_t5 : Fin k0_t5_loop.trips) : Fin 3 → Nat :=
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let c2_i32_2107 : BitVec 32 := 2#32
  let c0_i32_2108 : BitVec 32 := 0#32
  let v5756 : BitVec 1 := Scalar.cmpi .eq c2_i32_2107 c0_i32_2108
  let c1_i32_2109 : BitVec 32 := 1#32
  let v5757 : BitVec 32 := Scalar.select v5756 c1_i32_2109 c2_i32_2107
  let v5758 : BitVec 32 := Scalar.remsi v5460 v5757
  let c0_i32_2111 : BitVec 32 := 0#32
  let v5760 : BitVec 1 := Scalar.cmpi .slt v5758 c0_i32_2111
  let c0_i32_2112 : BitVec 32 := 0#32
  let v5761 : BitVec 1 := Scalar.cmpi .slt v5757 c0_i32_2112
  let v5762 : BitVec 1 := Scalar.xori v5760 v5761
  let c0_i32_2110 : BitVec 32 := 0#32
  let v5759 : BitVec 1 := Scalar.cmpi .ne v5758 c0_i32_2110
  let v5763 : BitVec 1 := Scalar.andi v5762 v5759
  let v5764 : BitVec 32 := Scalar.addi v5758 v5757
  let v5765 : BitVec 32 := Scalar.select v5763 v5764 v5758
  let v5766 : Index := Scalar.indexCast v5765
  let c768 : Index := 768#32
  let c0_2113 : Index := 0#32
  ![v5766.toNat, 768, 0]
def k0_mult108 (k0_t5 : Fin k0_t5_loop.trips) : BitVec 32 :=
  let c21_i32_1941 : BitVec 32 := 21#32
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let v5461 : BitVec 32 := Scalar.addi c21_i32_1941 v5460
  let c0_i32_2115 : BitVec 32 := 0#32
  let v5771 : BitVec 1 := Scalar.cmpi .sgt v5461 c0_i32_2115
  let v5772 : BitVec 32 := Scalar.extui v5771
  let c0_i32_2116 : BitVec 32 := 0#32
  let v5773 : BitVec 1 := Scalar.cmpi .slt v5461 c0_i32_2116
  let v5774 : BitVec 32 := Scalar.extui v5773
  let v5775 : BitVec 32 := Scalar.subi v5772 v5774
  let c7_i32_2114 : BitVec 32 := 7#32
  let c0_i32_2117 : BitVec 32 := 0#32
  let v5776 : BitVec 1 := Scalar.cmpi .sgt c7_i32_2114 c0_i32_2117
  let v5777 : BitVec 32 := Scalar.extui v5776
  let c0_i32_2118 : BitVec 32 := 0#32
  let v5778 : BitVec 1 := Scalar.cmpi .slt c7_i32_2114 c0_i32_2118
  let v5779 : BitVec 32 := Scalar.extui v5778
  let v5780 : BitVec 32 := Scalar.subi v5777 v5779
  let v5781 : BitVec 1 := Scalar.cmpi .ne v5775 v5780
  let v5782 : BitVec 32 := Scalar.remsi v5461 c7_i32_2114
  let c0_i32_2119 : BitVec 32 := 0#32
  let v5783 : BitVec 1 := Scalar.cmpi .ne v5782 c0_i32_2119
  let v5784 : BitVec 1 := Scalar.andi v5781 v5783
  let v5770 : BitVec 32 := Scalar.divsi v5461 c7_i32_2114
  let c1_i32_2120 : BitVec 32 := 1#32
  let v5785 : BitVec 32 := Scalar.subi v5770 c1_i32_2120
  let v5786 : BitVec 32 := Scalar.select v5784 v5785 v5770
  let c512_i32_2127 : BitVec 32 := 512#32
  let v5797 : BitVec 32 := Scalar.muli v5786 c512_i32_2127
  v5797
def k0_mult109 (k0_t5 : Fin k0_t5_loop.trips) : BitVec 32 :=
  let c21_i32_1941 : BitVec 32 := 21#32
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let v5461 : BitVec 32 := Scalar.addi c21_i32_1941 v5460
  let c7_i32_2121 : BitVec 32 := 7#32
  let c0_i32_2122 : BitVec 32 := 0#32
  let v5787 : BitVec 1 := Scalar.cmpi .eq c7_i32_2121 c0_i32_2122
  let c1_i32_2123 : BitVec 32 := 1#32
  let v5788 : BitVec 32 := Scalar.select v5787 c1_i32_2123 c7_i32_2121
  let v5789 : BitVec 32 := Scalar.remsi v5461 v5788
  let c0_i32_2125 : BitVec 32 := 0#32
  let v5791 : BitVec 1 := Scalar.cmpi .slt v5789 c0_i32_2125
  let c0_i32_2126 : BitVec 32 := 0#32
  let v5792 : BitVec 1 := Scalar.cmpi .slt v5788 c0_i32_2126
  let v5793 : BitVec 1 := Scalar.xori v5791 v5792
  let c0_i32_2124 : BitVec 32 := 0#32
  let v5790 : BitVec 1 := Scalar.cmpi .ne v5789 c0_i32_2124
  let v5794 : BitVec 1 := Scalar.andi v5793 v5790
  let v5795 : BitVec 32 := Scalar.addi v5789 v5788
  let v5796 : BitVec 32 := Scalar.select v5794 v5795 v5789
  let c1024_i32_2128 : BitVec 32 := 1024#32
  let v5799 : BitVec 32 := Scalar.muli v5796 c1024_i32_2128
  v5799
def k0_off65 (k0_t5 : Fin k0_t5_loop.trips) : Fin 1 → Nat :=
  let c21_i32_1941 : BitVec 32 := 21#32
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let v5461 : BitVec 32 := Scalar.addi c21_i32_1941 v5460
  let c3_i32_2129 : BitVec 32 := 3#32
  let c0_i32_2130 : BitVec 32 := 0#32
  let v5801 : BitVec 1 := Scalar.cmpi .eq c3_i32_2129 c0_i32_2130
  let c1_i32_2131 : BitVec 32 := 1#32
  let v5802 : BitVec 32 := Scalar.select v5801 c1_i32_2131 c3_i32_2129
  let v5803 : BitVec 32 := Scalar.remsi v5461 v5802
  let c0_i32_2133 : BitVec 32 := 0#32
  let v5805 : BitVec 1 := Scalar.cmpi .slt v5803 c0_i32_2133
  let c0_i32_2134 : BitVec 32 := 0#32
  let v5806 : BitVec 1 := Scalar.cmpi .slt v5802 c0_i32_2134
  let v5807 : BitVec 1 := Scalar.xori v5805 v5806
  let c0_i32_2132 : BitVec 32 := 0#32
  let v5804 : BitVec 1 := Scalar.cmpi .ne v5803 c0_i32_2132
  let v5808 : BitVec 1 := Scalar.andi v5807 v5804
  let v5809 : BitVec 32 := Scalar.addi v5803 v5802
  let v5810 : BitVec 32 := Scalar.select v5808 v5809 v5803
  ![v5810.toNat]
def k0_off66 (k0_t5 : Fin k0_t5_loop.trips) : Fin 3 → Nat :=
  let c21_i32_1941 : BitVec 32 := 21#32
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let v5461 : BitVec 32 := Scalar.addi c21_i32_1941 v5460
  let c3_i32_2129 : BitVec 32 := 3#32
  let c0_i32_2130 : BitVec 32 := 0#32
  let v5801 : BitVec 1 := Scalar.cmpi .eq c3_i32_2129 c0_i32_2130
  let c1_i32_2131 : BitVec 32 := 1#32
  let v5802 : BitVec 32 := Scalar.select v5801 c1_i32_2131 c3_i32_2129
  let v5803 : BitVec 32 := Scalar.remsi v5461 v5802
  let c0_i32_2133 : BitVec 32 := 0#32
  let v5805 : BitVec 1 := Scalar.cmpi .slt v5803 c0_i32_2133
  let c0_i32_2134 : BitVec 32 := 0#32
  let v5806 : BitVec 1 := Scalar.cmpi .slt v5802 c0_i32_2134
  let v5807 : BitVec 1 := Scalar.xori v5805 v5806
  let c0_i32_2132 : BitVec 32 := 0#32
  let v5804 : BitVec 1 := Scalar.cmpi .ne v5803 c0_i32_2132
  let v5808 : BitVec 1 := Scalar.andi v5807 v5804
  let v5809 : BitVec 32 := Scalar.addi v5803 v5802
  let v5810 : BitVec 32 := Scalar.select v5808 v5809 v5803
  let c0_i32_2135 : BitVec 32 := 0#32
  let c0_i32_2136 : BitVec 32 := 0#32
  ![v5810.toNat, 0, 0]
def k0_cond6 (k0_t5 : Fin k0_t5_loop.trips) : BitVec 1 :=
  let c21_i32_1941 : BitVec 32 := 21#32
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let v5461 : BitVec 32 := Scalar.addi c21_i32_1941 v5460
  let c4_i32_2137 : BitVec 32 := 4#32
  let v5816 : BitVec 32 := Scalar.addi v5461 c4_i32_2137
  let c28_i32_2138 : BitVec 32 := 28#32
  let v5817 : BitVec 1 := Scalar.cmpi .slt v5816 c28_i32_2138
  let v5818 : BitVec 32 := Scalar.extui v5817
  let c0_i32_2139 : BitVec 32 := 0#32
  let v5819 : BitVec 1 := Scalar.cmpi .ne v5818 c0_i32_2139
  v5819

def k0_mult110 (k0_t5 : Fin k0_t5_loop.trips) : BitVec 32 :=
  let c21_i32_1941 : BitVec 32 := 21#32
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let v5461 : BitVec 32 := Scalar.addi c21_i32_1941 v5460
  let c4_i32_2150 : BitVec 32 := 4#32
  let v5837 : BitVec 32 := Scalar.addi v5461 c4_i32_2150
  let c0_i32_2152 : BitVec 32 := 0#32
  let v5839 : BitVec 1 := Scalar.cmpi .sgt v5837 c0_i32_2152
  let v5840 : BitVec 32 := Scalar.extui v5839
  let c0_i32_2153 : BitVec 32 := 0#32
  let v5841 : BitVec 1 := Scalar.cmpi .slt v5837 c0_i32_2153
  let v5842 : BitVec 32 := Scalar.extui v5841
  let v5843 : BitVec 32 := Scalar.subi v5840 v5842
  let c7_i32_2151 : BitVec 32 := 7#32
  let c0_i32_2154 : BitVec 32 := 0#32
  let v5844 : BitVec 1 := Scalar.cmpi .sgt c7_i32_2151 c0_i32_2154
  let v5845 : BitVec 32 := Scalar.extui v5844
  let c0_i32_2155 : BitVec 32 := 0#32
  let v5846 : BitVec 1 := Scalar.cmpi .slt c7_i32_2151 c0_i32_2155
  let v5847 : BitVec 32 := Scalar.extui v5846
  let v5848 : BitVec 32 := Scalar.subi v5845 v5847
  let v5849 : BitVec 1 := Scalar.cmpi .ne v5843 v5848
  let v5850 : BitVec 32 := Scalar.remsi v5837 c7_i32_2151
  let c0_i32_2156 : BitVec 32 := 0#32
  let v5851 : BitVec 1 := Scalar.cmpi .ne v5850 c0_i32_2156
  let v5852 : BitVec 1 := Scalar.andi v5849 v5851
  let v5838 : BitVec 32 := Scalar.divsi v5837 c7_i32_2151
  let c1_i32_2157 : BitVec 32 := 1#32
  let v5853 : BitVec 32 := Scalar.subi v5838 c1_i32_2157
  let v5854 : BitVec 32 := Scalar.select v5852 v5853 v5838
  let c512_i32_2164 : BitVec 32 := 512#32
  let v5865 : BitVec 32 := Scalar.muli v5854 c512_i32_2164
  v5865
def k0_mult111 (k0_t5 : Fin k0_t5_loop.trips) : BitVec 32 :=
  let c21_i32_1941 : BitVec 32 := 21#32
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let v5461 : BitVec 32 := Scalar.addi c21_i32_1941 v5460
  let c4_i32_2150 : BitVec 32 := 4#32
  let v5837 : BitVec 32 := Scalar.addi v5461 c4_i32_2150
  let c7_i32_2158 : BitVec 32 := 7#32
  let c0_i32_2159 : BitVec 32 := 0#32
  let v5855 : BitVec 1 := Scalar.cmpi .eq c7_i32_2158 c0_i32_2159
  let c1_i32_2160 : BitVec 32 := 1#32
  let v5856 : BitVec 32 := Scalar.select v5855 c1_i32_2160 c7_i32_2158
  let v5857 : BitVec 32 := Scalar.remsi v5837 v5856
  let c0_i32_2162 : BitVec 32 := 0#32
  let v5859 : BitVec 1 := Scalar.cmpi .slt v5857 c0_i32_2162
  let c0_i32_2163 : BitVec 32 := 0#32
  let v5860 : BitVec 1 := Scalar.cmpi .slt v5856 c0_i32_2163
  let v5861 : BitVec 1 := Scalar.xori v5859 v5860
  let c0_i32_2161 : BitVec 32 := 0#32
  let v5858 : BitVec 1 := Scalar.cmpi .ne v5857 c0_i32_2161
  let v5862 : BitVec 1 := Scalar.andi v5861 v5858
  let v5863 : BitVec 32 := Scalar.addi v5857 v5856
  let v5864 : BitVec 32 := Scalar.select v5862 v5863 v5857
  let c1024_i32_2165 : BitVec 32 := 1024#32
  let v5867 : BitVec 32 := Scalar.muli v5864 c1024_i32_2165
  v5867
def k0_off67 (k0_t5 : Fin k0_t5_loop.trips) : Fin 1 → Nat :=
  let c21_i32_1941 : BitVec 32 := 21#32
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let v5461 : BitVec 32 := Scalar.addi c21_i32_1941 v5460
  let c4_i32_2150 : BitVec 32 := 4#32
  let v5837 : BitVec 32 := Scalar.addi v5461 c4_i32_2150
  let c4_i32_2166 : BitVec 32 := 4#32
  let c0_i32_2167 : BitVec 32 := 0#32
  let v5869 : BitVec 1 := Scalar.cmpi .eq c4_i32_2166 c0_i32_2167
  let c1_i32_2168 : BitVec 32 := 1#32
  let v5870 : BitVec 32 := Scalar.select v5869 c1_i32_2168 c4_i32_2166
  let v5871 : BitVec 32 := Scalar.remsi v5837 v5870
  let c0_i32_2170 : BitVec 32 := 0#32
  let v5873 : BitVec 1 := Scalar.cmpi .slt v5871 c0_i32_2170
  let c0_i32_2171 : BitVec 32 := 0#32
  let v5874 : BitVec 1 := Scalar.cmpi .slt v5870 c0_i32_2171
  let v5875 : BitVec 1 := Scalar.xori v5873 v5874
  let c0_i32_2169 : BitVec 32 := 0#32
  let v5872 : BitVec 1 := Scalar.cmpi .ne v5871 c0_i32_2169
  let v5876 : BitVec 1 := Scalar.andi v5875 v5872
  let v5877 : BitVec 32 := Scalar.addi v5871 v5870
  let v5878 : BitVec 32 := Scalar.select v5876 v5877 v5871
  ![v5878.toNat]
def k0_off68 (k0_t5 : Fin k0_t5_loop.trips) : Fin 3 → Nat :=
  let c21_i32_1941 : BitVec 32 := 21#32
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let v5461 : BitVec 32 := Scalar.addi c21_i32_1941 v5460
  let c4_i32_2150 : BitVec 32 := 4#32
  let v5837 : BitVec 32 := Scalar.addi v5461 c4_i32_2150
  let c4_i32_2166 : BitVec 32 := 4#32
  let c0_i32_2167 : BitVec 32 := 0#32
  let v5869 : BitVec 1 := Scalar.cmpi .eq c4_i32_2166 c0_i32_2167
  let c1_i32_2168 : BitVec 32 := 1#32
  let v5870 : BitVec 32 := Scalar.select v5869 c1_i32_2168 c4_i32_2166
  let v5871 : BitVec 32 := Scalar.remsi v5837 v5870
  let c0_i32_2170 : BitVec 32 := 0#32
  let v5873 : BitVec 1 := Scalar.cmpi .slt v5871 c0_i32_2170
  let c0_i32_2171 : BitVec 32 := 0#32
  let v5874 : BitVec 1 := Scalar.cmpi .slt v5870 c0_i32_2171
  let v5875 : BitVec 1 := Scalar.xori v5873 v5874
  let c0_i32_2169 : BitVec 32 := 0#32
  let v5872 : BitVec 1 := Scalar.cmpi .ne v5871 c0_i32_2169
  let v5876 : BitVec 1 := Scalar.andi v5875 v5872
  let v5877 : BitVec 32 := Scalar.addi v5871 v5870
  let v5878 : BitVec 32 := Scalar.select v5876 v5877 v5871
  let c0_i32_2172 : BitVec 32 := 0#32
  let c0_i32_2173 : BitVec 32 := 0#32
  ![v5878.toNat, 0, 0]
def k0_off69 (k0_t5 : Fin k0_t5_loop.trips) : Fin 2 → Nat :=
  let c21_i32_1941 : BitVec 32 := 21#32
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let v5461 : BitVec 32 := Scalar.addi c21_i32_1941 v5460
  let c4_i32_2150 : BitVec 32 := 4#32
  let v5837 : BitVec 32 := Scalar.addi v5461 c4_i32_2150
  let c0_i32_2152 : BitVec 32 := 0#32
  let v5839 : BitVec 1 := Scalar.cmpi .sgt v5837 c0_i32_2152
  let v5840 : BitVec 32 := Scalar.extui v5839
  let c0_i32_2153 : BitVec 32 := 0#32
  let v5841 : BitVec 1 := Scalar.cmpi .slt v5837 c0_i32_2153
  let v5842 : BitVec 32 := Scalar.extui v5841
  let v5843 : BitVec 32 := Scalar.subi v5840 v5842
  let c7_i32_2151 : BitVec 32 := 7#32
  let c0_i32_2154 : BitVec 32 := 0#32
  let v5844 : BitVec 1 := Scalar.cmpi .sgt c7_i32_2151 c0_i32_2154
  let v5845 : BitVec 32 := Scalar.extui v5844
  let c0_i32_2155 : BitVec 32 := 0#32
  let v5846 : BitVec 1 := Scalar.cmpi .slt c7_i32_2151 c0_i32_2155
  let v5847 : BitVec 32 := Scalar.extui v5846
  let v5848 : BitVec 32 := Scalar.subi v5845 v5847
  let v5849 : BitVec 1 := Scalar.cmpi .ne v5843 v5848
  let v5850 : BitVec 32 := Scalar.remsi v5837 c7_i32_2151
  let c0_i32_2156 : BitVec 32 := 0#32
  let v5851 : BitVec 1 := Scalar.cmpi .ne v5850 c0_i32_2156
  let v5852 : BitVec 1 := Scalar.andi v5849 v5851
  let v5838 : BitVec 32 := Scalar.divsi v5837 c7_i32_2151
  let c1_i32_2157 : BitVec 32 := 1#32
  let v5853 : BitVec 32 := Scalar.subi v5838 c1_i32_2157
  let v5854 : BitVec 32 := Scalar.select v5852 v5853 v5838
  let c512_i32_2164 : BitVec 32 := 512#32
  let v5865 : BitVec 32 := Scalar.muli v5854 c512_i32_2164
  let v5866 : BitVec 32 := v5865
  let c7_i32_2158 : BitVec 32 := 7#32
  let c0_i32_2159 : BitVec 32 := 0#32
  let v5855 : BitVec 1 := Scalar.cmpi .eq c7_i32_2158 c0_i32_2159
  let c1_i32_2160 : BitVec 32 := 1#32
  let v5856 : BitVec 32 := Scalar.select v5855 c1_i32_2160 c7_i32_2158
  let v5857 : BitVec 32 := Scalar.remsi v5837 v5856
  let c0_i32_2162 : BitVec 32 := 0#32
  let v5859 : BitVec 1 := Scalar.cmpi .slt v5857 c0_i32_2162
  let c0_i32_2163 : BitVec 32 := 0#32
  let v5860 : BitVec 1 := Scalar.cmpi .slt v5856 c0_i32_2163
  let v5861 : BitVec 1 := Scalar.xori v5859 v5860
  let c0_i32_2161 : BitVec 32 := 0#32
  let v5858 : BitVec 1 := Scalar.cmpi .ne v5857 c0_i32_2161
  let v5862 : BitVec 1 := Scalar.andi v5861 v5858
  let v5863 : BitVec 32 := Scalar.addi v5857 v5856
  let v5864 : BitVec 32 := Scalar.select v5862 v5863 v5857
  let c1024_i32_2165 : BitVec 32 := 1024#32
  let v5867 : BitVec 32 := Scalar.muli v5864 c1024_i32_2165
  let v5868 : BitVec 32 := v5867
  ![v5866.toNat, v5868.toNat]
def k0_mult112 (k0_t5 : Fin k0_t5_loop.trips) : BitVec 32 :=
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let c1024_i32_2146 : BitVec 32 := 1024#32
  let v5830 : BitVec 32 := Scalar.muli v5460 c1024_i32_2146
  v5830
def k0_off70 (k0_t5 : Fin k0_t5_loop.trips) : Fin 1 → Nat :=
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let c2_i32_2140 : BitVec 32 := 2#32
  let c0_i32_2141 : BitVec 32 := 0#32
  let v5820 : BitVec 1 := Scalar.cmpi .eq c2_i32_2140 c0_i32_2141
  let c1_i32_2142 : BitVec 32 := 1#32
  let v5821 : BitVec 32 := Scalar.select v5820 c1_i32_2142 c2_i32_2140
  let v5822 : BitVec 32 := Scalar.remsi v5460 v5821
  let c0_i32_2144 : BitVec 32 := 0#32
  let v5824 : BitVec 1 := Scalar.cmpi .slt v5822 c0_i32_2144
  let c0_i32_2145 : BitVec 32 := 0#32
  let v5825 : BitVec 1 := Scalar.cmpi .slt v5821 c0_i32_2145
  let v5826 : BitVec 1 := Scalar.xori v5824 v5825
  let c0_i32_2143 : BitVec 32 := 0#32
  let v5823 : BitVec 1 := Scalar.cmpi .ne v5822 c0_i32_2143
  let v5827 : BitVec 1 := Scalar.andi v5826 v5823
  let v5828 : BitVec 32 := Scalar.addi v5822 v5821
  let v5829 : BitVec 32 := Scalar.select v5827 v5828 v5822
  ![v5829.toNat]
def k0_off71 (k0_t5 : Fin k0_t5_loop.trips) : Fin 2 → Nat :=
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let c1024_i32_2146 : BitVec 32 := 1024#32
  let v5830 : BitVec 32 := Scalar.muli v5460 c1024_i32_2146
  let v5831 : BitVec 32 := v5830
  let c0_i32_2147 : BitVec 32 := 0#32
  ![v5831.toNat, 0]
def k0_off72 (k0_t5 : Fin k0_t5_loop.trips) : Fin 3 → Nat :=
  let c0_i32_1940 : BitVec 32 := 0#32
  let c0_i32_1904 : BitVec 32 := 0#32
  let c1_i32_1906 : BitVec 32 := 1#32
  let arg30 : BitVec 32 := Scf.iv c0_i32_1904 c1_i32_1906 k0_t5
  let c1_i32_1939 : BitVec 32 := 1#32
  let v5459 : BitVec 32 := Scalar.muli arg30 c1_i32_1939
  let v5460 : BitVec 32 := Scalar.addi c0_i32_1940 v5459
  let c2_i32_2140 : BitVec 32 := 2#32
  let c0_i32_2141 : BitVec 32 := 0#32
  let v5820 : BitVec 1 := Scalar.cmpi .eq c2_i32_2140 c0_i32_2141
  let c1_i32_2142 : BitVec 32 := 1#32
  let v5821 : BitVec 32 := Scalar.select v5820 c1_i32_2142 c2_i32_2140
  let v5822 : BitVec 32 := Scalar.remsi v5460 v5821
  let c0_i32_2144 : BitVec 32 := 0#32
  let v5824 : BitVec 1 := Scalar.cmpi .slt v5822 c0_i32_2144
  let c0_i32_2145 : BitVec 32 := 0#32
  let v5825 : BitVec 1 := Scalar.cmpi .slt v5821 c0_i32_2145
  let v5826 : BitVec 1 := Scalar.xori v5824 v5825
  let c0_i32_2143 : BitVec 32 := 0#32
  let v5823 : BitVec 1 := Scalar.cmpi .ne v5822 c0_i32_2143
  let v5827 : BitVec 1 := Scalar.andi v5826 v5823
  let v5828 : BitVec 32 := Scalar.addi v5822 v5821
  let v5829 : BitVec 32 := Scalar.select v5827 v5828 v5822
  let c0_i32_2148 : BitVec 32 := 0#32
  let c0_i32_2149 : BitVec 32 := 0#32
  ![v5829.toNat, 0, 0]
def k0_mult113 : BitVec 32 :=
  let c1536_i32 : BitVec 32 := 1536#32
  c1536_i32
def k0_mult114 : BitVec 32 :=
  let c4096_i32_1908 : BitVec 32 := 4096#32
  c4096_i32_1908
def k0_mult115 : BitVec 32 :=
  let c1536_i32_1913 : BitVec 32 := 1536#32
  c1536_i32_1913
def k0_mult116 : BitVec 32 :=
  let c5120_i32_1914 : BitVec 32 := 5120#32
  c5120_i32_1914
def k0_mult117 : BitVec 32 :=
  let c1536_i32_1919 : BitVec 32 := 1536#32
  c1536_i32_1919
def k0_mult118 : BitVec 32 :=
  let c6144_i32_1920 : BitVec 32 := 6144#32
  c6144_i32_1920
def k0_mult119 : BitVec 32 :=
  let c1536_i32_1925 : BitVec 32 := 1536#32
  c1536_i32_1925
def k0_mult120 : BitVec 32 :=
  let c5120_i32_1927 : BitVec 32 := 5120#32
  c5120_i32_1927
def k0_mult121 : BitVec 32 :=
  let c6144_i32_1933 : BitVec 32 := 6144#32
  c6144_i32_1933
-- ==== ReferenceIdeal.lean ====
abbrev S2x1024x7168 : Shape := ⟨3, ![2, 1024, 7168]⟩
abbrev S2x1024 : Shape := ⟨2, ![2, 1024]⟩
abbrev S7168x256 : Shape := ⟨2, ![7168, 256]⟩
abbrev S2x1024x8 : Shape := ⟨3, ![2, 1024, 8]⟩
abbrev S2048x7168 : Shape := ⟨2, ![2048, 7168]⟩
abbrev S2048x1 : Shape := ⟨2, ![2048, 1]⟩
abbrev S2048x8 : Shape := ⟨2, ![2048, 8]⟩
abbrev S2048x256 : Shape := ⟨2, ![2048, 256]⟩
abbrev S2048x8x1 : Shape := ⟨3, ![2048, 8, 1]⟩
abbrev S2048x8x256 : Shape := ⟨3, ![2048, 8, 256]⟩
abbrev S2048x1x256 : Shape := ⟨3, ![2048, 1, 256]⟩
abbrev S2048 : Shape := ⟨1, ![2048]⟩

abbrev nBuf : Space → Nat
  | .hbm => 14
  | .vmem => 9
  | .smem => 0
  | _ => 0

abbrev bufTy : (tb : Table) → Fin (tcTables nBuf tb) → BufTy
  | .hbm, ⟨0, _⟩ => ⟨S2x1024x7168, .fp8e4m3⟩
  | .hbm, ⟨1, _⟩ => ⟨S2x1024, .f32⟩
  | .hbm, ⟨2, _⟩ => ⟨S7168x256, .bf16⟩
  | .hbm, ⟨3, _⟩ => ⟨S2x1024x8, .i32⟩
  | .hbm, ⟨4, _⟩ => ⟨S2x1024x8, .bf16⟩
  | .hbm, ⟨5, _⟩ => ⟨S2x1024x7168, .bf16⟩
  | .hbm, ⟨6, _⟩ => ⟨S2048x7168, .fp8e4m3⟩
  | .hbm, ⟨7, _⟩ => ⟨S2048x1, .f32⟩
  | .hbm, ⟨8, _⟩ => ⟨S2048x8, .i32⟩
  | .hbm, ⟨9, _⟩ => ⟨S2048x8, .bf16⟩
  | .hbm, ⟨10, _⟩ => ⟨S2048x7168, .bf16⟩
  | .hbm, ⟨11, _⟩ => ⟨S2048x7168, .bf16⟩
  | .hbm, ⟨12, _⟩ => ⟨S7168x256, .f32⟩
  | .hbm, ⟨13, _⟩ => ⟨S2048x256, .f32⟩
  | .local _ .vmem, ⟨0, _⟩ => ⟨S2048x7168, .fp8e4m3⟩
  | .local _ .vmem, ⟨1, _⟩ => ⟨S2048x1, .f32⟩
  | .local _ .vmem, ⟨2, _⟩ => ⟨S7168x256, .bf16⟩
  | .local _ .vmem, ⟨3, _⟩ => ⟨S2048x8, .i32⟩
  | .local _ .vmem, ⟨4, _⟩ => ⟨S2048x8, .bf16⟩
  | .local _ .vmem, ⟨5, _⟩ => ⟨S2048x7168, .bf16⟩
  | .local _ .vmem, ⟨6, _⟩ => ⟨S2048x7168, .bf16⟩
  | .local _ .vmem, ⟨7, _⟩ => ⟨S7168x256, .f32⟩
  | .local _ .vmem, ⟨8, _⟩ => ⟨S2048x256, .f32⟩
  | _, _ => ⟨S2x1024x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2048x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x8 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x8 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x7168 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7168x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Spec.lean ====
/-
  What both programs compute, token by token, over the extended reals: the chosen logits, the softmax over the chosen
  experts and its gradient, and the gradient of the logits.
-/
module

public import Idealize.ShloMosaic.Lib.Pointwise

@[expose] public section

noncomputable section

namespace Cert.Spec

open Idealize.ShloMosaic

/-- The scaled logits of one token's eight experts: `L` its logits, `s` its scale, `id` its experts' numbers. An expert
    number outside 0 … 255 picks nothing. -/
def pick (L : Fin 256 → EReal) (s : EReal) (id : Fin 8 → BitVec 32) (k : Fin 8) : EReal :=
  ∑ e : Fin 256, if id k = BitVec.ofNat 32 e then L e * s else 0

/-- The exponentials, less the maximum. -/
def un (l : Fin 8 → EReal) (k : Fin 8) : EReal := Ideal.exp (l k - Finset.univ.fold max (Ideal.ofBits .f32 0xFF800000#32) l)

/-- The gates. -/
def gate (l : Fin 8 → EReal) (k : Fin 8) : EReal := Ideal.div (un l k) (∑ j : Fin 8, un l j)

/-- The gradient that reaches each chosen logit. -/
def ds (l dg : Fin 8 → EReal) (k : Fin 8) : EReal := gate l k * (dg k - ∑ j : Fin 8, gate l j * dg j)

/-- The gradient of one token's logits. -/
def dlog (L : Fin 256 → EReal) (s : EReal) (id : Fin 8 → BitVec 32) (dg : Fin 8 → EReal) (e : Fin 256) : EReal :=
  ∑ k : Fin 8, if id k = BitVec.ofNat 32 e then ds (pick L s id) dg k else 0

end Cert.Spec
-- ==== Proof.RefVal.lean ====
/-
  The reference's three results, entry by entry.
-/
module

public import proofs.«01_k».proof.Proof.Spec
public import proofs.«01_k».proof.Proof.Gen.ReferenceIdeal
public import proofs.«01_k».proof.Proof.Gen.ReferenceIdeal.Value
public import Idealize.ShloMosaic.Lib.Pointwise

@[expose] public section

set_option maxRecDepth 16384

noncomputable section

namespace Cert.ReferenceIdeal.Val

open Cert.ReferenceIdeal Cert.ReferenceIdeal.Gen Cert.Spec
open Idealize.ShloMosaic

variable (x0 : Vec Ideal S2048x7168 .fp8e4m3) (x1 : Vec Ideal S2048x1 .f32) (x2 : Vec Ideal S7168x256 .bf16) (x3 : Vec Ideal S2048x8 .i32)
  (x4 : Vec Ideal S2048x8 .bf16) (x5 : Vec Ideal S2048x7168 .bf16)

/-- The gradient of token `t`'s logits, from the reference's operands. -/
def dlR (t : Fin 2048) (e : Fin 256) : EReal :=
  dlog (fun e => ∑ d : Fin 7168, x0 (ix2 t d) * x2 (ix2 d e)) (x1 (ix2 t 0)) (fun k => x3 (ix2 t k)) (fun k => x4 (ix2 t k)) e

theorem sel_eq {α : Type} {w : ℕ} (a b : BitVec w) (x y : α) : Scalar.select (IntOp.cmpi .eq a b) x y = if a = b then x else y := by
  by_cases h : a = b
  · simp [Scalar.select, IntOp.cmpi, h]
  · have h2 : (a == b) = false := by simpa using h
    simp [Scalar.select, IntOp.cmpi, h, h2]

theorem hz : (![0, 0] : Fin 2 → ℕ) = fun _ => 0 := by funext a; fin_cases a <;> rfl

/-- The scattered gradient before its sum over the experts chosen: entry by entry. -/
theorem out8 (i : S2048x256.Idx) : out0_8 x0 x1 x2 x3 x4 x5 i = dlR x0 x1 x2 x3 x4 (i 0) (i 1) := by
  unfold out0_8 k0_pay12 k0_pay11 k0_pay10
  rw [View.canon_unit_zero hz]
  unfold k0_pay1 k0_pay8 k0_pay7 k0_pay5 k0_pay6 k0_pay9
  pointwise
  simp only [sel_eq]
  rfl

theorem out6 (i : S2048x7168.Idx) : out0_6 x0 x1 x2 x3 x4 x5 i = (∑ e : Fin 256, dlR x0 x1 x2 x3 x4 (i 0) e * x2 (ix2 (i 1) e)) + x5 i := by
  unfold out0_6 k0_pay12 k0_pay11 k0_pay10
  rw [View.canon_unit_zero hz]
  unfold k0_pay4 k0_pay2 k0_pay1 k0_pay8 k0_pay7 k0_pay5 k0_pay6 k0_pay9
  pointwise
  simp only [sel_eq]
  rfl

theorem out7 (i : S7168x256.Idx) : out0_7 x0 x1 x2 x3 x4 x5 i = ∑ t : Fin 2048, x0 (ix2 t (i 0)) * (dlR x0 x1 x2 x3 x4 t (i 1) * x1 (ix2 t 0)) := by
  unfold out0_7 k0_pay12 k0_pay11 k0_pay10
  rw [View.canon_unit_zero hz]
  unfold k0_pay3 k0_pay2 k0_pay1 k0_pay8 k0_pay7 k0_pay5 k0_pay6 k0_pay9
  pointwise
  simp only [sel_eq]
  rfl

end Cert.ReferenceIdeal.Val
-- ==== Proof.Own.lean ====
/-
  Ownership of part of an array, said through the index space of a memory reference: `own c m S X` holds the
  elements of `m` whose index lies in `S`, each at the value the function `X` gives it. With the rules by which a
  load, a store, a copy and its wait act on such an assertion.
-/
module

public import Idealize.ShloMosaic.Lib.Transfers
public import Idealize.ShloMosaic.Lib.Batch
public import Idealize.ShloMosaic.Lib.MixedBatch
public import Idealize.ShloMosaic.Lib.Tactic

@[expose] public section

noncomputable section

namespace Cert.Own

open Idealize.ShloMosaic Idealize.ShloMosaic.TcCoe Idealize.ShloMosaic.Tactic
open Idealize.SL Idealize.SL.RA Idealize.SL.BI
open scoped Idealize.SL.BI
open Idealize.ShloMosaic.Transfers
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type} [Preorder Lvl]

local notation "𝕄" => MT nD τ sig Ix Val Name U Lvl

variable (c : Thread nD τ)

/-- The elements of `m` at the indices `S`, each at the value `X` gives. -/
def own {sp : Space} {s : Shape} {e : EltTy} (m : Memref sig c.2.kind sp s e) (S : Finset s.Idx) (X : s.Idx → Val e) : sProp 𝕄 :=
  iprop(∃ f : Buf Val (m.view.loc c), ⌜∀ i ∈ S, m.view.read Val f i = X i⌝ ∗ (m.view.loc c ↦[m.view.setOn S]{fullShare} f))

instance own_storable {sp : Space} {s : Shape} {e : EltTy} (m : Memref sig c.2.kind sp s e) (S : Finset s.Idx) (X : s.Idx → Val e) :
    Storable (upEmb : UEmb _ 𝕄) (own c m S X : sProp 𝕄) := by
  unfold own; infer_instance

section
variable {sp : Space} {s : Shape} {e : EltTy} {m : Memref sig c.2.kind sp s e} {S T : Finset s.Idx} {X Y : s.Idx → Val e}

/-- Only the values at the held indices matter. -/
theorem own_congr (h : ∀ i ∈ S, X i = Y i) : (own c m S X : sProp 𝕄) ⊢ own c m S Y := by
  unfold own
  iintro ⟨%f, %hf, H⟩
  iexists f
  isplitr
  · ipureintro; exact fun i hi => (hf i hi).trans (h i hi)
  · iexact H

/-- Two disjoint parts from one. -/
theorem own_split (hd : Disjoint S T) : (own c m (S ∪ T) X : sProp 𝕄) ⊢ iprop(own c m S X ∗ own c m T X) := by
  have hd' : Disjoint (m.view.setOn S) (m.view.setOn T) := Finset.disjoint_map _ |>.mpr hd
  unfold own
  iintro ⟨%f, %hf, H⟩
  have hu : m.view.setOn (S ∪ T) = m.view.setOn S ∪ m.view.setOn T := Finset.map_union _ _
  ihave H' := ((Entails.of_eq (by rw [hu])).trans (pointsTo_union (f := f) hd').1) $$ H
  icases H' with ⟨H1, H2⟩
  isplitl [H1]
  · iexists f
    isplitr
    · ipureintro; exact fun i hi => hf i (Finset.mem_union_left _ hi)
    · iexact H1
  · iexists f
    isplitr
    · ipureintro; exact fun i hi => hf i (Finset.mem_union_right _ hi)
    · iexact H2

/-- One part from two disjoint ones. -/
theorem own_join (hd : Disjoint S T) : iprop(own c m S X ∗ own c m T X) ⊢ (own c m (S ∪ T) X : sProp 𝕄) := by
  have hd' : Disjoint (m.view.setOn S) (m.view.setOn T) := Finset.disjoint_map _ |>.mpr hd
  have hu : m.view.setOn (S ∪ T) = m.view.setOn S ∪ m.view.setOn T := Finset.map_union _ _
  unfold own
  iintro ⟨⟨%f, %hf, H1⟩, ⟨%g, %hg, H2⟩⟩
  iexists (m.view.setOn T).piecewise g f
  isplitr
  · ipureintro
    intro i hi
    rcases Finset.mem_union.mp hi with h | h
    · rw [← hf i h]
      unfold View.read
      have : m.view.emb i ∉ m.view.setOn T := fun h' => Finset.disjoint_left.mp hd h (m.view.mem_setOn.mp h')
      rw [Finset.piecewise_eq_of_notMem _ _ _ this]
    · rw [← hg i h]
      unfold View.read
      have : m.view.emb i ∈ m.view.setOn T := m.view.mem_setOn.mpr h
      rw [Finset.piecewise_eq_of_mem _ _ _ this]
  · rw [hu]
    iapply (pointsTo_join hd')
    isplitl [H1]; · iexact H1
    iexact H2

/-- Where a part `T` of the held indices stands, that part and the rest. -/
theorem own_take (h : T ⊆ S) : (own c m S X : sProp 𝕄) ⊢ iprop(own c m T X ∗ own c m (S \ T) X) := by
  have : S = T ∪ S \ T := (Finset.union_sdiff_of_subset h).symm
  conv_lhs => rw [this]
  exact own_split c Finset.disjoint_sdiff

/-- The part put back. -/
theorem own_put (h : T ⊆ S) : iprop(own c m T X ∗ own c m (S \ T) X) ⊢ (own c m S X : sProp 𝕄) := by
  have : S = T ∪ S \ T := (Finset.union_sdiff_of_subset h).symm
  conv_rhs => rw [this]
  exact own_join c Finset.disjoint_sdiff

/-- A whole array held at the contents `f`. -/
theorem own_of_pointsTo {f : Buf Val (m.view.loc c)} (hm : m.view.set = Finset.univ) :
    (m.view.loc c ↦{fullShare} f : sProp 𝕄) ⊢ own c m Finset.univ (m.view.read Val f) := by
  unfold own
  iintro H
  iexists f
  isplitr
  · ipureintro; exact fun _ _ => rfl
  · rw [show m.view.setOn Finset.univ = Finset.univ from hm]; iexact H

/-- And back: some contents that read as `X`. -/
theorem pointsTo_of_own (hm : m.view.set = Finset.univ) :
    (own c m Finset.univ X : sProp 𝕄) ⊢ iprop(∃ f, ⌜m.view.read Val f = X⌝ ∗ (m.view.loc c ↦{fullShare} f)) := by
  unfold own
  iintro ⟨%f, %hf, H⟩
  iexists f
  isplitr
  · ipureintro; exact funext fun i => hf i (Finset.mem_univ _)
  · rw [show m.view.setOn Finset.univ = Finset.univ from hm]; iexact H

/-- A rectangle of `m`, as the memref sliced there. -/
theorem own_slice (r : Rect s) (hr : ∀ a, r.stride a = 1) :
    (own c m r.set X : sProp 𝕄) ⊢ own c (m.slice r hr) Finset.univ (fun j => X (r.emb j)) := by
  unfold own
  iintro ⟨%f, %hf, H⟩
  iexists f
  isplitr
  · ipureintro; exact fun j _ => hf (r.emb j) (r.idx_mem j)
  · rw [show (m.slice r hr).view.setOn Finset.univ = m.view.setOn r.set from m.view.set_slice r]; iexact H

theorem own_unslice (r : Rect s) (hr : ∀ a, r.stride a = 1) {Y : r.shape.Idx → Val e} (hY : ∀ j, Y j = X (r.emb j)) :
    own c (m.slice r hr) Finset.univ Y ⊢ (own c m r.set X : sProp 𝕄) := by
  unfold own
  iintro ⟨%f, %hf, H⟩
  iexists f
  isplitr
  · ipureintro
    intro i hi
    obtain ⟨j, rfl⟩ := r.exists_idx_of_mem hi
    exact (hf j (Finset.mem_univ _)).trans (hY j)
  · rw [show (m.slice r hr).view.setOn Finset.univ = m.view.setOn r.set from m.view.set_slice r]; iexact H

/-- Some axes of size one dropped. -/
theorem own_squeeze {s' : Shape} (h : s.Squeezes s') :
    (own c m Finset.univ X : sProp 𝕄) ⊢ own c (m.squeeze s' h) Finset.univ (fun j => X (Shape.reshapeEquiv h.numel_eq j)) := by
  unfold own
  iintro ⟨%f, %hf, H⟩
  iexists f
  isplitr
  · ipureintro; exact fun j _ => hf (Shape.reshapeEquiv h.numel_eq j) (Finset.mem_univ _)
  · rw [show (m.squeeze s' h).view.setOn Finset.univ = m.view.setOn Finset.univ from m.view.set_reshape h.numel_eq]; iexact H

theorem own_unsqueeze {s' : Shape} (h : s.Squeezes s') {Y : s'.Idx → Val e} (hY : ∀ j, Y j = X (Shape.reshapeEquiv h.numel_eq j)) :
    own c (m.squeeze s' h) Finset.univ Y ⊢ (own c m Finset.univ X : sProp 𝕄) := by
  unfold own
  iintro ⟨%f, %hf, H⟩
  iexists f
  isplitr
  · ipureintro
    intro i _
    have := (hf ((Shape.reshapeEquiv h.numel_eq).symm i) (Finset.mem_univ _)).trans (hY _)
    rw [Equiv.apply_symm_apply] at this
    rw [← this]
    exact congrArg (m.view.read Val f) (Equiv.apply_symm_apply _ i).symm
  · rw [show (m.squeeze s' h).view.setOn Finset.univ = m.view.setOn Finset.univ from m.view.set_reshape h.numel_eq]; iexact H

end

section Rules

variable {Λ : Labels} {defs : Defs nD τ sig Val Λ} (𝒱 : Variants) (bd : Option 𝒱.V) {sp sp' : Space} {s : Shape} {e : EltTy}

/-- A program that returns. -/
theorem wp_ret_of {α : Type} {a : α} {Q : α → sProp 𝕄} : Q a ⊢ wp frame (wpE defs 𝒱 c bd) Set.univ (pure a) Q := by
  rw [wp_pure]; exact fupd_intro

/-- A load of held elements answers with their values. -/
theorem own_load {cs : CoreSpace} {m : Memref sig c.2.kind cs s e} {r : Rect s} {hl : m.view.LoadsAt r.toLoadRect}
    {S : Finset s.Idx} {X : s.Idx → Val e} {Q : (r.shape.Idx → Val e) → sProp 𝕄} (hS : r.set ⊆ S) :
    own c m S X ⊢ iprop((own c m S X -∗ Q (fun j => X (r.emb j)))
        -∗ wp frame (wpE defs 𝒱 c bd) Set.univ (Prog.lift (.load m r.toLoadRect hl)) Q) := by
  unfold own
  iintro ⟨%f, %hf, H⟩ Hk
  iapply (wp_load 𝒱 c bd Set.univ (S := m.view.setOn S) (f := f) (Finset.map_subset_map.mpr hS)) $$ H
  iintro H
  iapply (wp_ret_of c 𝒱 bd)
  have : m.view.readAt Val r.toLoadRect f = fun j => X (r.emb j) := funext fun j => hf _ (hS (r.idx_mem j))
  rw [this]
  iapply Hk
  iexists f
  isplitr
  · ipureintro; exact hf
  · iexact H

/-- A store into held elements: the rectangle takes the stored values, the rest keeps its own. -/
theorem own_store {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {S : Finset s.Idx} {X : s.Idx → Val e} (X' : s.Idx → Val e) {Q : PUnit → sProp 𝕄} (hS : r.set ⊆ S)
    (hin : ∀ j, X' (r.emb j) = w j) (hout : ∀ i ∈ S, i ∉ r.set → X' i = X i) :
    own c m S X ⊢ iprop((own c m S X' -∗ Q ⟨⟩)
        -∗ wp frame (wpE defs 𝒱 c bd) Set.univ (Prog.lift (.store m r w Finset.univ hx hm)) Q) := by
  unfold own
  iintro ⟨%f, %hf, H⟩ Hk
  have hS' : (m.access r).setOn Finset.univ ⊆ m.view.setOn S := by
    rw [View.setOn_univ, View.set_slice]; exact Finset.map_subset_map.mpr hS
  ihave H := (show (m.view.loc c ↦[m.view.setOn S]{fullShare} f : sProp 𝕄) ⊢ ((m.access r).loc c ↦[m.view.setOn S]{fullShare} f) from .rfl) $$ H
  iapply (wp_store (m := m) (r := r) (w := w) (hx := hx) (hm := hm) 𝒱 c bd Set.univ (f := f) hS') $$ H
  iintro H
  iapply (wp_ret_of c 𝒱 bd)
  iapply Hk
  iexists _
  isplitr
  swap
  · iexact H
  ipureintro
  intro i hi
  by_cases h : i ∈ r.set
  · obtain ⟨j, rfl⟩ := r.exists_idx_of_mem h
    have := View.read_write_of_mem (v := m.access r) (Val := Val) f w (M := Finset.univ) (x := j) (Finset.mem_univ _)
    exact this.trans (hin j).symm
  · rw [hout i hi h, ← hf i hi]
    unfold View.read
    rw [View.write_of_not_mem]
    intro h'
    rw [View.setOn_univ, View.set_slice] at h'
    exact h ((Finset.mem_map' m.view.emb).mp h')

variable (EC : UEmb Counters (MT nD τ sig Ix Val Name U Lvl)) (ι : Ix)

/-- A copy issued on an idle counter is in flight: its wait hands back the target at the source's values, and the source. -/
theorem own_dma [EC.LandsIn (upEmb : UEmb _ 𝕄)] [Infinite Name] {src : Memref sig c.2.kind sp s e} {dst : Memref sig c.2.kind sp' s e} {sm : SemLoc sig}
    {hsrc : src.view.WordExact} {hdst : dst.view.WordExact} {hsem : DmaTarget.Typed (nD := nD) sp sm (.here dst)}
    {Y Z : s.Idx → Val e} {D : sProp 𝕄} {Q : PUnit → sProp 𝕄} {N : ℕ} (hN : dst.view.amount sm = N) (hN0 : 0 < N)
    (hD : iprop(own c dst Finset.univ Y ∗ own c src Finset.univ Y) ⊢ D) :
    iprop(own c src Finset.univ Y ∗ own c dst Finset.univ Z ∗ semVal (c, sm) 0)
      ⊢ iprop((Flight EC c sm ι N D -∗ Q ⟨⟩)
          -∗ wp frame (wpE defs 𝒱 c bd) Set.univ (Prog.lift (.enqueueDma src (.here dst) sm hsrc hdst hsem)) Q) := by
  have hD' (fs : Buf Val (src.view.loc c)) (fd : Buf Val (dst.view.loc c)) (hs : ∀ i ∈ Finset.univ, src.view.read Val fs i = Y i) :
      iprop((dst.view.loc c ↦[dst.view.set]{fullShare} (dst.view.write Val fd (ReadAs.same.apply (src.view.read Val fs)) Finset.univ))
        ∗ (src.view.loc c ↦[src.view.set]{fullShare} fs)) ⊢ D := by
    refine BIBase.Entails.trans ?_ hD
    unfold own
    iintro ⟨Hd, Hs⟩
    isplitl [Hd]
    · iexists _
      isplitr
      swap
      · iexact Hd
      ipureintro
      intro i _
      rw [View.read_write_of_mem _ _ (Finset.mem_univ _)]
      exact hs i (Finset.mem_univ _)
    · iexists fs
      isplitr
      · ipureintro; exact hs
      · iexact Hs
  unfold own
  iintro ⟨⟨%fs, %hs, Hs⟩, ⟨%fd, %hd, Hd⟩, Hv⟩ Hk
  iapply (Transfers.wp_dmaLocal EC 𝒱 c bd (fs := fs) (fd := fd) ι N hN hN0 (subset_rfl)) $$ [Hs Hd Hv]
  · isplitl [Hs]; · iexact Hs
    isplitl [Hd]; · iexact Hd
    iexact Hv
  iintro HF
  iapply (wp_ret_of c 𝒱 bd)
  iapply Hk
  iapply (Transfers.Flight_mono EC c (hD' fs fd hs)) $$ HF

/-- A wait for a copy in flight hands its delivery back, and the counter idle again. -/
theorem own_wait [EC.LandsIn (upEmb : UEmb _ 𝕄)] {s' : Shape} {e' : EltTy} {κ' : Kind} {sem : DmaSem sig}
    {srcw : Memref sig c.2.kind sp' s' e'} {dstw : Memref sig κ' sp s e} {hsrc : srcw.view.WordExact} {hdst : dstw.view.WordExact}
    {Q : PUnit → sProp 𝕄} {N : ℕ} {D : sProp 𝕄} (hN : dstw.view.dmaCredit = N) :
    iprop(Flight EC c (.dma sem) ι N D ∗ (∃ W, owes c 0 W))
      ⊢ iprop((iprop(D ∗ semVal (c, .dma sem) 0 ∗ (∃ W, owes c 0 W)) -∗ Q ⟨⟩)
          -∗ wp frame (wpE defs 𝒱 c bd) Set.univ (Prog.lift (.waitDma2 sem srcw dstw hsrc hdst)) Q) := by
  iintro ⟨HF, ⟨%W, HO⟩⟩ Hk
  iapply (Transfers.wp_waitLocal EC 𝒱 c bd ι hN) $$ [HF HO]
  · isplitl [HF]; · iexact HF
    iexact HO
  iintro ⟨HD, Hv, HO⟩
  iapply (wp_ret_of c 𝒱 bd)
  iapply Hk
  isplitl [HD]; · iexact HD
  isplitl [Hv]; · iexact Hv
  iexists _
  iexact HO

variable {n : ℕ}

/-- A copy issued on a counter shared by several. -/
theorem own_dmaBatch [EC.LandsIn (upEmb : UEmb _ 𝕄)] [Infinite Name] {src : Memref sig c.2.kind sp s e} {dst : Memref sig c.2.kind sp' s e} {sm : SemLoc sig}
    {hsrc : src.view.WordExact} {hdst : dst.view.WordExact} {hsem : DmaTarget.Typed (nD := nD) sp sm (.here dst)}
    {Y Z : s.Idx → Val e} {A : Fin n → ℕ} {D : Fin n → sProp 𝕄} {j : ℕ} {Q : PUnit → sProp 𝕄} (hj : j < n) (hA : dst.view.amount sm = A ⟨j, hj⟩)
    (hD : iprop(own c dst Finset.univ Y ∗ own c src Finset.univ Y) ⊢ D ⟨j, hj⟩) :
    iprop(own c src Finset.univ Y ∗ own c dst Finset.univ Z ∗ MixedBatch EC c sm ι A D j 0)
      ⊢ iprop((MixedBatch EC c sm ι A D (j + 1) 0 -∗ Q ⟨⟩)
          -∗ wp frame (wpE defs 𝒱 c bd) Set.univ (Prog.lift (.enqueueDma src (.here dst) sm hsrc hdst hsem)) Q) := by
  have hD' (fs : Buf Val (src.view.loc c)) (fd : Buf Val (dst.view.loc c)) (hs : ∀ i ∈ Finset.univ, src.view.read Val fs i = Y i) :
      iprop((dst.view.loc c ↦[dst.view.set]{fullShare} (dst.view.write Val fd (ReadAs.same.apply (src.view.read Val fs)) Finset.univ))
        ∗ (src.view.loc c ↦[src.view.set]{fullShare} fs)) ⊢ D ⟨j, hj⟩ := by
    refine BIBase.Entails.trans ?_ hD
    unfold own
    iintro ⟨Hd, Hs⟩
    isplitl [Hd]
    · iexists _
      isplitr
      swap
      · iexact Hd
      ipureintro
      intro i _
      rw [View.read_write_of_mem _ _ (Finset.mem_univ _)]
      exact hs i (Finset.mem_univ _)
    · iexists fs
      isplitr
      · ipureintro; exact hs
      · iexact Hs
  unfold own
  iintro ⟨⟨%fs, %hs, Hs⟩, ⟨%fd, %hd, Hd⟩, Hv⟩ Hk
  iapply (Transfers.wp_dmaMixedBatch EC 𝒱 c bd (fs := fs) (fd := fd) ι A (subset_rfl) hj hA (Nat.zero_le _) (hD' fs fd hs)) $$ [Hs Hd Hv]
  · isplitl [Hs]; · iexact Hs
    isplitl [Hd]; · iexact Hd
    iexact Hv
  iintro HF
  iapply (wp_ret_of c 𝒱 bd)
  iapply Hk
  iexact HF

/-- A wait on a counter shared by several copies, before the last one. -/
theorem own_waitBatch [EC.LandsIn (upEmb : UEmb _ 𝕄)] {s' : Shape} {e' : EltTy} {κ' : Kind} {sem : DmaSem sig}
    {srcw : Memref sig c.2.kind sp' s' e'} {dstw : Memref sig κ' sp s e} {hsrc : srcw.view.WordExact} {hdst : dstw.view.WordExact}
    {Q : PUnit → sProp 𝕄} {A : Fin n → ℕ} {D : Fin n → sProp 𝕄} {J u : ℕ} (hJ : dstw.view.dmaCredit = J) (hu : u + J ≤ Transfers.sumTo A n) :
    iprop(MixedBatch EC c (.dma sem) ι A D n u ∗ (∃ W, owes c 0 W))
      ⊢ iprop((iprop(MixedBatch EC c (.dma sem) ι A D n (u + J) ∗ (∃ W, owes c 0 W)) -∗ Q ⟨⟩)
          -∗ wp frame (wpE defs 𝒱 c bd) Set.univ (Prog.lift (.waitDma2 sem srcw dstw hsrc hdst)) Q) := by
  iintro ⟨HF, ⟨%W, HO⟩⟩ Hk
  iapply (Transfers.wp_waitMixedBatch EC 𝒱 c bd ι hJ hu) $$ [HF HO]
  · isplitl [HF]; · iexact HF
    iexact HO
  iintro ⟨HB, HO⟩
  iapply (wp_ret_of c 𝒱 bd)
  iapply Hk
  isplitl [HB]; · iexact HB
  iexists _
  iexact HO

/-- The last wait on a counter shared by several copies: every delivery, and the counter idle. -/
theorem own_waitBatchAll [EC.LandsIn (upEmb : UEmb _ 𝕄)] {s' : Shape} {e' : EltTy} {κ' : Kind} {sem : DmaSem sig}
    {srcw : Memref sig c.2.kind sp' s' e'} {dstw : Memref sig κ' sp s e} {hsrc : srcw.view.WordExact} {hdst : dstw.view.WordExact}
    {Q : PUnit → sProp 𝕄} {A : Fin n → ℕ} {D : Fin n → sProp 𝕄} {J u : ℕ} (hJ : dstw.view.dmaCredit = J) (hA0 : ∀ t, 0 < A t)
    (hu : u + J = Transfers.sumTo A n) :
    iprop(MixedBatch EC c (.dma sem) ι A D n u ∗ (∃ W, owes c 0 W))
      ⊢ iprop((iprop(bigSep Finset.univ D ∗ semVal (c, .dma sem) 0 ∗ (∃ W, owes c 0 W)) -∗ Q ⟨⟩)
          -∗ wp frame (wpE defs 𝒱 c bd) Set.univ (Prog.lift (.waitDma2 sem srcw dstw hsrc hdst)) Q) := by
  iintro ⟨HF, ⟨%W, HO⟩⟩ Hk
  iapply (Transfers.wp_waitMixedBatchAll EC 𝒱 c bd ι hJ hA0 hu) $$ [HF HO]
  · isplitl [HF]; · iexact HF
    iexact HO
  iintro ⟨HB, Hv, HO⟩
  iapply (wp_ret_of c 𝒱 bd)
  iapply Hk
  isplitl [HB]; · iexact HB
  isplitl [Hv]; · iexact Hv
  iexists _
  iexact HO

end Rules

end Cert.Own

end
-- ==== Proof.Copies.lean ====
/-
  The same rules with the resources named by the caller: a copy between two windows of held arrays, its wait, and the
  entries of a batch of copies on one counter. Windows are slices of an array, with or without a leading axis of size
  one dropped.
-/
module

public import proofs.«01_k».proof.Proof.Own

@[expose] public section

noncomputable section

namespace Cert.Own

open Idealize.ShloMosaic Idealize.ShloMosaic.TcCoe Idealize.ShloMosaic.Tactic
open Idealize.SL Idealize.SL.RA Idealize.SL.BI
open scoped Idealize.SL.BI
open Idealize.ShloMosaic.Transfers
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type} [Preorder Lvl]

local notation "𝕄" => MT nD τ sig Ix Val Name U Lvl

variable (c : Thread nD τ)

section
variable {sp : Space} {s : Shape} {e : EltTy} {m : Memref sig c.2.kind sp s e} {S T : Finset s.Idx} {X Y : s.Idx → Val e}

/-- The held part named by another description of the same set. -/
theorem own_set (h : S = T) : (own c m S X : sProp 𝕄) ⊢ own c m T X := by rw [h]

/-- A whole array, as some contents of it. -/
theorem own_some : (own c m S X : sProp 𝕄) ⊢ iprop(∃ Z, own c m S Z) := by
  iintro H; iexists X; iexact H

/-- A held rectangle is the slice of the array there. -/
theorem to_slice (r : Rect s) (hr : ∀ a, r.stride a = 1) (hS : r.set = S) :
    (own c m S X : sProp 𝕄) ⊢ own c (m.slice r hr) Finset.univ (fun j => X (r.emb j)) := by
  subst hS; exact own_slice c r hr

theorem of_slice (r : Rect s) (hr : ∀ a, r.stride a = 1) (hS : r.set = S) {Y : r.shape.Idx → Val e} (hY : ∀ j, Y j = X (r.emb j)) :
    own c (m.slice r hr) Finset.univ Y ⊢ (own c m S X : sProp 𝕄) := by
  subst hS; exact own_unslice c r hr hY

/-- A held rectangle is the slice of the array there, its axes of size one dropped. -/
theorem to_squeezed (r : Rect s) (hr : ∀ a, r.stride a = 1) {s' : Shape} (h : r.shape.Squeezes s') (hS : r.set = S) :
    (own c m S X : sProp 𝕄) ⊢ own c ((m.slice r hr).squeeze s' h) Finset.univ (fun j => X (r.emb (Shape.reshapeEquiv h.numel_eq j))) := by
  subst hS; exact (own_slice c r hr).trans (own_squeeze c h)

theorem of_squeezed (r : Rect s) (hr : ∀ a, r.stride a = 1) {s' : Shape} (h : r.shape.Squeezes s') (hS : r.set = S)
    {Y : s'.Idx → Val e} (hY : ∀ j, Y j = X (r.emb (Shape.reshapeEquiv h.numel_eq j))) :
    own c ((m.slice r hr).squeeze s' h) Finset.univ Y ⊢ (own c m S X : sProp 𝕄) := by
  subst hS
  exact (own_unsqueeze c (X := fun j => X (r.emb j)) h hY).trans (own_unslice c r hr fun _ => rfl)

end

section Rules

variable {Λ : Labels} {defs : Defs nD τ sig Val Λ} (𝒱 : Variants) (bd : Option 𝒱.V) {sp sp' : Space} {s : Shape} {e : EltTy}
variable (EC : UEmb Counters (MT nD τ sig Ix Val Name U Lvl)) (ι : Ix)

/-- A copy, from what holds its source and its destination to what its delivery holds. -/
theorem dma [EC.LandsIn (upEmb : UEmb _ 𝕄)] [Infinite Name] {src : Memref sig c.2.kind sp s e} {dst : Memref sig c.2.kind sp' s e} {sm cell : SemLoc sig}
    {hsrc : src.view.WordExact} {hdst : dst.view.WordExact} {hsem : DmaTarget.Typed (nD := nD) sp sm (.here dst)}
    {Y : s.Idx → Val e} {P1 P1' P2 P2' : sProp 𝕄} {Q : PUnit → sProp 𝕄} {N : ℕ} (hcell : cell = sm) (hN : dst.view.amount sm = N) (hN0 : 0 < N)
    (h1 : P1 ⊢ own c src Finset.univ Y) (h2 : P2 ⊢ iprop(∃ Z, own c dst Finset.univ Z))
    (h1' : own c src Finset.univ Y ⊢ P1') (h2' : own c dst Finset.univ Y ⊢ P2') :
    iprop(P1 ∗ P2 ∗ semVal (c, cell) 0)
      ⊢ iprop((Flight EC c cell ι N iprop(P2' ∗ P1') -∗ Q ⟨⟩)
          -∗ wp frame (wpE defs 𝒱 c bd) Set.univ (Prog.lift (.enqueueDma src (.here dst) sm hsrc hdst hsem)) Q) := by
  subst hcell
  iintro ⟨H1, H2, Hv⟩ Hk
  ihave H1 := h1 $$ H1
  ihave H2 := h2 $$ H2
  icases H2 with ⟨%Z, H2⟩
  iapply (own_dma c 𝒱 bd EC ι hN hN0 (Y := Y) (D := iprop(P2' ∗ P1')) (BI.sep_mono h2' h1')) $$ [H1 H2 Hv]
  · isplitl [H1]; · iexact H1
    isplitl [H2]; · iexact H2
    iexact Hv
  iexact Hk

/-- Its wait. -/
theorem wait [EC.LandsIn (upEmb : UEmb _ 𝕄)] {s' : Shape} {e' : EltTy} {κ' : Kind} {sem : DmaSem sig} {cell : SemLoc sig}
    {srcw : Memref sig c.2.kind sp' s' e'} {dstw : Memref sig κ' sp s e} {hsrc : srcw.view.WordExact} {hdst : dstw.view.WordExact}
    {Q : PUnit → sProp 𝕄} {N : ℕ} {D : sProp 𝕄} (hcell : cell = .dma sem) (hN : dstw.view.dmaCredit = N) :
    iprop(Flight EC c cell ι N D ∗ (∃ W, owes c 0 W))
      ⊢ iprop((iprop(D ∗ semVal (c, cell) 0 ∗ (∃ W, owes c 0 W)) -∗ Q ⟨⟩)
          -∗ wp frame (wpE defs 𝒱 c bd) Set.univ (Prog.lift (.waitDma2 sem srcw dstw hsrc hdst)) Q) := by
  subst hcell
  exact own_wait c 𝒱 bd EC ι hN

variable {n : ℕ}

/-- A copy issued on a counter shared by several. -/
theorem dmaBatch [EC.LandsIn (upEmb : UEmb _ 𝕄)] [Infinite Name] {src : Memref sig c.2.kind sp s e} {dst : Memref sig c.2.kind sp' s e} {sm cell : SemLoc sig}
    {hsrc : src.view.WordExact} {hdst : dst.view.WordExact} {hsem : DmaTarget.Typed (nD := nD) sp sm (.here dst)}
    {Y : s.Idx → Val e} {A : Fin n → ℕ} {D : Fin n → sProp 𝕄} {P1 P1' P2 P2' : sProp 𝕄} {j : ℕ} {Q : PUnit → sProp 𝕄}
    (hcell : cell = sm) (hj : j < n) (hA : dst.view.amount sm = A ⟨j, hj⟩)
    (h1 : P1 ⊢ own c src Finset.univ Y) (h2 : P2 ⊢ iprop(∃ Z, own c dst Finset.univ Z))
    (h1' : own c src Finset.univ Y ⊢ P1') (h2' : own c dst Finset.univ Y ⊢ P2') (hD : D ⟨j, hj⟩ = iprop(P2' ∗ P1')) :
    iprop(P1 ∗ P2 ∗ MixedBatch EC c cell ι A D j 0)
      ⊢ iprop((MixedBatch EC c cell ι A D (j + 1) 0 -∗ Q ⟨⟩)
          -∗ wp frame (wpE defs 𝒱 c bd) Set.univ (Prog.lift (.enqueueDma src (.here dst) sm hsrc hdst hsem)) Q) := by
  subst hcell
  iintro ⟨H1, H2, Hv⟩ Hk
  ihave H1 := h1 $$ H1
  ihave H2 := h2 $$ H2
  icases H2 with ⟨%Z, H2⟩
  have hD' : iprop(own c dst Finset.univ Y ∗ own c src Finset.univ Y) ⊢ D ⟨j, hj⟩ := by rw [hD]; exact BI.sep_mono h2' h1'
  iapply (own_dmaBatch c 𝒱 bd EC ι hj hA hD') $$ [H1 H2 Hv]
  · isplitl [H1]; · iexact H1
    isplitl [H2]; · iexact H2
    iexact Hv
  iexact Hk

/-- A wait on a counter shared by several copies, before the last one. -/
theorem waitBatch [EC.LandsIn (upEmb : UEmb _ 𝕄)] {s' : Shape} {e' : EltTy} {κ' : Kind} {sem : DmaSem sig} {cell : SemLoc sig}
    {srcw : Memref sig c.2.kind sp' s' e'} {dstw : Memref sig κ' sp s e} {hsrc : srcw.view.WordExact} {hdst : dstw.view.WordExact}
    {Q : PUnit → sProp 𝕄} {A : Fin n → ℕ} {D : Fin n → sProp 𝕄} {J u u' : ℕ} (hcell : cell = .dma sem) (hJ : dstw.view.dmaCredit = J) (hu' : u + J = u')
    (hu : u' ≤ Transfers.sumTo A n) :
    iprop(MixedBatch EC c cell ι A D n u ∗ (∃ W, owes c 0 W))
      ⊢ iprop((iprop(MixedBatch EC c cell ι A D n u' ∗ (∃ W, owes c 0 W)) -∗ Q ⟨⟩)
          -∗ wp frame (wpE defs 𝒱 c bd) Set.univ (Prog.lift (.waitDma2 sem srcw dstw hsrc hdst)) Q) := by
  subst hcell; subst hu'
  exact own_waitBatch c 𝒱 bd EC ι hJ hu

/-- The last wait on a counter shared by several copies: every delivery, and the counter idle. -/
theorem waitBatchAll [EC.LandsIn (upEmb : UEmb _ 𝕄)] {s' : Shape} {e' : EltTy} {κ' : Kind} {sem : DmaSem sig} {cell : SemLoc sig}
    {srcw : Memref sig c.2.kind sp' s' e'} {dstw : Memref sig κ' sp s e} {hsrc : srcw.view.WordExact} {hdst : dstw.view.WordExact}
    {Q : PUnit → sProp 𝕄} {A : Fin n → ℕ} {D : Fin n → sProp 𝕄} {J u : ℕ} (hcell : cell = .dma sem) (hJ : dstw.view.dmaCredit = J) (hA0 : ∀ t, 0 < A t)
    (hu : u + J = Transfers.sumTo A n) :
    iprop(MixedBatch EC c cell ι A D n u ∗ (∃ W, owes c 0 W))
      ⊢ iprop((iprop(bigSep Finset.univ D ∗ semVal (c, cell) 0 ∗ (∃ W, owes c 0 W)) -∗ Q ⟨⟩)
          -∗ wp frame (wpE defs 𝒱 c bd) Set.univ (Prog.lift (.waitDma2 sem srcw dstw hsrc hdst)) Q) := by
  subst hcell
  exact own_waitBatchAll c 𝒱 bd EC ι hJ hA0 hu

end Rules

end Cert.Own

end
-- ==== Proof.Offsets.lean ====
/-
  The offsets the kernel computes from its loop counters, in closed form: the words of the program, evaluated at every
  trip, are the tile, block and slot positions they stand for; and its conditions are the bounds they stand for.
  Step `7 * t + c` is column block `c` of token tile `t`.
-/
module

public import proofs.«01_k».proof.Proof.Gen.KernelIdeal

@[expose] public section

set_option maxRecDepth 16384

noncomputable section

namespace Cert.KernelIdeal.Val

open Cert.KernelIdeal Cert.KernelIdeal.Gen
open Idealize.ShloMosaic

theorem off1 : ∀ (c : Fin k0_t1_loop.trips), k0_off1 c 0 = (c:ℕ) := by decide +kernel
theorem off2 : ∀ (c : Fin k0_t1_loop.trips), k0_off2 c 0 = 1024 * (c:ℕ) ∧ k0_off2 c 1 = 0 := by decide +kernel
theorem off3 : ∀ (c : Fin k0_t1_loop.trips), k0_off3 c 0 = 0 ∧ k0_off3 c 1 = 1024 * (c:ℕ) := by decide +kernel
theorem off4 : ∀ (c : Fin k0_t1_loop.trips), k0_off4 c 0 = 1024 * (c:ℕ) ∧ k0_off4 c 1 = 0 := by decide +kernel
theorem off5 : ∀ (c : Fin k0_t1_loop.trips), k0_off5 c 0 = 0 ∧ k0_off5 c 1 = 1024 * (c:ℕ) := by decide +kernel
theorem off6_0 : ∀ (c : Fin k0_t1_loop.trips), k0_off6 c 0#32 0 = 0 ∧ k0_off6 c 0#32 1 = 1024 * (c:ℕ) := by decide +kernel
theorem off6_256 : ∀ (c : Fin k0_t1_loop.trips), k0_off6 c 256#32 0 = 256 ∧ k0_off6 c 256#32 1 = 1024 * (c:ℕ) := by decide +kernel
theorem off9 : ∀ (t : Fin k0_t2_loop.trips), k0_off9 t 0 = ((t:ℕ) + 1) % 2 := by decide +kernel
theorem off10 : ∀ (t : Fin k0_t2_loop.trips) (c : Fin k0_t3_loop.trips), k0_off10 t c 0 = 512 * ((t:ℕ) + 1) ∧ k0_off10 t c 1 = 1024 * (c:ℕ) := by decide +kernel
theorem off11 : ∀ (t : Fin k0_t2_loop.trips) (c : Fin k0_t4_loop.trips), k0_off11 t c 0 = (7 * (t : ℕ) + c) % 4 := by decide +kernel
theorem off12 : ∀ (t : Fin k0_t2_loop.trips) (c : Fin k0_t4_loop.trips), k0_off12 t c 0 = (7 * (t : ℕ) + c) % 4 ∧ k0_off12 t c 1 = 0 ∧ k0_off12 t c 2 = 0 := by decide +kernel
theorem off13 : ∀ (t : Fin k0_t2_loop.trips) (c : Fin k0_t4_loop.trips), k0_off13 t c 0 = 512 * (t:ℕ) ∧ k0_off13 t c 1 = 1024 * (c:ℕ) := by decide +kernel
theorem off14 : ∀ (t : Fin k0_t2_loop.trips) (c : Fin k0_t4_loop.trips), 3 ≤ (7 * (t : ℕ) + c) → k0_off14 t c 0 = (7 * (t : ℕ) + c) % 3 := by decide +kernel
theorem off15 : ∀ (t : Fin k0_t2_loop.trips) (c : Fin k0_t4_loop.trips), 3 ≤ (7 * (t : ℕ) + c) → k0_off15 t c 0 = 512 * (((7 * (t : ℕ) + c) - 3) / 7) ∧ k0_off15 t c 1 = 1024 * (((7 * (t : ℕ) + c) - 3) % 7) := by decide +kernel
theorem off16 : ∀ (t : Fin k0_t2_loop.trips) (c : Fin k0_t4_loop.trips), 3 ≤ (7 * (t : ℕ) + c) → k0_off16 t c 0 = (7 * (t : ℕ) + c) % 3 ∧ k0_off16 t c 1 = 0 ∧ k0_off16 t c 2 = 0 := by decide +kernel
theorem off17_0 : ∀ (c : Fin k0_t4_loop.trips), k0_off17 c 0#32 0 = 0 ∧ k0_off17 c 0#32 1 = 1024 * (c:ℕ) + 0 := by decide +kernel
theorem off17_512 : ∀ (c : Fin k0_t4_loop.trips), k0_off17 c 512#32 0 = 0 ∧ k0_off17 c 512#32 1 = 1024 * (c:ℕ) + 512 := by decide +kernel
theorem off18 : ∀ (t : Fin k0_t2_loop.trips) (c : Fin k0_t4_loop.trips), k0_off18 t c 0 = (7 * (t : ℕ) + c) % 4 ∧ k0_off18 t c 1 = 0 ∧ k0_off18 t c 2 = 0 := by decide +kernel
theorem off19 : ∀ (t : Fin k0_t2_loop.trips) (c : Fin k0_t4_loop.trips), k0_off19 t c 0 = (7 * (t : ℕ) + c) % 3 ∧ k0_off19 t c 1 = 0 ∧ k0_off19 t c 2 = 0 := by decide +kernel
theorem off20 : ∀ (c : Fin k0_t4_loop.trips), k0_off20 c 0 = 0 ∧ k0_off20 c 1 = 1024 * (c:ℕ) := by decide +kernel
theorem off21_0 : ∀ (t : Fin k0_t2_loop.trips) (c : Fin k0_t4_loop.trips), k0_off21 t c 0#32 0 = 512 * ((t:ℕ) + 1) + 0 ∧ k0_off21 t c 0#32 1 = 1024 * (c:ℕ) := by decide +kernel
theorem off21_256 : ∀ (t : Fin k0_t2_loop.trips) (c : Fin k0_t4_loop.trips), k0_off21 t c 256#32 0 = 512 * ((t:ℕ) + 1) + 256 ∧ k0_off21 t c 256#32 1 = 1024 * (c:ℕ) := by decide +kernel
theorem off22_0 : ∀ (t : Fin k0_t2_loop.trips) (c : Fin k0_t4_loop.trips), k0_off22 t c 0#32 0 = 512 * (t:ℕ) ∧ k0_off22 t c 0#32 1 = 1024 * (c:ℕ) + 0 := by decide +kernel
theorem off23_0 : ∀ (c : Fin k0_t4_loop.trips), k0_off23 c 0#32 0 = 0 ∧ k0_off23 c 0#32 1 = 1024 * (c:ℕ) + 0 := by decide +kernel
theorem off22_256 : ∀ (t : Fin k0_t2_loop.trips) (c : Fin k0_t4_loop.trips), k0_off22 t c 256#32 0 = 512 * (t:ℕ) ∧ k0_off22 t c 256#32 1 = 1024 * (c:ℕ) + 256 := by decide +kernel
theorem off23_256 : ∀ (c : Fin k0_t4_loop.trips), k0_off23 c 256#32 0 = 0 ∧ k0_off23 c 256#32 1 = 1024 * (c:ℕ) + 256 := by decide +kernel
theorem off22_512 : ∀ (t : Fin k0_t2_loop.trips) (c : Fin k0_t4_loop.trips), k0_off22 t c 512#32 0 = 512 * (t:ℕ) ∧ k0_off22 t c 512#32 1 = 1024 * (c:ℕ) + 512 := by decide +kernel
theorem off23_512 : ∀ (c : Fin k0_t4_loop.trips), k0_off23 c 512#32 0 = 0 ∧ k0_off23 c 512#32 1 = 1024 * (c:ℕ) + 512 := by decide +kernel
theorem off22_768 : ∀ (t : Fin k0_t2_loop.trips) (c : Fin k0_t4_loop.trips), k0_off22 t c 768#32 0 = 512 * (t:ℕ) ∧ k0_off22 t c 768#32 1 = 1024 * (c:ℕ) + 768 := by decide +kernel
theorem off23_768 : ∀ (c : Fin k0_t4_loop.trips), k0_off23 c 768#32 0 = 0 ∧ k0_off23 c 768#32 1 = 1024 * (c:ℕ) + 768 := by decide +kernel
theorem off24 : ∀ (t : Fin k0_t2_loop.trips) (c : Fin k0_t4_loop.trips), k0_off24 t c 0 = (7 * (t : ℕ) + c) % 4 ∧ k0_off24 t c 1 = 256 ∧ k0_off24 t c 2 = 0 := by decide +kernel
theorem off25 : ∀ (t : Fin k0_t2_loop.trips) (c : Fin k0_t4_loop.trips), k0_off25 t c 0 = (7 * (t : ℕ) + c) % 3 ∧ k0_off25 t c 1 = 256 ∧ k0_off25 t c 2 = 0 := by decide +kernel
theorem off26 : ∀ (t : Fin k0_t2_loop.trips) (c : Fin k0_t4_loop.trips), k0_off26 t c 0 = (7 * (t : ℕ) + c) % 4 ∧ k0_off26 t c 1 = 0 ∧ k0_off26 t c 2 = 512 := by decide +kernel
theorem off27 : ∀ (t : Fin k0_t2_loop.trips) (c : Fin k0_t4_loop.trips), k0_off27 t c 0 = (7 * (t : ℕ) + c) % 3 ∧ k0_off27 t c 1 = 0 ∧ k0_off27 t c 2 = 512 := by decide +kernel
theorem off28 : ∀ (t : Fin k0_t2_loop.trips) (c : Fin k0_t4_loop.trips), k0_off28 t c 0 = (7 * (t : ℕ) + c) % 4 ∧ k0_off28 t c 1 = 256 ∧ k0_off28 t c 2 = 512 := by decide +kernel
theorem off29 : ∀ (t : Fin k0_t2_loop.trips) (c : Fin k0_t4_loop.trips), k0_off29 t c 0 = (7 * (t : ℕ) + c) % 3 ∧ k0_off29 t c 1 = 256 ∧ k0_off29 t c 2 = 512 := by decide +kernel
theorem off30 : ∀ (t : Fin k0_t2_loop.trips) (c : Fin k0_t4_loop.trips), k0_off30 t c 0 = (7 * (t : ℕ) + c) % 3 := by decide +kernel
theorem off31 : ∀ (t : Fin k0_t2_loop.trips) (c : Fin k0_t4_loop.trips), k0_off31 t c 0 = (7 * (t : ℕ) + c) % 3 ∧ k0_off31 t c 1 = 0 ∧ k0_off31 t c 2 = 0 := by decide +kernel
theorem off32 : ∀ (t : Fin k0_t2_loop.trips) (c : Fin k0_t4_loop.trips), (7 * (t : ℕ) + c) + 4 < 28 → k0_off32 t c 0 = (7 * (t : ℕ) + c) % 4 := by decide +kernel
theorem off33 : ∀ (t : Fin k0_t2_loop.trips) (c : Fin k0_t4_loop.trips), (7 * (t : ℕ) + c) + 4 < 28 → k0_off33 t c 0 = (7 * (t : ℕ) + c) % 4 ∧ k0_off33 t c 1 = 0 ∧ k0_off33 t c 2 = 0 := by decide +kernel
theorem off34 : ∀ (t : Fin k0_t2_loop.trips) (c : Fin k0_t4_loop.trips), (7 * (t : ℕ) + c) + 4 < 28 → k0_off34 t c 0 = 512 * (((7 * (t : ℕ) + c) + 4) / 7) ∧ k0_off34 t c 1 = 1024 * (((7 * (t : ℕ) + c) + 4) % 7) := by decide +kernel
theorem off35 : ∀ (t : Fin k0_t2_loop.trips), (t:ℕ) + 2 < 4 → k0_off35 t 0 = (t:ℕ) % 2 := by decide +kernel
theorem off36 : ∀ (t : Fin k0_t2_loop.trips) (c : Fin k0_t4_loop.trips), (t:ℕ) + 2 < 4 → k0_off36 t c 0 = 512 * ((t:ℕ) + 2) ∧ k0_off36 t c 1 = 1024 * (c:ℕ) := by decide +kernel
theorem off37 : ∀ (t : Fin k0_t2_loop.trips), k0_off37 t 0 = 512 * (t:ℕ) ∧ k0_off37 t 1 = 0 := by decide +kernel
theorem off40 : ∀ (t : Fin k0_t2_loop.trips), k0_off40 t 0 = 512 * ((t:ℕ) + 1) ∧ k0_off40 t 1 = 0 := by decide +kernel
theorem off41 : ∀ (c : Fin k0_t5_loop.trips), k0_off41 c 0 = (21 + (c : ℕ)) % 4 := by decide +kernel
theorem off42 : ∀ (c : Fin k0_t5_loop.trips), k0_off42 c 0 = (21 + (c : ℕ)) % 4 ∧ k0_off42 c 1 = 0 ∧ k0_off42 c 2 = 0 := by decide +kernel
theorem off43 : ∀ (c : Fin k0_t5_loop.trips), k0_off43 c 0 = 1536 ∧ k0_off43 c 1 = 1024 * (c:ℕ) := by decide +kernel
theorem off44 : ∀ (c : Fin k0_t5_loop.trips), k0_off44 c 0 = (21 + (c : ℕ)) % 3 := by decide +kernel
theorem off45 : ∀ (c : Fin k0_t5_loop.trips), k0_off45 c 0 = 512 * (((21 + (c : ℕ)) - 3) / 7) ∧ k0_off45 c 1 = 1024 * (((21 + (c : ℕ)) - 3) % 7) := by decide +kernel
theorem off46 : ∀ (c : Fin k0_t5_loop.trips), k0_off46 c 0 = (21 + (c : ℕ)) % 3 ∧ k0_off46 c 1 = 0 ∧ k0_off46 c 2 = 0 := by decide +kernel
theorem off47 : ∀ (c : Fin k0_t5_loop.trips), 2 ≤ (c:ℕ) → k0_off47 c 0 = (c:ℕ) % 2 := by decide +kernel
theorem off48 : ∀ (c : Fin k0_t5_loop.trips), 2 ≤ (c:ℕ) → k0_off48 c 0 = 1024 * ((c:ℕ) - 2) ∧ k0_off48 c 1 = 0 := by decide +kernel
theorem off49 : ∀ (c : Fin k0_t5_loop.trips), 2 ≤ (c:ℕ) → k0_off49 c 0 = (c:ℕ) % 2 ∧ k0_off49 c 1 = 0 ∧ k0_off49 c 2 = 0 := by decide +kernel
theorem off50_0 : ∀ (c : Fin k0_t5_loop.trips), k0_off50 c 0#32 0 = 0 ∧ k0_off50 c 0#32 1 = 1024 * (c:ℕ) + 0 := by decide +kernel
theorem off50_512 : ∀ (c : Fin k0_t5_loop.trips), k0_off50 c 512#32 0 = 0 ∧ k0_off50 c 512#32 1 = 1024 * (c:ℕ) + 512 := by decide +kernel
theorem off53_0 : ∀ (c : Fin k0_t5_loop.trips), k0_off53 c 0#32 0 = 1536 ∧ k0_off53 c 0#32 1 = 1024 * (c:ℕ) + 0 := by decide +kernel
theorem off54_0 : ∀ (c : Fin k0_t5_loop.trips), k0_off54 c 0#32 0 = 0 ∧ k0_off54 c 0#32 1 = 1024 * (c:ℕ) + 0 := by decide +kernel
theorem off53_256 : ∀ (c : Fin k0_t5_loop.trips), k0_off53 c 256#32 0 = 1536 ∧ k0_off53 c 256#32 1 = 1024 * (c:ℕ) + 256 := by decide +kernel
theorem off54_256 : ∀ (c : Fin k0_t5_loop.trips), k0_off54 c 256#32 0 = 0 ∧ k0_off54 c 256#32 1 = 1024 * (c:ℕ) + 256 := by decide +kernel
theorem off53_512 : ∀ (c : Fin k0_t5_loop.trips), k0_off53 c 512#32 0 = 1536 ∧ k0_off53 c 512#32 1 = 1024 * (c:ℕ) + 512 := by decide +kernel
theorem off54_512 : ∀ (c : Fin k0_t5_loop.trips), k0_off54 c 512#32 0 = 0 ∧ k0_off54 c 512#32 1 = 1024 * (c:ℕ) + 512 := by decide +kernel
theorem off53_768 : ∀ (c : Fin k0_t5_loop.trips), k0_off53 c 768#32 0 = 1536 ∧ k0_off53 c 768#32 1 = 1024 * (c:ℕ) + 768 := by decide +kernel
theorem off54_768 : ∀ (c : Fin k0_t5_loop.trips), k0_off54 c 768#32 0 = 0 ∧ k0_off54 c 768#32 1 = 1024 * (c:ℕ) + 768 := by decide +kernel
theorem off51 : ∀ (c : Fin k0_t5_loop.trips), k0_off51 c 0 = (21 + (c : ℕ)) % 4 ∧ k0_off51 c 1 = 0 ∧ k0_off51 c 2 = 0 := by decide +kernel
theorem off56 : ∀ (c : Fin k0_t5_loop.trips), k0_off56 c 0 = (21 + (c : ℕ)) % 4 ∧ k0_off56 c 1 = 256 ∧ k0_off56 c 2 = 0 := by decide +kernel
theorem off59 : ∀ (c : Fin k0_t5_loop.trips), k0_off59 c 0 = (21 + (c : ℕ)) % 4 ∧ k0_off59 c 1 = 0 ∧ k0_off59 c 2 = 512 := by decide +kernel
theorem off62 : ∀ (c : Fin k0_t5_loop.trips), k0_off62 c 0 = (21 + (c : ℕ)) % 4 ∧ k0_off62 c 1 = 256 ∧ k0_off62 c 2 = 512 := by decide +kernel
theorem off52 : ∀ (c : Fin k0_t5_loop.trips), k0_off52 c 0 = (21 + (c : ℕ)) % 3 ∧ k0_off52 c 1 = 0 ∧ k0_off52 c 2 = 0 := by decide +kernel
theorem off57 : ∀ (c : Fin k0_t5_loop.trips), k0_off57 c 0 = (21 + (c : ℕ)) % 3 ∧ k0_off57 c 1 = 256 ∧ k0_off57 c 2 = 0 := by decide +kernel
theorem off60 : ∀ (c : Fin k0_t5_loop.trips), k0_off60 c 0 = (21 + (c : ℕ)) % 3 ∧ k0_off60 c 1 = 0 ∧ k0_off60 c 2 = 512 := by decide +kernel
theorem off63 : ∀ (c : Fin k0_t5_loop.trips), k0_off63 c 0 = (21 + (c : ℕ)) % 3 ∧ k0_off63 c 1 = 256 ∧ k0_off63 c 2 = 512 := by decide +kernel
theorem off55 : ∀ (c : Fin k0_t5_loop.trips), k0_off55 c 0 = (c:ℕ) % 2 ∧ k0_off55 c 1 = 0 ∧ k0_off55 c 2 = 0 := by decide +kernel
theorem off58 : ∀ (c : Fin k0_t5_loop.trips), k0_off58 c 0 = (c:ℕ) % 2 ∧ k0_off58 c 1 = 256 ∧ k0_off58 c 2 = 0 := by decide +kernel
theorem off61 : ∀ (c : Fin k0_t5_loop.trips), k0_off61 c 0 = (c:ℕ) % 2 ∧ k0_off61 c 1 = 512 ∧ k0_off61 c 2 = 0 := by decide +kernel
theorem off64 : ∀ (c : Fin k0_t5_loop.trips), k0_off64 c 0 = (c:ℕ) % 2 ∧ k0_off64 c 1 = 768 ∧ k0_off64 c 2 = 0 := by decide +kernel
theorem off65 : ∀ (c : Fin k0_t5_loop.trips), k0_off65 c 0 = (21 + (c : ℕ)) % 3 := by decide +kernel
theorem off66 : ∀ (c : Fin k0_t5_loop.trips), k0_off66 c 0 = (21 + (c : ℕ)) % 3 ∧ k0_off66 c 1 = 0 ∧ k0_off66 c 2 = 0 := by decide +kernel
theorem off67 : ∀ (c : Fin k0_t5_loop.trips), (21 + (c : ℕ)) + 4 < 28 → k0_off67 c 0 = (21 + (c : ℕ)) % 4 := by decide +kernel
theorem off68 : ∀ (c : Fin k0_t5_loop.trips), (21 + (c : ℕ)) + 4 < 28 → k0_off68 c 0 = (21 + (c : ℕ)) % 4 ∧ k0_off68 c 1 = 0 ∧ k0_off68 c 2 = 0 := by decide +kernel
theorem off69 : ∀ (c : Fin k0_t5_loop.trips), (21 + (c : ℕ)) + 4 < 28 → k0_off69 c 0 = 512 * (((21 + (c : ℕ)) + 4) / 7) ∧ k0_off69 c 1 = 1024 * (((21 + (c : ℕ)) + 4) % 7) := by decide +kernel
theorem off70 : ∀ (c : Fin k0_t5_loop.trips), k0_off70 c 0 = (c:ℕ) % 2 := by decide +kernel
theorem off71 : ∀ (c : Fin k0_t5_loop.trips), k0_off71 c 0 = 1024 * (c:ℕ) ∧ k0_off71 c 1 = 0 := by decide +kernel
theorem off72 : ∀ (c : Fin k0_t5_loop.trips), k0_off72 c 0 = (c:ℕ) % 2 ∧ k0_off72 c 1 = 0 ∧ k0_off72 c 2 = 0 := by decide +kernel

theorem cond1_iff : ∀ (t : Fin k0_t2_loop.trips) (c : Fin k0_t4_loop.trips), k0_cond1 t c = 1#1 ↔ 3 ≤ (7 * (t : ℕ) + c) := by decide +kernel
theorem cond2_iff : ∀ (t : Fin k0_t2_loop.trips) (c : Fin k0_t4_loop.trips), k0_cond2 t c = 1#1 ↔ (7 * (t : ℕ) + c) + 4 < 28 := by decide +kernel
theorem cond3_iff : ∀ (t : Fin k0_t2_loop.trips), k0_cond3 t = 1#1 ↔ (t:ℕ) + 2 < 4 := by decide +kernel
theorem cond4_true : ∀ (c : Fin k0_t5_loop.trips), k0_cond4 c = 1#1 := by decide +kernel
theorem cond5_iff : ∀ (c : Fin k0_t5_loop.trips), k0_cond5 c = 1#1 ↔ 2 ≤ (c:ℕ) := by decide +kernel
theorem cond6_iff : ∀ (c : Fin k0_t5_loop.trips), k0_cond6 c = 1#1 ↔ (21 + (c : ℕ)) + 4 < 28 := by decide +kernel

theorem trips1 : k0_t1_loop.trips = 7 := by decide +kernel
theorem trips2 : k0_t2_loop.trips = 3 := by decide +kernel
theorem trips3 : k0_t3_loop.trips = 7 := by decide +kernel
theorem trips4 : k0_t4_loop.trips = 7 := by decide +kernel
theorem trips5 : k0_t5_loop.trips = 7 := by decide +kernel

end Cert.KernelIdeal.Val

end
-- ==== Proof.Setup.lean ====
/-
  The kernel's arrays and counters by name, the parts of them the proof holds separately, and reading a load or a
  store of a rectangle by the row and column it starts at.
-/
module

public import proofs.«01_k».proof.Proof.Copies
public import proofs.«01_k».proof.Proof.Offsets
public import proofs.«01_k».proof.Proof.Gen.KernelIdeal.Frame

@[expose] public section

set_option maxRecDepth 16384

noncomputable section

namespace Cert.KernelIdeal.Val

open Cert.KernelIdeal Cert.KernelIdeal.Gen Cert.Own
open Idealize.ShloMosaic Idealize.ShloMosaic.TcCoe Idealize.ShloMosaic.Tactic
open Idealize.SL Idealize.SL.RA Idealize.SL.BI
open scoped Idealize.SL.BI
open Idealize.ShloMosaic.Transfers
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Arrays -/

def A0 : Memref sig .tc .hbm S2048x7168 .fp8e4m3 := Memref.whole main_v0
def A1 : Memref sig .tc .hbm S2x1024 .f32 := Memref.whole main_arg1
def A2 : Memref sig .tc .hbm S7168x256 .bf16 := Memref.whole main_arg2
def A3 : Memref sig .tc .hbm S2x8x1024 .i32 := Memref.whole main_v1
def A4 : Memref sig .tc .hbm S2x8x1024 .bf16 := Memref.whole main_v2
def A5 : Memref sig .tc .hbm S2048x7168 .bf16 := Memref.whole main_v3
def A6 : Memref sig .tc .hbm S2048x7168 .bf16 := Memref.whole main_v4_0
def A7 : Memref sig .tc .hbm S7168x256 .f32 := Memref.whole main_v4_1
def A8 : Memref sig .tc .hbm S2048x256 .f32 := Memref.whole main_v4_2
def A9 : Memref sig .tc .vmem S2048x7168 .fp8e4m3 := Memref.whole cc0_scratch0
def A10 : Memref sig .tc .vmem S7168x256 .bf16 := Memref.whole cc0_scratch1
def A11 : Memref sig .tc .vmem S256x7168 .bf16 := Memref.whole cc0_scratch2
def A12 : Memref sig .tc .vmem S256x7168 .f32 := Memref.whole cc0_scratch3
def A13 : Memref sig .tc .vmem S256x512 .f32 := Memref.whole cc0_scratch4
def A14 : Memref sig .tc .vmem S512x256 .bf16 := Memref.whole cc0_scratch5
def A15 : Memref sig .tc .vmem S256x512 .bf16 := Memref.whole cc0_scratch6
def A16 : Memref sig .tc .vmem S4x512x1024 .bf16 := Memref.whole cc0_scratch7
def A17 : Memref sig .tc .vmem S3x512x1024 .bf16 := Memref.whole cc0_scratch8
def A18 : Memref sig .tc .vmem S512x256 .f32 := Memref.whole cc0_scratch9
def A19 : Memref sig .tc .vmem S2x1024x256 .f32 := Memref.whole cc0_scratch10
def A20 : Memref sig .tc .vmem S2x8x1024 .i32 := Memref.whole cc0_scratch11
def A21 : Memref sig .tc .vmem S2x8x1024 .bf16 := Memref.whole cc0_scratch12
def A22 : Memref sig .tc .vmem S2x1024 .f32 := Memref.whole cc0_scratch13

theorem hA0 : A0.IsWhole := Memref.isWhole_whole _
theorem hA1 : A1.IsWhole := Memref.isWhole_whole _
theorem hA2 : A2.IsWhole := Memref.isWhole_whole _
theorem hA3 : A3.IsWhole := Memref.isWhole_whole _
theorem hA4 : A4.IsWhole := Memref.isWhole_whole _
theorem hA5 : A5.IsWhole := Memref.isWhole_whole _
theorem hA6 : A6.IsWhole := Memref.isWhole_whole _
theorem hA7 : A7.IsWhole := Memref.isWhole_whole _
theorem hA8 : A8.IsWhole := Memref.isWhole_whole _
theorem hA9 : A9.IsWhole := Memref.isWhole_whole _
theorem hA10 : A10.IsWhole := Memref.isWhole_whole _
theorem hA11 : A11.IsWhole := Memref.isWhole_whole _
theorem hA12 : A12.IsWhole := Memref.isWhole_whole _
theorem hA13 : A13.IsWhole := Memref.isWhole_whole _
theorem hA14 : A14.IsWhole := Memref.isWhole_whole _
theorem hA15 : A15.IsWhole := Memref.isWhole_whole _
theorem hA16 : A16.IsWhole := Memref.isWhole_whole _
theorem hA17 : A17.IsWhole := Memref.isWhole_whole _
theorem hA18 : A18.IsWhole := Memref.isWhole_whole _
theorem hA19 : A19.IsWhole := Memref.isWhole_whole _
theorem hA20 : A20.IsWhole := Memref.isWhole_whole _
theorem hA21 : A21.IsWhole := Memref.isWhole_whole _
theorem hA22 : A22.IsWhole := Memref.isWhole_whole _

/-! ## Counters -/

def Q23 : DmaSems sig S_ := cc0_scratch14
def Q24 : DmaSems sig S7 := cc0_scratch15
def Q25 : DmaSems sig S2 := cc0_scratch16
def Q26 : DmaSems sig S4 := cc0_scratch17
def Q27 : DmaSems sig S3 := cc0_scratch18
def Q28 : DmaSems sig S_ := cc0_scratch19
def Q29 : DmaSems sig S2 := cc0_scratch20

/-- The `k`-th counter (modulo the row's length) of a row of counters. -/
def cell {n : ℕ} [NeZero n] (Q : DmaSems sig ⟨1, ![n]⟩) (k : ℕ) : SemLoc sig :=
  .dma (Q.ix fun a => ⟨k % (![n] a), Nat.mod_lt _ (by have : a = 0 := Subsingleton.elim _ _; subst this; exact NeZero.pos n)⟩)

/-- The single counter of an array of one. -/
def cell0 (Q : DmaSems sig S_) : SemLoc sig := .dma Q.sem

/-- The counter a slice at position `k` names. -/
theorem cell_eq {n : ℕ} [NeZero n] (Q : DmaSems sig ⟨1, ![n]⟩) {k : ℕ} {off : Fin 1 → ℕ} {inb} {h : (⟨1, ![1]⟩ : Shape).Squeezes S_}
    (h0 : off 0 = k) :
    cell Q k = .dma ((Q.slice (Rect.unit (s := ⟨1, ![n]⟩) off (⟨1, ![1]⟩ : Shape).size inb)).squeeze S_ h).sem := by
  have hk : off 0 + 1 ≤ n := inb 0
  refine congrArg SemLoc.dma (congrArg Q.ix (funext fun a => Fin.ext ?_))
  have : a = 0 := Subsingleton.elim _ _
  subst this
  have key (j : (⟨1, ![1]⟩ : Shape).Idx) : k % n = off 0 + 1 * (j 0 : ℕ) := by
    have hj := (j 0).isLt
    change _ < 1 at hj
    have : k % n = k := Nat.mod_eq_of_lt (by omega)
    omega
  exact key _

/-! ## Indices by row and column -/

section
variable {α : Type} {d0 d1 d2 e0 e1 e2 : ℕ}

/-- The index at row `a`, column `b` (each modulo the extent). -/
def mk2 (d0 d1 : ℕ) [NeZero d0] [NeZero d1] (a b : ℕ) : (⟨2, ![d0, d1]⟩ : Shape).Idx :=
  fun k => ⟨![a % d0, b % d1] k, (Fin.forall_fin_two.mpr ⟨Nat.mod_lt a (NeZero.pos d0), Nat.mod_lt b (NeZero.pos d1)⟩ : ∀ k, ![a % d0, b % d1] k < ![d0, d1] k) k⟩

/-- The index at plane `a`, row `b`, column `c` (each modulo the extent). -/
def mk3 (d0 d1 d2 : ℕ) [NeZero d0] [NeZero d1] [NeZero d2] (a b c : ℕ) : (⟨3, ![d0, d1, d2]⟩ : Shape).Idx :=
  fun k => ⟨![a % d0, b % d1, c % d2] k,
    (Fin.forall_fin_succ.mpr ⟨Nat.mod_lt a (NeZero.pos d0), Fin.forall_fin_two.mpr ⟨Nat.mod_lt b (NeZero.pos d1), Nat.mod_lt c (NeZero.pos d2)⟩⟩ :
      ∀ k, ![a % d0, b % d1, c % d2] k < ![d0, d1, d2] k) k⟩

theorem ext2 {i j : (⟨2, ![d0, d1]⟩ : Shape).Idx} (h0 : (i 0 : ℕ) = j 0) (h1 : (i 1 : ℕ) = j 1) : i = j :=
  funext (Fin.forall_fin_two.mpr ⟨Fin.ext h0, Fin.ext h1⟩)

theorem ext3 {i j : (⟨3, ![d0, d1, d2]⟩ : Shape).Idx} (h0 : (i 0 : ℕ) = j 0) (h1 : (i 1 : ℕ) = j 1) (h2 : (i 2 : ℕ) = j 2) : i = j :=
  funext (Fin.forall_fin_succ.mpr ⟨Fin.ext h0, Fin.forall_fin_two.mpr ⟨Fin.ext h1, Fin.ext h2⟩⟩)

theorem lt0 (i : (⟨2, ![d0, d1]⟩ : Shape).Idx) : (i 0 : ℕ) < d0 := (i 0).isLt
theorem lt1 (i : (⟨2, ![d0, d1]⟩ : Shape).Idx) : (i 1 : ℕ) < d1 := (i 1).isLt
theorem lt30 (i : (⟨3, ![d0, d1, d2]⟩ : Shape).Idx) : (i 0 : ℕ) < d0 := (i 0).isLt
theorem lt31 (i : (⟨3, ![d0, d1, d2]⟩ : Shape).Idx) : (i 1 : ℕ) < d1 := (i 1).isLt
theorem lt32 (i : (⟨3, ![d0, d1, d2]⟩ : Shape).Idx) : (i 2 : ℕ) < d2 := (i 2).isLt

variable [NeZero d0] [NeZero d1] [NeZero d2]

/-- The rectangle of `X` from row `a`, column `b`. -/
def sub2 (X : (⟨2, ![d0, d1]⟩ : Shape).Idx → α) (a b : ℕ) : (⟨2, ![e0, e1]⟩ : Shape).Idx → α :=
  fun j => X (mk2 d0 d1 (a + j 0) (b + j 1))

/-- The box of `X` from plane `a`, row `b`, column `c`. -/
def sub3 (X : (⟨3, ![d0, d1, d2]⟩ : Shape).Idx → α) (a b c : ℕ) : (⟨3, ![e0, e1, e2]⟩ : Shape).Idx → α :=
  fun j => X (mk3 d0 d1 d2 (a + j 0) (b + j 1) (c + j 2))

theorem emb2 {off : Fin 2 → ℕ} {inb} {a b : ℕ} (h0 : off 0 = a) (h1 : off 1 = b) (j : (⟨2, ![e0, e1]⟩ : Shape).Idx) :
    (Rect.unit (s := ⟨2, ![d0, d1]⟩) off (⟨2, ![e0, e1]⟩ : Shape).size inb).emb j = mk2 d0 d1 (a + j 0) (b + j 1) := by
  have := lt0 j; have := lt1 j
  have i0 : off 0 + e0 ≤ d0 := inb 0
  have i1 : off 1 + e1 ≤ d1 := inb 1
  refine ext2 ?_ ?_
  · show off 0 + 1 * (j 0 : ℕ) = (a + j 0) % d0
    rw [Nat.mod_eq_of_lt (by omega)]; omega
  · show off 1 + 1 * (j 1 : ℕ) = (b + j 1) % d1
    rw [Nat.mod_eq_of_lt (by omega)]; omega

theorem emb3 {off : Fin 3 → ℕ} {inb} {a b c : ℕ} (h0 : off 0 = a) (h1 : off 1 = b) (h2 : off 2 = c) (j : (⟨3, ![e0, e1, e2]⟩ : Shape).Idx) :
    (Rect.unit (s := ⟨3, ![d0, d1, d2]⟩) off (⟨3, ![e0, e1, e2]⟩ : Shape).size inb).emb j = mk3 d0 d1 d2 (a + j 0) (b + j 1) (c + j 2) := by
  have := lt30 j; have := lt31 j; have := lt32 j
  have i0 : off 0 + e0 ≤ d0 := inb 0
  have i1 : off 1 + e1 ≤ d1 := inb 1
  have i2 : off 2 + e2 ≤ d2 := inb 2
  refine ext3 ?_ ?_ ?_
  · show off 0 + 1 * (j 0 : ℕ) = (a + j 0) % d0
    rw [Nat.mod_eq_of_lt (by omega)]; omega
  · show off 1 + 1 * (j 1 : ℕ) = (b + j 1) % d1
    rw [Nat.mod_eq_of_lt (by omega)]; omega
  · show off 2 + 1 * (j 2 : ℕ) = (c + j 2) % d2
    rw [Nat.mod_eq_of_lt (by omega)]; omega

/-- Membership in a rectangle, by row and column. -/
theorem mem2 {off : Fin 2 → ℕ} {inb} {a b : ℕ} (h0 : off 0 = a) (h1 : off 1 = b) (i : (⟨2, ![d0, d1]⟩ : Shape).Idx) :
    i ∈ (Rect.unit (s := ⟨2, ![d0, d1]⟩) off (⟨2, ![e0, e1]⟩ : Shape).size inb).set
      ↔ (a ≤ i 0 ∧ (i 0 : ℕ) < a + e0) ∧ (b ≤ i 1 ∧ (i 1 : ℕ) < b + e1) := by
  rw [Rect.mem_set_unit, Fin.forall_fin_two, h0, h1]; rfl

theorem mem3 {off : Fin 3 → ℕ} {inb} {a b c : ℕ} (h0 : off 0 = a) (h1 : off 1 = b) (h2 : off 2 = c) (i : (⟨3, ![d0, d1, d2]⟩ : Shape).Idx) :
    i ∈ (Rect.unit (s := ⟨3, ![d0, d1, d2]⟩) off (⟨3, ![e0, e1, e2]⟩ : Shape).size inb).set
      ↔ (a ≤ i 0 ∧ (i 0 : ℕ) < a + e0) ∧ (b ≤ i 1 ∧ (i 1 : ℕ) < b + e1) ∧ (c ≤ i 2 ∧ (i 2 : ℕ) < c + e2) := by
  rw [Rect.mem_set_unit, Fin.forall_fin_succ, Fin.forall_fin_two, show (Fin.succ 0 : Fin 3) = 1 from rfl, show (Fin.succ 1 : Fin 3) = 2 from rfl, h0, h1, h2]; rfl

end

/-! ## Parts of the arrays

Step `7 * t + c` is column block `c` (1024 columns) of token tile `t` (512 tokens). -/

/-- The steps `a ≤ n < b` of a [tokens, hidden] array. -/
def stI (a b : ℕ) : Finset S2048x7168.Idx :=
  Finset.univ.filter fun i => a ≤ 7 * ((i 0 : ℕ) / 512) + (i 1 : ℕ) / 1024 ∧ 7 * ((i 0 : ℕ) / 512) + (i 1 : ℕ) / 1024 < b

/-- The row blocks `a ≤ c < b` (1024 rows) of a [hidden, experts] array. -/
def rI (a b : ℕ) : Finset S7168x256.Idx := Finset.univ.filter fun i => a ≤ (i 0 : ℕ) / 1024 ∧ (i 0 : ℕ) / 1024 < b

/-- The token tiles `a ≤ t < b` of a [tokens, experts] array. -/
def tI (a b : ℕ) : Finset S2048x256.Idx := Finset.univ.filter fun i => a ≤ (i 0 : ℕ) / 512 ∧ (i 0 : ℕ) / 512 < b

/-- Slot `k` of an array of slots. -/
def sl (n d0 d1 k : ℕ) : Finset (⟨3, ![n, d0, d1]⟩ : Shape).Idx := Finset.univ.filter fun i => (i 0 : ℕ) = k

theorem mem_stI {a b : ℕ} {i : S2048x7168.Idx} :
    i ∈ stI a b ↔ a ≤ 7 * ((i 0 : ℕ) / 512) + (i 1 : ℕ) / 1024 ∧ 7 * ((i 0 : ℕ) / 512) + (i 1 : ℕ) / 1024 < b := by
  simp [stI]
theorem mem_rI {a b : ℕ} {i : S7168x256.Idx} : i ∈ rI a b ↔ a ≤ (i 0 : ℕ) / 1024 ∧ (i 0 : ℕ) / 1024 < b := by simp [rI]
theorem mem_tI {a b : ℕ} {i : S2048x256.Idx} : i ∈ tI a b ↔ a ≤ (i 0 : ℕ) / 512 ∧ (i 0 : ℕ) / 512 < b := by simp [tI]
theorem mem_sl {n d0 d1 k : ℕ} {i : (⟨3, ![n, d0, d1]⟩ : Shape).Idx} : i ∈ sl n d0 d1 k ↔ (i 0 : ℕ) = k := by simp [sl]

theorem stI_union {a b m : ℕ} (h1 : a ≤ m) (h2 : m ≤ b) : stI a b = stI a m ∪ stI m b := by
  ext i; simp only [Finset.mem_union, mem_stI]; omega
theorem stI_disj {a b m m' : ℕ} (h : m ≤ m') : Disjoint (stI a m) (stI m' b) := by
  rw [Finset.disjoint_left]; intro i; simp only [mem_stI]; omega
theorem rI_union {a b m : ℕ} (h1 : a ≤ m) (h2 : m ≤ b) : rI a b = rI a m ∪ rI m b := by
  ext i; simp only [Finset.mem_union, mem_rI]; omega
theorem rI_disj {a b m m' : ℕ} (h : m ≤ m') : Disjoint (rI a m) (rI m' b) := by
  rw [Finset.disjoint_left]; intro i; simp only [mem_rI]; omega
theorem tI_union {a b m : ℕ} (h1 : a ≤ m) (h2 : m ≤ b) : tI a b = tI a m ∪ tI m b := by
  ext i; simp only [Finset.mem_union, mem_tI]; omega
theorem tI_disj {a b m m' : ℕ} (h : m ≤ m') : Disjoint (tI a m) (tI m' b) := by
  rw [Finset.disjoint_left]; intro i; simp only [mem_tI]; omega

theorem stI_univ : stI 0 28 = Finset.univ := by
  ext i; have := lt0 i; have := lt1 i; simp only [mem_stI, Finset.mem_univ, iff_true]; omega
theorem rI_univ : rI 0 7 = Finset.univ := by
  ext i; have := lt0 i; simp only [mem_rI, Finset.mem_univ, iff_true]; omega
theorem tI_univ : tI 0 4 = Finset.univ := by
  ext i; have := lt0 i; simp only [mem_tI, Finset.mem_univ, iff_true]; omega
theorem stI_empty {a b : ℕ} (h : b ≤ a) : stI a b = ∅ := by
  ext i; simp only [mem_stI, Finset.notMem_empty, iff_false]; omega

/-- The rectangle of step `n`. -/
theorem rect_st {off : Fin 2 → ℕ} {inb} {a b n : ℕ} (h0 : off 0 = a) (h1 : off 1 = b) (ha : a = 512 * (n / 7)) (hb : b = 1024 * (n % 7)) :
    (Rect.unit (s := S2048x7168) off S512x1024.size inb).set = stI n (n + 1) := by
  ext i
  have := lt0 i; have := lt1 i
  rw [mem2 h0 h1, mem_stI]; omega

theorem rect_r {off : Fin 2 → ℕ} {inb} {a n : ℕ} (h0 : off 0 = a) (h1 : off 1 = 0) (ha : a = 1024 * n) :
    (Rect.unit (s := S7168x256) off S1024x256.size inb).set = rI n (n + 1) := by
  ext i
  have := lt0 i; have := lt1 i
  rw [mem2 h0 h1, mem_rI]; omega

theorem rect_t {off : Fin 2 → ℕ} {inb} {a n : ℕ} (h0 : off 0 = a) (h1 : off 1 = 0) (ha : a = 512 * n) :
    (Rect.unit (s := S2048x256) off S512x256.size inb).set = tI n (n + 1) := by
  ext i
  have := lt0 i; have := lt1 i
  rw [mem2 h0 h1, mem_tI]; omega

theorem rect_sl {n d0 d1 : ℕ} [NeZero n] [NeZero d0] [NeZero d1] {off : Fin 3 → ℕ} {inb} {k : ℕ} (h0 : off 0 = k) (h1 : off 1 = 0) (h2 : off 2 = 0) :
    (Rect.unit (s := ⟨3, ![n, d0, d1]⟩) off (⟨3, ![1, d0, d1]⟩ : Shape).size inb).set = sl n d0 d1 k := by
  ext i
  have := lt31 i; have := lt32 i
  rw [mem3 h0 h1 h2, mem_sl]; omega

/-! ## Ownership on this core -/

variable (c : Dev nD)

/-- `own` on core `c`. -/
abbrev O {sp : Space} {s : Shape} {e : EltTy} (m : Memref sig .tc sp s e) (S : Finset s.Idx) (X : s.Idx → Elt F e) : sProp 𝕄 :=
  own (Val := Elt F) (Ix := Unit) (Name := ℕ) (U := Pipeline.UD sig nD τ) (Lvl := ℕ) (c : Thread nD τ) m S X

/-- The counters' side of the ghost state. -/
abbrev EC : UEmb Counters 𝕄 := countersEmb (U := Pipeline.UD sig nD τ)

abbrev Sem0 (s : SemLoc sig) : sProp 𝕄 := semVal ((c : Thread nD τ), s) 0

abbrev Ow : sProp 𝕄 := iprop(∃ W, owes (c : Thread nD τ) 0 W)

section Access
variable {d0 d1 d2 e0 e1 e2 : ℕ} [NeZero d0] [NeZero d1] [NeZero d2] {e : EltTy}

/-- A load of a rectangle of a held array. -/
theorem load2 {cs : CoreSpace} {m : Memref sig .tc cs ⟨2, ![d0, d1]⟩ e} {off : Fin 2 → ℕ} {inb}
    {hl : m.view.LoadsAt (Rect.unit (s := ⟨2, ![d0, d1]⟩) off (⟨2, ![e0, e1]⟩ : Shape).size inb).toLoadRect} {S : Finset (⟨2, ![d0, d1]⟩ : Shape).Idx}
    {X : (⟨2, ![d0, d1]⟩ : Shape).Idx → Elt F e} {Q : ((⟨2, ![e0, e1]⟩ : Shape).Idx → Elt F e) → sProp 𝕄} (a b : ℕ) (h0 : off 0 = a) (h1 : off 1 = b)
    (hS : (Rect.unit (s := ⟨2, ![d0, d1]⟩) off (⟨2, ![e0, e1]⟩ : Shape).size inb).set ⊆ S) :
    O c m S X ⊢ iprop((O c m S X -∗ Q (sub2 X a b))
        -∗ wp frame (wpE (defs₀ (F := F)) Variants.none (c : Thread nD τ) none) Set.univ (Prog.lift (.load m (Rect.unit (s := ⟨2, ![d0, d1]⟩) off (⟨2, ![e0, e1]⟩ : Shape).size inb).toLoadRect hl)) Q) := by
  have h : (fun j => X ((Rect.unit (s := ⟨2, ![d0, d1]⟩) off (⟨2, ![e0, e1]⟩ : Shape).size inb).emb j)) = sub2 X a b :=
    funext fun j => congrArg X (emb2 h0 h1 j)
  rw [← h]
  exact own_load (c : Thread nD τ) Variants.none none hS

theorem load3 {cs : CoreSpace} {m : Memref sig .tc cs ⟨3, ![d0, d1, d2]⟩ e} {off : Fin 3 → ℕ} {inb}
    {hl : m.view.LoadsAt (Rect.unit (s := ⟨3, ![d0, d1, d2]⟩) off (⟨3, ![e0, e1, e2]⟩ : Shape).size inb).toLoadRect} {S : Finset (⟨3, ![d0, d1, d2]⟩ : Shape).Idx}
    {X : (⟨3, ![d0, d1, d2]⟩ : Shape).Idx → Elt F e} {Q : ((⟨3, ![e0, e1, e2]⟩ : Shape).Idx → Elt F e) → sProp 𝕄} (a b d : ℕ) (h0 : off 0 = a) (h1 : off 1 = b) (h2 : off 2 = d)
    (hS : (Rect.unit (s := ⟨3, ![d0, d1, d2]⟩) off (⟨3, ![e0, e1, e2]⟩ : Shape).size inb).set ⊆ S) :
    O c m S X ⊢ iprop((O c m S X -∗ Q (sub3 X a b d))
        -∗ wp frame (wpE (defs₀ (F := F)) Variants.none (c : Thread nD τ) none) Set.univ (Prog.lift (.load m (Rect.unit (s := ⟨3, ![d0, d1, d2]⟩) off (⟨3, ![e0, e1, e2]⟩ : Shape).size inb).toLoadRect hl)) Q) := by
  have h : (fun j => X ((Rect.unit (s := ⟨3, ![d0, d1, d2]⟩) off (⟨3, ![e0, e1, e2]⟩ : Shape).size inb).emb j)) = sub3 X a b d :=
    funext fun j => congrArg X (emb3 h0 h1 h2 j)
  rw [← h]
  exact own_load (c : Thread nD τ) Variants.none none hS

/-- A store of a rectangle into a held array. -/
theorem store2 {cs : CoreSpace} {m : Memref sig .tc cs ⟨2, ![d0, d1]⟩ e} {off : Fin 2 → ℕ} {inb}
    {w : (⟨2, ![e0, e1]⟩ : Shape).Idx → Elt F e} {S : Finset (⟨2, ![d0, d1]⟩ : Shape).Idx}
    {hx : (m.access (Rect.unit (s := ⟨2, ![d0, d1]⟩) off (⟨2, ![e0, e1]⟩ : Shape).size inb)).Stores Finset.univ}
    {hm : (Finset.univ : Finset (⟨2, ![e0, e1]⟩ : Shape).Idx) = Finset.univ ∨ ∀ a, (Rect.unit (s := ⟨2, ![d0, d1]⟩) off (⟨2, ![e0, e1]⟩ : Shape).size inb).stride a = 1}
    {X : (⟨2, ![d0, d1]⟩ : Shape).Idx → Elt F e} {Q : PUnit → sProp 𝕄} (X' : (⟨2, ![d0, d1]⟩ : Shape).Idx → Elt F e) (a b : ℕ) (h0 : off 0 = a) (h1 : off 1 = b)
    (hS : (Rect.unit (s := ⟨2, ![d0, d1]⟩) off (⟨2, ![e0, e1]⟩ : Shape).size inb).set ⊆ S)
    (hin : sub2 X' a b = w) (hout : ∀ i ∈ S, ¬((a ≤ i 0 ∧ (i 0 : ℕ) < a + e0) ∧ (b ≤ i 1 ∧ (i 1 : ℕ) < b + e1)) → X' i = X i) :
    O c m S X ⊢ iprop((O c m S X' -∗ Q ⟨⟩)
        -∗ wp frame (wpE (defs₀ (F := F)) Variants.none (c : Thread nD τ) none) Set.univ (Prog.lift (.store m (Rect.unit (s := ⟨2, ![d0, d1]⟩) off (⟨2, ![e0, e1]⟩ : Shape).size inb) w Finset.univ hx hm)) Q) :=
  own_store (c : Thread nD τ) Variants.none none X' hS (fun j => (congrArg X' (emb2 h0 h1 j)).trans (congrFun hin j))
    (fun i hi hr => hout i hi (fun h => hr ((mem2 h0 h1 i).mpr h)))

theorem store3 {cs : CoreSpace} {m : Memref sig .tc cs ⟨3, ![d0, d1, d2]⟩ e} {off : Fin 3 → ℕ} {inb}
    {w : (⟨3, ![e0, e1, e2]⟩ : Shape).Idx → Elt F e} {S : Finset (⟨3, ![d0, d1, d2]⟩ : Shape).Idx}
    {hx : (m.access (Rect.unit (s := ⟨3, ![d0, d1, d2]⟩) off (⟨3, ![e0, e1, e2]⟩ : Shape).size inb)).Stores Finset.univ}
    {hm : (Finset.univ : Finset (⟨3, ![e0, e1, e2]⟩ : Shape).Idx) = Finset.univ ∨ ∀ a, (Rect.unit (s := ⟨3, ![d0, d1, d2]⟩) off (⟨3, ![e0, e1, e2]⟩ : Shape).size inb).stride a = 1}
    {X : (⟨3, ![d0, d1, d2]⟩ : Shape).Idx → Elt F e} {Q : PUnit → sProp 𝕄} (X' : (⟨3, ![d0, d1, d2]⟩ : Shape).Idx → Elt F e) (a b d : ℕ) (h0 : off 0 = a) (h1 : off 1 = b) (h2 : off 2 = d)
    (hS : (Rect.unit (s := ⟨3, ![d0, d1, d2]⟩) off (⟨3, ![e0, e1, e2]⟩ : Shape).size inb).set ⊆ S)
    (hin : sub3 X' a b d = w)
    (hout : ∀ i ∈ S, ¬((a ≤ i 0 ∧ (i 0 : ℕ) < a + e0) ∧ (b ≤ i 1 ∧ (i 1 : ℕ) < b + e1) ∧ (d ≤ i 2 ∧ (i 2 : ℕ) < d + e2)) → X' i = X i) :
    O c m S X ⊢ iprop((O c m S X' -∗ Q ⟨⟩)
        -∗ wp frame (wpE (defs₀ (F := F)) Variants.none (c : Thread nD τ) none) Set.univ (Prog.lift (.store m (Rect.unit (s := ⟨3, ![d0, d1, d2]⟩) off (⟨3, ![e0, e1, e2]⟩ : Shape).size inb) w Finset.univ hx hm)) Q) :=
  own_store (c : Thread nD τ) Variants.none none X' hS (fun j => (congrArg X' (emb3 h0 h1 h2 j)).trans (congrFun hin j))
    (fun i hi hr => hout i hi (fun h => hr ((mem3 h0 h1 h2 i).mpr h)))

end Access

end Cert.KernelIdeal.Val

end
-- ==== Proof.Contents.lean ====
/-
  What the kernel's buffers hold, as functions of what it reads and of what the router left after each token tile: the
  transposed weight, the accumulator of the logits after each column block, the weight gradient after each token tile,
  and the token gradient of each step; and each buffer while a step is part way through it.
-/
module

public import proofs.«01_k».proof.Proof.Setup
public import proofs.«01_k».proof.Proof.Gen.KernelIdeal.Skeleton

@[expose] public section

set_option maxRecDepth 16384

noncomputable section

namespace Cert.KernelIdeal.Val

open Cert.KernelIdeal Cert.KernelIdeal.Gen Cert.Own
open Idealize.ShloMosaic Idealize.ShloMosaic.TcCoe Idealize.ShloMosaic.Tactic

variable {F : FTy → Type} [FloatOps F]

/-- What the kernel reads of the tokens, the weight and the residual gradient, and what the router leaves of each token
    tile: the gradient of the logits rounded (`DL`), the same scaled and transposed (`DLS`), and unrounded (`DLO`). -/
structure Data (F : FTy → Type) [FloatOps F] where
  X : S2048x7168.Idx → Elt F .fp8e4m3
  W : S7168x256.Idx → Elt F .bf16
  DY : S2048x7168.Idx → Elt F .bf16
  DL : ℕ → S512x256.Idx → Elt F .bf16
  DLS : ℕ → S256x512.Idx → Elt F .bf16
  DLO : ℕ → S512x256.Idx → Elt F .f32

variable (d : Data F)

/-- The weight transposed, one block of 1024 columns after another. -/
def WT : S256x7168.Idx → Elt F .bf16 := fun i => k0_pay1 (sub2 d.W (1024 * ((i 1 : ℕ) / 1024)) 0) (mk2 256 1024 (i 0) ((i 1 : ℕ) % 1024))

/-- The transposed weight while its first `c` blocks are written. -/
def wtPart (Z : S256x7168.Idx → Elt F .bf16) (c : ℕ) : S256x7168.Idx → Elt F .bf16 := fun i => if (i 1 : ℕ) < 1024 * c then WT d i else Z i

/-- The accumulator's start. -/
def zeroAcc : S256x512.Idx → Elt F .f32 := constant S256x512 .f32 0x00000000#32

/-- The accumulator of token tile `t` after `c` column blocks. -/
def ACC (t : ℕ) : ℕ → S256x512.Idx → Elt F .f32
  | 0 => zeroAcc
  | c + 1 => fun i => k0_pay5 (sub2 (ACC t c) 0 (256 * ((i 1 : ℕ) / 256))) (sub2 (WT d) 0 (1024 * c))
      (sub2 d.X (512 * t + 256 * ((i 1 : ℕ) / 256)) (1024 * c)) (mk2 256 256 (i 0) ((i 1 : ℕ) % 256))

/-- The accumulator while `g` of its pieces have taken column block `c`. -/
def accPart (t c g : ℕ) : S256x512.Idx → Elt F .f32 := fun i => if (i 1 : ℕ) < 256 * g then ACC d t (c + 1) i else ACC d t c i

def zeroDw : S256x7168.Idx → Elt F .f32 := constant S256x7168 .f32 0x00000000#32

/-- The weight gradient's sum over the first `t` token tiles. -/
def DWT : ℕ → S256x7168.Idx → Elt F .f32
  | 0 => zeroDw
  | t + 1 => fun i => k0_pay6 (sub2 (d.DLS t) 0 0) (sub2 d.X (512 * t) (256 * ((i 1 : ℕ) / 256)))
      (sub2 (DWT t) 0 (256 * ((i 1 : ℕ) / 256))) (mk2 256 256 (i 0) ((i 1 : ℕ) % 256))

/-- The weight gradient while its first `k` pieces have taken token tile `t`. -/
def dwPart (t k : ℕ) : S256x7168.Idx → Elt F .f32 := fun i => if (i 1 : ℕ) < 256 * k then DWT d (t + 1) i else DWT d t i

/-- The residual gradient of step `n` as its slot holds it. -/
def slotDY (n : ℕ) : S4x512x1024.Idx → Elt F .bf16 := fun i => d.DY (mk2 2048 7168 (512 * (n / 7) + i 1) (1024 * (n % 7) + i 2))

/-- One piece (256 tokens, 512 columns) of the token gradient of step `n`. -/
def dhP (n th ch : ℕ) : S1x256x512.Idx → Elt F .bf16 :=
  k0_pay4 (k0_pay3 (sub2 (d.DL (n / 7)) (256 * th) 0) (sub2 (WT d) 0 (1024 * (n % 7) + 512 * ch)) (sub3 (slotDY d n) (n % 4) (256 * th) (512 * ch)))

/-- The token gradient of step `n` as its slot holds it. -/
def slotDH (n : ℕ) : S3x512x1024.Idx → Elt F .bf16 := fun i => dhP d n ((i 1 : ℕ) / 256) ((i 2 : ℕ) / 512) (mk3 1 256 512 0 ((i 1 : ℕ) % 256) ((i 2 : ℕ) % 512))

/-- The slot while `k` of its four pieces are written. -/
def dhPart (n : ℕ) (Z : S3x512x1024.Idx → Elt F .bf16) (k : ℕ) : S3x512x1024.Idx → Elt F .bf16 :=
  fun i => if (i 1 : ℕ) / 256 + 2 * ((i 2 : ℕ) / 512) < k then slotDH d n i else Z i

/-- The token gradient. -/
def DH : S2048x7168.Idx → Elt F .bf16 := fun i => slotDH d (7 * ((i 0 : ℕ) / 512) + (i 1 : ℕ) / 1024) (mk3 3 512 1024 0 ((i 0 : ℕ) % 512) ((i 1 : ℕ) % 1024))

/-- The weight gradient of column block `c` as its slot holds it. -/
def slotDW (c : ℕ) : S2x1024x256.Idx → Elt F .f32 := fun i =>
  k0_pay421 (k0_pay420 (sub2 (d.DLS 3) 0 0) (sub2 d.X 1536 (1024 * c + 256 * ((i 1 : ℕ) / 256))) (sub2 (DWT d 3) 0 (1024 * c + 256 * ((i 1 : ℕ) / 256))))
    (mk3 1 256 256 0 ((i 1 : ℕ) % 256) (i 2))

def dwoPart (c : ℕ) (Z : S2x1024x256.Idx → Elt F .f32) (k : ℕ) : S2x1024x256.Idx → Elt F .f32 := fun i => if (i 1 : ℕ) < 256 * k then slotDW d c i else Z i

/-- The weight gradient. -/
def DW : S7168x256.Idx → Elt F .f32 := fun i => slotDW d ((i 0 : ℕ) / 1024) (mk3 2 1024 256 0 ((i 0 : ℕ) % 1024) (i 1))

/-- The gradient of the logits. -/
def DLOA : S2048x256.Idx → Elt F .f32 := fun i => d.DLO ((i 0 : ℕ) / 512) (mk2 512 256 ((i 0 : ℕ) % 512) (i 1))

/-! ## A piece written -/

theorem mk2_0 {d0 d1 : ℕ} [NeZero d0] [NeZero d1] (a b : ℕ) : ((mk2 d0 d1 a b 0 : Fin _) : ℕ) = a % d0 := rfl
theorem mk2_1 {d0 d1 : ℕ} [NeZero d0] [NeZero d1] (a b : ℕ) : ((mk2 d0 d1 a b 1 : Fin _) : ℕ) = b % d1 := rfl
theorem mk3_0 {d0 d1 d2 : ℕ} [NeZero d0] [NeZero d1] [NeZero d2] (a b c : ℕ) : ((mk3 d0 d1 d2 a b c 0 : Fin _) : ℕ) = a % d0 := rfl
theorem mk3_1 {d0 d1 d2 : ℕ} [NeZero d0] [NeZero d1] [NeZero d2] (a b c : ℕ) : ((mk3 d0 d1 d2 a b c 1 : Fin _) : ℕ) = b % d1 := rfl
theorem mk3_2 {d0 d1 d2 : ℕ} [NeZero d0] [NeZero d1] [NeZero d2] (a b c : ℕ) : ((mk3 d0 d1 d2 a b c 2 : Fin _) : ℕ) = c % d2 := rfl

variable {d}

theorem accPart_zero (t c : ℕ) : accPart d t c 0 = ACC d t c := by funext i; simp [accPart]
theorem accPart_two (t c : ℕ) : accPart d t c 2 = ACC d t (c + 1) := by
  funext i; have := lt1 i; rw [accPart, if_pos (by omega)]

theorem acc_in {t c g a b : ℕ} (hg : g < 2) (hb : b = 256 * g) (ha : a = 512 * t + 256 * g) :
    (sub2 (accPart d t c (g + 1)) 0 b : S256x256.Idx → Elt F .f32)
      = k0_pay5 (sub2 (accPart d t c g) 0 b) (sub2 (WT d) 0 (1024 * c)) (sub2 d.X a (1024 * c)) := by
  subst hb ha
  have h : (sub2 (accPart d t c g) 0 (256 * g) : S256x256.Idx → Elt F .f32) = sub2 (ACC d t c) 0 (256 * g) := by
    funext j
    have := lt1 j
    have h1 : ((mk2 256 512 (0 + j 0) (256 * g + j 1) 1 : Fin _) : ℕ) = 256 * g + j 1 := Nat.mod_eq_of_lt (by omega)
    simp only [sub2, accPart, h1]
    rw [if_neg (by omega)]
  rw [h]
  funext j
  have := lt0 j
  have := lt1 j
  have h1 : ((mk2 256 512 (0 + j 0) (256 * g + j 1) 1 : Fin _) : ℕ) = 256 * g + j 1 := Nat.mod_eq_of_lt (by omega)
  have hd : (256 * g + (j 1 : ℕ)) / 256 = g := by omega
  simp only [sub2, accPart, h1]
  rw [if_pos (by omega), ACC]
  simp only [h1, hd]
  refine congrArg _ (ext2 ?_ ?_)
  · show (0 + (j 0 : ℕ)) % 256 % 256 = j 0; omega
  · show ((256 * g + (j 1 : ℕ)) % 256) % 256 = j 1; omega

theorem acc_out {t c g b : ℕ} (hb : b = 256 * g) (i : S256x512.Idx) (h : ¬((0 ≤ (i 0 : ℕ) ∧ (i 0 : ℕ) < 0 + 256) ∧ (b ≤ (i 1 : ℕ) ∧ (i 1 : ℕ) < b + 256))) :
    accPart d t c (g + 1) i = accPart d t c g i := by
  have := lt0 i
  unfold accPart
  by_cases h1 : (i 1 : ℕ) < 256 * g
  · rw [if_pos (by omega), if_pos h1]
  · rw [if_neg (by omega), if_neg h1]

theorem dwPart_zero (t : ℕ) : dwPart d t 0 = DWT d t := by funext i; simp [dwPart]
theorem dwPart_all (t : ℕ) : dwPart d t 28 = DWT d (t + 1) := by
  funext i; have := lt1 i; rw [dwPart, if_pos (by omega)]

theorem dw_in {t k a b : ℕ} (hk : k < 28) (hb : b = 256 * k) (ha : a = 512 * t) :
    (sub2 (dwPart d t (k + 1)) 0 b : S256x256.Idx → Elt F .f32)
      = k0_pay6 (sub2 (d.DLS t) 0 0) (sub2 d.X a b) (sub2 (dwPart d t k) 0 b) := by
  subst hb ha
  have h : (sub2 (dwPart d t k) 0 (256 * k) : S256x256.Idx → Elt F .f32) = sub2 (DWT d t) 0 (256 * k) := by
    funext j
    have := lt1 j
    have h1 : ((mk2 256 7168 (0 + j 0) (256 * k + j 1) 1 : Fin _) : ℕ) = 256 * k + j 1 := Nat.mod_eq_of_lt (by omega)
    simp only [sub2, dwPart, h1]
    rw [if_neg (by omega)]
  rw [h]
  funext j
  have := lt0 j
  have := lt1 j
  have h1 : ((mk2 256 7168 (0 + j 0) (256 * k + j 1) 1 : Fin _) : ℕ) = 256 * k + j 1 := Nat.mod_eq_of_lt (by omega)
  have hd : (256 * k + (j 1 : ℕ)) / 256 = k := by omega
  simp only [sub2, dwPart, h1]
  rw [if_pos (by omega), DWT]
  simp only [h1, hd]
  refine congrArg _ (ext2 ?_ ?_)
  · show (0 + (j 0 : ℕ)) % 256 % 256 = j 0; omega
  · show ((256 * k + (j 1 : ℕ)) % 256) % 256 = j 1; omega

theorem dw_out {t k b : ℕ} (hb : b = 256 * k) (i : S256x7168.Idx) (h : ¬((0 ≤ (i 0 : ℕ) ∧ (i 0 : ℕ) < 0 + 256) ∧ (b ≤ (i 1 : ℕ) ∧ (i 1 : ℕ) < b + 256))) :
    dwPart d t (k + 1) i = dwPart d t k i := by
  have := lt0 i
  unfold dwPart
  by_cases h1 : (i 1 : ℕ) < 256 * k
  · rw [if_pos (by omega), if_pos h1]
  · rw [if_neg (by omega), if_neg h1]

theorem wtPart_all (Z : S256x7168.Idx → Elt F .bf16) : wtPart d Z 7 = WT d := by
  funext i; have := lt1 i; rw [wtPart, if_pos (by omega)]

theorem wt_in {Z : S256x7168.Idx → Elt F .bf16} {c b : ℕ} (hc : c < 7) (hb : b = 1024 * c) :
    (sub2 (wtPart d Z (c + 1)) 0 b : S256x1024.Idx → Elt F .bf16) = k0_pay1 (sub2 d.W b 0) := by
  subst hb
  funext j
  have := lt0 j
  have := lt1 j
  have h1 : ((mk2 256 7168 (0 + j 0) (1024 * c + j 1) 1 : Fin _) : ℕ) = 1024 * c + j 1 := Nat.mod_eq_of_lt (by omega)
  have hd : (1024 * c + (j 1 : ℕ)) / 1024 = c := by omega
  simp only [sub2, wtPart, h1]
  rw [if_pos (by omega)]
  simp only [WT, h1, hd]
  refine congrArg _ (ext2 ?_ ?_)
  · show (0 + (j 0 : ℕ)) % 256 % 256 = j 0; omega
  · show ((1024 * c + (j 1 : ℕ)) % 1024) % 1024 = j 1; omega

theorem wt_out {Z : S256x7168.Idx → Elt F .bf16} {c b : ℕ} (hb : b = 1024 * c) (i : S256x7168.Idx)
    (h : ¬((0 ≤ (i 0 : ℕ) ∧ (i 0 : ℕ) < 0 + 256) ∧ (b ≤ (i 1 : ℕ) ∧ (i 1 : ℕ) < b + 1024))) : wtPart d Z (c + 1) i = wtPart d Z c i := by
  have := lt0 i
  unfold wtPart
  by_cases h1 : (i 1 : ℕ) < 1024 * c
  · rw [if_pos (by omega), if_pos h1]
  · rw [if_neg (by omega), if_neg h1]

/-- A block of the transposed weight, read while the part up to it is written. -/
theorem wtPart_read {Z : S256x7168.Idx → Elt F .bf16} {c b : ℕ} (hc : c < 7) (hb : b = 1024 * c) :
    (sub2 (wtPart d Z (c + 1)) 0 b : S256x1024.Idx → Elt F .bf16) = sub2 (WT d) 0 b := by
  subst hb
  funext j
  have := lt1 j
  have h1 : ((mk2 256 7168 (0 + j 0) (1024 * c + j 1) 1 : Fin _) : ℕ) = 1024 * c + j 1 := Nat.mod_eq_of_lt (by omega)
  simp only [sub2, wtPart, h1]
  rw [if_pos (by omega)]

theorem dhPart_all {n : ℕ} (Z : S3x512x1024.Idx → Elt F .bf16) : dhPart d n Z 4 = slotDH d n := by
  funext i; have := lt31 i; have := lt32 i; rw [dhPart, if_pos (by omega)]

theorem dh_in {n t th ch m a b w : ℕ} {Z : S3x512x1024.Idx → Elt F .bf16} (hth : th < 2) (hch : ch < 2) (ht : n / 7 = t) (hm : m = n % 3) (ha : a = 256 * th) (hb : b = 512 * ch)
    (hw : w = 1024 * (n % 7) + b) {q : ℕ} (hq : q = n % 4) :
    (sub3 (dhPart d n Z (th + 2 * ch + 1)) m a b : S1x256x512.Idx → Elt F .bf16)
      = k0_pay4 (k0_pay3 (sub2 (d.DL t) a 0) (sub2 (WT d) 0 w) (sub3 (slotDY d n) q a b)) := by
  subst ht hm ha hb hw hq
  funext j
  have h0 := lt30 j
  have h1 := lt31 j
  have h2 := lt32 j
  have e1 : ((mk3 3 512 1024 (n % 3 + j 0) (256 * th + j 1) (512 * ch + j 2) 1 : Fin _) : ℕ) = 256 * th + j 1 := Nat.mod_eq_of_lt (by omega)
  have e2 : ((mk3 3 512 1024 (n % 3 + j 0) (256 * th + j 1) (512 * ch + j 2) 2 : Fin _) : ℕ) = 512 * ch + j 2 := Nat.mod_eq_of_lt (by omega)
  have d1 : (256 * th + (j 1 : ℕ)) / 256 = th := by omega
  have d2 : (512 * ch + (j 2 : ℕ)) / 512 = ch := by omega
  simp only [sub3, dhPart, e1, e2, d1, d2]
  rw [if_pos (by omega)]
  simp only [slotDH, e1, e2, d1, d2]
  refine congrArg (k0_pay4 _) (ext3 ?_ ?_ ?_)
  · show 0 % 1 = (j 0 : ℕ); omega
  · show ((256 * th + (j 1 : ℕ)) % 256) % 256 = j 1; omega
  · show ((512 * ch + (j 2 : ℕ)) % 512) % 512 = j 2; omega

theorem dh_out {n th ch m a b : ℕ} {Z : S3x512x1024.Idx → Elt F .bf16} (hth : th < 2) (hch : ch < 2) (ha : a = 256 * th) (hb : b = 512 * ch) (i : S3x512x1024.Idx)
    (hi : i ∈ sl 3 512 1024 m)
    (h : ¬((m ≤ (i 0 : ℕ) ∧ (i 0 : ℕ) < m + 1) ∧ (a ≤ (i 1 : ℕ) ∧ (i 1 : ℕ) < a + 256) ∧ (b ≤ (i 2 : ℕ) ∧ (i 2 : ℕ) < b + 512))) :
    dhPart d n Z (th + 2 * ch + 1) i = dhPart d n Z (th + 2 * ch) i := by
  have := lt31 i
  have := lt32 i
  rw [mem_sl] at hi
  unfold dhPart
  by_cases h1 : (i 1 : ℕ) / 256 + 2 * ((i 2 : ℕ) / 512) < th + 2 * ch
  · rw [if_pos (by omega), if_pos h1]
  · rw [if_neg (by omega), if_neg h1]

theorem dwoPart_all {c : ℕ} (Z : S2x1024x256.Idx → Elt F .f32) : dwoPart d c Z 4 = slotDW d c := by
  funext i; have := lt31 i; rw [dwoPart, if_pos (by omega)]

theorem dwo_in {c p m a b : ℕ} {Z : S2x1024x256.Idx → Elt F .f32} (hp : p < 4) (hm : m = c % 2) (ha : a = 256 * p) (hb : b = 1024 * c + 256 * p) :
    (sub3 (dwoPart d c Z (p + 1)) m a 0 : S1x256x256.Idx → Elt F .f32)
      = k0_pay421 (k0_pay420 (sub2 (d.DLS 3) 0 0) (sub2 d.X 1536 b) (sub2 (DWT d 3) 0 b)) := by
  subst hm ha hb
  funext j
  have h0 := lt30 j
  have h1 := lt31 j
  have h2 := lt32 j
  have e1 : ((mk3 2 1024 256 (c % 2 + j 0) (256 * p + j 1) (0 + j 2) 1 : Fin _) : ℕ) = 256 * p + j 1 := Nat.mod_eq_of_lt (by omega)
  have e2 : ((mk3 2 1024 256 (c % 2 + j 0) (256 * p + j 1) (0 + j 2) 2 : Fin _) : ℕ) = j 2 := by
    show (0 + (j 2 : ℕ)) % 256 = _; omega
  have d1 : (256 * p + (j 1 : ℕ)) / 256 = p := by omega
  simp only [sub3, dwoPart, e1]
  rw [if_pos (by omega)]
  simp only [slotDW, e1, e2, d1]
  refine congrArg (k0_pay421 _) (ext3 ?_ ?_ ?_)
  · show 0 % 1 = (j 0 : ℕ); omega
  · show ((256 * p + (j 1 : ℕ)) % 256) % 256 = j 1; omega
  · show (j 2 : ℕ) % 256 = j 2; omega

theorem dwo_out {c p m a : ℕ} {Z : S2x1024x256.Idx → Elt F .f32} (hp : p < 4) (ha : a = 256 * p) (i : S2x1024x256.Idx)
    (hi : i ∈ sl 2 1024 256 m)
    (h : ¬((m ≤ (i 0 : ℕ) ∧ (i 0 : ℕ) < m + 1) ∧ (a ≤ (i 1 : ℕ) ∧ (i 1 : ℕ) < a + 256) ∧ (0 ≤ (i 2 : ℕ) ∧ (i 2 : ℕ) < 0 + 256))) :
    dwoPart d c Z (p + 1) i = dwoPart d c Z p i := by
  have := lt32 i
  rw [mem_sl] at hi
  unfold dwoPart
  by_cases h1 : (i 1 : ℕ) < 256 * p
  · rw [if_pos (by omega), if_pos h1]
  · rw [if_neg (by omega), if_neg h1]

end Cert.KernelIdeal.Val

end
-- ==== Proof.Moves.lean ====
/-
  The kernel's copies: windows between the arrays in HBM and the buffers, each with what it takes and what its delivery
  holds, and the state of every buffer with a copy in flight.
-/
module

public import proofs.«01_k».proof.Proof.Contents

@[expose] public section

set_option maxRecDepth 16384

noncomputable section

namespace Cert.KernelIdeal.Val

open Cert.KernelIdeal Cert.KernelIdeal.Gen Cert.Own
open Idealize.ShloMosaic Idealize.ShloMosaic.TcCoe Idealize.ShloMosaic.Tactic
open Idealize.SL Idealize.SL.RA Idealize.SL.BI
open scoped Idealize.SL.BI
open Idealize.ShloMosaic.Transfers
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (d : Data F)

/-- The program `p` on this core. -/
abbrev Wp {α : Type} (p : Prog (TpuEff nD τ sig (Elt F) Λ₀ .tc) α) (Q : α → sProp 𝕄) : sProp 𝕄 :=
  wp frame (wpE (defs₀ (F := F)) Variants.none (c : Thread nD τ) none) Set.univ p Q

/-- A branch, from what each side does. -/
theorem wp_dite {α : Type} {φ : Prop} [Decidable φ] {f : φ → Prog (TpuEff nD τ sig (Elt F) Λ₀ .tc) α} {g : ¬φ → Prog (TpuEff nD τ sig (Elt F) Λ₀ .tc) α}
    {Q : α → sProp 𝕄} (P P' : sProp 𝕄) (hf : ∀ h, P ⊢ iprop((P' -∗ Wp c (f h) Q))) (hg : ∀ h, P ⊢ iprop((P' -∗ Wp c (g h) Q))) :
    P ⊢ iprop(P' -∗ Wp c (dite φ f g) Q) := by
  by_cases h : φ
  · rw [dif_pos h]; exact hf h
  · rw [dif_neg h]; exact hg h

theorem cell_mod {n : ℕ} [NeZero n] (Q : DmaSems sig ⟨1, ![n]⟩) (k : ℕ) : cell Q (k % n) = cell Q k := by
  unfold cell
  refine congrArg SemLoc.dma (congrArg Q.ix (funext fun a => Fin.ext ?_))
  have : a = 0 := Subsingleton.elim _ _
  subst this
  exact Nat.mod_mod _ _

/-- The counter a slice names, the position given modulo the row's length. -/
theorem cell_at {n : ℕ} [NeZero n] (Q : DmaSems sig ⟨1, ![n]⟩) {k : ℕ} {off : Fin 1 → ℕ} {inb} {h : (⟨1, ![1]⟩ : Shape).Squeezes S_}
    (h0 : off 0 = k % n) :
    cell Q k = .dma ((Q.slice (Rect.unit (s := ⟨1, ![n]⟩) off (⟨1, ![1]⟩ : Shape).size inb)).squeeze S_ h).sem :=
  (cell_mod Q k).symm.trans (cell_eq Q h0)

theorem cell_add {n : ℕ} [NeZero n] (Q : DmaSems sig ⟨1, ![n]⟩) (k : ℕ) : cell Q (k + n) = cell Q k := by
  rw [← cell_mod Q (k + n), Nat.add_mod_right, cell_mod]

section Copy
variable {n d0 d1 D0 D1 : ℕ} [NeZero n] [NeZero d0] [NeZero d1] [NeZero D0] [NeZero D1] {e : EltTy}

/-- The index of a plane's element in the array of slots. -/
theorem emb_sq {e0 e1 : ℕ} {off : Fin 3 → ℕ} {inb : ∀ a, off a + (⟨3, ![1, e0, e1]⟩ : Shape).size a ≤ (⟨3, ![n, d0, d1]⟩ : Shape).size a} {k a b : ℕ} (h0 : off 0 = k) (h1 : off 1 = a) (h2 : off 2 = b)
    (h : (⟨2, ![e0, e1]⟩ : Shape).numel = (⟨3, ![1, e0, e1]⟩ : Shape).numel) (j : (⟨2, ![e0, e1]⟩ : Shape).Idx) :
    (Rect.unit (s := ⟨3, ![n, d0, d1]⟩) off (⟨3, ![1, e0, e1]⟩ : Shape).size inb).emb (Shape.reshapeEquiv h j) = mk3 n d0 d1 k (a + j 0) (b + j 1) := by
  have hc := Shape.reshapeEquiv_cons_one h j
  refine (congrArg _ hc).trans ((emb3 h0 h1 h2 _).trans rfl)

/-- A copy of a rectangle of an array in HBM into a slot. -/
theorem enq_in {A : Memref sig .tc .hbm ⟨2, ![D0, D1]⟩ e} {B : Memref sig .tc .vmem ⟨3, ![n, d0, d1]⟩ e} {oA : Fin 2 → ℕ} {oB : Fin 3 → ℕ} {iA iB}
    {hrA hrB} {hsq : (⟨3, ![1, d0, d1]⟩ : Shape).Squeezes ⟨2, ![d0, d1]⟩} {sm cv : SemLoc sig} {hs hd ht} {N k a b : ℕ}
    {XA : (⟨2, ![D0, D1]⟩ : Shape).Idx → Elt F e} {XB : (⟨3, ![n, d0, d1]⟩ : Shape).Idx → Elt F e} {SA : Finset (⟨2, ![D0, D1]⟩ : Shape).Idx} {Q : PUnit → sProp 𝕄}
    (hcell : cv = sm)
    (hN : ((B.slice (Rect.unit (s := ⟨3, ![n, d0, d1]⟩) oB (⟨3, ![1, d0, d1]⟩ : Shape).size iB) hrB).squeeze ⟨2, ![d0, d1]⟩ hsq).view.amount sm = N) (hN0 : 0 < N)
    (hA0 : oA 0 = a) (hA1 : oA 1 = b) (hB0 : oB 0 = k) (hB1 : oB 1 = 0) (hB2 : oB 2 = 0)
    (hSA : (Rect.unit (s := ⟨2, ![D0, D1]⟩) oA (⟨2, ![d0, d1]⟩ : Shape).size iA).set = SA)
    (hX : ∀ j : (⟨2, ![d0, d1]⟩ : Shape).Idx, XA (mk2 D0 D1 (a + j 0) (b + j 1)) = XB (mk3 n d0 d1 k (j 0) (j 1))) :
    iprop(O c A SA XA ∗ (∃ Z, O c B (sl n d0 d1 k) Z) ∗ Sem0 c cv)
      ⊢ iprop((Flight (EC (F := F)) (c : Thread nD τ) cv () N iprop(O c B (sl n d0 d1 k) XB ∗ O c A SA XA) -∗ Q ⟨⟩)
          -∗ Wp c (Prog.lift (.enqueueDma (A.slice (Rect.unit (s := ⟨2, ![D0, D1]⟩) oA (⟨2, ![d0, d1]⟩ : Shape).size iA) hrA)
            (.here ((B.slice (Rect.unit (s := ⟨3, ![n, d0, d1]⟩) oB (⟨3, ![1, d0, d1]⟩ : Shape).size iB) hrB).squeeze ⟨2, ![d0, d1]⟩ hsq)) sm hs hd ht)) Q) := by
  refine dma (c : Thread nD τ) Variants.none none EC () hcell hN hN0 (Y := fun j => XA ((Rect.unit (s := ⟨2, ![D0, D1]⟩) oA (⟨2, ![d0, d1]⟩ : Shape).size iA).emb j))
    (to_slice (c : Thread nD τ) _ _ hSA) ?_ (of_slice (c : Thread nD τ) _ _ hSA fun _ => rfl)
    (of_squeezed (c : Thread nD τ) _ _ hsq (rect_sl hB0 hB1 hB2) fun j => ?_)
  · iintro ⟨%Z, H⟩
    iexists _
    iapply (to_squeezed (c : Thread nD τ) _ _ hsq (rect_sl hB0 hB1 hB2)) $$ H
  · rw [emb2 hA0 hA1, emb_sq hB0 hB1 hB2, hX, Nat.zero_add, Nat.zero_add]

/-- A copy of a slot into a rectangle of an array in HBM. -/
theorem enq_out {A : Memref sig .tc .hbm ⟨2, ![D0, D1]⟩ e} {B : Memref sig .tc .vmem ⟨3, ![n, d0, d1]⟩ e} {oA : Fin 2 → ℕ} {oB : Fin 3 → ℕ} {iA iB}
    {hrA hrB} {hsq : (⟨3, ![1, d0, d1]⟩ : Shape).Squeezes ⟨2, ![d0, d1]⟩} {sm cv : SemLoc sig} {hs hd ht} {N k a b : ℕ}
    {XA : (⟨2, ![D0, D1]⟩ : Shape).Idx → Elt F e} {XB : (⟨3, ![n, d0, d1]⟩ : Shape).Idx → Elt F e} {SA : Finset (⟨2, ![D0, D1]⟩ : Shape).Idx} {Q : PUnit → sProp 𝕄}
    (hcell : cv = sm)
    (hN : (A.slice (Rect.unit (s := ⟨2, ![D0, D1]⟩) oA (⟨2, ![d0, d1]⟩ : Shape).size iA) hrA).view.amount sm = N) (hN0 : 0 < N)
    (hA0 : oA 0 = a) (hA1 : oA 1 = b) (hB0 : oB 0 = k) (hB1 : oB 1 = 0) (hB2 : oB 2 = 0)
    (hSA : (Rect.unit (s := ⟨2, ![D0, D1]⟩) oA (⟨2, ![d0, d1]⟩ : Shape).size iA).set = SA)
    (hX : ∀ j : (⟨2, ![d0, d1]⟩ : Shape).Idx, XB (mk3 n d0 d1 k (j 0) (j 1)) = XA (mk2 D0 D1 (a + j 0) (b + j 1))) :
    iprop(O c B (sl n d0 d1 k) XB ∗ (∃ Z, O c A SA Z) ∗ Sem0 c cv)
      ⊢ iprop((Flight (EC (F := F)) (c : Thread nD τ) cv () N iprop(O c A SA XA ∗ (∃ Z, O c B (sl n d0 d1 k) Z)) -∗ Q ⟨⟩)
          -∗ Wp c (Prog.lift (.enqueueDma ((B.slice (Rect.unit (s := ⟨3, ![n, d0, d1]⟩) oB (⟨3, ![1, d0, d1]⟩ : Shape).size iB) hrB).squeeze ⟨2, ![d0, d1]⟩ hsq)
            (.here (A.slice (Rect.unit (s := ⟨2, ![D0, D1]⟩) oA (⟨2, ![d0, d1]⟩ : Shape).size iA) hrA)) sm hs hd ht)) Q) := by
  refine dma (c : Thread nD τ) Variants.none none EC () hcell hN hN0
    (Y := fun j => XB ((Rect.unit (s := ⟨3, ![n, d0, d1]⟩) oB (⟨3, ![1, d0, d1]⟩ : Shape).size iB).emb (Shape.reshapeEquiv hsq.numel_eq j)))
    (to_squeezed (c : Thread nD τ) _ _ hsq (rect_sl hB0 hB1 hB2)) ?_ ?_
    (of_slice (c : Thread nD τ) _ _ hSA fun j => ?_)
  · iintro ⟨%Z, H⟩
    iexists _
    iapply (to_slice (c : Thread nD τ) _ _ hSA) $$ H
  · iintro H
    iexists XB
    iapply (of_squeezed (c : Thread nD τ) _ _ hsq (rect_sl hB0 hB1 hB2) fun _ => rfl) $$ H
  · rw [emb2 hA0 hA1, emb_sq hB0 hB1 hB2, ← hX, Nat.zero_add, Nat.zero_add]

/-- One of several copies on a counter, of a rectangle of an array in HBM to the same rectangle of an array in VMEM. -/
theorem enq_flat {A : Memref sig .tc .hbm ⟨2, ![D0, D1]⟩ e} {B : Memref sig .tc .vmem ⟨2, ![D0, D1]⟩ e} {oA : Fin 2 → ℕ} {iA iB}
    {hrA hrB} {sm cv : SemLoc sig} {hs hd ht} {m j : ℕ} {AA : Fin m → ℕ} {D : Fin m → sProp 𝕄}
    {X : (⟨2, ![D0, D1]⟩ : Shape).Idx → Elt F e} {SA : Finset (⟨2, ![D0, D1]⟩ : Shape).Idx} {Q : PUnit → sProp 𝕄}
    (hcell : cv = sm) (hj : j < m)
    (hN : (B.slice (Rect.unit (s := ⟨2, ![D0, D1]⟩) oA (⟨2, ![d0, d1]⟩ : Shape).size iB) hrB).view.amount sm = AA ⟨j, hj⟩)
    (hSA : (Rect.unit (s := ⟨2, ![D0, D1]⟩) oA (⟨2, ![d0, d1]⟩ : Shape).size iA).set = SA)
    (hD : D ⟨j, hj⟩ = iprop(O c B SA X ∗ O c A SA X)) :
    iprop(O c A SA X ∗ (∃ Z, O c B SA Z) ∗ MixedBatch (EC (F := F)) (c : Thread nD τ) cv () AA D j 0)
      ⊢ iprop((MixedBatch (EC (F := F)) (c : Thread nD τ) cv () AA D (j + 1) 0 -∗ Q ⟨⟩)
          -∗ Wp c (Prog.lift (.enqueueDma (A.slice (Rect.unit (s := ⟨2, ![D0, D1]⟩) oA (⟨2, ![d0, d1]⟩ : Shape).size iA) hrA)
            (.here (B.slice (Rect.unit (s := ⟨2, ![D0, D1]⟩) oA (⟨2, ![d0, d1]⟩ : Shape).size iB) hrB)) sm hs hd ht)) Q) := by
  refine dmaBatch (c : Thread nD τ) Variants.none none EC () hcell hj hN
    (Y := fun j => X ((Rect.unit (s := ⟨2, ![D0, D1]⟩) oA (⟨2, ![d0, d1]⟩ : Shape).size iA).emb j))
    (to_slice (c : Thread nD τ) _ _ hSA) ?_ (of_slice (c : Thread nD τ) _ _ hSA fun _ => rfl) (of_slice (c : Thread nD τ) _ _ hSA fun _ => rfl) hD
  iintro ⟨%Z, H⟩
  iexists _
  iapply (to_slice (c : Thread nD τ) _ _ hSA) $$ H

end Copy

/-! ## Held parts taken and put back -/

section
variable {sp : Space} {s : Shape} {e : EltTy} {m : Memref sig .tc sp s e} {X : s.Idx → Elt F e} {S T U : Finset s.Idx}

theorem o_split (h : S = T ∪ U) (hd : Disjoint T U) : O c m S X ⊢ iprop(O c m T X ∗ O c m U X) := by
  subst h; exact own_split (c : Thread nD τ) hd

theorem o_join (h : S = T ∪ U) (hd : Disjoint T U) : iprop(O c m T X ∗ O c m U X) ⊢ O c m S X := by
  subst h; exact own_join (c : Thread nD τ) hd

end

/-! ## The copies' credits -/

/-- What one copy credits its counter, by the array written. -/
def Ndy : ℕ := ((A16.slice (Rect.unit (s := S4x512x1024) ![0, 0, 0] S1x512x1024.size (by decide)) (fun _ => rfl)).squeeze S512x1024 squeezes_S1x512x1024_S512x1024).view.dmaCredit
def Ndh : ℕ := (A6.slice (Rect.unit (s := S2048x7168) ![0, 0] S512x1024.size (by decide)) (fun _ => rfl)).view.dmaCredit
def Nx : ℕ := (A9.slice (Rect.unit (s := S2048x7168) ![0, 0] S512x1024.size (by decide)) (fun _ => rfl)).view.dmaCredit
def Nw : ℕ := (A10.slice (Rect.unit (s := S7168x256) ![0, 0] S1024x256.size (by decide)) (fun _ => rfl)).view.dmaCredit
def Ndlo : ℕ := (A8.slice (Rect.unit (s := S2048x256) ![0, 0] S512x256.size (by decide)) (fun _ => rfl)).view.dmaCredit
def Ndw : ℕ := (A7.slice (Rect.unit (s := S7168x256) ![0, 0] S1024x256.size (by decide)) (fun _ => rfl)).view.dmaCredit

theorem Ndy_pos : 0 < Ndy := View.dmaCredit_pos _ (by decide)
theorem Ndh_pos : 0 < Ndh := View.dmaCredit_pos _ (by decide)
theorem Nx_pos : 0 < Nx := View.dmaCredit_pos _ (by decide)
theorem Nw_pos : 0 < Nw := View.dmaCredit_pos _ (by decide)
theorem Ndlo_pos : 0 < Ndlo := View.dmaCredit_pos _ (by decide)
theorem Ndw_pos : 0 < Ndw := View.dmaCredit_pos _ (by decide)

/-! ## The copies in flight -/

/-- The residual gradient's slot of step `n`: its copy in flight, or past the last step the slot idle. -/
def dyP (n : ℕ) : sProp 𝕄 :=
  if n < 28 then Flight (EC (F := F)) (c : Thread nD τ) (cell Q26 n) () Ndy iprop(O c A16 (sl 4 512 1024 (n % 4)) (slotDY d n) ∗ O c A5 (stI n (n + 1)) d.DY)
  else iprop(Sem0 c (cell Q26 n) ∗ ∃ Z, O c A16 (sl 4 512 1024 (n % 4)) Z)

/-- The token gradient's slot that step `n` will write: the copy of step `n - 3` out of it in flight, or the slot idle. -/
def dhP' (n : ℕ) : sProp 𝕄 :=
  if 3 ≤ n then Flight (EC (F := F)) (c : Thread nD τ) (cell Q27 n) () Ndh iprop(O c A6 (stI (n - 3) (n - 2)) (DH d) ∗ (∃ Z, O c A17 (sl 3 512 1024 (n % 3)) Z))
  else iprop(Sem0 c (cell Q27 n) ∗ ∃ Z, O c A17 (sl 3 512 1024 (n % 3)) Z)

/-- The weight gradient's slot that column block `k` will write. -/
def dwP (k : ℕ) : sProp 𝕄 :=
  if 2 ≤ k then Flight (EC (F := F)) (c : Thread nD τ) (cell Q29 k) () Ndw iprop(O c A7 (rI (k - 2) (k - 1)) (DW d) ∗ (∃ Z, O c A19 (sl 2 1024 256 (k % 2)) Z))
  else iprop(Sem0 c (cell Q29 k) ∗ ∃ Z, O c A19 (sl 2 1024 256 (k % 2)) Z)

/-- The logits' gradient of token tile `t` on its way out. -/
def dloF (t : ℕ) : sProp 𝕄 :=
  Flight (EC (F := F)) (c : Thread nD τ) (cell0 Q28) () Ndlo iprop(O c A8 (tI t (t + 1)) (DLOA d) ∗ (∃ Z, O c A18 Finset.univ Z))

/-- What the `j`-th copy of tokens of tile `t` delivers. -/
def xD (t : ℕ) (j : Fin 7) : sProp 𝕄 :=
  iprop(O c A9 (stI (7 * t + j) (7 * t + j + 1)) d.X ∗ O c A0 (stI (7 * t + j) (7 * t + j + 1)) d.X)

def xA (j : Fin 7) : ℕ := Nx

/-- The tokens of tile `t`, `k` of whose copies are issued and none waited for. -/
def xB (t k u : ℕ) : sProp 𝕄 := MixedBatch (EC (F := F)) (c : Thread nD τ) (cell Q25 t) () xA (xD c d t) k u

theorem slotDY_eq {n a b q : ℕ} (hn : n < 28) (ha : a = 512 * (n / 7)) (hb : b = 1024 * (n % 7)) (hq : q = n % 4) (j : S512x1024.Idx) :
    d.DY (mk2 2048 7168 (a + j 0) (b + j 1)) = slotDY d n (mk3 4 512 1024 q (j 0) (j 1)) := by
  subst ha hb
  have := lt0 j
  have := lt1 j
  unfold slotDY
  refine congrArg _ (ext2 ?_ ?_)
  · show (512 * (n / 7) + (j 0 : ℕ)) % 2048 = (512 * (n / 7) + (j 0 : ℕ) % 512) % 2048
    rw [Nat.mod_eq_of_lt (b := 512) (by omega)]
  · show (1024 * (n % 7) + (j 1 : ℕ)) % 7168 = (1024 * (n % 7) + (j 1 : ℕ) % 1024) % 7168
    rw [Nat.mod_eq_of_lt (b := 1024) (by omega)]

theorem slotDH_eq {n a b q : ℕ} (hn : n < 28) (ha : a = 512 * (n / 7)) (hb : b = 1024 * (n % 7)) (j : S512x1024.Idx) :
    slotDH d n (mk3 3 512 1024 q (j 0) (j 1)) = DH d (mk2 2048 7168 (a + j 0) (b + j 1)) := by
  subst ha hb
  have := lt0 j
  have := lt1 j
  have e0 : ((mk2 2048 7168 (512 * (n / 7) + j 0) (1024 * (n % 7) + j 1) 0 : Fin _) : ℕ) = 512 * (n / 7) + j 0 := Nat.mod_eq_of_lt (by omega)
  have e1 : ((mk2 2048 7168 (512 * (n / 7) + j 0) (1024 * (n % 7) + j 1) 1 : Fin _) : ℕ) = 1024 * (n % 7) + j 1 := Nat.mod_eq_of_lt (by omega)
  have d0 : (512 * (n / 7) + (j 0 : ℕ)) / 512 = n / 7 := by omega
  have d1 : (1024 * (n % 7) + (j 1 : ℕ)) / 1024 = n % 7 := by omega
  have hn' : 7 * (n / 7) + n % 7 = n := by omega
  have m0 : (512 * (n / 7) + (j 0 : ℕ)) % 512 = j 0 := by omega
  have m1 : (1024 * (n % 7) + (j 1 : ℕ)) % 1024 = j 1 := by omega
  simp only [DH, e0, e1, d0, d1, hn', m0, m1]
  simp only [slotDH, mk3_1, mk3_2]

theorem slotDW_eq {k a q : ℕ} (hk : k < 7) (ha : a = 1024 * k) (j : S1024x256.Idx) :
    slotDW d k (mk3 2 1024 256 q (j 0) (j 1)) = DW d (mk2 7168 256 (a + j 0) (0 + j 1)) := by
  subst ha
  have := lt0 j
  have := lt1 j
  have e0 : ((mk2 7168 256 (1024 * k + j 0) (0 + j 1) 0 : Fin _) : ℕ) = 1024 * k + j 0 := Nat.mod_eq_of_lt (by omega)
  have e1 : ((mk2 7168 256 (1024 * k + j 0) (0 + j 1) 1 : Fin _) : ℕ) = j 1 := by show (0 + (j 1 : ℕ)) % 256 = _; omega
  have d0 : (1024 * k + (j 0 : ℕ)) / 1024 = k := by omega
  have m0 : (1024 * k + (j 0 : ℕ)) % 1024 = j 0 := by omega
  simp only [DW, e0, e1, d0, m0]
  simp only [slotDW, mk3_1, mk3_2]

end Cert.KernelIdeal.Val

end
-- ==== Proof.Rings.lean ====
/-
  The two rings every step turns: the residual gradient fetched four steps ahead, and the token gradient whose copy out
  is waited for three steps later.
-/
module

public import proofs.«01_k».proof.Proof.Moves

@[expose] public section

set_option maxRecDepth 16384

noncomputable section

namespace Cert.KernelIdeal.Val

open Cert.KernelIdeal Cert.KernelIdeal.Gen Cert.Own
open Idealize.ShloMosaic Idealize.ShloMosaic.TcCoe Idealize.ShloMosaic.Tactic
open Idealize.SL Idealize.SL.RA Idealize.SL.BI
open scoped Idealize.SL.BI
open Idealize.ShloMosaic.Transfers
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (d : Data F)

/-! ## The residual gradient's ring -/

/-- Before step `n`: four slots ahead, the steps read back, the steps not yet fetched. -/
def dyS (n : ℕ) : sProp 𝕄 :=
  iprop(dyP c d n ∗ dyP c d (n + 1) ∗ dyP c d (n + 2) ∗ dyP c d (n + 3) ∗ O c A5 (stI 0 n) d.DY ∗ O c A5 (stI (n + 4) 28) d.DY)

/-- Within step `n`. -/
def dyR (n : ℕ) : sProp 𝕄 :=
  iprop(Sem0 c (cell Q26 n) ∗ dyP c d (n + 1) ∗ dyP c d (n + 2) ∗ dyP c d (n + 3) ∗ O c A5 (stI 0 (n + 1)) d.DY ∗ O c A5 (stI (n + 4) 28) d.DY)

theorem dy_wait {n : ℕ} (hn : n < 28) {sem : DmaSem sig} {sp sp' : Space} {s s' : Shape} {e e' : EltTy} {κ' : Kind}
    {srcw : Memref sig .tc sp' s' e'} {dstw : Memref sig κ' sp s e} {hs hd} {Q : PUnit → sProp 𝕄}
    (hcell : cell Q26 n = .dma sem) (hN : dstw.view.dmaCredit = Ndy) :
    iprop(dyS c d n ∗ Ow c) ⊢ iprop((iprop(O c A16 (sl 4 512 1024 (n % 4)) (slotDY d n) ∗ dyR c d n ∗ Ow c) -∗ Q ⟨⟩)
      -∗ Wp c (Prog.lift (.waitDma2 sem srcw dstw hs hd)) Q) := by
  unfold dyS dyR
  iintro ⟨⟨H0, H1, H2, H3, HA, HB⟩, HO⟩ Hk
  have h0 : dyP c d n ⊢ Flight (EC (F := F)) (c : Thread nD τ) (cell Q26 n) () Ndy iprop(O c A16 (sl 4 512 1024 (n % 4)) (slotDY d n) ∗ O c A5 (stI n (n + 1)) d.DY) := by
    rw [dyP, if_pos hn]
  ihave H0 := h0 $$ H0
  iapply (wait (c : Thread nD τ) Variants.none none EC () hcell hN) $$ [H0 HO]
  · isplitl [H0]; · iexact H0
    iexact HO
  iintro ⟨⟨HS, HC⟩, Hv, HO⟩
  ihave HA := (o_join c (stI_union (Nat.zero_le n) (Nat.le_succ n)) (stI_disj le_rfl)) $$ [HA HC]
  · isplitl [HA]; · iexact HA
    iexact HC
  iapply Hk
  isplitl [HS]; · iexact HS
  isplitr [HO]
  · isplitl [Hv]; · iexact Hv
    isplitl [H1]; · iexact H1
    isplitl [H2]; · iexact H2
    isplitl [H3]; · iexact H3
    isplitl [HA]; · iexact HA
    iexact HB
  iexact HO

theorem dy_next {n : ℕ} {φ : Prop} [Decidable φ] (hφ : φ ↔ n + 4 < 28) {α : Type} {f : φ → Prog (TpuEff nD τ sig (Elt F) Λ₀ .tc) α}
    {g : Prog (TpuEff nD τ sig (Elt F) Λ₀ .tc) α} {Q : α → sProp 𝕄} (hf : φ → ∀ h, iprop(O c A5 (stI (n + 4) (n + 4 + 1)) d.DY ∗ (∃ Z, O c A16 (sl 4 512 1024 ((n + 4) % 4)) Z) ∗ Sem0 c (cell Q26 (n + 4)))
      ⊢ iprop((Flight (EC (F := F)) (c : Thread nD τ) (cell Q26 (n + 4)) () Ndy iprop(O c A16 (sl 4 512 1024 ((n + 4) % 4)) (slotDY d (n + 4)) ∗ O c A5 (stI (n + 4) (n + 4 + 1)) d.DY) -∗ Wp c g Q) -∗ Wp c (f h) Q)) :
    iprop((∃ Z, O c A16 (sl 4 512 1024 (n % 4)) Z) ∗ dyR c d n)
      ⊢ iprop((dyS c d (n + 1) -∗ Wp c g Q) -∗ Wp c (if h : φ then f h else g) Q) := by
  unfold dyS dyR
  rw [show n % 4 = (n + 4) % 4 by omega, ← cell_add Q26 n]
  iintro ⟨HZ, Hv, H1, H2, H3, HA, HB⟩ Hk
  by_cases h : φ
  · rw [dif_pos h]
    have hn := hφ.mp h
    ihave HB := (o_split c (stI_union (m := n + 4 + 1) (by omega) (by omega)) (stI_disj le_rfl)) $$ HB
    icases HB with ⟨HB0, HB⟩
    iapply (hf h h) $$ [HZ Hv HB0]
    · isplitl [HB0]; · iexact HB0
      isplitl [HZ]; · iexact HZ
      iexact Hv
    iintro HF
    iapply Hk
    isplitl [H1]; · iexact H1
    isplitl [H2]; · iexact H2
    isplitl [H3]; · iexact H3
    isplitl [HF]
    · rw [show n + 1 + 3 = n + 4 from rfl, dyP, if_pos hn]; iexact HF
    isplitl [HA]; · iexact HA
    iexact HB
  · rw [dif_neg h]
    have hn : ¬ n + 4 < 28 := fun h' => h (hφ.mpr h')
    iapply Hk
    isplitl [H1]; · iexact H1
    isplitl [H2]; · iexact H2
    isplitl [H3]; · iexact H3
    isplitl [HZ Hv]
    · rw [show n + 1 + 3 = n + 4 from rfl, dyP, if_neg hn]
      isplitl [Hv]; · iexact Hv
      iexact HZ
    isplitl [HA]; · iexact HA
    rw [stI_empty (show 28 ≤ n + 1 + 4 by omega), stI_empty (show 28 ≤ n + 4 by omega)]
    iexact HB

/-! ## The token gradient's ring -/

def dhS (n : ℕ) : sProp 𝕄 :=
  iprop(dhP' c d n ∗ dhP' c d (n + 1) ∗ dhP' c d (n + 2) ∗ O c A6 (stI 0 (n - 3)) (DH d) ∗ ∃ Z, O c A6 (stI n 28) Z)

def dhR (n : ℕ) : sProp 𝕄 :=
  iprop(Sem0 c (cell Q27 n) ∗ dhP' c d (n + 1) ∗ dhP' c d (n + 2) ∗ O c A6 (stI 0 (n - 2)) (DH d) ∗ ∃ Z, O c A6 (stI n 28) Z)

theorem dh_wait {n : ℕ} {φ : Prop} [Decidable φ] (hφ : φ ↔ 3 ≤ n) {α : Type} {f : φ → Prog (TpuEff nD τ sig (Elt F) Λ₀ .tc) α}
    {g : Prog (TpuEff nD τ sig (Elt F) Λ₀ .tc) α} {Q : α → sProp 𝕄} (hf : φ → ∀ h, ∀ D : sProp 𝕄, iprop(Flight (EC (F := F)) (c : Thread nD τ) (cell Q27 n) () Ndh D ∗ Ow c)
      ⊢ iprop((iprop(D ∗ Sem0 c (cell Q27 n) ∗ Ow c) -∗ Wp c g Q) -∗ Wp c (f h) Q)) :
    iprop(dhS c d n ∗ Ow c)
      ⊢ iprop((iprop((∃ Z, O c A17 (sl 3 512 1024 (n % 3)) Z) ∗ dhR c d n ∗ Ow c) -∗ Wp c g Q) -∗ Wp c (if h : φ then f h else g) Q) := by
  unfold dhS dhR
  iintro ⟨⟨H0, H1, H2, HA, HB⟩, HO⟩ Hk
  by_cases h : φ
  · rw [dif_pos h]
    have hn := hφ.mp h
    have h0 : dhP' c d n ⊢ Flight (EC (F := F)) (c : Thread nD τ) (cell Q27 n) () Ndh iprop(O c A6 (stI (n - 3) (n - 2)) (DH d) ∗ (∃ Z, O c A17 (sl 3 512 1024 (n % 3)) Z)) := by
      rw [dhP', if_pos hn]
    ihave H0 := h0 $$ H0
    iapply (hf h h _) $$ [H0 HO]
    · isplitl [H0]; · iexact H0
      iexact HO
    iintro ⟨⟨HC, HS⟩, Hv, HO⟩
    ihave HA := (o_join c (stI_union (Nat.zero_le (n - 3)) (show n - 3 ≤ n - 2 by omega)) (stI_disj le_rfl)) $$ [HA HC]
    · isplitl [HA]; · iexact HA
      iexact HC
    iapply Hk
    isplitl [HS]; · iexact HS
    isplitr [HO]
    · isplitl [Hv]; · iexact Hv
      isplitl [H1]; · iexact H1
      isplitl [H2]; · iexact H2
      isplitl [HA]; · iexact HA
      iexact HB
    iexact HO
  · rw [dif_neg h]
    have hn : ¬ 3 ≤ n := fun h' => h (hφ.mpr h')
    have h0 : dhP' c d n ⊢ iprop(Sem0 c (cell Q27 n) ∗ ∃ Z, O c A17 (sl 3 512 1024 (n % 3)) Z) := by
      rw [dhP', if_neg hn]
    ihave H0 := h0 $$ H0
    icases H0 with ⟨Hv, HS⟩
    iapply Hk
    isplitl [HS]; · iexact HS
    isplitr [HO]
    · isplitl [Hv]; · iexact Hv
      isplitl [H1]; · iexact H1
      isplitl [H2]; · iexact H2
      isplitl [HA]
      · rw [stI_empty (show n - 2 ≤ 0 by omega), stI_empty (show n - 3 ≤ 0 by omega)]; iexact HA
      iexact HB
    iexact HO

theorem dh_next {n : ℕ} (hn : n < 28) {p : Prog (TpuEff nD τ sig (Elt F) Λ₀ .tc) PUnit} {Q : PUnit → sProp 𝕄}
    (hf : iprop(O c A17 (sl 3 512 1024 (n % 3)) (slotDH d n) ∗ (∃ Z, O c A6 (stI n (n + 1)) Z) ∗ Sem0 c (cell Q27 n))
      ⊢ iprop((Flight (EC (F := F)) (c : Thread nD τ) (cell Q27 n) () Ndh iprop(O c A6 (stI n (n + 1)) (DH d) ∗ ∃ Z, O c A17 (sl 3 512 1024 (n % 3)) Z) -∗ Q ⟨⟩) -∗ Wp c p Q)) :
    iprop(O c A17 (sl 3 512 1024 (n % 3)) (slotDH d n) ∗ dhR c d n) ⊢ iprop((dhS c d (n + 1) -∗ Q ⟨⟩) -∗ Wp c p Q) := by
  unfold dhS dhR
  iintro ⟨HS, Hv, H1, H2, HA, ⟨%Z, HB⟩⟩ Hk
  ihave HB := (o_split c (stI_union (m := n + 1) (by omega) (by omega)) (stI_disj le_rfl)) $$ HB
  icases HB with ⟨HB0, HB⟩
  iapply hf $$ [HS HB0 Hv]
  · isplitl [HS]; · iexact HS
    isplitl [HB0]; · iexists Z; iexact HB0
    iexact Hv
  iintro HF
  iapply Hk
  isplitl [H1]; · iexact H1
  isplitl [H2]; · iexact H2
  isplitl [HF]
  · rw [show n + 1 + 2 = n + 3 from rfl, dhP', if_pos (by omega), cell_add Q27 n, show n + 3 - 3 = n by omega, show n + 3 - 2 = n + 1 by omega, show (n + 3) % 3 = n % 3 by omega]
    iexact HF
  isplitl [HA]
  · rw [show n + 1 - 3 = n - 2 by omega]; iexact HA
  iexists Z; iexact HB

end Cert.KernelIdeal.Val

end
-- ==== Proof.T4.lean ====
/-
  One step of the main loop.
-/
module

public import proofs.«01_k».proof.Proof.Rings

@[expose] public section

set_option maxRecDepth 16384

noncomputable section

namespace Cert.KernelIdeal.Val

open Cert.KernelIdeal Cert.KernelIdeal.Gen Cert.Own
open Idealize.ShloMosaic Idealize.ShloMosaic.TcCoe Idealize.ShloMosaic.Tactic
open Idealize.SL Idealize.SL.RA Idealize.SL.BI
open scoped Idealize.SL.BI
open Idealize.ShloMosaic.Transfers
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (d : Data F)

/-- Column block `k` of token tile `t`'s steps, `k` of them done. -/
def I4 (t k : ℕ) : sProp 𝕄 :=
  iprop(dyS c d (7 * t + k) ∗ dhS c d (7 * t + k)
    ∗ O c A9 (stI 0 (7 * (t + 2))) d.X ∗ O c A0 (stI 0 (7 * (t + 2))) d.X
    ∗ (if t + 2 < 4 then iprop(xB c d (t + 2) k 0 ∗ (∃ Z, O c A9 (stI (7 * (t + 2) + k) 28) Z) ∗ O c A0 (stI (7 * (t + 2) + k) 28) d.X) else Sem0 c (cell Q25 t))
    ∗ O c A11 Finset.univ (WT d) ∗ O c A12 Finset.univ (dwPart d t (4 * k)) ∗ O c A13 Finset.univ (ACC d (t + 1) k)
    ∗ O c A14 Finset.univ (d.DL t) ∗ O c A15 Finset.univ (d.DLS t) ∗ Ow c)

theorem x_next {t k : ℕ} (hk : k < 7) {φ : Prop} [Decidable φ] (hφ : φ ↔ t + 2 < 4) {α : Type} {f : φ → Prog (TpuEff nD τ sig (Elt F) Λ₀ .tc) α}
    {g : Prog (TpuEff nD τ sig (Elt F) Λ₀ .tc) α} {Q : α → sProp 𝕄} (hf : φ → ∀ h, iprop(O c A0 (stI (7 * (t + 2) + k) (7 * (t + 2) + k + 1)) d.X ∗ (∃ Z, O c A9 (stI (7 * (t + 2) + k) (7 * (t + 2) + k + 1)) Z) ∗ xB c d (t + 2) k 0)
      ⊢ iprop((xB c d (t + 2) (k + 1) 0 -∗ Wp c g Q) -∗ Wp c (f h) Q)) :
    (if t + 2 < 4 then iprop(xB c d (t + 2) k 0 ∗ (∃ Z, O c A9 (stI (7 * (t + 2) + k) 28) Z) ∗ O c A0 (stI (7 * (t + 2) + k) 28) d.X) else Sem0 c (cell Q25 t))
      ⊢ iprop(((if t + 2 < 4 then iprop(xB c d (t + 2) (k + 1) 0 ∗ (∃ Z, O c A9 (stI (7 * (t + 2) + (k + 1)) 28) Z) ∗ O c A0 (stI (7 * (t + 2) + (k + 1)) 28) d.X)
          else Sem0 c (cell Q25 t)) -∗ Wp c g Q) -∗ Wp c (if h : φ then f h else g) Q) := by
  by_cases h : φ
  · have ht := hφ.mp h
    rw [dif_pos h, if_pos ht, if_pos ht]
    iintro ⟨HB, ⟨%Z, H9⟩, H0⟩ Hk
    ihave H9 := (o_split c (stI_union (m := 7 * (t + 2) + k + 1) (by omega) (by omega)) (stI_disj le_rfl)) $$ H9
    icases H9 with ⟨H9a, H9⟩
    ihave H0 := (o_split c (stI_union (m := 7 * (t + 2) + k + 1) (by omega) (by omega)) (stI_disj le_rfl)) $$ H0
    icases H0 with ⟨H0a, H0⟩
    iapply (hf h h) $$ [HB H9a H0a]
    · isplitl [H0a]; · iexact H0a
      isplitl [H9a]; · iexists Z; iexact H9a
      iexact HB
    iintro HB
    iapply Hk
    isplitl [HB]; · iexact HB
    isplitl [H9]; · iexists Z; iexact H9
    iexact H0
  · have ht : ¬ t + 2 < 4 := fun h' => h (hφ.mpr h')
    rw [dif_neg h, if_neg ht, if_neg ht]
    iintro HB Hk
    iapply Hk
    iexact HB

theorem st_sub {a b e0 e1 N : ℕ} {off : Fin 2 → ℕ} {inb} (h0 : off 0 = a) (h1 : off 1 = b) (h : ∃ q, a + e0 ≤ 512 * q ∧ 7 * q ≤ N) :
    (Rect.unit (s := S2048x7168) off (⟨2, ![e0, e1]⟩ : Shape).size inb).set ⊆ stI 0 N := by
  obtain ⟨q, hq, hN⟩ := h
  intro i hi
  have := lt0 i; have := lt1 i
  rw [mem2 h0 h1] at hi
  rw [mem_stI]; omega

theorem sl_sub {n d0 d1 e0 e1 k a b : ℕ} [NeZero n] [NeZero d0] [NeZero d1] {off : Fin 3 → ℕ} {inb} (h0 : off 0 = k) (h1 : off 1 = a) (h2 : off 2 = b) :
    (Rect.unit (s := ⟨3, ![n, d0, d1]⟩) off (⟨3, ![1, e0, e1]⟩ : Shape).size inb).set ⊆ sl n d0 d1 k := by
  intro i hi
  rw [mem3 h0 h1 h2] at hi
  rw [mem_sl]; omega

set_option maxHeartbeats 2000000 in
theorem t4_step (t : Fin k0_t2_loop.trips) (k : Fin k0_t4_loop.trips) (a b v : BitVec 32) :
    I4 c d t k ⊢ Wp c (k0_t4_body A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 Q23 Q24 Q25 Q26 Q27 Q28 Q29 a b t v k ⟨⟩) (fun _ => I4 c d t (k + 1)) := by
  have ht : (t : ℕ) < 3 := t.isLt
  have hk : (k : ℕ) < 7 := k.isLt
  have hn : 7 * (t : ℕ) + k < 28 := by omega
  have hq : (7 * (t : ℕ) + k) / 7 = t := by omega
  have hr : (7 * (t : ℕ) + k) % 7 = k := by omega
  unfold k0_t4_body Wp
  simp only [k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part2_eq_skeleton, k0_part2_skel, k0_part3_eq_skeleton, k0_part3_skel, wp_bind, wp_pure]
  rw [I4]
  iintro ⟨Hdy, Hdh, H9, H0, HX, H11, H12, H13, H14, H15, HO⟩
  imodintro
  iapply (dy_wait c d hn (cell_at Q26 (off11 t k)) ?_) $$ [Hdy HO]
  · rfl
  · isplitl [Hdy]; · iexact Hdy
    iexact HO
  iintro ⟨H16, Hdy, HO⟩
  iapply (dh_wait c d (cond1_iff t k) ?_) $$ [Hdh HO]
  · intro _ h D
    simp only [wp_bind, wp_pure]
    iintro HP HQ
    imodintro
    iapply (wait (c : Thread nD τ) Variants.none none EC () (cell_at Q27 (off14 t k ((cond1_iff t k).mp h))) ?_) $$ HP
    · rfl
    iexact HQ
  · isplitl [Hdh]; · iexact Hdh
    iexact HO
  iintro ⟨⟨%Z, H17⟩, Hdh, HO⟩
  simp only [wp_bind, wp_pure]
  have e17 : Z = dhPart d (7 * (t : ℕ) + k) Z 0 := by funext i; simp [dhPart]
  rw [e17, ← accPart_zero (d := d) (t + 1) k]
  iapply (load2 c (0) (0) rfl rfl (Finset.subset_univ _)) $$ H14
  iintro H14
  iapply (load2 c (0) (1024 * (k : ℕ) + 0) (off17_0 k).1 (off17_0 k).2 (Finset.subset_univ _)) $$ H11
  iintro H11
  iapply (load3 c ((7 * (t : ℕ) + k) % 4) (0) (0) (off18 t k).1 (off18 t k).2.1 (off18 t k).2.2 (sl_sub (off18 t k).1 (off18 t k).2.1 (off18 t k).2.2)) $$ H16
  iintro H16
  imodintro
  iapply (load3 c ((7 * (t : ℕ) + k) % 3) (0) (0) (off19 t k).1 (off19 t k).2.1 (off19 t k).2.2 (sl_sub (off19 t k).1 (off19 t k).2.1 (off19 t k).2.2)) $$ H17
  iintro H17
  iapply (store3 c (dhPart d (7 * (t : ℕ) + k) Z 1) ((7 * (t : ℕ) + k) % 3) (0) (0) (off19 t k).1 (off19 t k).2.1 (off19 t k).2.2 (sl_sub (off19 t k).1 (off19 t k).2.1 (off19 t k).2.2) ?_ ?_) $$ H17
  · exact dh_in (th := 0) (ch := 0) (by omega) (by omega) hq rfl rfl rfl (by omega) rfl
  · exact fun i hi => dh_out (th := 0) (ch := 0) (by omega) (by omega) rfl rfl i hi
  iintro H17
  iapply (load2 c (0) (0) rfl rfl (Finset.subset_univ _)) $$ H13
  iintro H13
  iapply (load2 c (0) (1024 * (k : ℕ)) (off20 k).1 (off20 k).2 (Finset.subset_univ _)) $$ H11
  iintro H11
  iapply (load2 c (512 * ((t : ℕ) + 1) + 0) (1024 * (k : ℕ)) (off21_0 t k).1 (off21_0 t k).2 (st_sub (off21_0 t k).1 (off21_0 t k).2 ⟨t + 2, by omega, by omega⟩)) $$ H9
  iintro H9
  iapply (load2 c (0) (0) rfl rfl (Finset.subset_univ _)) $$ H13
  iintro H13
  iapply (store2 c (accPart d (t + 1) k 1) (0) (0) rfl rfl (Finset.subset_univ _) ?_ ?_) $$ H13
  · exact acc_in (g := 0) (by omega) rfl rfl
  · exact fun i _ => acc_out (g := 0) rfl i
  iintro H13
  iapply (load2 c (0) (0) rfl rfl (Finset.subset_univ _)) $$ H15
  iintro H15
  imodintro
  iapply (load2 c (512 * (t : ℕ)) (1024 * (k : ℕ) + 0) (off22_0 t k).1 (off22_0 t k).2 (st_sub (off22_0 t k).1 (off22_0 t k).2 ⟨t + 1, by omega, by omega⟩)) $$ H9
  iintro H9
  iapply (load2 c (0) (1024 * (k : ℕ) + 0) (off23_0 k).1 (off23_0 k).2 (Finset.subset_univ _)) $$ H12
  iintro H12
  iapply (load2 c (0) (1024 * (k : ℕ) + 0) (off23_0 k).1 (off23_0 k).2 (Finset.subset_univ _)) $$ H12
  iintro H12
  iapply (store2 c (dwPart d t (4 * k + 1)) (0) (1024 * (k : ℕ) + 0) (off23_0 k).1 (off23_0 k).2 (Finset.subset_univ _) ?_ ?_) $$ H12
  · exact dw_in (k := 4 * k + 0) (by omega) (by omega) rfl
  · exact fun i _ => dw_out (k := 4 * k + 0) (by omega) i
  iintro H12
  iapply (load2 c (256) (0) rfl rfl (Finset.subset_univ _)) $$ H14
  iintro H14
  iapply (load2 c (0) (1024 * (k : ℕ) + 0) (off17_0 k).1 (off17_0 k).2 (Finset.subset_univ _)) $$ H11
  iintro H11
  iapply (load3 c ((7 * (t : ℕ) + k) % 4) (256) (0) (off24 t k).1 (off24 t k).2.1 (off24 t k).2.2 (sl_sub (off24 t k).1 (off24 t k).2.1 (off24 t k).2.2)) $$ H16
  iintro H16
  imodintro
  iapply (load3 c ((7 * (t : ℕ) + k) % 3) (256) (0) (off25 t k).1 (off25 t k).2.1 (off25 t k).2.2 (sl_sub (off25 t k).1 (off25 t k).2.1 (off25 t k).2.2)) $$ H17
  iintro H17
  iapply (store3 c (dhPart d (7 * (t : ℕ) + k) Z 2) ((7 * (t : ℕ) + k) % 3) (256) (0) (off25 t k).1 (off25 t k).2.1 (off25 t k).2.2 (sl_sub (off25 t k).1 (off25 t k).2.1 (off25 t k).2.2) ?_ ?_) $$ H17
  · exact dh_in (th := 1) (ch := 0) (by omega) (by omega) hq rfl rfl rfl (by omega) rfl
  · exact fun i hi => dh_out (th := 1) (ch := 0) (by omega) (by omega) rfl rfl i hi
  iintro H17
  iapply (load2 c (0) (256) rfl rfl (Finset.subset_univ _)) $$ H13
  iintro H13
  iapply (load2 c (0) (1024 * (k : ℕ)) (off20 k).1 (off20 k).2 (Finset.subset_univ _)) $$ H11
  iintro H11
  iapply (load2 c (512 * ((t : ℕ) + 1) + 256) (1024 * (k : ℕ)) (off21_256 t k).1 (off21_256 t k).2 (st_sub (off21_256 t k).1 (off21_256 t k).2 ⟨t + 2, by omega, by omega⟩)) $$ H9
  iintro H9
  iapply (load2 c (0) (256) rfl rfl (Finset.subset_univ _)) $$ H13
  iintro H13
  iapply (store2 c (accPart d (t + 1) k 2) (0) (256) rfl rfl (Finset.subset_univ _) ?_ ?_) $$ H13
  · exact acc_in (g := 1) (by omega) rfl rfl
  · exact fun i _ => acc_out (g := 1) rfl i
  iintro H13
  iapply (load2 c (0) (0) rfl rfl (Finset.subset_univ _)) $$ H15
  iintro H15
  iapply (load2 c (512 * (t : ℕ)) (1024 * (k : ℕ) + 256) (off22_256 t k).1 (off22_256 t k).2 (st_sub (off22_256 t k).1 (off22_256 t k).2 ⟨t + 1, by omega, by omega⟩)) $$ H9
  iintro H9
  imodintro
  iapply (load2 c (0) (1024 * (k : ℕ) + 256) (off23_256 k).1 (off23_256 k).2 (Finset.subset_univ _)) $$ H12
  iintro H12
  iapply (load2 c (0) (1024 * (k : ℕ) + 256) (off23_256 k).1 (off23_256 k).2 (Finset.subset_univ _)) $$ H12
  iintro H12
  iapply (store2 c (dwPart d t (4 * k + 2)) (0) (1024 * (k : ℕ) + 256) (off23_256 k).1 (off23_256 k).2 (Finset.subset_univ _) ?_ ?_) $$ H12
  · exact dw_in (k := 4 * k + 1) (by omega) (by omega) rfl
  · exact fun i _ => dw_out (k := 4 * k + 1) (by omega) i
  iintro H12
  iapply (load2 c (0) (0) rfl rfl (Finset.subset_univ _)) $$ H14
  iintro H14
  iapply (load2 c (0) (1024 * (k : ℕ) + 512) (off17_512 k).1 (off17_512 k).2 (Finset.subset_univ _)) $$ H11
  iintro H11
  iapply (load3 c ((7 * (t : ℕ) + k) % 4) (0) (512) (off26 t k).1 (off26 t k).2.1 (off26 t k).2.2 (sl_sub (off26 t k).1 (off26 t k).2.1 (off26 t k).2.2)) $$ H16
  iintro H16
  imodintro
  iapply (load3 c ((7 * (t : ℕ) + k) % 3) (0) (512) (off27 t k).1 (off27 t k).2.1 (off27 t k).2.2 (sl_sub (off27 t k).1 (off27 t k).2.1 (off27 t k).2.2)) $$ H17
  iintro H17
  iapply (store3 c (dhPart d (7 * (t : ℕ) + k) Z 3) ((7 * (t : ℕ) + k) % 3) (0) (512) (off27 t k).1 (off27 t k).2.1 (off27 t k).2.2 (sl_sub (off27 t k).1 (off27 t k).2.1 (off27 t k).2.2) ?_ ?_) $$ H17
  · exact dh_in (th := 0) (ch := 1) (by omega) (by omega) hq rfl rfl rfl (by omega) rfl
  · exact fun i hi => dh_out (th := 0) (ch := 1) (by omega) (by omega) rfl rfl i hi
  iintro H17
  iapply (load2 c (0) (0) rfl rfl (Finset.subset_univ _)) $$ H15
  iintro H15
  iapply (load2 c (512 * (t : ℕ)) (1024 * (k : ℕ) + 512) (off22_512 t k).1 (off22_512 t k).2 (st_sub (off22_512 t k).1 (off22_512 t k).2 ⟨t + 1, by omega, by omega⟩)) $$ H9
  iintro H9
  iapply (load2 c (0) (1024 * (k : ℕ) + 512) (off23_512 k).1 (off23_512 k).2 (Finset.subset_univ _)) $$ H12
  iintro H12
  iapply (load2 c (0) (1024 * (k : ℕ) + 512) (off23_512 k).1 (off23_512 k).2 (Finset.subset_univ _)) $$ H12
  iintro H12
  iapply (store2 c (dwPart d t (4 * k + 3)) (0) (1024 * (k : ℕ) + 512) (off23_512 k).1 (off23_512 k).2 (Finset.subset_univ _) ?_ ?_) $$ H12
  · exact dw_in (k := 4 * k + 2) (by omega) (by omega) rfl
  · exact fun i _ => dw_out (k := 4 * k + 2) (by omega) i
  iintro H12
  iapply (load2 c (256) (0) rfl rfl (Finset.subset_univ _)) $$ H14
  iintro H14
  iapply (load2 c (0) (1024 * (k : ℕ) + 512) (off17_512 k).1 (off17_512 k).2 (Finset.subset_univ _)) $$ H11
  iintro H11
  imodintro
  iapply (load3 c ((7 * (t : ℕ) + k) % 4) (256) (512) (off28 t k).1 (off28 t k).2.1 (off28 t k).2.2 (sl_sub (off28 t k).1 (off28 t k).2.1 (off28 t k).2.2)) $$ H16
  iintro H16
  iapply (load3 c ((7 * (t : ℕ) + k) % 3) (256) (512) (off29 t k).1 (off29 t k).2.1 (off29 t k).2.2 (sl_sub (off29 t k).1 (off29 t k).2.1 (off29 t k).2.2)) $$ H17
  iintro H17
  iapply (store3 c (dhPart d (7 * (t : ℕ) + k) Z 4) ((7 * (t : ℕ) + k) % 3) (256) (512) (off29 t k).1 (off29 t k).2.1 (off29 t k).2.2 (sl_sub (off29 t k).1 (off29 t k).2.1 (off29 t k).2.2) ?_ ?_) $$ H17
  · exact dh_in (th := 1) (ch := 1) (by omega) (by omega) hq rfl rfl rfl (by omega) rfl
  · exact fun i hi => dh_out (th := 1) (ch := 1) (by omega) (by omega) rfl rfl i hi
  iintro H17
  iapply (load2 c (0) (0) rfl rfl (Finset.subset_univ _)) $$ H15
  iintro H15
  iapply (load2 c (512 * (t : ℕ)) (1024 * (k : ℕ) + 768) (off22_768 t k).1 (off22_768 t k).2 (st_sub (off22_768 t k).1 (off22_768 t k).2 ⟨t + 1, by omega, by omega⟩)) $$ H9
  iintro H9
  iapply (load2 c (0) (1024 * (k : ℕ) + 768) (off23_768 k).1 (off23_768 k).2 (Finset.subset_univ _)) $$ H12
  iintro H12
  imodintro
  iapply (load2 c (0) (1024 * (k : ℕ) + 768) (off23_768 k).1 (off23_768 k).2 (Finset.subset_univ _)) $$ H12
  iintro H12
  iapply (store2 c (dwPart d t (4 * k + 4)) (0) (1024 * (k : ℕ) + 768) (off23_768 k).1 (off23_768 k).2 (Finset.subset_univ _) ?_ ?_) $$ H12
  · exact dw_in (k := 4 * k + 3) (by omega) (by omega) rfl
  · exact fun i _ => dw_out (k := 4 * k + 3) (by omega) i
  iintro H12
  imodintro
  rw [dhPart_all, accPart_two]
  iapply (dh_next c d hn ?_) $$ [H17 Hdh]
  · iintro HP HQ
    iapply (enq_out c (XA := DH d) (cell_at Q27 (off30 t k)) ?_ Ndh_pos (off13 t k).1 (off13 t k).2 (off31 t k).1 (off31 t k).2.1 (off31 t k).2.2
      (rect_st (off13 t k).1 (off13 t k).2 (by omega) (by omega)) (slotDH_eq d hn (by omega) (by omega))) $$ HP
    · rfl
    iexact HQ
  · isplitl [H17]; · iexact H17
    iexact Hdh
  iintro Hdh
  iapply (dy_next c d (cond2_iff t k) ?_) $$ [H16 Hdy]
  · intro hp h
    have h4 := (cond2_iff t k).mp hp
    simp only [wp_bind, wp_pure]
    iintro HP HQ
    imodintro
    iapply (enq_in c (cell_at Q26 ((off32 t k h4).trans (by omega))) ?_ Ndy_pos (off34 t k h4).1 (off34 t k h4).2 ((off33 t k h4).1.trans (by omega)) (off33 t k h4).2.1 (off33 t k h4).2.2
      (rect_st (off34 t k h4).1 (off34 t k h4).2 rfl rfl) (slotDY_eq d h4 rfl rfl rfl)) $$ HP
    · rfl
    iexact HQ
  · isplitl [H16]; · iexists _; iexact H16
    iexact Hdy
  iintro Hdy
  iapply (x_next c d hk (cond3_iff t) ?_) $$ HX
  · intro hp h
    have h2 := (cond3_iff t).mp hp
    simp only [wp_bind, wp_pure]
    unfold xB
    iintro HP HQ
    iapply (enq_flat c (j := k) (SA := stI (7 * ((t : ℕ) + 2) + k) (7 * ((t : ℕ) + 2) + k + 1)) (AA := xA) (D := xD c d (t + 2)) ((cell_add Q25 t).trans (cell_at Q25 (off35 t h2))) hk ?_
      (rect_st (off36 t k h2).1 (off36 t k h2).2 (by omega) (by omega)) rfl) $$ HP
    · rfl
    iintro H
    iapply HQ $$ H
  iintro HX
  unfold Wp
  rw [wp_pure, I4]
  isplitl [Hdy]; · iexact Hdy
  isplitl [Hdh]; · iexact Hdh
  isplitl [H9]; · iexact H9
  isplitl [H0]; · iexact H0
  isplitl [HX]; · iexact HX
  isplitl [H11]; · iexact H11
  isplitl [H12]; · iexact H12
  isplitl [H13]; · iexact H13
  isplitl [H14]; · iexact H14
  isplitl [H15]; · iexact H15
  iexact HO

end Cert.KernelIdeal.Val

end
-- ==== Proof.T13.lean ====
/-
  The waits for a token tile, and the first tile's logits with the weights transposed.
-/
module

public import proofs.«01_k».proof.Proof.T4

@[expose] public section

set_option maxRecDepth 16384

noncomputable section

namespace Cert.KernelIdeal.Val

open Cert.KernelIdeal Cert.KernelIdeal.Gen Cert.Own
open Idealize.ShloMosaic Idealize.ShloMosaic.TcCoe Idealize.ShloMosaic.Tactic
open Idealize.SL Idealize.SL.RA Idealize.SL.BI
open scoped Idealize.SL.BI
open Idealize.ShloMosaic.Transfers
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (d : Data F)

/-! ## The waits for a token tile -/

omit [FloatOps F] in
theorem bigSep_succ {n : ℕ} (Φ : Fin (n + 1) → sProp 𝕄) : bigSep Finset.univ Φ = iprop(Φ 0 ∗ bigSep Finset.univ (fun i : Fin n => Φ i.succ)) := by
  rw [Fin.univ_succ, Finset.cons_eq_insert, bigSep_insert (by simp [Fin.succ_ne_zero]), bigSep_map]
  rfl

theorem x_collect (a : ℕ) : ∀ n : ℕ, bigSep Finset.univ (fun j : Fin (n + 1) => iprop(O c A9 (stI (a + j) (a + j + 1)) d.X ∗ O c A0 (stI (a + j) (a + j + 1)) d.X))
    ⊢ iprop(O c A9 (stI a (a + (n + 1))) d.X ∗ O c A0 (stI a (a + (n + 1))) d.X) := by
  intro n
  induction n generalizing a with
  | zero =>
    rw [bigSep_univ_of_subsingleton (0 : Fin 1)]
    exact BIBase.Entails.rfl
  | succ n ih =>
    rw [bigSep_succ]
    have e : (fun j : Fin (n + 1) => iprop(O c A9 (stI (a + (j.succ : ℕ)) (a + (j.succ : ℕ) + 1)) d.X ∗ O c A0 (stI (a + (j.succ : ℕ)) (a + (j.succ : ℕ) + 1)) d.X))
        = fun j : Fin (n + 1) => iprop(O c A9 (stI (a + 1 + j) (a + 1 + j + 1)) d.X ∗ O c A0 (stI (a + 1 + j) (a + 1 + j + 1)) d.X) := by
      funext j
      have : a + (j.succ : ℕ) = a + 1 + j := by rw [Fin.val_succ]; omega
      rw [this]
    rw [e]
    have e2 : a + 1 + (n + 1) = a + (n + 1 + 1) := by omega
    have ih' := ih (a + 1)
    rw [e2] at ih'
    iintro ⟨⟨H9, H0⟩, HR⟩
    ihave HR := ih' $$ HR
    icases HR with ⟨H9', H0'⟩
    isplitl [H9 H9']
    · iapply (o_join c (stI_union (m := a + 1) (by omega) (by omega)) (stI_disj le_rfl))
      isplitl [H9]; · iexact H9
      iexact H9'
    · iapply (o_join c (stI_union (m := a + 1) (by omega) (by omega)) (stI_disj le_rfl))
      isplitl [H0]; · iexact H0
      iexact H0'

theorem xD_collect (t : ℕ) : bigSep Finset.univ (xD c d t) ⊢ iprop(O c A9 (stI (7 * t) (7 * (t + 1))) d.X ∗ O c A0 (stI (7 * t) (7 * (t + 1))) d.X) :=
  x_collect c d (7 * t) 6

/-- `k` of the seven waits for token tile `t`. -/
def I3 (t k : ℕ) : sProp 𝕄 :=
  if k < 7 then iprop(xB c d t 7 (k * Nx) ∗ Ow c)
  else iprop(Sem0 c (cell Q25 t) ∗ O c A9 (stI (7 * t) (7 * (t + 1))) d.X ∗ O c A0 (stI (7 * t) (7 * (t + 1))) d.X ∗ Ow c)

theorem sumTo_xA : Transfers.sumTo xA 7 = 7 * Nx := by
  rw [sumTo_succ xA (k := 6) (by omega), sumTo_succ xA (k := 5) (by omega), sumTo_succ xA (k := 4) (by omega), sumTo_succ xA (k := 3) (by omega),
    sumTo_succ xA (k := 2) (by omega), sumTo_succ xA (k := 1) (by omega), sumTo_succ xA (k := 0) (by omega), sumTo_zero]
  simp only [xA]; omega

theorem t3_step (t : Fin k0_t2_loop.trips) (k : Fin k0_t3_loop.trips) (a b : BitVec 32) :
    I3 c d (t + 1) k ⊢ Wp c (k0_t3_body A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 Q23 Q24 Q25 Q26 Q27 Q28 Q29 a b t k ⟨⟩) (fun _ => I3 c d (t + 1) (k + 1)) := by
  have hk : (k : ℕ) < 7 := k.isLt
  unfold k0_t3_body Wp
  simp only [wp_bind, wp_pure]
  rw [I3, if_pos hk, xB]
  iintro ⟨HB, HO⟩
  by_cases h6 : (k : ℕ) + 1 < 7
  · iapply (waitBatch (c : Thread nD τ) Variants.none none EC () (u' := ((k : ℕ) + 1) * Nx) (cell_at Q25 (off9 t)) ?_ ?_ ?_) $$ [HB HO]
    · rfl
    · rw [Nat.add_mul, Nat.one_mul]; rfl
    · rw [sumTo_xA]; exact Nat.mul_le_mul_right _ (by omega)
    · isplitl [HB]; · iexact HB
      iexact HO
    iintro ⟨HB, HO⟩
    imodintro
    rw [I3, if_pos h6, xB]
    isplitl [HB]; · iexact HB
    iexact HO
  · have h7 : (k : ℕ) = 6 := by omega
    iapply (waitBatchAll (c : Thread nD τ) Variants.none none EC () (A := xA) (J := Nx) (u := (k : ℕ) * Nx) (cell_at Q25 (off9 t)) ?_ ?_ ?_) $$ [HB HO]
    · rfl
    · exact fun _ => Nx_pos
    · rw [sumTo_xA, h7]; omega
    · isplitl [HB]; · iexact HB
      iexact HO
    iintro ⟨HD, HS, HO⟩
    imodintro
    rw [I3, if_neg h6]
    isplitl [HS]; · iexact HS
    ihave HD := (xD_collect c d ((t : ℕ) + 1)) $$ HD
    icases HD with ⟨H9, H0⟩
    isplitl [H9]; · iexact H9
    isplitl [H0]; · iexact H0
    iexact HO

theorem t3_run (t : Fin k0_t2_loop.trips) (a b : BitVec 32) {Q : Unit → sProp 𝕄} :
    iprop(xB c d (t + 1) 7 0 ∗ Ow c)
      ⊢ iprop((iprop(Sem0 c (cell Q25 (t + 1)) ∗ O c A9 (stI (7 * ((t : ℕ) + 1)) (7 * (t + 1 + 1))) d.X ∗ O c A0 (stI (7 * ((t : ℕ) + 1)) (7 * (t + 1 + 1))) d.X ∗ Ow c) -∗ Q ⟨⟩)
        -∗ Wp c (Scf.Loop.for k0_t3_loop k0_t3_ok ⟨⟩ (k0_t3_body A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 Q23 Q24 Q25 Q26 Q27 Q28 Q29 a b t)) Q) := by
  have e0 : I3 c d (t + 1) 0 = iprop(xB c d (t + 1) 7 0 ∗ Ow c) := by rw [I3, if_pos (by omega), Nat.zero_mul]
  have e7 : I3 c d (t + 1) 7 = iprop(Sem0 c (cell Q25 (t + 1)) ∗ O c A9 (stI (7 * ((t : ℕ) + 1)) (7 * (t + 1 + 1))) d.X ∗ O c A0 (stI (7 * ((t : ℕ) + 1)) (7 * (t + 1 + 1))) d.X ∗ Ow c) := by
    rw [I3, if_neg (by omega)]
  rw [← e0, ← e7]
  unfold Wp
  iintro HI HQ
  iapply (Scf.wp_for _ _ _ _ _ _ k0_t3_ok _ _ (fun k _ => I3 c d (t + 1) k) (fun k _ => t3_step c d t k a b))
  isplitl [HI]; · iexact HI
  iintro %_
  iintro HI
  iapply HQ
  iexact HI

/-- The steps of a token tile. -/
theorem t4_run (t : Fin k0_t2_loop.trips) (a b v : BitVec 32) {Q : Unit → sProp 𝕄} :
    I4 c d t 0 ⊢ iprop((I4 c d t 7 -∗ Q ⟨⟩) -∗ Wp c (Scf.Loop.for k0_t4_loop k0_t4_ok ⟨⟩ (k0_t4_body A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 Q23 Q24 Q25 Q26 Q27 Q28 Q29 a b t v)) Q) := by
  unfold Wp
  iintro HI HQ
  iapply (Scf.wp_for _ _ _ _ _ _ k0_t4_ok _ _ (fun k _ => I4 c d t k) (fun k _ => t4_step c d t k a b v))
  isplitl [HI]; · iexact HI
  iintro %_
  iintro HI
  iapply HQ
  iexact HI

/-! ## The first tile's logits, and the weights transposed -/

/-- What the two copies on one counter of the first tile deliver. -/
def wxD (k : ℕ) : Fin 2 → sProp 𝕄 :=
  ![iprop(O c A10 (rI k (k + 1)) d.W ∗ O c A2 (rI k (k + 1)) d.W), iprop(O c A9 (stI k (k + 1)) d.X ∗ O c A0 (stI k (k + 1)) d.X)]

theorem wxD_collect (k : ℕ) : bigSep Finset.univ (wxD c d k)
    = iprop((O c A10 (rI k (k + 1)) d.W ∗ O c A2 (rI k (k + 1)) d.W) ∗ O c A9 (stI k (k + 1)) d.X ∗ O c A0 (stI k (k + 1)) d.X) :=
  bigSep_fin_two _

def wxA : Fin 2 → ℕ := ![Nw, Nx]

theorem sumTo_wxA : Transfers.sumTo wxA 2 = Nw + Nx := by
  rw [sumTo_succ wxA (k := 1) (by omega), sumTo_succ wxA (k := 0) (by omega), sumTo_zero, Nat.zero_add]; rfl

/-- `j` of the two copies of column block `k` of the weights and of the first tile's tokens are issued. -/
def wxB (k j : ℕ) : sProp 𝕄 := MixedBatch (EC (F := F)) (c : Thread nD τ) (cell Q24 k) () wxA (wxD c d k) j 0

/-- The last `m` pairs of copies, all issued. -/
def wxRest : ℕ → sProp 𝕄
  | 0 => iprop(emp)
  | m + 1 => iprop(wxB c d (6 - m) 2 ∗ wxRest m)

/-- The first `k` of the counters, idle. -/
def wxDone : ℕ → sProp 𝕄
  | 0 => iprop(emp)
  | k + 1 => iprop(wxDone k ∗ Sem0 c (cell Q24 k))

def I1 (k : ℕ) : sProp 𝕄 :=
  iprop(wxRest c d (7 - k) ∗ wxDone c k ∗ O c A10 (rI 0 k) d.W ∗ O c A2 (rI 0 k) d.W ∗ O c A9 (stI 0 k) d.X ∗ O c A0 (stI 0 k) d.X
    ∗ (∃ Z, O c A11 Finset.univ (wtPart d Z k)) ∗ O c A13 Finset.univ (ACC d 0 k) ∗ Ow c)

theorem st_sub0 {a b e0 e1 k : ℕ} {off : Fin 2 → ℕ} {inb} (h0 : off 0 = a) (h1 : off 1 = b) (ha : a + e0 ≤ 512) (hb : b + e1 ≤ 1024 * k) :
    (Rect.unit (s := S2048x7168) off (⟨2, ![e0, e1]⟩ : Shape).size inb).set ⊆ stI 0 k := by
  intro i hi
  have := lt0 i; have := lt1 i
  rw [mem2 h0 h1] at hi
  rw [mem_stI]; omega

theorem r_sub0 {a b e0 e1 k : ℕ} {off : Fin 2 → ℕ} {inb} (h0 : off 0 = a) (h1 : off 1 = b) (ha : a + e0 ≤ 1024 * k) :
    (Rect.unit (s := S7168x256) off (⟨2, ![e0, e1]⟩ : Shape).size inb).set ⊆ rI 0 k := by
  intro i hi
  have := lt0 i; have := lt1 i
  rw [mem2 h0 h1] at hi
  rw [mem_rI]; omega

set_option maxHeartbeats 1000000 in
theorem t1_step (k : Fin k0_t1_loop.trips) (v : BitVec 32) :
    I1 c d k ⊢ Wp c (k0_t1_body A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 Q23 Q24 Q25 Q26 Q27 Q28 Q29 v k ⟨⟩) (fun _ => I1 c d (k + 1)) := by
  have hk : (k : ℕ) < 7 := k.isLt
  unfold k0_t1_body Wp
  simp only [k0_part1_eq_skeleton, k0_part1_skel, wp_bind, wp_pure]
  have e7 : 7 - (k : ℕ) = (6 - k) + 1 := by omega
  have e6 : 6 - (6 - (k : ℕ)) = k := by omega
  have e8 : 7 - ((k : ℕ) + 1) = 6 - k := by omega
  rw [I1, e7, wxRest, e6, wxB]
  iintro ⟨⟨HB, Hrest⟩, Hdone, H10, H2, H9, H0, ⟨%Z, H11⟩, H13, HO⟩
  iapply (waitBatch (c : Thread nD τ) Variants.none none EC () (A := wxA) (D := wxD c d k) (J := Nw) (u := 0) (u' := Nw) (cell_at Q24 ((off1 k).trans (Nat.mod_eq_of_lt hk).symm)) ?_ ?_ ?_) $$ [HB HO]
  · rfl
  · exact Nat.zero_add _
  · rw [sumTo_wxA]; omega
  · isplitl [HB]; · iexact HB
    iexact HO
  iintro ⟨HB, HO⟩
  iapply (waitBatchAll (c : Thread nD τ) Variants.none none EC () (A := wxA) (D := wxD c d k) (J := Nx) (u := Nw) (cell_at Q24 ((off1 k).trans (Nat.mod_eq_of_lt hk).symm)) ?_ ?_ ?_) $$ [HB HO]
  · rfl
  · intro j; fin_cases j
    · exact Nw_pos
    · exact Nx_pos
  · exact sumTo_wxA.symm
  · isplitl [HB]; · iexact HB
    iexact HO
  rw [wxD_collect]
  iintro ⟨⟨⟨H10', H2'⟩, H9', H0'⟩, HS, HO⟩
  ihave H10 := (o_join c (rI_union (a := 0) (m := k) (b := k + 1) (by omega) (by omega)) (rI_disj le_rfl)) $$ [H10 H10']
  · isplitl [H10]; · iexact H10
    iexact H10'
  ihave H2 := (o_join c (rI_union (a := 0) (m := k) (b := k + 1) (by omega) (by omega)) (rI_disj le_rfl)) $$ [H2 H2']
  · isplitl [H2]; · iexact H2
    iexact H2'
  ihave H9 := (o_join c (stI_union (a := 0) (m := k) (b := k + 1) (by omega) (by omega)) (stI_disj le_rfl)) $$ [H9 H9']
  · isplitl [H9]; · iexact H9
    iexact H9'
  ihave H0 := (o_join c (stI_union (a := 0) (m := k) (b := k + 1) (by omega) (by omega)) (stI_disj le_rfl)) $$ [H0 H0']
  · isplitl [H0]; · iexact H0
    iexact H0'
  iapply (load2 c (1024 * (k : ℕ)) (0) (off4 k).1 (off4 k).2 (r_sub0 (off4 k).1 (off4 k).2 (by omega))) $$ H10
  iintro H10
  iapply (load2 c (0) (1024 * (k : ℕ)) (off5 k).1 (off5 k).2 (Finset.subset_univ _)) $$ H11
  iintro H11
  iapply (store2 c (wtPart d Z (k + 1)) (0) (1024 * (k : ℕ)) (off5 k).1 (off5 k).2 (Finset.subset_univ _) ?_ ?_) $$ H11
  · exact wt_in hk rfl
  · exact fun i _ => wt_out rfl i
  iintro H11
  rw [← accPart_zero (d := d) 0 k]
  iapply (load2 c (0) (0) rfl rfl (Finset.subset_univ _)) $$ H13
  iintro H13
  iapply (load2 c (0) (1024 * (k : ℕ)) (off5 k).1 (off5 k).2 (Finset.subset_univ _)) $$ H11
  iintro H11
  iapply (load2 c (0) (1024 * (k : ℕ)) (off6_0 k).1 (off6_0 k).2 (st_sub0 (off6_0 k).1 (off6_0 k).2 (by omega) (by omega))) $$ H9
  iintro H9
  iapply (load2 c (0) (0) rfl rfl (Finset.subset_univ _)) $$ H13
  iintro H13
  imodintro
  iapply (store2 c (accPart d 0 k 1) (0) (0) rfl rfl (Finset.subset_univ _) ?_ ?_) $$ H13
  · exact (acc_in (g := 0) (by omega) rfl rfl).trans (by rw [← wtPart_read (Z := Z) hk rfl]; rfl)
  · exact fun i _ => acc_out (g := 0) rfl i
  iintro H13
  iapply (load2 c (0) (256) rfl rfl (Finset.subset_univ _)) $$ H13
  iintro H13
  iapply (load2 c (0) (1024 * (k : ℕ)) (off5 k).1 (off5 k).2 (Finset.subset_univ _)) $$ H11
  iintro H11
  iapply (load2 c (256) (1024 * (k : ℕ)) (off6_256 k).1 (off6_256 k).2 (st_sub0 (off6_256 k).1 (off6_256 k).2 (by omega) (by omega))) $$ H9
  iintro H9
  iapply (load2 c (0) (256) rfl rfl (Finset.subset_univ _)) $$ H13
  iintro H13
  iapply (store2 c (accPart d 0 k 2) (0) (256) rfl rfl (Finset.subset_univ _) ?_ ?_) $$ H13
  · exact (acc_in (g := 1) (by omega) rfl rfl).trans (by rw [← wtPart_read (Z := Z) hk rfl]; rfl)
  · exact fun i _ => acc_out (g := 1) rfl i
  iintro H13
  imodintro
  rw [accPart_two, I1, e8, wxDone]
  isplitl [Hrest]; · iexact Hrest
  isplitl [Hdone HS]
  · isplitl [Hdone]; · iexact Hdone
    iexact HS
  isplitl [H10]; · iexact H10
  isplitl [H2]; · iexact H2
  isplitl [H9]; · iexact H9
  isplitl [H0]; · iexact H0
  isplitl [H11]; · iexists Z; iexact H11
  isplitl [H13]; · iexact H13
  iexact HO

theorem t1_run (v : BitVec 32) {Q : Unit → sProp 𝕄} :
    I1 c d 0 ⊢ iprop((I1 c d 7 -∗ Q ⟨⟩) -∗ Wp c (Scf.Loop.for k0_t1_loop k0_t1_ok ⟨⟩ (k0_t1_body A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 Q23 Q24 Q25 Q26 Q27 Q28 Q29 v)) Q) := by
  unfold Wp
  iintro HI HQ
  iapply (Scf.wp_for _ _ _ _ _ _ k0_t1_ok _ _ (fun k _ => I1 c d k) (fun k _ => t1_step c d k v))
  isplitl [HI]; · iexact HI
  iintro %_
  iintro HI
  iapply HQ
  iexact HI

end Cert.KernelIdeal.Val

end
-- ==== Proof.RT2.lean ====
/-
  A trip's routing part: what a token tile's logits, choices, and weights leave as the gradient of the logits.
-/
module

public import proofs.«01_k».proof.Proof.Setup
public import proofs.«01_k».proof.Proof.Gen.KernelIdeal.Loops

@[expose] public section

set_option maxRecDepth 16384

noncomputable section

namespace Cert.KernelIdeal.Val

open Cert.KernelIdeal Cert.KernelIdeal.Gen Cert.Own
open Idealize.ShloMosaic Idealize.ShloMosaic.TcCoe Idealize.ShloMosaic.Tactic
open Idealize.SL Idealize.SL.RA Idealize.SL.BI
open scoped Idealize.SL.BI
open Idealize.ShloMosaic.Transfers
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The copy out of a token tile's gradient of the logits. -/
def dloOut (arg8 : Memref sig .tc .hbm S2048x256 .f32) (arg18 : Memref sig .tc .vmem S512x256 .f32) (harg18 : arg18.IsWhole) (arg28 : DmaSems sig S_)
    (t : Fin k0_t2_loop.trips) : Prog (TpuEff nD τ sig (Elt F) Λ₀ .tc) Unit :=
  (Prog.lift (.enqueueDma arg18 (.here (arg8.slice (Rect.unit (s := S2048x256) (k0_off40 t) S512x256.size (k0_off40_inb t)) (fun _ => rfl))) (.dma arg28.sem) harg18.wordExact (View.wordExact_bits rfl) ⟨Or.inl rfl, trivial⟩) >>= fun _ => pure ⟨⟩)

set_option pp.maxSteps 100 in
set_option maxHeartbeats 4000000 in
/-- The routing part of a trip run on any contents, for what it names: every value read and every list of pieces written. -/
theorem rt2_gen (c : Dev nD) (arg0 : Memref sig .tc .hbm S2048x7168 .fp8e4m3) (harg0 : arg0.IsWhole) (arg1 : Memref sig .tc .hbm S2x1024 .f32) (harg1 : arg1.IsWhole) (arg2 : Memref sig .tc .hbm S7168x256 .bf16) (harg2 : arg2.IsWhole) (arg3 : Memref sig .tc .hbm S2x8x1024 .i32) (harg3 : arg3.IsWhole) (arg4 : Memref sig .tc .hbm S2x8x1024 .bf16) (harg4 : arg4.IsWhole) (arg5 : Memref sig .tc .hbm S2048x7168 .bf16) (harg5 : arg5.IsWhole) (arg6 : Memref sig .tc .hbm S2048x7168 .bf16) (harg6 : arg6.IsWhole) (arg7 : Memref sig .tc .hbm S7168x256 .f32) (harg7 : arg7.IsWhole) (arg8 : Memref sig .tc .hbm S2048x256 .f32) (harg8 : arg8.IsWhole) (arg9 : Memref sig .tc .vmem S2048x7168 .fp8e4m3) (harg9 : arg9.IsWhole) (arg10 : Memref sig .tc .vmem S7168x256 .bf16) (harg10 : arg10.IsWhole) (arg11 : Memref sig .tc .vmem S256x7168 .bf16) (harg11 : arg11.IsWhole) (arg12 : Memref sig .tc .vmem S256x7168 .f32) (harg12 : arg12.IsWhole) (arg13 : Memref sig .tc .vmem S256x512 .f32) (harg13 : arg13.IsWhole) (arg14 : Memref sig .tc .vmem S512x256 .bf16) (harg14 : arg14.IsWhole) (arg15 : Memref sig .tc .vmem S256x512 .bf16) (harg15 : arg15.IsWhole) (arg16 : Memref sig .tc .vmem S4x512x1024 .bf16) (harg16 : arg16.IsWhole) (arg17 : Memref sig .tc .vmem S3x512x1024 .bf16) (harg17 : arg17.IsWhole) (arg18 : Memref sig .tc .vmem S512x256 .f32) (harg18 : arg18.IsWhole) (arg19 : Memref sig .tc .vmem S2x1024x256 .f32) (harg19 : arg19.IsWhole) (arg20 : Memref sig .tc .vmem S2x8x1024 .i32) (harg20 : arg20.IsWhole) (arg21 : Memref sig .tc .vmem S2x8x1024 .bf16) (harg21 : arg21.IsWhole) (arg22 : Memref sig .tc .vmem S2x1024 .f32) (harg22 : arg22.IsWhole) (arg23 : DmaSems sig S_) (arg24 : DmaSems sig S7) (arg25 : DmaSems sig S2) (arg26 : DmaSems sig S4) (arg27 : DmaSems sig S3) (arg28 : DmaSems sig S_) (arg29 : DmaSems sig S2)
    (v5400 : FVec F S256x128 .f32) (v5401 : FVec F S256x128 .bf16) (v5402 : FVec F S1x128 .bf16) (t : Fin k0_t2_loop.trips)
    (Q : Unit → sProp 𝕄) :
    iprop(wp frame (wpE (defs₀ (F := F)) Variants.none (c : Thread nD τ) none) Set.univ (k0_part13 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 0#32 1#32 t) (fun r => iprop(∃ (f13 : Buf (Elt F) (arg13.view.loc (c : Thread nD τ))) (f14 : Buf (Elt F) (arg14.view.loc (c : Thread nD τ))) (f15 : Buf (Elt F) (arg15.view.loc (c : Thread nD τ))) (f18 : Buf (Elt F) (arg18.view.loc (c : Thread nD τ))) (f20 : Buf (Elt F) (arg20.view.loc (c : Thread nD τ))) (f21 : Buf (Elt F) (arg21.view.loc (c : Thread nD τ))) (f22 : Buf (Elt F) (arg22.view.loc (c : Thread nD τ))),
      (arg13.view.loc (c : Thread nD τ) ↦{fullShare} f13) ∗ (arg14.view.loc (c : Thread nD τ) ↦{fullShare} f14) ∗ (arg15.view.loc (c : Thread nD τ) ↦{fullShare} f15) ∗ (arg18.view.loc (c : Thread nD τ) ↦{fullShare} f18) ∗ (arg20.view.loc (c : Thread nD τ) ↦{fullShare} f20) ∗ (arg21.view.loc (c : Thread nD τ) ↦{fullShare} f21) ∗ (arg22.view.loc (c : Thread nD τ) ↦{fullShare} f22) ∗ ⌜False⌝)))
      ⊢ wp frame (wpE (defs₀ (F := F)) Variants.none (c : Thread nD τ) none) Set.univ (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 v5400 v5401 v5402 t ⟨⟩) Q := by
  unfold k0_t2_body
  rw [wp_bind, k0_part134_eq_skeleton]
  unfold k0_part134_skel
  rw [wp_bind]
  iintro H
  iapply (wp_mono ?_) $$ H
  intro r
  obtain ⟨r1, r2, r3, r4, r5, r6, r7, r8⟩ := r
  iintro ⟨%f13, %f14, %f15, %f18, %f20, %f21, %f22, H13, H14, H15, H18, H20, H21, H22, Hk⟩
  rw [← wp_bind]
  sl_exec_parts!
  icases Hk with %hk
  exact hk.elim

set_option pp.maxSteps 100 in
set_option maxHeartbeats 4000000 in
/-- The routing part of a trip, up to the copy out of the gradient of the logits. -/
theorem rt2_run (c : Dev nD) (arg0 : Memref sig .tc .hbm S2048x7168 .fp8e4m3) (harg0 : arg0.IsWhole) (arg1 : Memref sig .tc .hbm S2x1024 .f32) (harg1 : arg1.IsWhole) (arg2 : Memref sig .tc .hbm S7168x256 .bf16) (harg2 : arg2.IsWhole) (arg3 : Memref sig .tc .hbm S2x8x1024 .i32) (harg3 : arg3.IsWhole) (arg4 : Memref sig .tc .hbm S2x8x1024 .bf16) (harg4 : arg4.IsWhole) (arg5 : Memref sig .tc .hbm S2048x7168 .bf16) (harg5 : arg5.IsWhole) (arg6 : Memref sig .tc .hbm S2048x7168 .bf16) (harg6 : arg6.IsWhole) (arg7 : Memref sig .tc .hbm S7168x256 .f32) (harg7 : arg7.IsWhole) (arg8 : Memref sig .tc .hbm S2048x256 .f32) (harg8 : arg8.IsWhole) (arg9 : Memref sig .tc .vmem S2048x7168 .fp8e4m3) (harg9 : arg9.IsWhole) (arg10 : Memref sig .tc .vmem S7168x256 .bf16) (harg10 : arg10.IsWhole) (arg11 : Memref sig .tc .vmem S256x7168 .bf16) (harg11 : arg11.IsWhole) (arg12 : Memref sig .tc .vmem S256x7168 .f32) (harg12 : arg12.IsWhole) (arg13 : Memref sig .tc .vmem S256x512 .f32) (harg13 : arg13.IsWhole) (arg14 : Memref sig .tc .vmem S512x256 .bf16) (harg14 : arg14.IsWhole) (arg15 : Memref sig .tc .vmem S256x512 .bf16) (harg15 : arg15.IsWhole) (arg16 : Memref sig .tc .vmem S4x512x1024 .bf16) (harg16 : arg16.IsWhole) (arg17 : Memref sig .tc .vmem S3x512x1024 .bf16) (harg17 : arg17.IsWhole) (arg18 : Memref sig .tc .vmem S512x256 .f32) (harg18 : arg18.IsWhole) (arg19 : Memref sig .tc .vmem S2x1024x256 .f32) (harg19 : arg19.IsWhole) (arg20 : Memref sig .tc .vmem S2x8x1024 .i32) (harg20 : arg20.IsWhole) (arg21 : Memref sig .tc .vmem S2x8x1024 .bf16) (harg21 : arg21.IsWhole) (arg22 : Memref sig .tc .vmem S2x1024 .f32) (harg22 : arg22.IsWhole) (arg23 : DmaSems sig S_) (arg24 : DmaSems sig S7) (arg25 : DmaSems sig S2) (arg26 : DmaSems sig S4) (arg27 : DmaSems sig S3) (arg28 : DmaSems sig S_) (arg29 : DmaSems sig S2)
    (v5400 : FVec F S256x128 .f32) (v5401 : FVec F S256x128 .bf16) (v5402 : FVec F S1x128 .bf16) (t : Fin k0_t2_loop.trips)
    (Q : Unit → sProp 𝕄) :
    iprop(wp frame (wpE (defs₀ (F := F)) Variants.none (c : Thread nD τ) none) Set.univ (k0_part13 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 0#32 1#32 t) (fun r => iprop(∃ (f13 : Buf (Elt F) (arg13.view.loc (c : Thread nD τ))) (f14 : Buf (Elt F) (arg14.view.loc (c : Thread nD τ))) (f15 : Buf (Elt F) (arg15.view.loc (c : Thread nD τ))) (f18 : Buf (Elt F) (arg18.view.loc (c : Thread nD τ))) (f20 : Buf (Elt F) (arg20.view.loc (c : Thread nD τ))) (f21 : Buf (Elt F) (arg21.view.loc (c : Thread nD τ))) (f22 : Buf (Elt F) (arg22.view.loc (c : Thread nD τ))),
      (arg13.view.loc (c : Thread nD τ) ↦{fullShare} f13) ∗ (arg14.view.loc (c : Thread nD τ) ↦{fullShare} f14) ∗ (arg15.view.loc (c : Thread nD τ) ↦{fullShare} f15) ∗ (arg18.view.loc (c : Thread nD τ) ↦{fullShare} f18) ∗ (arg20.view.loc (c : Thread nD τ) ↦{fullShare} f20) ∗ (arg21.view.loc (c : Thread nD τ) ↦{fullShare} f21) ∗ (arg22.view.loc (c : Thread nD τ) ↦{fullShare} f22) ∗ (((arg13.view.loc (c : Thread nD τ) ↦{fullShare} arg13.view.writes (Elt F) arg13.view.junk (rt2_gen.sl.H13_1)) ∗ (arg14.view.loc (c : Thread nD τ) ↦{fullShare} arg14.view.writes (Elt F) arg14.view.junk (rt2_gen.sl.H14_4 c arg13 arg20 arg21 arg22 t r.2.2.1 f13 f20 f21 f22)) ∗ (arg15.view.loc (c : Thread nD τ) ↦{fullShare} arg15.view.writes (Elt F) arg15.view.junk (rt2_gen.sl.H15_4 c arg13 arg20 arg21 arg22 t r.2.2.1 f13 f20 f21 f22)) ∗ (arg18.view.loc (c : Thread nD τ) ↦{fullShare} arg18.view.writes (Elt F) arg18.view.junk (rt2_gen.sl.H18_4 c arg13 arg20 arg21 arg22 t r.2.2.1 f13 f20 f21 f22)) ∗ (arg20.view.loc (c : Thread nD τ) ↦{fullShare} f20) ∗ (arg21.view.loc (c : Thread nD τ) ↦{fullShare} f21) ∗ (arg22.view.loc (c : Thread nD τ) ↦{fullShare} f22))
        -∗ wp frame (wpE (defs₀ (F := F)) Variants.none (c : Thread nD τ) none) Set.univ (dloOut arg8 arg18 harg18 arg28 t) Q))))
      ⊢ wp frame (wpE (defs₀ (F := F)) Variants.none (c : Thread nD τ) none) Set.univ (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 v5400 v5401 v5402 t ⟨⟩) Q := by
  unfold k0_t2_body
  rw [wp_bind, k0_part134_eq_skeleton]
  unfold k0_part134_skel
  rw [wp_bind]
  iintro H
  iapply (wp_mono ?_) $$ H
  intro r
  obtain ⟨r1, r2, r3, r4, r5, r6, r7, r8⟩ := r
  iintro ⟨%f13, %f14, %f15, %f18, %f20, %f21, %f22, H13, H14, H15, H18, H20, H21, H22, Hk⟩
  rw [← wp_bind]
  sl_exec_parts!
  iapply Hk
  isplitl [H13]; · iexact H13
  isplitl [H14]; · iexact H14
  isplitl [H15]; · iexact H15
  isplitl [H18]; · iexact H18
  isplitl [H20]; · iexact H20
  isplitl [H21]; · iexact H21
  iexact H22

end Cert.KernelIdeal.Val

end
-- ==== Proof.T2.lean ====
/-
  A trip over a token tile.
-/
module

public import proofs.«01_k».proof.Proof.T13
public import proofs.«01_k».proof.Proof.RT2
public import Idealize.ShloMosaic.Lib.VecWindow

@[expose] public section

set_option maxRecDepth 16384

noncomputable section

namespace Cert.KernelIdeal.Val

open Cert.KernelIdeal Cert.KernelIdeal.Gen Cert.Own
open Idealize.ShloMosaic Idealize.ShloMosaic.TcCoe Idealize.ShloMosaic.Tactic
open Idealize.SL Idealize.SL.RA Idealize.SL.BI
open scoped Idealize.SL.BI
open Idealize.ShloMosaic.Transfers
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (d : Data F) (ids : S2x8x1024.Idx → Elt F .i32) (dg : S2x8x1024.Idx → Elt F .bf16) (xs : S2x1024.Idx → Elt F .f32)

/-! ## The router's results -/

/-- The batch of token tile `t + 1`, as the routing part is handed it. -/
def bw (t : ℕ) : BitVec 32 := BitVec.ofNat 32 ((t + 1) / 2)

/-- What the routing part of trip `t` leaves of logits `acc`: the gradient of the logits rounded, -/
def rDL (t : Fin k0_t2_loop.trips) (acc : S256x512.Idx → Elt F .f32) : S512x256.Idx → Elt F .bf16 :=
  A14.view.read (Elt F) (A14.view.writes (Elt F) A14.view.junk (rt2_gen.sl.H14_4 c A13 A20 A21 A22 t (bw t) acc ids dg xs))

/-- the same scaled and transposed, -/
def rDLS (t : Fin k0_t2_loop.trips) (acc : S256x512.Idx → Elt F .f32) : S256x512.Idx → Elt F .bf16 :=
  A15.view.read (Elt F) (A15.view.writes (Elt F) A15.view.junk (rt2_gen.sl.H15_4 c A13 A20 A21 A22 t (bw t) acc ids dg xs))

/-- and unrounded. -/
def rDLO (t : Fin k0_t2_loop.trips) (acc : S256x512.Idx → Elt F .f32) : S512x256.Idx → Elt F .f32 :=
  A18.view.read (Elt F) (A18.view.writes (Elt F) A18.view.junk (rt2_gen.sl.H18_4 c A13 A20 A21 A22 t (bw t) acc ids dg xs))

/-- The recorded results of the router are those of its runs on the three later token tiles. -/
structure Later : Prop where
  dl : ∀ t : Fin k0_t2_loop.trips, d.DL (t + 1) = rDL c ids dg xs t (ACC d (t + 1) 7)
  dls : ∀ t : Fin k0_t2_loop.trips, d.DLS (t + 1) = rDLS c ids dg xs t (ACC d (t + 1) 7)
  dlo : ∀ t : Fin k0_t2_loop.trips, d.DLO (t + 1) = rDLO c ids dg xs t (ACC d (t + 1) 7)

theorem read_zero : A13.view.read (Elt F) (A13.view.writes (Elt F) A13.view.junk (rt2_gen.sl.H13_1 (F := F))) = zeroAcc := by
  unfold rt2_gen.sl.H13_1
  refine (View.read_writes_full _ _ _ _ _).trans ?_
  unfold k0_pay867 zeroAcc
  funext _
  rfl

/-- The copy out of a token tile's gradient of the logits. -/
theorem enq_dlo {oA : Fin 2 → ℕ} {iA hrA hs hd ht} {t : ℕ} {Y : S512x256.Idx → Elt F .f32} {Q : PUnit → sProp 𝕄}
    (hA0 : oA 0 = 512 * t) (hA1 : oA 1 = 0) (h4 : t < 4) (hY : d.DLO t = Y)
    (hN : (A8.slice (Rect.unit (s := S2048x256) oA S512x256.size iA) hrA).view.amount (cell0 Q28) = Ndlo) :
    iprop(O c A18 Finset.univ Y ∗ (∃ Z, O c A8 (tI t (t + 1)) Z) ∗ Sem0 c (cell0 Q28))
      ⊢ iprop((dloF c d t -∗ Q ⟨⟩)
          -∗ Wp c (Prog.lift (.enqueueDma A18 (.here (A8.slice (Rect.unit (s := S2048x256) oA S512x256.size iA) hrA)) (.dma Q28.sem) hs hd ht)) Q) := by
  refine dma (c : Thread nD τ) Variants.none none EC () rfl hN Ndlo_pos (Y := Y) BIBase.Entails.rfl ?_ ?_
    (of_slice (c : Thread nD τ) _ _ (rect_t hA0 hA1 rfl) fun j => ?_)
  · iintro ⟨%Z, H⟩
    iexists _
    iapply (to_slice (c : Thread nD τ) _ _ (rect_t hA0 hA1 rfl)) $$ H
  · iintro H
    iexists Y
    iexact H
  · rw [emb2 hA0 hA1, ← hY]
    have := lt0 j; have := lt1 j
    unfold DLOA
    rw [mk2_0, mk2_1]
    have e1 : (512 * t + (j 0 : ℕ)) % 2048 / 512 = t := by omega
    have e2 : (512 * t + (j 0 : ℕ)) % 2048 % 512 = j 0 := by omega
    rw [e1, e2]
    refine congrArg _ (ext2 ?_ ?_)
    · rw [mk2_0]; omega
    · rw [mk2_1]; change _ = (0 + (j 1 : ℕ)) % 256 % 256; omega

/-- Before trip `t` of the loop over the first three token tiles. -/
def I2 (t : ℕ) : sProp 𝕄 :=
  iprop(dyS c d (7 * t) ∗ dhS c d (7 * t) ∗ O c A9 (stI 0 (7 * (t + 1))) d.X ∗ O c A0 (stI 0 (7 * (t + 1))) d.X
    ∗ (if t + 1 < 4 then iprop(xB c d (t + 1) 7 0 ∗ (∃ Z, O c A9 (stI (7 * (t + 2)) 28) Z) ∗ O c A0 (stI (7 * (t + 2)) 28) d.X) else Sem0 c (cell Q25 (t + 1)))
    ∗ Sem0 c (cell Q25 t)
    ∗ O c A11 Finset.univ (WT d) ∗ O c A12 Finset.univ (DWT d t) ∗ O c A13 Finset.univ (ACC d (t + 1) 0)
    ∗ O c A14 Finset.univ (d.DL t) ∗ O c A15 Finset.univ (d.DLS t)
    ∗ dloF c d t ∗ O c A8 (tI 0 t) (DLOA d) ∗ (∃ Z, O c A8 (tI (t + 1) 4) Z)
    ∗ O c A20 Finset.univ ids ∗ O c A21 Finset.univ dg ∗ O c A22 Finset.univ xs ∗ Ow c)

instance xD_storable (t : ℕ) (j : Fin 7) : Storable (upEmb : UEmb _ 𝕄) (xD c d t j) := by
  unfold xD; infer_instance

theorem x_open (t : ℕ) (Z : S2048x7168.Idx → Elt F .fp8e4m3) :
    iprop(Sem0 c (cell Q25 t) ∗ O c A9 (stI (7 * (t + 2)) 28) Z ∗ O c A0 (stI (7 * (t + 2)) 28) d.X)
      ⊢ iprop(|={Set.univ}=> (if t + 2 < 4 then iprop(xB c d (t + 2) 0 0 ∗ (∃ Z, O c A9 (stI (7 * (t + 2) + 0) 28) Z) ∗ O c A0 (stI (7 * (t + 2) + 0) 28) d.X) else Sem0 c (cell Q25 t))) := by
  iintro ⟨HS, H9, H0⟩
  by_cases h : t + 2 < 4
  · rw [if_pos h, xB, cell_add]
    have e : ∃ q, cell Q25 t = .dma q := ⟨_, rfl⟩
    obtain ⟨q, hq⟩ := e
    rw [hq]
    imod (Transfers.mixedBatch_alloc' (Lvl := ℕ) (countersEmb (U := Pipeline.UD sig nD τ)) (c : Thread nD τ) () xA (xD c d (t + 2)) (sm := .dma q) (E := Set.univ)) $$ HS with HB
    imodintro
    isplitl [HB]; · iexact HB
    isplitl [H9]; · iexists Z; iexact H9
    iexact H0
  · rw [if_neg h]
    imodintro
    iexact HS

/-- The same as the program computes it. -/
def bwWord (t : ℕ) : BitVec 32 :=
    let v5466 := Scalar.addi (Scalar.addi 0#32 (Scalar.muli (Scf.iv 0#32 1#32 t) 1#32)) 1#32
    let v5468 : BitVec 1 := Scalar.cmpi .sgt v5466 0#32
    let v5470 : BitVec 1 := Scalar.cmpi .slt v5466 0#32
    let v5473 : BitVec 1 := Scalar.cmpi .sgt 2#32 0#32
    let v5475 : BitVec 1 := Scalar.cmpi .slt 2#32 0#32
    let v5478 : BitVec 1 := Scalar.cmpi .ne (Scalar.subi (Scalar.extui v5468) (Scalar.extui v5470)) (Scalar.subi (Scalar.extui v5473) (Scalar.extui v5475))
    let v5480 : BitVec 1 := Scalar.cmpi .ne (Scalar.remsi v5466 2#32) 0#32
    Scalar.select (Scalar.andi v5478 v5480) (Scalar.subi (Scalar.divsi v5466 2#32) 1#32) (Scalar.divsi v5466 2#32)

theorem bw_eq : ∀ t : Fin k0_t2_loop.trips, bwWord t = bw t := by decide +kernel

theorem x_shift (t : ℕ) :
    (if t + 2 < 4 then iprop(xB c d (t + 2) 7 0 ∗ (∃ Z, O c A9 (stI (7 * (t + 2) + 7) 28) Z) ∗ O c A0 (stI (7 * (t + 2) + 7) 28) d.X) else Sem0 c (cell Q25 t))
      ⊢ (if t + 1 + 1 < 4 then iprop(xB c d (t + 1 + 1) 7 0 ∗ (∃ Z, O c A9 (stI (7 * (t + 1 + 2)) 28) Z) ∗ O c A0 (stI (7 * (t + 1 + 2)) 28) d.X) else Sem0 c (cell Q25 (t + 1 + 1))) := by
  rw [show t + 1 + 1 = t + 2 from rfl, show 7 * (t + 1 + 2) = 7 * (t + 2) + 7 by omega, cell_add Q25 t]

set_option maxHeartbeats 2000000 in
theorem t2_step (hd : Later c d ids dg xs) (t : Fin k0_t2_loop.trips) (v5400 : FVec F S256x128 .f32) (v5401 : FVec F S256x128 .bf16) (v5402 : FVec F S1x128 .bf16) :
    I2 c d ids dg xs t ⊢ Wp c (k0_t2_body A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 Q23 Q24 Q25 Q26 Q27 Q28 Q29 v5400 v5401 v5402 t ⟨⟩) (fun _ => I2 c d ids dg xs (t + 1)) := by
  have ht : (t : ℕ) < 3 := t.isLt
  unfold Wp
  rw [I2, if_pos (by omega)]
  iintro ⟨Hdy, Hdh, H9, H0, ⟨HX, ⟨%Z9, H9n⟩, H0n⟩, Hs, H11, H12, H13, H14, H15, Hdlo, H8, H8n, H20, H21, H22, HO⟩
  iapply (rt2_run c A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 Q23 Q24 Q25 Q26 Q27 Q28 Q29 v5400 v5401 v5402 t _)
  rw [k0_part13_eq_skeleton]
  unfold k0_part13_skel
  rw [wp_bind]
  iapply (t3_run c d t _ _) $$ [HX HO]
  · isplitl [HX]; · iexact HX
    iexact HO
  iintro ⟨Hs1, H9', H0', HO⟩
  ihave H9 := (o_join c (stI_union (a := 0) (m := 7 * ((t : ℕ) + 1)) (b := 7 * ((t : ℕ) + 2)) (by omega) (by omega)) (stI_disj le_rfl)) $$ [H9 H9']
  · isplitl [H9]; · iexact H9
    iexact H9'
  ihave H0 := (o_join c (stI_union (a := 0) (m := 7 * ((t : ℕ) + 1)) (b := 7 * ((t : ℕ) + 2)) (by omega) (by omega)) (stI_disj le_rfl)) $$ [H0 H0']
  · isplitl [H0]; · iexact H0
    iexact H0'
  rw [wp_bind]
  ihave HX := (x_open c d (t : ℕ) Z9) $$ [Hs H9n H0n]
  · isplitl [Hs]; · iexact Hs
    isplitl [H9n]; · iexact H9n
    iexact H0n
  imod HX with HX
  ihave HI : I4 c d t 0 $$ [Hdy Hdh H9 H0 HX H11 H12 H13 H14 H15 HO]
  · rw [I4, Nat.add_zero, dwPart_zero]
    isplitl [Hdy]; · iexact Hdy
    isplitl [Hdh]; · iexact Hdh
    isplitl [H9]; · iexact H9
    isplitl [H0]; · iexact H0
    isplitl [HX]; · iexact HX
    isplitl [H11]; · iexact H11
    isplitl [H12]; · iexact H12
    isplitl [H13]; · iexact H13
    isplitl [H14]; · iexact H14
    isplitl [H15]; · iexact H15
    iexact HO
  iapply (t4_run c d t _ _ _) $$ HI
  rw [I4, show 4 * 7 = 28 from rfl, dwPart_all]
  iintro ⟨Hdy, Hdh, H9, H0, HX, H11, H12, H13, H14, H15, HO⟩
  rw [wp_bind]
  unfold dloF
  iapply (wait (c : Thread nD τ) Variants.none none EC () (cell := cell0 Q28) rfl ?_) $$ [Hdlo HO]
  · rfl
  · isplitl [Hdlo]; · iexact Hdlo
    iexact HO
  iintro ⟨⟨H8', ⟨%Z18, H18⟩⟩, Hs28, HO⟩
  ihave H8 := (o_join c (tI_union (a := 0) (m := t) (b := (t : ℕ) + 1) (by omega) (by omega)) (tI_disj le_rfl)) $$ [H8 H8']
  · isplitl [H8]; · iexact H8
    iexact H8'
  icases H8n with ⟨%Z8, H8n⟩
  ihave H13 := (pointsTo_of_own (c : Thread nD τ) (m := A13) (View.set_whole _)) $$ H13
  icases H13 with ⟨%f13, %h13, H13⟩
  ihave H14 := (pointsTo_of_own (c : Thread nD τ) (m := A14) (View.set_whole _)) $$ H14
  icases H14 with ⟨%f14, %h14, H14⟩
  ihave H15 := (pointsTo_of_own (c : Thread nD τ) (m := A15) (View.set_whole _)) $$ H15
  icases H15 with ⟨%f15, %h15, H15⟩
  ihave H18 := (pointsTo_of_own (c : Thread nD τ) (m := A18) (View.set_whole _)) $$ H18
  icases H18 with ⟨%f18, %h18, H18⟩
  ihave H20 := (pointsTo_of_own (c : Thread nD τ) (m := A20) (View.set_whole _)) $$ H20
  icases H20 with ⟨%f20, %h20, H20⟩
  ihave H21 := (pointsTo_of_own (c : Thread nD τ) (m := A21) (View.set_whole _)) $$ H21
  icases H21 with ⟨%f21, %h21, H21⟩
  ihave H22 := (pointsTo_of_own (c : Thread nD τ) (m := A22) (View.set_whole _)) $$ H22
  icases H22 with ⟨%f22, %h22, H22⟩
  rw [wp_pure]
  imodintro
  iexists f13, f14, f15, f18, f20, f21, f22
  isplitl [H13]; · iexact H13
  isplitl [H14]; · iexact H14
  isplitl [H15]; · iexact H15
  isplitl [H18]; · iexact H18
  isplitl [H20]; · iexact H20
  isplitl [H21]; · iexact H21
  isplitl [H22]; · iexact H22
  iintro ⟨H13, H14, H15, H18, H20, H21, H22⟩
  ihave H13 := (own_of_pointsTo (c : Thread nD τ) (m := A13) (View.set_whole _)) $$ H13
  ihave H14 := (own_of_pointsTo (c : Thread nD τ) (m := A14) (View.set_whole _)) $$ H14
  ihave H15 := (own_of_pointsTo (c : Thread nD τ) (m := A15) (View.set_whole _)) $$ H15
  ihave H18 := (own_of_pointsTo (c : Thread nD τ) (m := A18) (View.set_whole _)) $$ H18
  ihave H20 := (own_of_pointsTo (c : Thread nD τ) (m := A20) (View.set_whole _)) $$ H20
  ihave H21 := (own_of_pointsTo (c : Thread nD τ) (m := A21) (View.set_whole _)) $$ H21
  ihave H22 := (own_of_pointsTo (c : Thread nD τ) (m := A22) (View.set_whole _)) $$ H22
  have e13 : f13 = ACC d (t + 1) 7 := h13
  have e20 : f20 = ids := h20
  have e21 : f21 = dg := h21
  have e22 : f22 = xs := h22
  subst e13 e20 e21 e22
  have q14 := hd.dl t
  have q15 := hd.dls t
  have q18 := hd.dlo t
  unfold rDL at q14
  rw [← bw_eq] at q14
  unfold rDLS at q15
  rw [← bw_eq] at q15
  unfold rDLO at q18
  rw [← bw_eq] at q18
  ihave H13 : O c A13 Finset.univ (ACC d (t + 1 + 1) 0) $$ [H13]
  · rw [show ACC d ((t : ℕ) + 1 + 1) 0 = zeroAcc from rfl, ← read_zero]
    iexact H13
  ihave H14 : O c A14 Finset.univ (d.DL (t + 1)) $$ [H14]
  · rw [q14]
    iexact H14
  ihave H15 : O c A15 Finset.univ (d.DLS (t + 1)) $$ [H15]
  · rw [q15]
    iexact H15
  ihave H18 : O c A18 Finset.univ (d.DLO (t + 1)) $$ [H18]
  · rw [q18]
    iexact H18
  unfold dloOut
  rw [wp_bind]
  ihave H8n := (o_split c (tI_union (a := (t : ℕ) + 1) (m := (t : ℕ) + 1 + 1) (b := 4) (by omega) (by omega)) (tI_disj le_rfl)) $$ H8n
  icases H8n with ⟨H8a, H8n⟩
  iapply (enq_dlo c d (t := (t : ℕ) + 1) (off40 t).1 (off40 t).2 (by omega) rfl ?_) $$ [H18 H8a Hs28]
  · rfl
  · isplitl [H18]; · iexact H18
    isplitl [H8a]; · iexists Z8; iexact H8a
    iexact Hs28
  iintro Hdlo
  rw [wp_pure]
  unfold I2
  imodintro
  isplitl [Hdy]; · iexact Hdy
  isplitl [Hdh]; · iexact Hdh
  isplitl [H9]; · iexact H9
  isplitl [H0]; · iexact H0
  isplitl [HX]
  · iapply (x_shift c d t) $$ HX
  isplitl [Hs1]; · iexact Hs1
  isplitl [H11]; · iexact H11
  isplitl [H12]; · iexact H12
  isplitl [H13]; · iexact H13
  isplitl [H14]; · iexact H14
  isplitl [H15]; · iexact H15
  isplitl [Hdlo]; · iexact Hdlo
  isplitl [H8]; · iexact H8
  isplitl [H8n]; · iexists Z8; iexact H8n
  isplitl [H20]; · iexact H20
  isplitl [H21]; · iexact H21
  isplitl [H22]; · iexact H22
  iexact HO

theorem t2_run (hd : Later c d ids dg xs) (v5400 : FVec F S256x128 .f32) (v5401 : FVec F S256x128 .bf16) (v5402 : FVec F S1x128 .bf16) {Q : Unit → sProp 𝕄} :
    I2 c d ids dg xs 0 ⊢ iprop((I2 c d ids dg xs 3 -∗ Q ⟨⟩) -∗ Wp c (Scf.Loop.for k0_t2_loop k0_t2_ok ⟨⟩ (k0_t2_body A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 Q23 Q24 Q25 Q26 Q27 Q28 Q29 v5400 v5401 v5402)) Q) := by
  unfold Wp
  iintro HI HQ
  iapply (Scf.wp_for _ _ _ _ _ _ k0_t2_ok _ _ (fun k _ => I2 c d ids dg xs k) (fun k _ => t2_step c d ids dg xs hd k v5400 v5401 v5402))
  isplitl [HI]; · iexact HI
  iintro %_
  iintro HI
  iapply HQ
  iexact HI

end Cert.KernelIdeal.Val

end
-- ==== Proof.T5.lean ====
/-
  The weight gradient's slots, and a step of the last token tile.
-/
module

public import proofs.«01_k».proof.Proof.T4

@[expose] public section

set_option maxRecDepth 16384

noncomputable section

namespace Cert.KernelIdeal.Val

open Cert.KernelIdeal Cert.KernelIdeal.Gen Cert.Own
open Idealize.ShloMosaic Idealize.ShloMosaic.TcCoe Idealize.ShloMosaic.Tactic
open Idealize.SL Idealize.SL.RA Idealize.SL.BI
open scoped Idealize.SL.BI
open Idealize.ShloMosaic.Transfers
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (d : Data F)

/-! ## The weight gradient's two slots -/

/-- Before column block `n`. -/
def dwS (n : ℕ) : sProp 𝕄 :=
  iprop(dwP c d n ∗ dwP c d (n + 1) ∗ O c A7 (rI 0 (n - 2)) (DW d) ∗ ∃ Z, O c A7 (rI n 7) Z)

/-- Within column block `n`. -/
def dwR (n : ℕ) : sProp 𝕄 :=
  iprop(Sem0 c (cell Q29 n) ∗ dwP c d (n + 1) ∗ O c A7 (rI 0 (n - 1)) (DW d) ∗ ∃ Z, O c A7 (rI n 7) Z)

theorem rI_empty {a b : ℕ} (h : b ≤ a) : rI a b = ∅ := by
  ext i; simp only [mem_rI, Finset.notMem_empty, iff_false]; omega

theorem dw_wait {n : ℕ} {φ : Prop} [Decidable φ] (hφ : φ ↔ 2 ≤ n) {α : Type} {f : φ → Prog (TpuEff nD τ sig (Elt F) Λ₀ .tc) α}
    {g : Prog (TpuEff nD τ sig (Elt F) Λ₀ .tc) α} {Q : α → sProp 𝕄} (hf : φ → ∀ h, ∀ D : sProp 𝕄, iprop(Flight (EC (F := F)) (c : Thread nD τ) (cell Q29 n) () Ndw D ∗ Ow c)
      ⊢ iprop((iprop(D ∗ Sem0 c (cell Q29 n) ∗ Ow c) -∗ Wp c g Q) -∗ Wp c (f h) Q)) :
    iprop(dwS c d n ∗ Ow c)
      ⊢ iprop((iprop((∃ Z, O c A19 (sl 2 1024 256 (n % 2)) Z) ∗ dwR c d n ∗ Ow c) -∗ Wp c g Q) -∗ Wp c (if h : φ then f h else g) Q) := by
  unfold dwS dwR
  iintro ⟨⟨H0, H1, HA, HB⟩, HO⟩ Hk
  by_cases h : φ
  · rw [dif_pos h]
    have hn := hφ.mp h
    have h0 : dwP c d n ⊢ Flight (EC (F := F)) (c : Thread nD τ) (cell Q29 n) () Ndw iprop(O c A7 (rI (n - 2) (n - 1)) (DW d) ∗ (∃ Z, O c A19 (sl 2 1024 256 (n % 2)) Z)) := by
      rw [dwP, if_pos hn]
    ihave H0 := h0 $$ H0
    iapply (hf h h _) $$ [H0 HO]
    · isplitl [H0]; · iexact H0
      iexact HO
    iintro ⟨⟨HC, HS⟩, Hv, HO⟩
    ihave HA := (o_join c (rI_union (Nat.zero_le (n - 2)) (show n - 2 ≤ n - 1 by omega)) (rI_disj le_rfl)) $$ [HA HC]
    · isplitl [HA]; · iexact HA
      iexact HC
    iapply Hk
    isplitl [HS]; · iexact HS
    isplitr [HO]
    · isplitl [Hv]; · iexact Hv
      isplitl [H1]; · iexact H1
      isplitl [HA]; · iexact HA
      iexact HB
    iexact HO
  · rw [dif_neg h]
    have hn : ¬ 2 ≤ n := fun h' => h (hφ.mpr h')
    have h0 : dwP c d n ⊢ iprop(Sem0 c (cell Q29 n) ∗ ∃ Z, O c A19 (sl 2 1024 256 (n % 2)) Z) := by
      rw [dwP, if_neg hn]
    ihave H0 := h0 $$ H0
    icases H0 with ⟨Hv, HS⟩
    iapply Hk
    isplitl [HS]; · iexact HS
    isplitr [HO]
    · isplitl [Hv]; · iexact Hv
      isplitl [H1]; · iexact H1
      isplitl [HA]
      · rw [rI_empty (show n - 1 ≤ 0 by omega), rI_empty (show n - 2 ≤ 0 by omega)]; iexact HA
      iexact HB
    iexact HO

theorem dw_next {n : ℕ} (hn : n < 7) {p : Prog (TpuEff nD τ sig (Elt F) Λ₀ .tc) PUnit} {Q : PUnit → sProp 𝕄}
    (hf : iprop(O c A19 (sl 2 1024 256 (n % 2)) (slotDW d n) ∗ (∃ Z, O c A7 (rI n (n + 1)) Z) ∗ Sem0 c (cell Q29 n))
      ⊢ iprop((Flight (EC (F := F)) (c : Thread nD τ) (cell Q29 n) () Ndw iprop(O c A7 (rI n (n + 1)) (DW d) ∗ ∃ Z, O c A19 (sl 2 1024 256 (n % 2)) Z) -∗ Q ⟨⟩) -∗ Wp c p Q)) :
    iprop(O c A19 (sl 2 1024 256 (n % 2)) (slotDW d n) ∗ dwR c d n) ⊢ iprop((dwS c d (n + 1) -∗ Q ⟨⟩) -∗ Wp c p Q) := by
  unfold dwS dwR
  iintro ⟨HS, Hv, H1, HA, ⟨%Z, HB⟩⟩ Hk
  ihave HB := (o_split c (rI_union (m := n + 1) (by omega) (by omega)) (rI_disj le_rfl)) $$ HB
  icases HB with ⟨HB0, HB⟩
  iapply hf $$ [HS HB0 Hv]
  · isplitl [HS]; · iexact HS
    isplitl [HB0]; · iexists Z; iexact HB0
    iexact Hv
  iintro HF
  iapply Hk
  isplitl [H1]; · iexact H1
  isplitl [HF]
  · rw [show n + 1 + 1 = n + 2 from rfl, dwP, if_pos (by omega), cell_add Q29 n, show n + 2 - 2 = n by omega, show n + 2 - 1 = n + 1 by omega, show (n + 2) % 2 = n % 2 by omega]
    iexact HF
  isplitl [HA]
  · rw [show n + 1 - 2 = n - 1 by omega]; iexact HA
  iexists Z; iexact HB

/-! ## A step of the last token tile -/

def I5 (k : ℕ) : sProp 𝕄 :=
  iprop(dyS c d (21 + k) ∗ dhS c d (21 + k) ∗ dwS c d k
    ∗ O c A9 (stI 0 28) d.X ∗ O c A11 Finset.univ (WT d) ∗ O c A12 Finset.univ (DWT d 3)
    ∗ O c A14 Finset.univ (d.DL 3) ∗ O c A15 Finset.univ (d.DLS 3) ∗ Ow c)

set_option maxHeartbeats 2000000 in
theorem t5_step (k : Fin k0_t5_loop.trips) (v5400 : FVec F S256x128 .f32) (v5401 : FVec F S256x128 .bf16) (v5402 : FVec F S1x128 .bf16) :
    I5 c d k ⊢ Wp c (k0_t5_body A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 Q23 Q24 Q25 Q26 Q27 Q28 Q29 v5400 v5401 v5402 k ⟨⟩) (fun _ => I5 c d (k + 1)) := by
  have hk : (k : ℕ) < 7 := k.isLt
  have hn : 21 + (k : ℕ) < 28 := by omega
  have hq : (21 + (k : ℕ)) / 7 = 3 := by omega
  have hr : (21 + (k : ℕ)) % 7 = k := by omega
  have h4 : k0_cond4 k = 1#1 ↔ 3 ≤ 21 + (k : ℕ) := ⟨fun _ => by omega, fun _ => cond4_true k⟩
  unfold k0_t5_body Wp
  simp only [k0_part136_eq_skeleton, k0_part136_skel, k0_part137_eq_skeleton, k0_part137_skel, k0_part138_eq_skeleton, k0_part138_skel, k0_part139_eq_skeleton, k0_part139_skel, k0_part140_eq_skeleton, k0_part140_skel, k0_part141_eq_skeleton, k0_part141_skel, k0_part142_eq_skeleton, k0_part142_skel, k0_part143_eq_skeleton, k0_part143_skel, k0_part144_eq_skeleton, k0_part144_skel, k0_part145_eq_skeleton, k0_part145_skel, k0_part146_eq_skeleton, k0_part146_skel, k0_part147_eq_skeleton, k0_part147_skel, wp_bind, wp_pure]
  rw [I5]
  iintro ⟨Hdy, Hdh, Hdw, H9, H11, H12, H14, H15, HO⟩
  imodintro
  iapply (dy_wait c d hn (cell_at Q26 (off41 k)) ?_) $$ [Hdy HO]
  · rfl
  · isplitl [Hdy]; · iexact Hdy
    iexact HO
  iintro ⟨H16, Hdy, HO⟩
  iapply (dh_wait c d h4 ?_) $$ [Hdh HO]
  · intro _ h D
    simp only [wp_bind, wp_pure]
    iintro HP HQ
    imodintro
    iapply (wait (c : Thread nD τ) Variants.none none EC () (cell_at Q27 (off44 k)) ?_) $$ HP
    · rfl
    iexact HQ
  · isplitl [Hdh]; · iexact Hdh
    iexact HO
  iintro ⟨⟨%Z, H17⟩, Hdh, HO⟩
  iapply (dw_wait c d (cond5_iff k) ?_) $$ [Hdw HO]
  · intro hp h D
    have h2 := (cond5_iff k).mp hp
    simp only [wp_bind, wp_pure]
    iintro HP HQ
    iapply (wait (c : Thread nD τ) Variants.none none EC () (cell_at Q29 (off47 k h2)) ?_) $$ HP
    · rfl
    iexact HQ
  · isplitl [Hdw]; · iexact Hdw
    iexact HO
  iintro ⟨⟨%Y, H19⟩, Hdw, HO⟩
  unfold Wp
  simp only [wp_bind, wp_pure]
  have e17 : Z = dhPart d (21 + (k : ℕ)) Z 0 := by funext i; simp [dhPart]
  rw [e17]
  have e19 : Y = dwoPart d k Y 0 := by funext i; simp [dwoPart]
  rw [e19]
  iapply (load2 c (0) (0) rfl rfl (Finset.subset_univ _)) $$ H14
  iintro H14
  iapply (load2 c (0) (1024 * (k : ℕ) + 0) (off50_0 k).1 (off50_0 k).2 (Finset.subset_univ _)) $$ H11
  iintro H11
  imodintro
  iapply (load3 c ((21 + (k : ℕ)) % 4) (0) (0) (off51 k).1 (off51 k).2.1 (off51 k).2.2 (sl_sub (off51 k).1 (off51 k).2.1 (off51 k).2.2)) $$ H16
  iintro H16
  iapply (load3 c ((21 + (k : ℕ)) % 3) (0) (0) (off52 k).1 (off52 k).2.1 (off52 k).2.2 (sl_sub (off52 k).1 (off52 k).2.1 (off52 k).2.2)) $$ H17
  iintro H17
  iapply (store3 c (dhPart d (21 + (k : ℕ)) Z 1) ((21 + (k : ℕ)) % 3) (0) (0) (off52 k).1 (off52 k).2.1 (off52 k).2.2 (sl_sub (off52 k).1 (off52 k).2.1 (off52 k).2.2) ?_ ?_) $$ H17
  · exact dh_in (th := 0) (ch := 0) (by omega) (by omega) hq rfl rfl rfl (by omega) rfl
  · exact fun i hi => dh_out (th := 0) (ch := 0) (by omega) (by omega) rfl rfl i hi
  iintro H17
  iapply (load2 c (0) (0) rfl rfl (Finset.subset_univ _)) $$ H15
  iintro H15
  iapply (load2 c (1536) (1024 * (k : ℕ) + 0) (off53_0 k).1 (off53_0 k).2 (st_sub (off53_0 k).1 (off53_0 k).2 ⟨4, by omega, by omega⟩)) $$ H9
  iintro H9
  iapply (load2 c (0) (1024 * (k : ℕ) + 0) (off54_0 k).1 (off54_0 k).2 (Finset.subset_univ _)) $$ H12
  iintro H12
  imodintro
  iapply (load3 c ((k : ℕ) % 2) (0) (0) (off55 k).1 (off55 k).2.1 (off55 k).2.2 (sl_sub (off55 k).1 (off55 k).2.1 (off55 k).2.2)) $$ H19
  iintro H19
  iapply (store3 c (dwoPart d k Y 1) ((k : ℕ) % 2) (0) (0) (off55 k).1 (off55 k).2.1 (off55 k).2.2 (sl_sub (off55 k).1 (off55 k).2.1 (off55 k).2.2) ?_ ?_) $$ H19
  · exact dwo_in (p := 0) (by omega) rfl rfl rfl
  · exact fun i hi => dwo_out (p := 0) (by omega) rfl i hi
  iintro H19
  iapply (load2 c (256) (0) rfl rfl (Finset.subset_univ _)) $$ H14
  iintro H14
  iapply (load2 c (0) (1024 * (k : ℕ) + 0) (off50_0 k).1 (off50_0 k).2 (Finset.subset_univ _)) $$ H11
  iintro H11
  iapply (load3 c ((21 + (k : ℕ)) % 4) (256) (0) (off56 k).1 (off56 k).2.1 (off56 k).2.2 (sl_sub (off56 k).1 (off56 k).2.1 (off56 k).2.2)) $$ H16
  iintro H16
  imodintro
  iapply (load3 c ((21 + (k : ℕ)) % 3) (256) (0) (off57 k).1 (off57 k).2.1 (off57 k).2.2 (sl_sub (off57 k).1 (off57 k).2.1 (off57 k).2.2)) $$ H17
  iintro H17
  iapply (store3 c (dhPart d (21 + (k : ℕ)) Z 2) ((21 + (k : ℕ)) % 3) (256) (0) (off57 k).1 (off57 k).2.1 (off57 k).2.2 (sl_sub (off57 k).1 (off57 k).2.1 (off57 k).2.2) ?_ ?_) $$ H17
  · exact dh_in (th := 1) (ch := 0) (by omega) (by omega) hq rfl rfl rfl (by omega) rfl
  · exact fun i hi => dh_out (th := 1) (ch := 0) (by omega) (by omega) rfl rfl i hi
  iintro H17
  iapply (load2 c (0) (0) rfl rfl (Finset.subset_univ _)) $$ H15
  iintro H15
  iapply (load2 c (1536) (1024 * (k : ℕ) + 256) (off53_256 k).1 (off53_256 k).2 (st_sub (off53_256 k).1 (off53_256 k).2 ⟨4, by omega, by omega⟩)) $$ H9
  iintro H9
  iapply (load2 c (0) (1024 * (k : ℕ) + 256) (off54_256 k).1 (off54_256 k).2 (Finset.subset_univ _)) $$ H12
  iintro H12
  iapply (load3 c ((k : ℕ) % 2) (256) (0) (off58 k).1 (off58 k).2.1 (off58 k).2.2 (sl_sub (off58 k).1 (off58 k).2.1 (off58 k).2.2)) $$ H19
  iintro H19
  iapply (store3 c (dwoPart d k Y 2) ((k : ℕ) % 2) (256) (0) (off58 k).1 (off58 k).2.1 (off58 k).2.2 (sl_sub (off58 k).1 (off58 k).2.1 (off58 k).2.2) ?_ ?_) $$ H19
  · exact dwo_in (p := 1) (by omega) rfl rfl rfl
  · exact fun i hi => dwo_out (p := 1) (by omega) rfl i hi
  iintro H19
  iapply (load2 c (0) (0) rfl rfl (Finset.subset_univ _)) $$ H14
  iintro H14
  imodintro
  iapply (load2 c (0) (1024 * (k : ℕ) + 512) (off50_512 k).1 (off50_512 k).2 (Finset.subset_univ _)) $$ H11
  iintro H11
  iapply (load3 c ((21 + (k : ℕ)) % 4) (0) (512) (off59 k).1 (off59 k).2.1 (off59 k).2.2 (sl_sub (off59 k).1 (off59 k).2.1 (off59 k).2.2)) $$ H16
  iintro H16
  iapply (load3 c ((21 + (k : ℕ)) % 3) (0) (512) (off60 k).1 (off60 k).2.1 (off60 k).2.2 (sl_sub (off60 k).1 (off60 k).2.1 (off60 k).2.2)) $$ H17
  iintro H17
  iapply (store3 c (dhPart d (21 + (k : ℕ)) Z 3) ((21 + (k : ℕ)) % 3) (0) (512) (off60 k).1 (off60 k).2.1 (off60 k).2.2 (sl_sub (off60 k).1 (off60 k).2.1 (off60 k).2.2) ?_ ?_) $$ H17
  · exact dh_in (th := 0) (ch := 1) (by omega) (by omega) hq rfl rfl rfl (by omega) rfl
  · exact fun i hi => dh_out (th := 0) (ch := 1) (by omega) (by omega) rfl rfl i hi
  iintro H17
  imodintro
  iapply (load2 c (0) (0) rfl rfl (Finset.subset_univ _)) $$ H15
  iintro H15
  iapply (load2 c (1536) (1024 * (k : ℕ) + 512) (off53_512 k).1 (off53_512 k).2 (st_sub (off53_512 k).1 (off53_512 k).2 ⟨4, by omega, by omega⟩)) $$ H9
  iintro H9
  iapply (load2 c (0) (1024 * (k : ℕ) + 512) (off54_512 k).1 (off54_512 k).2 (Finset.subset_univ _)) $$ H12
  iintro H12
  iapply (load3 c ((k : ℕ) % 2) (512) (0) (off61 k).1 (off61 k).2.1 (off61 k).2.2 (sl_sub (off61 k).1 (off61 k).2.1 (off61 k).2.2)) $$ H19
  iintro H19
  iapply (store3 c (dwoPart d k Y 3) ((k : ℕ) % 2) (512) (0) (off61 k).1 (off61 k).2.1 (off61 k).2.2 (sl_sub (off61 k).1 (off61 k).2.1 (off61 k).2.2) ?_ ?_) $$ H19
  · exact dwo_in (p := 2) (by omega) rfl rfl rfl
  · exact fun i hi => dwo_out (p := 2) (by omega) rfl i hi
  iintro H19
  iapply (load2 c (256) (0) rfl rfl (Finset.subset_univ _)) $$ H14
  iintro H14
  iapply (load2 c (0) (1024 * (k : ℕ) + 512) (off50_512 k).1 (off50_512 k).2 (Finset.subset_univ _)) $$ H11
  iintro H11
  imodintro
  iapply (load3 c ((21 + (k : ℕ)) % 4) (256) (512) (off62 k).1 (off62 k).2.1 (off62 k).2.2 (sl_sub (off62 k).1 (off62 k).2.1 (off62 k).2.2)) $$ H16
  iintro H16
  iapply (load3 c ((21 + (k : ℕ)) % 3) (256) (512) (off63 k).1 (off63 k).2.1 (off63 k).2.2 (sl_sub (off63 k).1 (off63 k).2.1 (off63 k).2.2)) $$ H17
  iintro H17
  iapply (store3 c (dhPart d (21 + (k : ℕ)) Z 4) ((21 + (k : ℕ)) % 3) (256) (512) (off63 k).1 (off63 k).2.1 (off63 k).2.2 (sl_sub (off63 k).1 (off63 k).2.1 (off63 k).2.2) ?_ ?_) $$ H17
  · exact dh_in (th := 1) (ch := 1) (by omega) (by omega) hq rfl rfl rfl (by omega) rfl
  · exact fun i hi => dh_out (th := 1) (ch := 1) (by omega) (by omega) rfl rfl i hi
  iintro H17
  iapply (load2 c (0) (0) rfl rfl (Finset.subset_univ _)) $$ H15
  iintro H15
  iapply (load2 c (1536) (1024 * (k : ℕ) + 768) (off53_768 k).1 (off53_768 k).2 (st_sub (off53_768 k).1 (off53_768 k).2 ⟨4, by omega, by omega⟩)) $$ H9
  iintro H9
  iapply (load2 c (0) (1024 * (k : ℕ) + 768) (off54_768 k).1 (off54_768 k).2 (Finset.subset_univ _)) $$ H12
  iintro H12
  imodintro
  iapply (load3 c ((k : ℕ) % 2) (768) (0) (off64 k).1 (off64 k).2.1 (off64 k).2.2 (sl_sub (off64 k).1 (off64 k).2.1 (off64 k).2.2)) $$ H19
  iintro H19
  iapply (store3 c (dwoPart d k Y 4) ((k : ℕ) % 2) (768) (0) (off64 k).1 (off64 k).2.1 (off64 k).2.2 (sl_sub (off64 k).1 (off64 k).2.1 (off64 k).2.2) ?_ ?_) $$ H19
  · exact dwo_in (p := 3) (by omega) rfl rfl rfl
  · exact fun i hi => dwo_out (p := 3) (by omega) rfl i hi
  iintro H19
  imodintro
  rw [dhPart_all, dwoPart_all]
  iapply (dh_next c d hn ?_) $$ [H17 Hdh]
  · iintro HP HQ
    iapply (enq_out c (XA := DH d) (cell_at Q27 (off65 k)) ?_ Ndh_pos (off43 k).1 (off43 k).2 (off66 k).1 (off66 k).2.1 (off66 k).2.2
      (rect_st (off43 k).1 (off43 k).2 (by omega) (by omega)) (slotDH_eq d hn (by omega) (by omega))) $$ HP
    · rfl
    iexact HQ
  · isplitl [H17]; · iexact H17
    iexact Hdh
  iintro Hdh
  iapply (dy_next c d (cond6_iff k) ?_) $$ [H16 Hdy]
  · intro hp h
    have h4 := (cond6_iff k).mp hp
    simp only [wp_bind, wp_pure]
    iintro HP HQ
    imodintro
    iapply (enq_in c (cell_at Q26 ((off67 k h4).trans (by omega))) ?_ Ndy_pos (off69 k h4).1 (off69 k h4).2 ((off68 k h4).1.trans (by omega)) (off68 k h4).2.1 (off68 k h4).2.2
      (rect_st (off69 k h4).1 (off69 k h4).2 rfl rfl) (slotDY_eq d h4 rfl rfl rfl)) $$ HP
    · rfl
    iexact HQ
  · isplitl [H16]; · iexists _; iexact H16
    iexact Hdy
  iintro Hdy
  unfold Wp
  simp only [wp_bind, wp_pure]
  try imodintro
  iapply (dw_next c d hk ?_) $$ [H19 Hdw]
  · iintro HP HQ
    iapply (enq_out c (XA := DW d) (cell_at Q29 (off70 k)) ?_ Ndw_pos (off71 k).1 (off71 k).2 (off72 k).1 (off72 k).2.1 (off72 k).2.2
      (rect_r (off71 k).1 (off71 k).2 (by omega)) (slotDW_eq d hk rfl)) $$ HP
    · rfl
    iexact HQ
  · isplitl [H19]; · iexact H19
    iexact Hdw
  iintro Hdw
  imodintro
  rw [I5]
  isplitl [Hdy]; · iexact Hdy
  isplitl [Hdh]; · iexact Hdh
  isplitl [Hdw]; · iexact Hdw
  isplitl [H9]; · iexact H9
  isplitl [H11]; · iexact H11
  isplitl [H12]; · iexact H12
  isplitl [H14]; · iexact H14
  isplitl [H15]; · iexact H15
  iexact HO

theorem t5_run (v5400 : FVec F S256x128 .f32) (v5401 : FVec F S256x128 .bf16) (v5402 : FVec F S1x128 .bf16) {Q : Unit → sProp 𝕄} :
    I5 c d 0 ⊢ iprop((I5 c d 7 -∗ Q ⟨⟩) -∗ Wp c (Scf.Loop.for k0_t5_loop k0_t5_ok ⟨⟩ (k0_t5_body A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 Q23 Q24 Q25 Q26 Q27 Q28 Q29 v5400 v5401 v5402)) Q) := by
  unfold Wp
  iintro HI HQ
  iapply (Scf.wp_for _ _ _ _ _ _ k0_t5_ok _ _ (fun k _ => I5 c d k) (fun k _ => t5_step c d k v5400 v5401 v5402))
  isplitl [HI]; · iexact HI
  iintro %_
  iintro HI
  iapply HQ
  iexact HI

end Cert.KernelIdeal.Val

end
-- ==== Proof.RT0.lean ====
/-
  The routing of the first token tile.
-/
module

public import proofs.«01_k».proof.Proof.Setup
public import proofs.«01_k».proof.Proof.Gen.KernelIdeal.Loops

@[expose] public section

set_option maxRecDepth 16384

noncomputable section

namespace Cert.KernelIdeal.Val

open Cert.KernelIdeal Cert.KernelIdeal.Gen Cert.Own
open Idealize.ShloMosaic Idealize.ShloMosaic.TcCoe Idealize.ShloMosaic.Tactic
open Idealize.SL Idealize.SL.RA Idealize.SL.BI
open scoped Idealize.SL.BI
open Idealize.ShloMosaic.Transfers
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What follows the routing of the first token tile: its copy out, and the loops over the token tiles. -/
def tail0 (arg0 : Memref sig .tc .hbm S2048x7168 .fp8e4m3) (harg0 : arg0.IsWhole) (arg1 : Memref sig .tc .hbm S2x1024 .f32) (harg1 : arg1.IsWhole) (arg2 : Memref sig .tc .hbm S7168x256 .bf16) (harg2 : arg2.IsWhole) (arg3 : Memref sig .tc .hbm S2x8x1024 .i32) (harg3 : arg3.IsWhole) (arg4 : Memref sig .tc .hbm S2x8x1024 .bf16) (harg4 : arg4.IsWhole) (arg5 : Memref sig .tc .hbm S2048x7168 .bf16) (harg5 : arg5.IsWhole) (arg6 : Memref sig .tc .hbm S2048x7168 .bf16) (harg6 : arg6.IsWhole) (arg7 : Memref sig .tc .hbm S7168x256 .f32) (harg7 : arg7.IsWhole) (arg8 : Memref sig .tc .hbm S2048x256 .f32) (harg8 : arg8.IsWhole) (arg9 : Memref sig .tc .vmem S2048x7168 .fp8e4m3) (harg9 : arg9.IsWhole) (arg10 : Memref sig .tc .vmem S7168x256 .bf16) (harg10 : arg10.IsWhole) (arg11 : Memref sig .tc .vmem S256x7168 .bf16) (harg11 : arg11.IsWhole) (arg12 : Memref sig .tc .vmem S256x7168 .f32) (harg12 : arg12.IsWhole) (arg13 : Memref sig .tc .vmem S256x512 .f32) (harg13 : arg13.IsWhole) (arg14 : Memref sig .tc .vmem S512x256 .bf16) (harg14 : arg14.IsWhole) (arg15 : Memref sig .tc .vmem S256x512 .bf16) (harg15 : arg15.IsWhole) (arg16 : Memref sig .tc .vmem S4x512x1024 .bf16) (harg16 : arg16.IsWhole) (arg17 : Memref sig .tc .vmem S3x512x1024 .bf16) (harg17 : arg17.IsWhole) (arg18 : Memref sig .tc .vmem S512x256 .f32) (harg18 : arg18.IsWhole) (arg19 : Memref sig .tc .vmem S2x1024x256 .f32) (harg19 : arg19.IsWhole) (arg20 : Memref sig .tc .vmem S2x8x1024 .i32) (harg20 : arg20.IsWhole) (arg21 : Memref sig .tc .vmem S2x8x1024 .bf16) (harg21 : arg21.IsWhole) (arg22 : Memref sig .tc .vmem S2x1024 .f32) (harg22 : arg22.IsWhole) (arg23 : DmaSems sig S_) (arg24 : DmaSems sig S7) (arg25 : DmaSems sig S2) (arg26 : DmaSems sig S4) (arg27 : DmaSems sig S3) (arg28 : DmaSems sig S_) (arg29 : DmaSems sig S2)
    (v5400 : FVec F S256x128 .f32) (v5401 : FVec F S256x128 .bf16) (v5402 : FVec F S1x128 .bf16) : Prog (TpuEff nD τ sig (Elt F) Λ₀ .tc) PUnit := do
  Prog.lift (.enqueueDma arg18 (.here (arg8.slice (Rect.unit (s := S2048x256) ![0, 0] S512x256.size inb_S2048x256_S512x256_0_0) (fun _ => rfl))) (.dma arg28.sem) harg18.wordExact (View.wordExact_bits rfl) ⟨Or.inl rfl, trivial⟩)
  Scf.Loop.for k0_t2_loop k0_t2_ok ⟨⟩ (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 v5400 v5401 v5402)
  Scf.Loop.for k0_t5_loop k0_t5_ok ⟨⟩ (k0_t5_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 v5400 v5401 v5402)
  pure ⟨⟩

/-- The last waits. -/
def end0 (arg0 : Memref sig .tc .hbm S2048x7168 .fp8e4m3) (harg0 : arg0.IsWhole) (arg1 : Memref sig .tc .hbm S2x1024 .f32) (harg1 : arg1.IsWhole) (arg2 : Memref sig .tc .hbm S7168x256 .bf16) (harg2 : arg2.IsWhole) (arg3 : Memref sig .tc .hbm S2x8x1024 .i32) (harg3 : arg3.IsWhole) (arg4 : Memref sig .tc .hbm S2x8x1024 .bf16) (harg4 : arg4.IsWhole) (arg5 : Memref sig .tc .hbm S2048x7168 .bf16) (harg5 : arg5.IsWhole) (arg6 : Memref sig .tc .hbm S2048x7168 .bf16) (harg6 : arg6.IsWhole) (arg7 : Memref sig .tc .hbm S7168x256 .f32) (harg7 : arg7.IsWhole) (arg8 : Memref sig .tc .hbm S2048x256 .f32) (harg8 : arg8.IsWhole) (arg9 : Memref sig .tc .vmem S2048x7168 .fp8e4m3) (harg9 : arg9.IsWhole) (arg10 : Memref sig .tc .vmem S7168x256 .bf16) (harg10 : arg10.IsWhole) (arg11 : Memref sig .tc .vmem S256x7168 .bf16) (harg11 : arg11.IsWhole) (arg12 : Memref sig .tc .vmem S256x7168 .f32) (harg12 : arg12.IsWhole) (arg13 : Memref sig .tc .vmem S256x512 .f32) (harg13 : arg13.IsWhole) (arg14 : Memref sig .tc .vmem S512x256 .bf16) (harg14 : arg14.IsWhole) (arg15 : Memref sig .tc .vmem S256x512 .bf16) (harg15 : arg15.IsWhole) (arg16 : Memref sig .tc .vmem S4x512x1024 .bf16) (harg16 : arg16.IsWhole) (arg17 : Memref sig .tc .vmem S3x512x1024 .bf16) (harg17 : arg17.IsWhole) (arg18 : Memref sig .tc .vmem S512x256 .f32) (harg18 : arg18.IsWhole) (arg19 : Memref sig .tc .vmem S2x1024x256 .f32) (harg19 : arg19.IsWhole) (arg20 : Memref sig .tc .vmem S2x8x1024 .i32) (harg20 : arg20.IsWhole) (arg21 : Memref sig .tc .vmem S2x8x1024 .bf16) (harg21 : arg21.IsWhole) (arg22 : Memref sig .tc .vmem S2x1024 .f32) (harg22 : arg22.IsWhole) (arg23 : DmaSems sig S_) (arg24 : DmaSems sig S7) (arg25 : DmaSems sig S2) (arg26 : DmaSems sig S4) (arg27 : DmaSems sig S3) (arg28 : DmaSems sig S_) (arg29 : DmaSems sig S2)  : Prog (TpuEff nD τ sig (Elt F) Λ₀ .tc) PUnit := do
  k0_part273 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29
  pure ⟨⟩

set_option pp.maxSteps 300 in
set_option maxHeartbeats 4000000 in
/-- The routing of the first token tile run on any contents, for what it names: every value read and every list of pieces written. -/
theorem rt0_gen (c : Dev nD) (arg0 : Memref sig .tc .hbm S2048x7168 .fp8e4m3) (harg0 : arg0.IsWhole) (arg1 : Memref sig .tc .hbm S2x1024 .f32) (harg1 : arg1.IsWhole) (arg2 : Memref sig .tc .hbm S7168x256 .bf16) (harg2 : arg2.IsWhole) (arg3 : Memref sig .tc .hbm S2x8x1024 .i32) (harg3 : arg3.IsWhole) (arg4 : Memref sig .tc .hbm S2x8x1024 .bf16) (harg4 : arg4.IsWhole) (arg5 : Memref sig .tc .hbm S2048x7168 .bf16) (harg5 : arg5.IsWhole) (arg6 : Memref sig .tc .hbm S2048x7168 .bf16) (harg6 : arg6.IsWhole) (arg7 : Memref sig .tc .hbm S7168x256 .f32) (harg7 : arg7.IsWhole) (arg8 : Memref sig .tc .hbm S2048x256 .f32) (harg8 : arg8.IsWhole) (arg9 : Memref sig .tc .vmem S2048x7168 .fp8e4m3) (harg9 : arg9.IsWhole) (arg10 : Memref sig .tc .vmem S7168x256 .bf16) (harg10 : arg10.IsWhole) (arg11 : Memref sig .tc .vmem S256x7168 .bf16) (harg11 : arg11.IsWhole) (arg12 : Memref sig .tc .vmem S256x7168 .f32) (harg12 : arg12.IsWhole) (arg13 : Memref sig .tc .vmem S256x512 .f32) (harg13 : arg13.IsWhole) (arg14 : Memref sig .tc .vmem S512x256 .bf16) (harg14 : arg14.IsWhole) (arg15 : Memref sig .tc .vmem S256x512 .bf16) (harg15 : arg15.IsWhole) (arg16 : Memref sig .tc .vmem S4x512x1024 .bf16) (harg16 : arg16.IsWhole) (arg17 : Memref sig .tc .vmem S3x512x1024 .bf16) (harg17 : arg17.IsWhole) (arg18 : Memref sig .tc .vmem S512x256 .f32) (harg18 : arg18.IsWhole) (arg19 : Memref sig .tc .vmem S2x1024x256 .f32) (harg19 : arg19.IsWhole) (arg20 : Memref sig .tc .vmem S2x8x1024 .i32) (harg20 : arg20.IsWhole) (arg21 : Memref sig .tc .vmem S2x8x1024 .bf16) (harg21 : arg21.IsWhole) (arg22 : Memref sig .tc .vmem S2x1024 .f32) (harg22 : arg22.IsWhole) (arg23 : DmaSems sig S_) (arg24 : DmaSems sig S7) (arg25 : DmaSems sig S2) (arg26 : DmaSems sig S4) (arg27 : DmaSems sig S3) (arg28 : DmaSems sig S_) (arg29 : DmaSems sig S2)
    (Q : PUnit → sProp 𝕄) :
    iprop(wp frame (wpE (defs₀ (F := F)) Variants.none (c : Thread nD τ) none) Set.univ (k0_part148 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29) (fun _ => wp frame (wpE (defs₀ (F := F)) Variants.none (c : Thread nD τ) none) Set.univ (k0_part149 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29) (fun _ => wp frame (wpE (defs₀ (F := F)) Variants.none (c : Thread nD τ) none) Set.univ (k0_part150 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29) (fun _ => wp frame (wpE (defs₀ (F := F)) Variants.none (c : Thread nD τ) none) Set.univ (k0_part151 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29) (fun r =>
      wp frame (wpE (defs₀ (F := F)) Variants.none (c : Thread nD τ) none) Set.univ (k0_part152 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 r) (fun w => iprop(∃ (f13 : Buf (Elt F) (arg13.view.loc (c : Thread nD τ))) (f14 : Buf (Elt F) (arg14.view.loc (c : Thread nD τ))) (f15 : Buf (Elt F) (arg15.view.loc (c : Thread nD τ))) (f18 : Buf (Elt F) (arg18.view.loc (c : Thread nD τ))) (f20 : Buf (Elt F) (arg20.view.loc (c : Thread nD τ))) (f21 : Buf (Elt F) (arg21.view.loc (c : Thread nD τ))) (f22 : Buf (Elt F) (arg22.view.loc (c : Thread nD τ))),
      (arg13.view.loc (c : Thread nD τ) ↦{fullShare} f13) ∗ (arg14.view.loc (c : Thread nD τ) ↦{fullShare} f14) ∗ (arg15.view.loc (c : Thread nD τ) ↦{fullShare} f15) ∗ (arg18.view.loc (c : Thread nD τ) ↦{fullShare} f18) ∗ (arg20.view.loc (c : Thread nD τ) ↦{fullShare} f20) ∗ (arg21.view.loc (c : Thread nD τ) ↦{fullShare} f21) ∗ (arg22.view.loc (c : Thread nD τ) ↦{fullShare} f22) ∗ ⌜False⌝)))))))
      ⊢ wp frame (wpE (defs₀ (F := F)) Variants.none (c : Thread nD τ) none) Set.univ (cc0_router_bwd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29) Q := by
  rw [cc0_router_bwd_eq_skeleton]
  unfold cc0_router_bwd_skel
  rw [wp_bind, k0_part274_eq_skeleton]
  unfold k0_part274_skel
  rw [wp_bind]
  iintro H
  iapply (wp_mono ?_) $$ H
  intro r
  rw [wp_bind]
  iintro H
  iapply (wp_mono ?_) $$ H
  intro r
  rw [wp_bind]
  iintro H
  iapply (wp_mono ?_) $$ H
  intro r
  rw [wp_bind]
  iintro H
  iapply (wp_mono ?_) $$ H
  intro r
  rw [wp_bind]
  iintro H
  iapply (wp_mono ?_) $$ H
  intro w
  iintro ⟨%f13, %f14, %f15, %f18, %f20, %f21, %f22, H13, H14, H15, H18, H20, H21, H22, Hk⟩
  rw [← wp_bind]
  sl_exec_parts!
  icases Hk with %hk
  exact hk.elim

set_option pp.maxSteps 300 in
set_option maxHeartbeats 4000000 in
/-- The program up to the copy out of the first token tile's gradient of the logits. -/
theorem rt0_run (c : Dev nD) (arg0 : Memref sig .tc .hbm S2048x7168 .fp8e4m3) (harg0 : arg0.IsWhole) (arg1 : Memref sig .tc .hbm S2x1024 .f32) (harg1 : arg1.IsWhole) (arg2 : Memref sig .tc .hbm S7168x256 .bf16) (harg2 : arg2.IsWhole) (arg3 : Memref sig .tc .hbm S2x8x1024 .i32) (harg3 : arg3.IsWhole) (arg4 : Memref sig .tc .hbm S2x8x1024 .bf16) (harg4 : arg4.IsWhole) (arg5 : Memref sig .tc .hbm S2048x7168 .bf16) (harg5 : arg5.IsWhole) (arg6 : Memref sig .tc .hbm S2048x7168 .bf16) (harg6 : arg6.IsWhole) (arg7 : Memref sig .tc .hbm S7168x256 .f32) (harg7 : arg7.IsWhole) (arg8 : Memref sig .tc .hbm S2048x256 .f32) (harg8 : arg8.IsWhole) (arg9 : Memref sig .tc .vmem S2048x7168 .fp8e4m3) (harg9 : arg9.IsWhole) (arg10 : Memref sig .tc .vmem S7168x256 .bf16) (harg10 : arg10.IsWhole) (arg11 : Memref sig .tc .vmem S256x7168 .bf16) (harg11 : arg11.IsWhole) (arg12 : Memref sig .tc .vmem S256x7168 .f32) (harg12 : arg12.IsWhole) (arg13 : Memref sig .tc .vmem S256x512 .f32) (harg13 : arg13.IsWhole) (arg14 : Memref sig .tc .vmem S512x256 .bf16) (harg14 : arg14.IsWhole) (arg15 : Memref sig .tc .vmem S256x512 .bf16) (harg15 : arg15.IsWhole) (arg16 : Memref sig .tc .vmem S4x512x1024 .bf16) (harg16 : arg16.IsWhole) (arg17 : Memref sig .tc .vmem S3x512x1024 .bf16) (harg17 : arg17.IsWhole) (arg18 : Memref sig .tc .vmem S512x256 .f32) (harg18 : arg18.IsWhole) (arg19 : Memref sig .tc .vmem S2x1024x256 .f32) (harg19 : arg19.IsWhole) (arg20 : Memref sig .tc .vmem S2x8x1024 .i32) (harg20 : arg20.IsWhole) (arg21 : Memref sig .tc .vmem S2x8x1024 .bf16) (harg21 : arg21.IsWhole) (arg22 : Memref sig .tc .vmem S2x1024 .f32) (harg22 : arg22.IsWhole) (arg23 : DmaSems sig S_) (arg24 : DmaSems sig S7) (arg25 : DmaSems sig S2) (arg26 : DmaSems sig S4) (arg27 : DmaSems sig S3) (arg28 : DmaSems sig S_) (arg29 : DmaSems sig S2)
    (Q : PUnit → sProp 𝕄) :
    iprop(wp frame (wpE (defs₀ (F := F)) Variants.none (c : Thread nD τ) none) Set.univ (k0_part148 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29) (fun _ => wp frame (wpE (defs₀ (F := F)) Variants.none (c : Thread nD τ) none) Set.univ (k0_part149 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29) (fun _ => wp frame (wpE (defs₀ (F := F)) Variants.none (c : Thread nD τ) none) Set.univ (k0_part150 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29) (fun _ => wp frame (wpE (defs₀ (F := F)) Variants.none (c : Thread nD τ) none) Set.univ (k0_part151 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29) (fun r =>
      wp frame (wpE (defs₀ (F := F)) Variants.none (c : Thread nD τ) none) Set.univ (k0_part152 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 r) (fun w => iprop(∃ (f13 : Buf (Elt F) (arg13.view.loc (c : Thread nD τ))) (f14 : Buf (Elt F) (arg14.view.loc (c : Thread nD τ))) (f15 : Buf (Elt F) (arg15.view.loc (c : Thread nD τ))) (f18 : Buf (Elt F) (arg18.view.loc (c : Thread nD τ))) (f20 : Buf (Elt F) (arg20.view.loc (c : Thread nD τ))) (f21 : Buf (Elt F) (arg21.view.loc (c : Thread nD τ))) (f22 : Buf (Elt F) (arg22.view.loc (c : Thread nD τ))),
      (arg13.view.loc (c : Thread nD τ) ↦{fullShare} f13) ∗ (arg14.view.loc (c : Thread nD τ) ↦{fullShare} f14) ∗ (arg15.view.loc (c : Thread nD τ) ↦{fullShare} f15) ∗ (arg18.view.loc (c : Thread nD τ) ↦{fullShare} f18) ∗ (arg20.view.loc (c : Thread nD τ) ↦{fullShare} f20) ∗ (arg21.view.loc (c : Thread nD τ) ↦{fullShare} f21) ∗ (arg22.view.loc (c : Thread nD τ) ↦{fullShare} f22) ∗ (((arg13.view.loc (c : Thread nD τ) ↦{fullShare} arg13.view.writes (Elt F) arg13.view.junk (rt0_gen.sl.H13_1)) ∗ (arg14.view.loc (c : Thread nD τ) ↦{fullShare} arg14.view.writes (Elt F) arg14.view.junk (rt0_gen.sl.H14_4 c arg13 arg20 arg21 arg22 f13 f20 f21 f22)) ∗ (arg15.view.loc (c : Thread nD τ) ↦{fullShare} arg15.view.writes (Elt F) arg15.view.junk (rt0_gen.sl.H15_4 c arg13 arg20 arg21 arg22 f13 f20 f21 f22)) ∗ (arg18.view.loc (c : Thread nD τ) ↦{fullShare} arg18.view.writes (Elt F) arg18.view.junk (rt0_gen.sl.H18_4 c arg13 arg20 arg21 arg22 f13 f20 f21 f22)) ∗ (arg20.view.loc (c : Thread nD τ) ↦{fullShare} f20) ∗ (arg21.view.loc (c : Thread nD τ) ↦{fullShare} f21) ∗ (arg22.view.loc (c : Thread nD τ) ↦{fullShare} f22))
        -∗ ∀ v5400 v5401 v5402, wp frame (wpE (defs₀ (F := F)) Variants.none (c : Thread nD τ) none) Set.univ (tail0 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 v5400 v5401 v5402) (fun _ => wp frame (wpE (defs₀ (F := F)) Variants.none (c : Thread nD τ) none) Set.univ (end0 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29) Q)))))))))
      ⊢ wp frame (wpE (defs₀ (F := F)) Variants.none (c : Thread nD τ) none) Set.univ (cc0_router_bwd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29) Q := by
  rw [cc0_router_bwd_eq_skeleton]
  unfold cc0_router_bwd_skel
  rw [wp_bind, k0_part274_eq_skeleton]
  unfold k0_part274_skel
  rw [wp_bind]
  iintro H
  iapply (wp_mono ?_) $$ H
  intro r
  rw [wp_bind]
  iintro H
  iapply (wp_mono ?_) $$ H
  intro r
  rw [wp_bind]
  iintro H
  iapply (wp_mono ?_) $$ H
  intro r
  rw [wp_bind]
  iintro H
  iapply (wp_mono ?_) $$ H
  intro r
  rw [wp_bind]
  iintro H
  iapply (wp_mono ?_) $$ H
  intro w
  iintro ⟨%f13, %f14, %f15, %f18, %f20, %f21, %f22, H13, H14, H15, H18, H20, H21, H22, Hk⟩
  rw [← wp_bind]
  sl_exec_parts!
  ihave Hk := Hk $$ [H13 H14 H15 H18 H20 H21 H22]
  · isplitl [H13]; · iexact H13
    isplitl [H14]; · iexact H14
    isplitl [H15]; · iexact H15
    isplitl [H18]; · iexact H18
    isplitl [H20]; · iexact H20
    isplitl [H21]; · iexact H21
    iexact H22
  generalize rt0_run.sl.r_338 c arg13 arg20 arg21 arg22 f13 f20 f21 f22 = a
  generalize rt0_run.sl.r_339 c arg13 arg20 arg21 arg22 f13 f20 f21 f22 = b
  generalize rt0_run.sl.r_340 c arg22 f22 = e
  ihave Hk := Hk $$ %a %b %e
  iexact Hk

end Cert.KernelIdeal.Val

end
-- ==== Proof.Tail.lean ====
/-
  The loops and the last waits.
-/
module

public import proofs.«01_k».proof.Proof.T2
public import proofs.«01_k».proof.Proof.T5
public import proofs.«01_k».proof.Proof.RT0

@[expose] public section

set_option maxRecDepth 16384

noncomputable section

namespace Cert.KernelIdeal.Val

open Cert.KernelIdeal Cert.KernelIdeal.Gen Cert.Own
open Idealize.ShloMosaic Idealize.ShloMosaic.TcCoe Idealize.ShloMosaic.Tactic
open Idealize.SL Idealize.SL.RA Idealize.SL.BI
open scoped Idealize.SL.BI
open Idealize.ShloMosaic.Transfers
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Holding none of an array's elements is no holding at all. -/
theorem o_none {c : Dev nD} {sp : Space} {s : Shape} {e : EltTy} {m : Memref sig .tc sp s e} {S : Finset s.Idx} {X : s.Idx → Elt F e} (Y : s.Idx → Elt F e) :
    O c m S X ⊢ iprop(O c m ∅ Y ∗ O c m S X) := by
  iintro H
  ihave H := (o_split c (S := S) (T := ∅) (U := S) (Finset.empty_union S).symm (Finset.disjoint_empty_left S)) $$ H
  icases H with ⟨H1, H2⟩
  isplitl [H1]
  · iapply (own_congr (c : Thread nD τ) (X := X) (fun i hi => absurd hi (Finset.notMem_empty i))) $$ H1
  iexact H2

/-- Two parts of an array, each at some contents, together. -/
theorem o_mix {c : Dev nD} {sp : Space} {s : Shape} {e : EltTy} {m : Memref sig .tc sp s e} {S T U : Finset s.Idx} (hU : U = S ∪ T) (hd : Disjoint S T) :
    iprop((∃ Z, O c m S Z) ∗ (∃ Z, O c m T Z)) ⊢ iprop(∃ Z : s.Idx → Elt F e, O c m U Z) := by
  classical
  iintro ⟨⟨%X, H1⟩, ⟨%Y, H2⟩⟩
  iexists (fun i => if i ∈ S then X i else Y i)
  iapply (o_join c hU hd)
  isplitl [H1]
  · iapply (own_congr (c : Thread nD τ) (X := X) (fun i hi => (if_pos hi).symm)) $$ H1
  iapply (own_congr (c : Thread nD τ) (X := Y) (fun i hi => (if_neg (Finset.disjoint_right.mp hd hi)).symm)) $$ H2

/-- The slots below the `k`-th. -/
def slB (n d0 d1 k : ℕ) : Finset (⟨3, ![n, d0, d1]⟩ : Shape).Idx := Finset.univ.filter fun i => (i 0 : ℕ) < k
theorem slB_one {n d0 d1 : ℕ} : slB n d0 d1 1 = sl n d0 d1 0 := by
  ext i; simp only [slB, sl, Finset.mem_filter, Finset.mem_univ, true_and]; omega
theorem slB_succ {n d0 d1 k : ℕ} : slB n d0 d1 (k + 1) = slB n d0 d1 k ∪ sl n d0 d1 k := by
  ext i; simp only [slB, sl, Finset.mem_union, Finset.mem_filter, Finset.mem_univ, true_and]; omega
theorem slB_disj {n d0 d1 k : ℕ} : Disjoint (slB n d0 d1 k) (sl n d0 d1 k) := by
  rw [Finset.disjoint_left]; intro i; simp only [slB, sl, Finset.mem_filter, Finset.mem_univ, true_and]; omega
theorem slB_univ {n d0 d1 : ℕ} : slB n d0 d1 n = Finset.univ := by
  ext i; simp only [slB, Finset.mem_filter, Finset.mem_univ, true_and, iff_true]; exact (i 0).2

theorem dy_slots (c : Dev nD) : iprop((∃ Z, O c A16 (sl 4 512 1024 0) Z) ∗ (∃ Z, O c A16 (sl 4 512 1024 1) Z) ∗ (∃ Z, O c A16 (sl 4 512 1024 2) Z) ∗ (∃ Z, O c A16 (sl 4 512 1024 3) Z))
    ⊢ iprop(∃ Z : S4x512x1024.Idx → Elt F .bf16, O c A16 Finset.univ Z) := by
  rw [← slB_one]
  iintro ⟨H0, H1, H2, H3⟩
  ihave H := (o_mix slB_succ slB_disj) $$ [H0 H1]
  · isplitl [H0]; · iexact H0
    iexact H1
  ihave H := (o_mix slB_succ slB_disj) $$ [H H2]
  · isplitl [H]; · iexact H
    iexact H2
  iapply (o_mix (slB_univ.symm.trans slB_succ) slB_disj) $$ [H H3]
  isplitl [H]; · iexact H
  iexact H3

theorem dh_slots (c : Dev nD) : iprop((∃ Z, O c A17 (sl 3 512 1024 0) Z) ∗ (∃ Z, O c A17 (sl 3 512 1024 1) Z) ∗ (∃ Z, O c A17 (sl 3 512 1024 2) Z))
    ⊢ iprop(∃ Z : S3x512x1024.Idx → Elt F .bf16, O c A17 Finset.univ Z) := by
  rw [← slB_one]
  iintro ⟨H0, H1, H2⟩
  ihave H := (o_mix slB_succ slB_disj) $$ [H0 H1]
  · isplitl [H0]; · iexact H0
    iexact H1
  iapply (o_mix (slB_univ.symm.trans slB_succ) slB_disj) $$ [H H2]
  isplitl [H]; · iexact H
  iexact H2

theorem dw_slots (c : Dev nD) : iprop((∃ Z, O c A19 (sl 2 1024 256 0) Z) ∗ (∃ Z, O c A19 (sl 2 1024 256 1) Z))
    ⊢ iprop(∃ Z : S2x1024x256.Idx → Elt F .f32, O c A19 Finset.univ Z) := by
  rw [← slB_one]
  iintro ⟨H0, H1⟩
  iapply (o_mix (slB_univ.symm.trans slB_succ) slB_disj) $$ [H0 H1]
  isplitl [H0]; · iexact H0
  iexact H1

theorem tI_empty {a b : ℕ} (h : b ≤ a) : tI a b = ∅ := by
  ext i; simp only [mem_tI, Finset.notMem_empty, iff_false]; omega

variable (c : Dev nD) (d : Data F) (ids : S2x8x1024.Idx → Elt F .i32) (dg : S2x8x1024.Idx → Elt F .bf16) (xs : S2x1024.Idx → Elt F .f32)

/-- After the routing of the first token tile. -/
def T0 : sProp 𝕄 :=
  iprop(dyS c d 0 ∗ dhS c d 0 ∗ dwS c d 0 ∗ O c A9 (stI 0 7) d.X ∗ O c A0 (stI 0 7) d.X
    ∗ xB c d 1 7 0 ∗ (∃ Z, O c A9 (stI 14 28) Z) ∗ O c A0 (stI 14 28) d.X ∗ Sem0 c (cell Q25 0)
    ∗ O c A11 Finset.univ (WT d) ∗ O c A12 Finset.univ (DWT d 0) ∗ O c A13 Finset.univ zeroAcc
    ∗ O c A14 Finset.univ (d.DL 0) ∗ O c A15 Finset.univ (d.DLS 0) ∗ O c A18 Finset.univ (d.DLO 0)
    ∗ Sem0 c (cell0 Q28) ∗ (∃ Z, O c A8 Finset.univ Z)
    ∗ O c A20 Finset.univ ids ∗ O c A21 Finset.univ dg ∗ O c A22 Finset.univ xs ∗ Ow c)

/-- After the loops. -/
def T1 : sProp 𝕄 :=
  iprop(I5 c d 7 ∗ O c A0 (stI 0 28) d.X ∗ Sem0 c (cell Q25 0) ∗ Sem0 c (cell Q25 1) ∗ O c A13 Finset.univ zeroAcc ∗ dloF c d 3 ∗ O c A8 (tI 0 3) (DLOA d)
    ∗ O c A20 Finset.univ ids ∗ O c A21 Finset.univ dg ∗ O c A22 Finset.univ xs)

set_option maxHeartbeats 1000000 in
theorem tail_run (hd : Later c d ids dg xs) (v5400 : FVec F S256x128 .f32) (v5401 : FVec F S256x128 .bf16) (v5402 : FVec F S1x128 .bf16) {Q : PUnit → sProp 𝕄} :
    T0 c d ids dg xs ⊢ iprop((T1 c d ids dg xs -∗ Q ⟨⟩) -∗ Wp c (tail0 A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 Q23 Q24 Q25 Q26 Q27 Q28 Q29 v5400 v5401 v5402) Q) := by
  unfold tail0 Wp T0
  rw [wp_bind]
  iintro ⟨Hdy, Hdh, Hdw, H9, H0, HX, H9n, H0n, Hs, H11, H12, H13, H14, H15, H18, Hs28, ⟨%Z8, H8⟩, H20, H21, H22, HO⟩ HQ
  ihave H8 := (o_none (DLOA d)) $$ H8
  icases H8 with ⟨H8e, H8⟩
  ihave H8 := (o_split c (S := Finset.univ) (T := tI 0 1) (U := tI 1 4) (by rw [← tI_univ]; exact tI_union (by omega) (by omega)) (tI_disj le_rfl)) $$ H8
  icases H8 with ⟨H8a, H8n⟩
  iapply (enq_dlo c d (t := 0) rfl rfl (by omega) rfl ?_) $$ [H18 H8a Hs28]
  · rfl
  · isplitl [H18]; · iexact H18
    isplitl [H8a]; · iexists Z8; iexact H8a
    iexact Hs28
  iintro Hdlo
  rw [wp_bind]
  ihave HI : I2 c d ids dg xs 0 $$ [Hdy Hdh H9 H0 HX H9n H0n Hs H11 H12 H13 H14 H15 Hdlo H8e H8n H20 H21 H22 HO]
  · rw [I2, if_pos (by omega)]
    isplitl [Hdy]; · iexact Hdy
    isplitl [Hdh]; · iexact Hdh
    isplitl [H9]; · iexact H9
    isplitl [H0]; · iexact H0
    isplitl [HX H9n H0n]
    · isplitl [HX]; · iexact HX
      isplitl [H9n]; · iexact H9n
      iexact H0n
    isplitl [Hs]; · iexact Hs
    isplitl [H11]; · iexact H11
    isplitl [H12]; · iexact H12
    isplitl [H13]; · iexact H13
    isplitl [H14]; · iexact H14
    isplitl [H15]; · iexact H15
    isplitl [Hdlo]; · iexact Hdlo
    isplitl [H8e]
    · rw [tI_empty (le_refl 0)]; iexact H8e
    isplitl [H8n]; · iexists Z8; iexact H8n
    isplitl [H20]; · iexact H20
    isplitl [H21]; · iexact H21
    isplitl [H22]; · iexact H22
    iexact HO
  iapply (t2_run c d ids dg xs hd v5400 v5401 v5402) $$ HI
  rw [I2, if_neg (by omega)]
  iintro ⟨Hdy, Hdh, H9, H0, Hs0, Hs1, H11, H12, H13, H14, H15, Hdlo, H8, -, H20, H21, H22, HO⟩
  rw [wp_bind]
  ihave HI : I5 c d 0 $$ [Hdy Hdh Hdw H9 H11 H12 H14 H15 HO]
  · rw [I5]
    isplitl [Hdy]; · iexact Hdy
    isplitl [Hdh]; · iexact Hdh
    isplitl [Hdw]; · iexact Hdw
    isplitl [H9]; · iexact H9
    isplitl [H11]; · iexact H11
    isplitl [H12]; · iexact H12
    isplitl [H14]; · iexact H14
    isplitl [H15]; · iexact H15
    iexact HO
  iapply (t5_run c d v5400 v5401 v5402) $$ HI
  iintro HI
  rw [wp_pure]
  imodintro
  iapply HQ
  unfold T1
  isplitl [HI]; · iexact HI
  isplitl [H0]; · iexact H0
  isplitl [Hs0]; · iexact Hs0
  isplitl [Hs1]; · iexact Hs1
  isplitl [H13]; · iexact H13
  isplitl [Hdlo]; · iexact Hdlo
  isplitl [H8]; · iexact H8
  isplitl [H20]; · iexact H20
  isplitl [H21]; · iexact H21
  iexact H22

/-- Everything back: the results written, the copies' counters idle, the scratch arrays at some contents. -/
def T2 : sProp 𝕄 :=
  iprop(O c A5 Finset.univ d.DY ∗ O c A6 Finset.univ (DH d) ∗ O c A7 Finset.univ (DW d) ∗ O c A8 Finset.univ (DLOA d) ∗ O c A0 Finset.univ d.X
    ∗ (Sem0 c (cell Q25 0) ∗ Sem0 c (cell Q25 1)) ∗ (Sem0 c (cell Q26 0) ∗ Sem0 c (cell Q26 1) ∗ Sem0 c (cell Q26 2) ∗ Sem0 c (cell Q26 3))
    ∗ (Sem0 c (cell Q27 0) ∗ Sem0 c (cell Q27 1) ∗ Sem0 c (cell Q27 2)) ∗ Sem0 c (cell0 Q28) ∗ (Sem0 c (cell Q29 0) ∗ Sem0 c (cell Q29 1))
    ∗ (∃ Z, O c A9 Finset.univ Z) ∗ (∃ Z, O c A11 Finset.univ Z) ∗ (∃ Z, O c A12 Finset.univ Z) ∗ (∃ Z, O c A13 Finset.univ Z) ∗ (∃ Z, O c A14 Finset.univ Z)
    ∗ (∃ Z, O c A15 Finset.univ Z) ∗ (∃ Z, O c A16 Finset.univ Z) ∗ (∃ Z, O c A17 Finset.univ Z) ∗ (∃ Z, O c A18 Finset.univ Z) ∗ (∃ Z, O c A19 Finset.univ Z)
    ∗ (∃ Z, O c A20 Finset.univ Z) ∗ (∃ Z, O c A21 Finset.univ Z) ∗ (∃ Z, O c A22 Finset.univ Z) ∗ Ow c)

set_option maxHeartbeats 1000000 in
theorem end_run {Q : PUnit → sProp 𝕄} :
    T1 c d ids dg xs ⊢ iprop((T2 c d -∗ Q ⟨⟩) -∗ Wp c (end0 A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 Q23 Q24 Q25 Q26 Q27 Q28 Q29) Q) := by
  unfold end0 Wp T1
  simp only [k0_part273_eq_skeleton, k0_part273_skel, wp_bind, wp_pure]
  rw [I5, dyS, dhS, dwS, dhP', dhP', dhP', dwP, dwP, dyP, dyP, dyP, dyP, dloF]
  simp only [Nat.reduceAdd, Nat.reduceSub, Nat.reduceLeDiff, Nat.reduceLT, Nat.reduceMod, if_true, if_false, reduceIte]
  iintro ⟨⟨⟨⟨Hy0, H16a⟩, ⟨Hy1, H16b⟩, ⟨Hy2, H16c⟩, ⟨Hy3, H16d⟩, H5, -⟩, ⟨Hh1, Hh2, Hh0, H6, -⟩, ⟨Hw1, Hw0, H7, -⟩, H9, H11, H12, H14, H15, HO⟩, H0, Hs0, Hs1, H13, Hdlo, H8, H20, H21, H22⟩ HQ
  iapply (wait (c : Thread nD τ) Variants.none none EC () (cell_at Q27 (k := 28) rfl) ?_) $$ [Hh1 HO]
  · rfl
  · isplitl [Hh1]; · iexact Hh1
    iexact HO
  iintro ⟨⟨H6n, H17b⟩, Hh1, HO⟩
  ihave H6 := (o_join c (stI_union (a := 0) (m := 25) (b := 26) (by omega) (by omega)) (stI_disj le_rfl)) $$ [H6 H6n]
  · isplitl [H6]; · iexact H6
    iexact H6n
  iapply (wait (c : Thread nD τ) Variants.none none EC () (cell_at Q27 (k := 29) rfl) ?_) $$ [Hh2 HO]
  · rfl
  · isplitl [Hh2]; · iexact Hh2
    iexact HO
  iintro ⟨⟨H6n, H17c⟩, Hh2, HO⟩
  ihave H6 := (o_join c (stI_union (a := 0) (m := 26) (b := 27) (by omega) (by omega)) (stI_disj le_rfl)) $$ [H6 H6n]
  · isplitl [H6]; · iexact H6
    iexact H6n
  iapply (wait (c : Thread nD τ) Variants.none none EC () (cell_at Q27 (k := 30) rfl) ?_) $$ [Hh0 HO]
  · rfl
  · isplitl [Hh0]; · iexact Hh0
    iexact HO
  iintro ⟨⟨H6n, H17a⟩, Hh0, HO⟩
  ihave H6 := (o_join c (stI_union (a := 0) (m := 27) (b := 28) (by omega) (by omega)) (stI_disj le_rfl)) $$ [H6 H6n]
  · isplitl [H6]; · iexact H6
    iexact H6n
  iapply (wait (c : Thread nD τ) Variants.none none EC () (cell := cell0 Q28) rfl ?_) $$ [Hdlo HO]
  · rfl
  · isplitl [Hdlo]; · iexact Hdlo
    iexact HO
  iintro ⟨⟨H8n, H18⟩, Hdlo, HO⟩
  ihave H8 := (o_join c (tI_union (a := 0) (m := 3) (b := 4) (by omega) (by omega)) (tI_disj le_rfl)) $$ [H8 H8n]
  · isplitl [H8]; · iexact H8
    iexact H8n
  iapply (wait (c : Thread nD τ) Variants.none none EC () (cell_at Q29 (k := 7) rfl) ?_) $$ [Hw1 HO]
  · rfl
  · isplitl [Hw1]; · iexact Hw1
    iexact HO
  iintro ⟨⟨H7n, H19b⟩, Hw1, HO⟩
  ihave H7 := (o_join c (rI_union (a := 0) (m := 5) (b := 6) (by omega) (by omega)) (rI_disj le_rfl)) $$ [H7 H7n]
  · isplitl [H7]; · iexact H7
    iexact H7n
  iapply (wait (c : Thread nD τ) Variants.none none EC () (cell_at Q29 (k := 8) rfl) ?_) $$ [Hw0 HO]
  · rfl
  · isplitl [Hw0]; · iexact Hw0
    iexact HO
  iintro ⟨⟨H7n, H19a⟩, Hw0, HO⟩
  ihave H7 := (o_join c (rI_union (a := 0) (m := 6) (b := 7) (by omega) (by omega)) (rI_disj le_rfl)) $$ [H7 H7n]
  · isplitl [H7]; · iexact H7
    iexact H7n
  rw [stI_univ, tI_univ, rI_univ]
  imodintro
  imodintro
  iapply HQ
  unfold T2
  isplitl [H5]; · iexact H5
  isplitl [H6]; · iexact H6
  isplitl [H7]; · iexact H7
  isplitl [H8]; · iexact H8
  isplitl [H0]; · iexact H0
  isplitl [Hs0 Hs1]
  · isplitl [Hs0]; · iexact Hs0
    iexact Hs1
  isplitl [Hy0 Hy1 Hy2 Hy3]
  · isplitl [Hy0]; · iexact Hy0
    isplitl [Hy1]; · iexact Hy1
    isplitl [Hy2]; · iexact Hy2
    iexact Hy3
  isplitl [Hh0 Hh1 Hh2]
  · isplitl [Hh0]; · iexact Hh0
    isplitl [Hh1]; · iexact Hh1
    iexact Hh2
  isplitl [Hdlo]; · iexact Hdlo
  isplitl [Hw0 Hw1]
  · isplitl [Hw0]; · iexact Hw0
    iexact Hw1
  isplitl [H9]; · iexists _; iexact H9
  isplitl [H11]; · iexists _; iexact H11
  isplitl [H12]; · iexists _; iexact H12
  isplitl [H13]; · iexists _; iexact H13
  isplitl [H14]; · iexists _; iexact H14
  isplitl [H15]; · iexists _; iexact H15
  isplitl [H16a H16b H16c H16d]
  · iapply (dy_slots c)
    isplitl [H16a]; · iexact H16a
    isplitl [H16b]; · iexact H16b
    isplitl [H16c]; · iexact H16c
    iexact H16d
  isplitl [H17a H17b H17c]
  · iapply (dh_slots c)
    isplitl [H17a]; · iexact H17a
    isplitl [H17b]; · iexact H17b
    iexact H17c
  isplitl [H18]; · iexact H18
  isplitl [H19a H19b]
  · iapply (dw_slots c)
    isplitl [H19a]; · iexact H19a
    iexact H19b
  isplitl [H20]; · iexists _; iexact H20
  isplitl [H21]; · iexists _; iexact H21
  isplitl [H22]; · iexists _; iexact H22
  iexact HO

end Cert.KernelIdeal.Val

end
-- ==== Proof.Pro.lean ====
/-
  The prologue: the first copies, the sums set to zero, and the first token tile's logits.
-/
module

public import proofs.«01_k».proof.Proof.Tail

@[expose] public section

set_option maxRecDepth 16384

noncomputable section

namespace Cert.KernelIdeal.Val

open Cert.KernelIdeal Cert.KernelIdeal.Gen Cert.Own
open Idealize.ShloMosaic Idealize.ShloMosaic.TcCoe Idealize.ShloMosaic.Tactic
open Idealize.SL Idealize.SL.RA Idealize.SL.BI
open scoped Idealize.SL.BI
open Idealize.ShloMosaic.Transfers
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (d : Data F) (ids : S2x8x1024.Idx → Elt F .i32) (dg : S2x8x1024.Idx → Elt F .bf16) (xs : S2x1024.Idx → Elt F .f32)

instance wxD_storable (k : ℕ) (j : Fin 2) : Storable (upEmb : UEmb _ 𝕄) (wxD c d k j) := by
  fin_cases j
  · show Storable _ iprop(O c A10 (rI k (k + 1)) d.W ∗ O c A2 (rI k (k + 1)) d.W); infer_instance
  · show Storable _ iprop(O c A9 (stI k (k + 1)) d.X ∗ O c A0 (stI k (k + 1)) d.X); infer_instance

/-! ## The router's small operands, copied in whole on one counter -/

def sD : Fin 3 → sProp 𝕄 :=
  ![iprop(O c A20 Finset.univ ids ∗ O c A3 Finset.univ ids), iprop(O c A21 Finset.univ dg ∗ O c A4 Finset.univ dg), iprop(O c A22 Finset.univ xs ∗ O c A1 Finset.univ xs)]

instance sD_storable (j : Fin 3) : Storable (upEmb : UEmb _ 𝕄) (sD c ids dg xs j) := by
  fin_cases j
  · show Storable _ iprop(O c A20 Finset.univ ids ∗ O c A3 Finset.univ ids); infer_instance
  · show Storable _ iprop(O c A21 Finset.univ dg ∗ O c A4 Finset.univ dg); infer_instance
  · show Storable _ iprop(O c A22 Finset.univ xs ∗ O c A1 Finset.univ xs); infer_instance

def sA : Fin 3 → ℕ := ![A20.view.dmaCredit, A21.view.dmaCredit, A22.view.dmaCredit]

theorem sA_pos (j : Fin 3) : 0 < sA j := by
  fin_cases j
  · exact View.dmaCredit_pos _ (by decide)
  · exact View.dmaCredit_pos _ (by decide)
  · exact View.dmaCredit_pos _ (by decide)

theorem sumTo_sA : Transfers.sumTo sA 3 = A20.view.dmaCredit + A21.view.dmaCredit + A22.view.dmaCredit := by
  rw [sumTo_succ sA (k := 2) (by omega), sumTo_succ sA (k := 1) (by omega), sumTo_succ sA (k := 0) (by omega), sumTo_zero, Nat.zero_add]; rfl

theorem sD_collect : bigSep Finset.univ (sD c ids dg xs)
    = iprop((O c A20 Finset.univ ids ∗ O c A3 Finset.univ ids) ∗ (O c A21 Finset.univ dg ∗ O c A4 Finset.univ dg) ∗ (O c A22 Finset.univ xs ∗ O c A1 Finset.univ xs)) := by
  rw [show bigSep Finset.univ (sD c ids dg xs) = iprop(sD c ids dg xs 0 ∗ sD c ids dg xs 1 ∗ sD c ids dg xs 2) from bigSep_univ_eq_bigSepL [0, 1, 2] (by decide) (by decide) _]; rfl

def sB (j u : ℕ) : sProp 𝕄 := MixedBatch (EC (F := F)) (c : Thread nD τ) (cell0 Q23) () sA (sD c ids dg xs) j u

/-! ## The first copies' counters, made ready -/

theorem sB_open : Sem0 c (cell0 Q23) ⊢ iprop(|={Set.univ}=> sB c ids dg xs 0 0) := by
  unfold sB
  exact Transfers.mixedBatch_alloc' (Lvl := ℕ) (countersEmb (U := Pipeline.UD sig nD τ)) (c : Thread nD τ) () sA (sD c ids dg xs) (sm := cell0 Q23) (E := Set.univ)

theorem wxB_open (k : ℕ) : Sem0 c (cell Q24 k) ⊢ iprop(|={Set.univ}=> wxB c d k 0) := by
  unfold wxB
  have e : ∃ q, cell Q24 k = .dma q := ⟨_, rfl⟩
  obtain ⟨q, hq⟩ := e
  rw [hq]
  exact Transfers.mixedBatch_alloc' (Lvl := ℕ) (countersEmb (U := Pipeline.UD sig nD τ)) (c : Thread nD τ) () wxA (wxD c d k) (sm := .dma q) (E := Set.univ)

theorem xB_open (t : ℕ) : Sem0 c (cell Q25 t) ⊢ iprop(|={Set.univ}=> xB c d t 0 0) := by
  unfold xB
  have e : ∃ q, cell Q25 t = .dma q := ⟨_, rfl⟩
  obtain ⟨q, hq⟩ := e
  rw [hq]
  exact Transfers.mixedBatch_alloc' (Lvl := ℕ) (countersEmb (U := Pipeline.UD sig nD τ)) (c : Thread nD τ) () xA (xD c d t) (sm := .dma q) (E := Set.univ)

/-! ## The prologue's copies, one of each kind -/

theorem w_issue {off : Fin 2 → ℕ} {iA iB hrA hrB sm hs hd ht} (k : ℕ) {Q : PUnit → sProp 𝕄} (hcell : cell Q24 k = sm)
    (h0 : off 0 = 1024 * k) (h1 : off 1 = 0) (hk : k < 7)
    (hN : (A10.slice (Rect.unit (s := S7168x256) off S1024x256.size iB) hrB).view.amount sm = Nw) :
    iprop(wxB c d k 0 ∗ O c A2 (rI k 7) d.W ∗ (∃ Z, O c A10 (rI k 7) Z))
      ⊢ iprop((iprop(wxB c d k 1 ∗ O c A2 (rI (k + 1) 7) d.W ∗ (∃ Z, O c A10 (rI (k + 1) 7) Z)) -∗ Q ⟨⟩)
        -∗ Wp c (Prog.lift (.enqueueDma (A2.slice (Rect.unit (s := S7168x256) off S1024x256.size iA) hrA)
            (.here (A10.slice (Rect.unit (s := S7168x256) off S1024x256.size iB) hrB)) sm hs hd ht)) Q) := by
  iintro ⟨HB, HA, ⟨%Z, HZ⟩⟩ HQ
  ihave HA := (o_split c (rI_union (a := k) (m := k + 1) (b := 7) (by omega) (by omega)) (rI_disj le_rfl)) $$ HA
  icases HA with ⟨HAa, HA⟩
  ihave HZ := (o_split c (rI_union (a := k) (m := k + 1) (b := 7) (by omega) (by omega)) (rI_disj le_rfl)) $$ HZ
  icases HZ with ⟨HZa, HZ⟩
  iapply (enq_flat c (j := 0) (SA := rI k (k + 1)) (AA := wxA) (D := wxD c d k) hcell (by omega) ?_ (rect_r h0 h1 rfl) rfl) $$ [HB HAa HZa]
  · exact hN
  · isplitl [HAa]; · iexact HAa
    isplitl [HZa]; · iexists Z; iexact HZa
    unfold wxB
    iexact HB
  iintro HB
  iapply HQ
  isplitl [HB]; · unfold wxB; iexact HB
  isplitl [HA]; · iexact HA
  iexists Z
  iexact HZ

theorem x_issue {off : Fin 2 → ℕ} {iA iB hrA hrB sm hs hd ht} (k : ℕ) {Q : PUnit → sProp 𝕄} (hcell : cell Q24 k = sm)
    (h0 : off 0 = 0) (h1 : off 1 = 1024 * k) (hk : k < 7)
    (hN : (A9.slice (Rect.unit (s := S2048x7168) off S512x1024.size iB) hrB).view.amount sm = Nx) :
    iprop(wxB c d k 1 ∗ O c A0 (stI k 28) d.X ∗ (∃ Z, O c A9 (stI k 28) Z))
      ⊢ iprop((iprop(wxB c d k 2 ∗ O c A0 (stI (k + 1) 28) d.X ∗ (∃ Z, O c A9 (stI (k + 1) 28) Z)) -∗ Q ⟨⟩)
        -∗ Wp c (Prog.lift (.enqueueDma (A0.slice (Rect.unit (s := S2048x7168) off S512x1024.size iA) hrA)
            (.here (A9.slice (Rect.unit (s := S2048x7168) off S512x1024.size iB) hrB)) sm hs hd ht)) Q) := by
  iintro ⟨HB, HA, ⟨%Z, HZ⟩⟩ HQ
  ihave HA := (o_split c (stI_union (a := k) (m := k + 1) (b := 28) (by omega) (by omega)) (stI_disj le_rfl)) $$ HA
  icases HA with ⟨HAa, HA⟩
  ihave HZ := (o_split c (stI_union (a := k) (m := k + 1) (b := 28) (by omega) (by omega)) (stI_disj le_rfl)) $$ HZ
  icases HZ with ⟨HZa, HZ⟩
  iapply (enq_flat c (j := 1) (SA := stI k (k + 1)) (AA := wxA) (D := wxD c d k) hcell (by omega) ?_ (rect_st h0 h1 (by omega) (by omega)) rfl) $$ [HB HAa HZa]
  · exact hN
  · isplitl [HAa]; · iexact HAa
    isplitl [HZa]; · iexists Z; iexact HZa
    unfold wxB
    iexact HB
  iintro HB
  iapply HQ
  isplitl [HB]; · unfold wxB; iexact HB
  isplitl [HA]; · iexact HA
  iexists Z
  iexact HZ

theorem x1_issue {off : Fin 2 → ℕ} {iA iB hrA hrB sm hs hd ht} (k : ℕ) {Q : PUnit → sProp 𝕄} (hcell : cell Q25 1 = sm)
    (h0 : off 0 = 512) (h1 : off 1 = 1024 * k) (hk : k < 7)
    (hN : (A9.slice (Rect.unit (s := S2048x7168) off S512x1024.size iB) hrB).view.amount sm = Nx) :
    iprop(xB c d 1 k 0 ∗ O c A0 (stI (7 + k) 28) d.X ∗ (∃ Z, O c A9 (stI (7 + k) 28) Z))
      ⊢ iprop((iprop(xB c d 1 (k + 1) 0 ∗ O c A0 (stI (7 + k + 1) 28) d.X ∗ (∃ Z, O c A9 (stI (7 + k + 1) 28) Z)) -∗ Q ⟨⟩)
        -∗ Wp c (Prog.lift (.enqueueDma (A0.slice (Rect.unit (s := S2048x7168) off S512x1024.size iA) hrA)
            (.here (A9.slice (Rect.unit (s := S2048x7168) off S512x1024.size iB) hrB)) sm hs hd ht)) Q) := by
  iintro ⟨HB, HA, ⟨%Z, HZ⟩⟩ HQ
  ihave HA := (o_split c (stI_union (a := 7 + k) (m := 7 + k + 1) (b := 28) (by omega) (by omega)) (stI_disj le_rfl)) $$ HA
  icases HA with ⟨HAa, HA⟩
  ihave HZ := (o_split c (stI_union (a := 7 + k) (m := 7 + k + 1) (b := 28) (by omega) (by omega)) (stI_disj le_rfl)) $$ HZ
  icases HZ with ⟨HZa, HZ⟩
  iapply (enq_flat c (j := k) (SA := stI (7 + k) (7 + k + 1)) (AA := xA) (D := xD c d 1) hcell hk ?_ (rect_st h0 h1 (by omega) (by omega)) rfl) $$ [HB HAa HZa]
  · exact hN
  · isplitl [HAa]; · iexact HAa
    isplitl [HZa]; · iexists Z; iexact HZa
    unfold xB
    iexact HB
  iintro HB
  iapply HQ
  isplitl [HB]; · unfold xB; iexact HB
  isplitl [HA]; · iexact HA
  iexists Z
  iexact HZ

theorem dy_issue {oA : Fin 2 → ℕ} {oB : Fin 3 → ℕ} {iA iB hrA hrB hsq sm hs hd ht} (k : ℕ) {Q : PUnit → sProp 𝕄} (hcell : cell Q26 k = sm)
    (h0 : oA 0 = 0) (h1 : oA 1 = 1024 * k) (g0 : oB 0 = k) (g1 : oB 1 = 0) (g2 : oB 2 = 0) (hk : k < 4)
    (hN : ((A16.slice (Rect.unit (s := S4x512x1024) oB S1x512x1024.size iB) hrB).squeeze S512x1024 hsq).view.amount sm = Ndy) :
    iprop(Sem0 c (cell Q26 k) ∗ O c A5 (stI k 28) d.DY ∗ (∃ Z, O c A16 (sl 4 512 1024 k) Z))
      ⊢ iprop((iprop(dyP c d k ∗ O c A5 (stI (k + 1) 28) d.DY) -∗ Q ⟨⟩)
        -∗ Wp c (Prog.lift (.enqueueDma (A5.slice (Rect.unit (s := S2048x7168) oA S512x1024.size iA) hrA)
            (.here ((A16.slice (Rect.unit (s := S4x512x1024) oB S1x512x1024.size iB) hrB).squeeze S512x1024 hsq)) sm hs hd ht)) Q) := by
  iintro ⟨HS, HA, HZ⟩ HQ
  ihave HA := (o_split c (stI_union (a := k) (m := k + 1) (b := 28) (by omega) (by omega)) (stI_disj le_rfl)) $$ HA
  icases HA with ⟨HAa, HA⟩
  iapply (enq_in c (XB := slotDY d k) hcell hN Ndy_pos h0 h1 g0 g1 g2 (rect_st (n := k) h0 h1 (by omega) (by omega))
    (slotDY_eq d (n := k) (by omega) (by omega) (by omega) (by omega))) $$ [HS HAa HZ]
  · isplitl [HAa]; · iexact HAa
    isplitl [HZ]; · iexact HZ
    iexact HS
  iintro HB
  iapply HQ
  isplitl [HB]
  · rw [dyP, if_pos (by omega), Nat.mod_eq_of_lt hk]
    iexact HB
  iexact HA

/-! ## The prologue -/

def P0 : sProp 𝕄 :=
  iprop(O c A0 Finset.univ d.X ∗ O c A1 Finset.univ xs ∗ O c A2 Finset.univ d.W ∗ O c A3 Finset.univ ids ∗ O c A4 Finset.univ dg ∗ O c A5 Finset.univ d.DY
    ∗ (∃ Z, O c A9 Finset.univ Z) ∗ (∃ Z, O c A10 Finset.univ Z) ∗ (∃ Z, O c A11 Finset.univ Z) ∗ (∃ Z, O c A12 Finset.univ Z) ∗ (∃ Z, O c A13 Finset.univ Z)
    ∗ ((∃ Z, O c A16 (sl 4 512 1024 0) Z) ∗ (∃ Z, O c A16 (sl 4 512 1024 1) Z) ∗ (∃ Z, O c A16 (sl 4 512 1024 2) Z) ∗ (∃ Z, O c A16 (sl 4 512 1024 3) Z))
    ∗ (∃ Z, O c A20 Finset.univ Z) ∗ (∃ Z, O c A21 Finset.univ Z) ∗ (∃ Z, O c A22 Finset.univ Z)
    ∗ Sem0 c (cell0 Q23) ∗ (Sem0 c (cell Q24 0) ∗ Sem0 c (cell Q24 1) ∗ Sem0 c (cell Q24 2) ∗ Sem0 c (cell Q24 3) ∗ Sem0 c (cell Q24 4) ∗ Sem0 c (cell Q24 5) ∗ Sem0 c (cell Q24 6))
    ∗ Sem0 c (cell Q25 1) ∗ (Sem0 c (cell Q26 0) ∗ Sem0 c (cell Q26 1) ∗ Sem0 c (cell Q26 2) ∗ Sem0 c (cell Q26 3)) ∗ Ow c)

def P1 : sProp 𝕄 :=
  iprop(I1 c d 7 ∗ xB c d 1 7 0 ∗ O c A0 (stI 14 28) d.X ∗ (∃ Z, O c A9 (stI 14 28) Z) ∗ (dyP c d 0 ∗ dyP c d 1 ∗ dyP c d 2 ∗ dyP c d 3)
    ∗ O c A5 (stI 4 28) d.DY ∗ O c A12 Finset.univ zeroDw ∗ O c A20 Finset.univ ids ∗ O c A3 Finset.univ ids ∗ O c A21 Finset.univ dg ∗ O c A4 Finset.univ dg
    ∗ O c A22 Finset.univ xs ∗ O c A1 Finset.univ xs ∗ Sem0 c (cell0 Q23))

set_option maxHeartbeats 2000000 in
theorem pro_run {Q : BitVec 32 → sProp 𝕄} :
    P0 c d ids dg xs ⊢ iprop((∀ w, P1 c d ids dg xs -∗ Q w) -∗
      Wp c (k0_part148 A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 Q23 Q24 Q25 Q26 Q27 Q28 Q29) fun _ => Wp c (k0_part149 A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 Q23 Q24 Q25 Q26 Q27 Q28 Q29) fun _ => Wp c (k0_part150 A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 Q23 Q24 Q25 Q26 Q27 Q28 Q29) fun _ => Wp c (k0_part151 A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 Q23 Q24 Q25 Q26 Q27 Q28 Q29) fun r => Wp c (k0_part152 A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 Q23 Q24 Q25 Q26 Q27 Q28 Q29 r) Q) := by
  unfold Wp P0
  simp only [k0_part148_eq_skeleton, k0_part148_skel, k0_part149_eq_skeleton, k0_part149_skel, k0_part150_eq_skeleton, k0_part150_skel,
    k0_part151_eq_skeleton, k0_part151_skel, k0_part152_eq_skeleton, k0_part152_skel, wp_bind, wp_pure]
  rw [← rI_univ, ← stI_univ]
  iintro ⟨H0, H1, H2, H3, H4, H5, H9, H10, H11, ⟨%Z12, H12⟩, ⟨%Z13, H13⟩, ⟨H16a, H16b, H16c, H16d⟩, H20, H21, H22, Hs, ⟨Hw0, Hw1, Hw2, Hw3, Hw4, Hw5, Hw6⟩, Hx, ⟨Hy0, Hy1, Hy2, Hy3⟩, HO⟩ HQ
  imod (sB_open c ids dg xs) $$ Hs with Hs
  imod (xB_open c d 1) $$ Hx with Hx
  imod (wxB_open c d 0) $$ Hw0 with Hw0
  imod (wxB_open c d 1) $$ Hw1 with Hw1
  imod (wxB_open c d 2) $$ Hw2 with Hw2
  imod (wxB_open c d 3) $$ Hw3 with Hw3
  imod (wxB_open c d 4) $$ Hw4 with Hw4
  imod (wxB_open c d 5) $$ Hw5 with Hw5
  imod (wxB_open c d 6) $$ Hw6 with Hw6
  iapply (w_issue c d 0 (cell_at Q24 (k := 0) rfl) rfl rfl (by omega) ?_) $$ [Hw0 H2 H10]
  · rfl
  · isplitl [Hw0]; · iexact Hw0
    isplitl [H2]; · iexact H2
    iexact H10
  iintro ⟨Hw0, H2, H10⟩
  iapply (x_issue c d 0 (cell_at Q24 (k := 0) rfl) rfl rfl (by omega) ?_) $$ [Hw0 H0 H9]
  · rfl
  · isplitl [Hw0]; · iexact Hw0
    isplitl [H0]; · iexact H0
    iexact H9
  iintro ⟨Hw0, H0, H9⟩
  iapply (dmaBatch (c : Thread nD τ) Variants.none none EC () (cell := cell0 Q23) (A := sA) (D := sD c ids dg xs) (j := 0) (Y := ids) (P1 := O c A3 Finset.univ ids) (P2 := iprop(∃ Z, O c A20 Finset.univ Z)) rfl (by omega) rfl BIBase.Entails.rfl BIBase.Entails.rfl BIBase.Entails.rfl BIBase.Entails.rfl rfl) $$ [Hs H3 H20]
  · isplitl [H3]; · iexact H3
    isplitl [H20]; · iexact H20
    unfold sB
    iexact Hs
  iintro Hs
  iapply (dmaBatch (c : Thread nD τ) Variants.none none EC () (cell := cell0 Q23) (A := sA) (D := sD c ids dg xs) (j := 1) (Y := dg) (P1 := O c A4 Finset.univ dg) (P2 := iprop(∃ Z, O c A21 Finset.univ Z)) rfl (by omega) rfl BIBase.Entails.rfl BIBase.Entails.rfl BIBase.Entails.rfl BIBase.Entails.rfl rfl) $$ [Hs H4 H21]
  · isplitl [H4]; · iexact H4
    isplitl [H21]; · iexact H21
    iexact Hs
  iintro Hs
  iapply (dmaBatch (c : Thread nD τ) Variants.none none EC () (cell := cell0 Q23) (A := sA) (D := sD c ids dg xs) (j := 2) (Y := xs) (P1 := O c A1 Finset.univ xs) (P2 := iprop(∃ Z, O c A22 Finset.univ Z)) rfl (by omega) rfl BIBase.Entails.rfl BIBase.Entails.rfl BIBase.Entails.rfl BIBase.Entails.rfl rfl) $$ [Hs H1 H22]
  · isplitl [H1]; · iexact H1
    isplitl [H22]; · iexact H22
    iexact Hs
  iintro Hs
  iapply (w_issue c d 1 (cell_at Q24 (k := 1) rfl) rfl rfl (by omega) ?_) $$ [Hw1 H2 H10]
  · rfl
  · isplitl [Hw1]; · iexact Hw1
    isplitl [H2]; · iexact H2
    iexact H10
  iintro ⟨Hw1, H2, H10⟩
  iapply (x_issue c d 1 (cell_at Q24 (k := 1) rfl) rfl rfl (by omega) ?_) $$ [Hw1 H0 H9]
  · rfl
  · isplitl [Hw1]; · iexact Hw1
    isplitl [H0]; · iexact H0
    iexact H9
  iintro ⟨Hw1, H0, H9⟩
  iapply (w_issue c d 2 (cell_at Q24 (k := 2) rfl) rfl rfl (by omega) ?_) $$ [Hw2 H2 H10]
  · rfl
  · isplitl [Hw2]; · iexact Hw2
    isplitl [H2]; · iexact H2
    iexact H10
  iintro ⟨Hw2, H2, H10⟩
  imodintro
  iapply (x_issue c d 2 (cell_at Q24 (k := 2) rfl) rfl rfl (by omega) ?_) $$ [Hw2 H0 H9]
  · rfl
  · isplitl [Hw2]; · iexact Hw2
    isplitl [H0]; · iexact H0
    iexact H9
  iintro ⟨Hw2, H0, H9⟩
  iapply (w_issue c d 3 (cell_at Q24 (k := 3) rfl) rfl rfl (by omega) ?_) $$ [Hw3 H2 H10]
  · rfl
  · isplitl [Hw3]; · iexact Hw3
    isplitl [H2]; · iexact H2
    iexact H10
  iintro ⟨Hw3, H2, H10⟩
  iapply (x_issue c d 3 (cell_at Q24 (k := 3) rfl) rfl rfl (by omega) ?_) $$ [Hw3 H0 H9]
  · rfl
  · isplitl [Hw3]; · iexact Hw3
    isplitl [H0]; · iexact H0
    iexact H9
  iintro ⟨Hw3, H0, H9⟩
  iapply (w_issue c d 4 (cell_at Q24 (k := 4) rfl) rfl rfl (by omega) ?_) $$ [Hw4 H2 H10]
  · rfl
  · isplitl [Hw4]; · iexact Hw4
    isplitl [H2]; · iexact H2
    iexact H10
  iintro ⟨Hw4, H2, H10⟩
  iapply (x_issue c d 4 (cell_at Q24 (k := 4) rfl) rfl rfl (by omega) ?_) $$ [Hw4 H0 H9]
  · rfl
  · isplitl [Hw4]; · iexact Hw4
    isplitl [H0]; · iexact H0
    iexact H9
  iintro ⟨Hw4, H0, H9⟩
  iapply (w_issue c d 5 (cell_at Q24 (k := 5) rfl) rfl rfl (by omega) ?_) $$ [Hw5 H2 H10]
  · rfl
  · isplitl [Hw5]; · iexact Hw5
    isplitl [H2]; · iexact H2
    iexact H10
  iintro ⟨Hw5, H2, H10⟩
  imodintro
  iapply (x_issue c d 5 (cell_at Q24 (k := 5) rfl) rfl rfl (by omega) ?_) $$ [Hw5 H0 H9]
  · rfl
  · isplitl [Hw5]; · iexact Hw5
    isplitl [H0]; · iexact H0
    iexact H9
  iintro ⟨Hw5, H0, H9⟩
  iapply (w_issue c d 6 (cell_at Q24 (k := 6) rfl) rfl rfl (by omega) ?_) $$ [Hw6 H2 H10]
  · rfl
  · isplitl [Hw6]; · iexact Hw6
    isplitl [H2]; · iexact H2
    iexact H10
  iintro ⟨Hw6, H2, H10⟩
  iapply (x_issue c d 6 (cell_at Q24 (k := 6) rfl) rfl rfl (by omega) ?_) $$ [Hw6 H0 H9]
  · rfl
  · isplitl [Hw6]; · iexact Hw6
    isplitl [H0]; · iexact H0
    iexact H9
  iintro ⟨Hw6, H0, H9⟩
  iapply (dy_issue c d 0 (cell_at Q26 (k := 0) rfl) rfl rfl rfl rfl rfl (by omega) ?_) $$ [Hy0 H5 H16a]
  · rfl
  · isplitl [Hy0]; · iexact Hy0
    isplitl [H5]; · iexact H5
    iexact H16a
  iintro ⟨Hy0, H5⟩
  iapply (dy_issue c d 1 (cell_at Q26 (k := 1) rfl) rfl rfl rfl rfl rfl (by omega) ?_) $$ [Hy1 H5 H16b]
  · rfl
  · isplitl [Hy1]; · iexact Hy1
    isplitl [H5]; · iexact H5
    iexact H16b
  iintro ⟨Hy1, H5⟩
  imodintro
  iapply (dy_issue c d 2 (cell_at Q26 (k := 2) rfl) rfl rfl rfl rfl rfl (by omega) ?_) $$ [Hy2 H5 H16c]
  · rfl
  · isplitl [Hy2]; · iexact Hy2
    isplitl [H5]; · iexact H5
    iexact H16c
  iintro ⟨Hy2, H5⟩
  iapply (dy_issue c d 3 (cell_at Q26 (k := 3) rfl) rfl rfl rfl rfl rfl (by omega) ?_) $$ [Hy3 H5 H16d]
  · rfl
  · isplitl [Hy3]; · iexact Hy3
    isplitl [H5]; · iexact H5
    iexact H16d
  iintro ⟨Hy3, H5⟩
  iapply (x1_issue c d 0 (cell_at Q25 (k := 1) rfl) rfl rfl (by omega) ?_) $$ [Hx H0 H9]
  · rfl
  · isplitl [Hx]; · iexact Hx
    isplitl [H0]; · iexact H0
    iexact H9
  iintro ⟨Hx, H0, H9⟩
  iapply (x1_issue c d 1 (cell_at Q25 (k := 1) rfl) rfl rfl (by omega) ?_) $$ [Hx H0 H9]
  · rfl
  · isplitl [Hx]; · iexact Hx
    isplitl [H0]; · iexact H0
    iexact H9
  iintro ⟨Hx, H0, H9⟩
  iapply (x1_issue c d 2 (cell_at Q25 (k := 1) rfl) rfl rfl (by omega) ?_) $$ [Hx H0 H9]
  · rfl
  · isplitl [Hx]; · iexact Hx
    isplitl [H0]; · iexact H0
    iexact H9
  iintro ⟨Hx, H0, H9⟩
  iapply (x1_issue c d 3 (cell_at Q25 (k := 1) rfl) rfl rfl (by omega) ?_) $$ [Hx H0 H9]
  · rfl
  · isplitl [Hx]; · iexact Hx
    isplitl [H0]; · iexact H0
    iexact H9
  iintro ⟨Hx, H0, H9⟩
  imodintro
  iapply (x1_issue c d 4 (cell_at Q25 (k := 1) rfl) rfl rfl (by omega) ?_) $$ [Hx H0 H9]
  · rfl
  · isplitl [Hx]; · iexact Hx
    isplitl [H0]; · iexact H0
    iexact H9
  iintro ⟨Hx, H0, H9⟩
  iapply (x1_issue c d 5 (cell_at Q25 (k := 1) rfl) rfl rfl (by omega) ?_) $$ [Hx H0 H9]
  · rfl
  · isplitl [Hx]; · iexact Hx
    isplitl [H0]; · iexact H0
    iexact H9
  iintro ⟨Hx, H0, H9⟩
  iapply (x1_issue c d 6 (cell_at Q25 (k := 1) rfl) rfl rfl (by omega) ?_) $$ [Hx H0 H9]
  · rfl
  · isplitl [Hx]; · iexact Hx
    isplitl [H0]; · iexact H0
    iexact H9
  iintro ⟨Hx, H0, H9⟩
  iapply (load2 c 0 0 rfl rfl (Finset.subset_univ _)) $$ H13
  iintro H13
  iapply (store2 c zeroAcc 0 0 rfl rfl (Finset.subset_univ _) ?_ ?_) $$ H13
  · unfold k0_pay431 zeroAcc; funext _; rfl
  · intro i _ hi
    refine absurd ?_ hi
    have := lt0 i; have := lt1 i
    omega
  iintro H13
  iapply (load2 c 0 0 rfl rfl (Finset.subset_univ _)) $$ H12
  iintro H12
  iapply (store2 c zeroDw 0 0 rfl rfl (Finset.subset_univ _) ?_ ?_) $$ H12
  · unfold k0_pay432 zeroDw; funext _; rfl
  · intro i _ hi
    refine absurd ?_ hi
    have := lt0 i; have := lt1 i
    omega
  iintro H12
  iapply (waitBatch (c : Thread nD τ) Variants.none none EC () (cell := cell0 Q23) (A := sA) (D := sD c ids dg xs) (J := A20.view.dmaCredit) (u := 0) (u' := 0 + A20.view.dmaCredit) rfl rfl rfl ?_) $$ [Hs HO]
  · rw [sumTo_sA]; omega
  · isplitl [Hs]; · iexact Hs
    iexact HO
  iintro ⟨Hs, HO⟩
  iapply (waitBatch (c : Thread nD τ) Variants.none none EC () (cell := cell0 Q23) (A := sA) (D := sD c ids dg xs) (J := A21.view.dmaCredit) (u := 0 + A20.view.dmaCredit) (u' := 0 + A20.view.dmaCredit + A21.view.dmaCredit) rfl rfl rfl ?_) $$ [Hs HO]
  · rw [sumTo_sA]; omega
  · isplitl [Hs]; · iexact Hs
    iexact HO
  iintro ⟨Hs, HO⟩
  iapply (waitBatchAll (c : Thread nD τ) Variants.none none EC () (cell := cell0 Q23) (A := sA) (D := sD c ids dg xs) (J := A22.view.dmaCredit) (u := 0 + A20.view.dmaCredit + A21.view.dmaCredit) rfl rfl sA_pos ?_) $$ [Hs HO]
  · rw [sumTo_sA, Nat.zero_add]
  · isplitl [Hs]; · iexact Hs
    iexact HO
  rw [sD_collect]
  iintro ⟨⟨⟨H20, H3⟩, ⟨H21, H4⟩, ⟨H22, H1⟩⟩, Hs, HO⟩
  icases H11 with ⟨%Z11, H11⟩
  icases H0 with H0
  ihave H2 := (o_none d.W) $$ H2
  icases H2 with ⟨H2, -⟩
  icases H10 with ⟨%Z10, H10⟩
  ihave H10 := (o_none d.W) $$ H10
  icases H10 with ⟨H10, -⟩
  ihave H0 := (o_none d.X) $$ H0
  icases H0 with ⟨H0e, H0⟩
  icases H9 with ⟨%Z9, H9⟩
  ihave H9 := (o_none d.X) $$ H9
  icases H9 with ⟨H9e, H9⟩
  ihave HI : I1 c d 0 $$ [Hw0 Hw1 Hw2 Hw3 Hw4 Hw5 Hw6 H10 H2 H0e H9e H11 H13 HO]
  · rw [I1, rI_empty (le_refl 0), stI_empty (le_refl 0)]
    isplitl [Hw0 Hw1 Hw2 Hw3 Hw4 Hw5 Hw6]
    · rw [Nat.sub_zero, wxRest, wxRest, wxRest, wxRest, wxRest, wxRest, wxRest, wxRest]
      isplitl [Hw0]; · iexact Hw0
      isplitl [Hw1]; · iexact Hw1
      isplitl [Hw2]; · iexact Hw2
      isplitl [Hw3]; · iexact Hw3
      isplitl [Hw4]; · iexact Hw4
      isplitl [Hw5]; · iexact Hw5
      isplitl [Hw6]; · iexact Hw6
      iempintro
    isplitl []; · rw [wxDone]; iempintro
    isplitl [H10]; · iexact H10
    isplitl [H2]; · iexact H2
    isplitl [H9e]; · iexact H9e
    isplitl [H0e]; · iexact H0e
    isplitl [H11]; · iexists Z11; rw [show wtPart d Z11 0 = Z11 from funext fun _ => by simp [wtPart]]; iexact H11
    isplitl [H13]; · iexact H13
    iexact HO
  iapply (t1_run c d _) $$ HI
  iintro HI
  imodintro
  ispecialize HQ $$ %_
  iapply HQ
  unfold P1
  isplitl [HI]; · iexact HI
  isplitl [Hx]; · iexact Hx
  isplitl [H0]; · iexact H0
  isplitl [H9]; · iexists Z9; iexact H9
  isplitl [Hy0 Hy1 Hy2 Hy3]
  · isplitl [Hy0]; · iexact Hy0
    isplitl [Hy1]; · iexact Hy1
    isplitl [Hy2]; · iexact Hy2
    iexact Hy3
  isplitl [H5]; · iexact H5
  isplitl [H12]; · iexact H12
  isplitl [H20]; · iexact H20
  isplitl [H3]; · iexact H3
  isplitl [H21]; · iexact H21
  isplitl [H4]; · iexact H4
  isplitl [H22]; · iexact H22
  isplitl [H1]; · iexact H1
  iexact Hs

end Cert.KernelIdeal.Val

end
-- ==== Proof.Top.lean ====
/-
  The whole kernel on one core.
-/
module

public import proofs.«01_k».proof.Proof.Pro

@[expose] public section

set_option maxRecDepth 16384

noncomputable section

namespace Cert.KernelIdeal.Val

open Cert.KernelIdeal Cert.KernelIdeal.Gen Cert.Own
open Idealize.ShloMosaic Idealize.ShloMosaic.TcCoe Idealize.ShloMosaic.Tactic
open Idealize.SL Idealize.SL.RA Idealize.SL.BI
open scoped Idealize.SL.BI
open Idealize.ShloMosaic.Transfers
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (d : Data F) (ids : S2x8x1024.Idx → Elt F .i32) (dg : S2x8x1024.Idx → Elt F .bf16) (xs : S2x1024.Idx → Elt F .f32)

/-! ## The routing of the first token tile -/

def rDL0 (acc : S256x512.Idx → Elt F .f32) : S512x256.Idx → Elt F .bf16 :=
  A14.view.read (Elt F) (A14.view.writes (Elt F) A14.view.junk (rt0_gen.sl.H14_4 c A13 A20 A21 A22 acc ids dg xs))

def rDLS0 (acc : S256x512.Idx → Elt F .f32) : S256x512.Idx → Elt F .bf16 :=
  A15.view.read (Elt F) (A15.view.writes (Elt F) A15.view.junk (rt0_gen.sl.H15_4 c A13 A20 A21 A22 acc ids dg xs))

def rDLO0 (acc : S256x512.Idx → Elt F .f32) : S512x256.Idx → Elt F .f32 :=
  A18.view.read (Elt F) (A18.view.writes (Elt F) A18.view.junk (rt0_gen.sl.H18_4 c A13 A20 A21 A22 acc ids dg xs))

/-- The recorded results of the router are those of its run on the first token tile. -/
structure First : Prop where
  dl : d.DL 0 = rDL0 c ids dg xs (ACC d 0 7)
  dls : d.DLS 0 = rDLS0 c ids dg xs (ACC d 0 7)
  dlo : d.DLO 0 = rDLO0 c ids dg xs (ACC d 0 7)

theorem read_zero0 : A13.view.read (Elt F) (A13.view.writes (Elt F) A13.view.junk (rt0_gen.sl.H13_1 (F := F))) = zeroAcc := by
  unfold rt0_gen.sl.H13_1
  exact read_zero

/-! ## The slots, apart -/

theorem sl_union {n d0 d1 k : ℕ} (hk : 0 < k) {S : Finset (⟨3, ![n, d0, d1]⟩ : Shape).Idx} (h : S = slB n d0 d1 (k + 1)) : S = slB n d0 d1 k ∪ sl n d0 d1 k :=
  h.trans slB_succ

theorem dy_split : iprop(∃ Z : S4x512x1024.Idx → Elt F .bf16, O c A16 Finset.univ Z)
    ⊢ iprop((∃ Z, O c A16 (sl 4 512 1024 0) Z) ∗ (∃ Z, O c A16 (sl 4 512 1024 1) Z) ∗ (∃ Z, O c A16 (sl 4 512 1024 2) Z) ∗ (∃ Z, O c A16 (sl 4 512 1024 3) Z)) := by
  iintro ⟨%Z, H⟩
  ihave H := (o_split c (sl_union (k := 3) (by omega) slB_univ.symm) slB_disj) $$ H
  icases H with ⟨H, H3⟩
  ihave H := (o_split c (sl_union (k := 2) (by omega) rfl) slB_disj) $$ H
  icases H with ⟨H, H2⟩
  ihave H := (o_split c (sl_union (k := 1) (by omega) rfl) slB_disj) $$ H
  icases H with ⟨H, H1⟩
  rw [slB_one]
  isplitl [H]; · iexists Z; iexact H
  isplitl [H1]; · iexists Z; iexact H1
  isplitl [H2]; · iexists Z; iexact H2
  iexists Z; iexact H3

theorem dh_split : iprop(∃ Z : S3x512x1024.Idx → Elt F .bf16, O c A17 Finset.univ Z)
    ⊢ iprop((∃ Z, O c A17 (sl 3 512 1024 0) Z) ∗ (∃ Z, O c A17 (sl 3 512 1024 1) Z) ∗ (∃ Z, O c A17 (sl 3 512 1024 2) Z)) := by
  iintro ⟨%Z, H⟩
  ihave H := (o_split c (sl_union (k := 2) (by omega) slB_univ.symm) slB_disj) $$ H
  icases H with ⟨H, H2⟩
  ihave H := (o_split c (sl_union (k := 1) (by omega) rfl) slB_disj) $$ H
  icases H with ⟨H, H1⟩
  rw [slB_one]
  isplitl [H]; · iexists Z; iexact H
  isplitl [H1]; · iexists Z; iexact H1
  iexists Z; iexact H2

theorem dw_split : iprop(∃ Z : S2x1024x256.Idx → Elt F .f32, O c A19 Finset.univ Z)
    ⊢ iprop((∃ Z, O c A19 (sl 2 1024 256 0) Z) ∗ (∃ Z, O c A19 (sl 2 1024 256 1) Z)) := by
  iintro ⟨%Z, H⟩
  ihave H := (o_split c (sl_union (k := 1) (by omega) slB_univ.symm) slB_disj) $$ H
  icases H with ⟨H, H1⟩
  rw [slB_one]
  isplitl [H]; · iexists Z; iexact H
  iexists Z; iexact H1

/-! ## The whole kernel -/

/-- The copies' counters, idle. -/
def Sems : sProp 𝕄 :=
  iprop(Sem0 c (cell0 Q23) ∗ Sem0 c (cell Q24 0) ∗ Sem0 c (cell Q24 1) ∗ Sem0 c (cell Q24 2) ∗ Sem0 c (cell Q24 3) ∗ Sem0 c (cell Q24 4) ∗ Sem0 c (cell Q24 5) ∗ Sem0 c (cell Q24 6)
    ∗ Sem0 c (cell Q25 0) ∗ Sem0 c (cell Q25 1) ∗ Sem0 c (cell Q26 0) ∗ Sem0 c (cell Q26 1) ∗ Sem0 c (cell Q26 2) ∗ Sem0 c (cell Q26 3)
    ∗ Sem0 c (cell Q27 0) ∗ Sem0 c (cell Q27 1) ∗ Sem0 c (cell Q27 2) ∗ Sem0 c (cell0 Q28) ∗ Sem0 c (cell Q29 0) ∗ Sem0 c (cell Q29 1))

/-- The scratch arrays, at some contents. -/
def Scr : sProp 𝕄 :=
  iprop((∃ Z, O c A9 Finset.univ Z) ∗ (∃ Z, O c A10 Finset.univ Z) ∗ (∃ Z, O c A11 Finset.univ Z) ∗ (∃ Z, O c A12 Finset.univ Z) ∗ (∃ Z, O c A13 Finset.univ Z) ∗ (∃ Z, O c A14 Finset.univ Z) ∗ (∃ Z, O c A15 Finset.univ Z) ∗ (∃ Z, O c A16 Finset.univ Z) ∗ (∃ Z, O c A17 Finset.univ Z) ∗ (∃ Z, O c A18 Finset.univ Z) ∗ (∃ Z, O c A19 Finset.univ Z) ∗ (∃ Z, O c A20 Finset.univ Z) ∗ (∃ Z, O c A21 Finset.univ Z) ∗ (∃ Z, O c A22 Finset.univ Z))

/-- The operands. -/
def Opd : sProp 𝕄 :=
  iprop(O c A0 Finset.univ d.X ∗ O c A1 Finset.univ xs ∗ O c A2 Finset.univ d.W ∗ O c A3 Finset.univ ids ∗ O c A4 Finset.univ dg ∗ O c A5 Finset.univ d.DY)

/-- The results, at some contents. -/
def Res : sProp 𝕄 := iprop((∃ Z, O c A6 Finset.univ Z) ∗ (∃ Z, O c A7 Finset.univ Z) ∗ (∃ Z, O c A8 Finset.univ Z))

/-- The results, written. -/
def Wri : sProp 𝕄 := iprop(O c A6 Finset.univ (DH d) ∗ O c A7 Finset.univ (DW d) ∗ O c A8 Finset.univ (DLOA d))

theorem sl_of_P1 : iprop(dyP c d 0 ∗ dyP c d 1 ∗ dyP c d 2 ∗ dyP c d 3 ∗ O c A5 (stI 4 28) d.DY) ⊢ dyS c d 0 := by
  unfold dyS
  iintro ⟨H0, H1, H2, H3, H5⟩
  ihave H5 := (o_none d.DY) $$ H5
  icases H5 with ⟨He, H5⟩
  rw [stI_empty (le_refl 0)]
  isplitl [H0]; · iexact H0
  isplitl [H1]; · iexact H1
  isplitl [H2]; · iexact H2
  isplitl [H3]; · iexact H3
  isplitl [He]; · iexact He
  iexact H5

theorem dhS_open : iprop((∃ Z, O c A17 Finset.univ Z) ∗ Sem0 c (cell Q27 0) ∗ Sem0 c (cell Q27 1) ∗ Sem0 c (cell Q27 2) ∗ (∃ Z, O c A6 Finset.univ Z)) ⊢ dhS c d 0 := by
  unfold dhS
  rw [dhP', dhP', dhP']
  simp only [Nat.reduceAdd, Nat.reduceSub, Nat.reduceLeDiff, Nat.reduceMod, reduceIte]
  iintro ⟨H17, Hs0, Hs1, Hs2, ⟨%Z, H6⟩⟩
  ihave H17 := (dh_split c) $$ H17
  icases H17 with ⟨Ha, Hb, Hc⟩
  ihave H6 := (o_none (DH d)) $$ H6
  icases H6 with ⟨He, H6⟩
  rw [stI_empty (le_refl 0), stI_univ]
  isplitl [Hs0 Ha]
  · isplitl [Hs0]; · iexact Hs0
    iexact Ha
  isplitl [Hs1 Hb]
  · isplitl [Hs1]; · iexact Hs1
    iexact Hb
  isplitl [Hs2 Hc]
  · isplitl [Hs2]; · iexact Hs2
    iexact Hc
  isplitl [He]; · iexact He
  iexists Z; iexact H6

theorem dwS_open : iprop((∃ Z, O c A19 Finset.univ Z) ∗ Sem0 c (cell Q29 0) ∗ Sem0 c (cell Q29 1) ∗ (∃ Z, O c A7 Finset.univ Z)) ⊢ dwS c d 0 := by
  unfold dwS
  rw [dwP, dwP]
  simp only [Nat.reduceAdd, Nat.reduceSub, Nat.reduceLeDiff, Nat.reduceMod, reduceIte]
  iintro ⟨H19, Hs0, Hs1, ⟨%Z, H7⟩⟩
  ihave H19 := (dw_split c) $$ H19
  icases H19 with ⟨Ha, Hb⟩
  ihave H7 := (o_none (DW d)) $$ H7
  icases H7 with ⟨He, H7⟩
  rw [rI_empty (le_refl 0), rI_univ]
  isplitl [Hs0 Ha]
  · isplitl [Hs0]; · iexact Hs0
    iexact Ha
  isplitl [Hs1 Hb]
  · isplitl [Hs1]; · iexact Hs1
    iexact Hb
  isplitl [He]; · iexact He
  iexists Z; iexact H7

theorem wxDone_apart : (wxDone c 7 : sProp 𝕄) ⊢ iprop((((((Sem0 c (cell Q24 0) ∗ Sem0 c (cell Q24 1)) ∗ Sem0 c (cell Q24 2)) ∗ Sem0 c (cell Q24 3)) ∗ Sem0 c (cell Q24 4)) ∗ Sem0 c (cell Q24 5)) ∗ Sem0 c (cell Q24 6)) := by
  rw [wxDone, wxDone, wxDone, wxDone, wxDone, wxDone, wxDone, wxDone]
  iintro ⟨⟨⟨⟨⟨⟨⟨-, Hw0⟩, Hw1⟩, Hw2⟩, Hw3⟩, Hw4⟩, Hw5⟩, Hw6⟩
  isplitr [Hw6]
  · isplitr [Hw5]
    · isplitr [Hw4]
      · isplitr [Hw3]
        · isplitr [Hw2]
          · isplitl [Hw0]; · iexact Hw0
            iexact Hw1
          iexact Hw2
        iexact Hw3
      iexact Hw4
    iexact Hw5
  iexact Hw6

set_option maxHeartbeats 2000000 in
/-- The kernel writes its three results, gives its operands back as they were, and leaves its counters idle. -/
theorem top_run (h0 : First c d ids dg xs) (hd : Later c d ids dg xs) {Q : PUnit → sProp 𝕄} :
    iprop(Opd c d ids dg xs ∗ Res c ∗ Scr c ∗ Sems c ∗ Ow c)
      ⊢ iprop((iprop(Opd c d ids dg xs ∗ Wri c d ∗ Scr c ∗ Sems c ∗ Ow c) -∗ Q ⟨⟩) -∗ Wp c (cc0_router_bwd A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 Q23 Q24 Q25 Q26 Q27 Q28 Q29) Q) := by
  unfold Wp
  iintro ⟨Ho, Hr, Hs, Hq, HO⟩ HQ
  iapply (rt0_run c A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 Q23 Q24 Q25 Q26 Q27 Q28 Q29 Q)
  unfold Opd Res Scr Sems
  icases Ho with ⟨H0, H1, H2, H3, H4, H5⟩
  icases Hr with ⟨H6, H7, H8⟩
  icases Hs with ⟨H9, H10, H11, H12, H13, H14, H15, H16, H17, H18, H19, H20, H21, H22⟩
  icases Hq with ⟨Hs, Hw0, Hw1, Hw2, Hw3, Hw4, Hw5, Hw6, Hx0, Hx1, Hy0, Hy1, Hy2, Hy3, Hh0, Hh1, Hh2, Hl, Hd0, Hd1⟩
  ihave H16 := (dy_split c) $$ H16
  ihave HP : P0 c d ids dg xs $$ [H0 H1 H2 H3 H4 H5 H9 H10 H11 H12 H13 H16 H20 H21 H22 Hs Hw0 Hw1 Hw2 Hw3 Hw4 Hw5 Hw6 Hx1 Hy0 Hy1 Hy2 Hy3 HO]
  · unfold P0
    isplitl [H0]; · iexact H0
    isplitl [H1]; · iexact H1
    isplitl [H2]; · iexact H2
    isplitl [H3]; · iexact H3
    isplitl [H4]; · iexact H4
    isplitl [H5]; · iexact H5
    isplitl [H9]; · iexact H9
    isplitl [H10]; · iexact H10
    isplitl [H11]; · iexact H11
    isplitl [H12]; · iexact H12
    isplitl [H13]; · iexact H13
    isplitl [H16]; · iexact H16
    isplitl [H20]; · iexact H20
    isplitl [H21]; · iexact H21
    isplitl [H22]; · iexact H22
    isplitl [Hs]; · iexact Hs
    isplitl [Hw0 Hw1 Hw2 Hw3 Hw4 Hw5 Hw6]
    · isplitl [Hw0]; · iexact Hw0
      isplitl [Hw1]; · iexact Hw1
      isplitl [Hw2]; · iexact Hw2
      isplitl [Hw3]; · iexact Hw3
      isplitl [Hw4]; · iexact Hw4
      isplitl [Hw5]; · iexact Hw5
      iexact Hw6
    isplitl [Hx1]; · iexact Hx1
    isplitl [Hy0 Hy1 Hy2 Hy3]
    · isplitl [Hy0]; · iexact Hy0
      isplitl [Hy1]; · iexact Hy1
      isplitl [Hy2]; · iexact Hy2
      iexact Hy3
    iexact HO
  iapply (pro_run c d ids dg xs) $$ HP
  iintro %w HP
  unfold P1
  rw [I1]
  icases HP with ⟨⟨-, Hwx, H10, H2, H9, H0, ⟨%Z11, H11⟩, H13, HO⟩, HX, H0n, H9n, ⟨Hy0, Hy1, Hy2, Hy3⟩, H5, H12, H20, H3, H21, H4, H22, H1, Hs⟩
  icases H14 with ⟨%Z14, H14⟩
  icases H15 with ⟨%Z15, H15⟩
  icases H18 with ⟨%Z18, H18⟩
  ihave H13 := (pointsTo_of_own (c : Thread nD τ) (m := A13) (View.set_whole _)) $$ H13
  icases H13 with ⟨%f13, %h13, H13⟩
  ihave H14 := (pointsTo_of_own (c : Thread nD τ) (m := A14) (View.set_whole _)) $$ H14
  icases H14 with ⟨%f14, %h14, H14⟩
  ihave H15 := (pointsTo_of_own (c : Thread nD τ) (m := A15) (View.set_whole _)) $$ H15
  icases H15 with ⟨%f15, %h15, H15⟩
  ihave H18 := (pointsTo_of_own (c : Thread nD τ) (m := A18) (View.set_whole _)) $$ H18
  icases H18 with ⟨%f18, %h18, H18⟩
  ihave H20 := (pointsTo_of_own (c : Thread nD τ) (m := A20) (View.set_whole _)) $$ H20
  icases H20 with ⟨%f20, %h20, H20⟩
  ihave H21 := (pointsTo_of_own (c : Thread nD τ) (m := A21) (View.set_whole _)) $$ H21
  icases H21 with ⟨%f21, %h21, H21⟩
  ihave H22 := (pointsTo_of_own (c : Thread nD τ) (m := A22) (View.set_whole _)) $$ H22
  icases H22 with ⟨%f22, %h22, H22⟩
  iexists f13, f14, f15, f18, f20, f21, f22
  isplitl [H13]; · iexact H13
  isplitl [H14]; · iexact H14
  isplitl [H15]; · iexact H15
  isplitl [H18]; · iexact H18
  isplitl [H20]; · iexact H20
  isplitl [H21]; · iexact H21
  isplitl [H22]; · iexact H22
  iintro ⟨H13, H14, H15, H18, H20, H21, H22⟩
  iintro %v5400 %v5401 %v5402
  ihave H13 := (own_of_pointsTo (c : Thread nD τ) (m := A13) (View.set_whole _)) $$ H13
  ihave H14 := (own_of_pointsTo (c : Thread nD τ) (m := A14) (View.set_whole _)) $$ H14
  ihave H15 := (own_of_pointsTo (c : Thread nD τ) (m := A15) (View.set_whole _)) $$ H15
  ihave H18 := (own_of_pointsTo (c : Thread nD τ) (m := A18) (View.set_whole _)) $$ H18
  ihave H20 := (own_of_pointsTo (c : Thread nD τ) (m := A20) (View.set_whole _)) $$ H20
  ihave H21 := (own_of_pointsTo (c : Thread nD τ) (m := A21) (View.set_whole _)) $$ H21
  ihave H22 := (own_of_pointsTo (c : Thread nD τ) (m := A22) (View.set_whole _)) $$ H22
  have e13 : f13 = ACC d 0 7 := h13
  have e20 : f20 = ids := h20
  have e21 : f21 = dg := h21
  have e22 : f22 = xs := h22
  subst e13 e20 e21 e22
  have q14 := h0.dl
  have q15 := h0.dls
  have q18 := h0.dlo
  unfold rDL0 at q14
  unfold rDLS0 at q15
  unfold rDLO0 at q18
  ihave H13 : O c A13 Finset.univ zeroAcc $$ [H13]
  · rw [← read_zero0]
    iexact H13
  ihave H14 : O c A14 Finset.univ (d.DL 0) $$ [H14]
  · rw [q14]
    iexact H14
  ihave H15 : O c A15 Finset.univ (d.DLS 0) $$ [H15]
  · rw [q15]
    iexact H15
  ihave H18 : O c A18 Finset.univ (d.DLO 0) $$ [H18]
  · rw [q18]
    iexact H18
  ihave Hdy := (sl_of_P1 c d) $$ [Hy0 Hy1 Hy2 Hy3 H5]
  · isplitl [Hy0]; · iexact Hy0
    isplitl [Hy1]; · iexact Hy1
    isplitl [Hy2]; · iexact Hy2
    isplitl [Hy3]; · iexact Hy3
    iexact H5
  ihave Hdh := (dhS_open c d) $$ [H17 Hh0 Hh1 Hh2 H6]
  · isplitl [H17]; · iexact H17
    isplitl [Hh0]; · iexact Hh0
    isplitl [Hh1]; · iexact Hh1
    isplitl [Hh2]; · iexact Hh2
    iexact H6
  ihave Hdw := (dwS_open c d) $$ [H19 Hd0 Hd1 H7]
  · isplitl [H19]; · iexact H19
    isplitl [Hd0]; · iexact Hd0
    isplitl [Hd1]; · iexact Hd1
    iexact H7
  ihave HT : T0 c d f20 f21 f22 $$ [Hdy Hdh Hdw H9 H0 HX H9n H0n Hx0 H11 H12 H13 H14 H15 H18 Hl H8 H20 H21 H22 HO]
  · unfold T0
    isplitl [Hdy]; · iexact Hdy
    isplitl [Hdh]; · iexact Hdh
    isplitl [Hdw]; · iexact Hdw
    isplitl [H9]; · iexact H9
    isplitl [H0]; · iexact H0
    isplitl [HX]; · iexact HX
    isplitl [H9n]; · iexact H9n
    isplitl [H0n]; · iexact H0n
    isplitl [Hx0]; · iexact Hx0
    isplitl [H11]; · rw [wtPart_all]; iexact H11
    isplitl [H12]; · iexact H12
    isplitl [H13]; · iexact H13
    isplitl [H14]; · iexact H14
    isplitl [H15]; · iexact H15
    isplitl [H18]; · iexact H18
    isplitl [Hl]; · iexact Hl
    isplitl [H8]; · iexact H8
    isplitl [H20]; · iexact H20
    isplitl [H21]; · iexact H21
    isplitl [H22]; · iexact H22
    iexact HO
  iapply (tail_run c d f20 f21 f22 hd v5400 v5401 v5402) $$ HT
  iintro HT
  iapply (end_run c d f20 f21 f22) $$ HT
  iintro HT
  iapply HQ
  unfold T2
  icases HT with ⟨H5, H6, H7, H8, H0, ⟨Hx0, Hx1⟩, ⟨Hy0, Hy1, Hy2, Hy3⟩, ⟨Hh0, Hh1, Hh2⟩, Hl, ⟨Hd0, Hd1⟩, H9, H11, H12, H13, H14, H15, H16, H17, H18, H19, H20, H21, H22, HO⟩
  rw [rI_univ]
  isplitl [H0 H1 H2 H3 H4 H5]
  · isplitl [H0]; · iexact H0
    isplitl [H1]; · iexact H1
    isplitl [H2]; · iexact H2
    isplitl [H3]; · iexact H3
    isplitl [H4]; · iexact H4
    iexact H5
  unfold Wri
  isplitl [H6 H7 H8]
  · isplitl [H6]; · iexact H6
    isplitl [H7]; · iexact H7
    iexact H8
  isplitl [H9 H10 H11 H12 H13 H14 H15 H16 H17 H18 H19 H20 H21 H22]
  · isplitl [H9]; · iexact H9
    isplitl [H10]; · iexists _; iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22
  isplitr [HO]
  · ihave Hwx := (wxDone_apart c) $$ Hwx
    icases Hwx with ⟨⟨⟨⟨⟨⟨Hw0, Hw1⟩, Hw2⟩, Hw3⟩, Hw4⟩, Hw5⟩, Hw6⟩
    isplitl [Hs]; · iexact Hs
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hx0]; · iexact Hx0
    isplitl [Hx1]; · iexact Hx1
    isplitl [Hy0]; · iexact Hy0
    isplitl [Hy1]; · iexact Hy1
    isplitl [Hy2]; · iexact Hy2
    isplitl [Hy3]; · iexact Hy3
    isplitl [Hh0]; · iexact Hh0
    isplitl [Hh1]; · iexact Hh1
    isplitl [Hh2]; · iexact Hh2
    isplitl [Hl]; · iexact Hl
    isplitl [Hd0]; · iexact Hd0
    iexact Hd1
  iexact HO

end Cert.KernelIdeal.Val

end
-- ==== Proof.Launch.lean ====
/-
  The launch: the program runs the kernel once, on what the host hands it, and ends with the results written, the
  arguments as they were and every counter idle.
-/
module

public import proofs.«01_k».proof.Proof.Top
public import proofs.«01_k».proof.Proof.Gen.KernelIdeal.Frame
public import Idealize.ShloMosaic.Lib.Pipeline.FrameValue

@[expose] public section

set_option maxRecDepth 16384

noncomputable section

namespace Cert.KernelIdeal.Val

open Cert.KernelIdeal Cert.KernelIdeal.Gen Cert.Own
open Idealize.ShloMosaic Idealize.ShloMosaic.TcCoe Idealize.ShloMosaic.Tactic
open Idealize.SL Idealize.SL.RA Idealize.SL.BI
open scoped Idealize.SL.BI
open Idealize.ShloMosaic.Transfers
open Idealize.SL.BI.BIBase Idealize.SL.BI.Laws Idealize.SL.ProofMode Idealize.SL.Sem

open Idealize.ShloMosaic.Pipeline (Dat Cfg Window BodyObligation cellOf)

variable {F : FTy → Type} [FloatOps F]

local notation "𝕄" => MT nD τ sig Unit (Elt F) ℕ (Pipeline.UD sig nD τ) ℕ

/-! ## What the kernel's arrays hold, from its operands -/

section
variable (c : Dev nD) (X : S2048x7168.Idx → Elt F .fp8e4m3) (W : S7168x256.Idx → Elt F .bf16) (DY : S2048x7168.Idx → Elt F .bf16)
  (ids : S2x8x1024.Idx → Elt F .i32) (dg : S2x8x1024.Idx → Elt F .bf16) (xs : S2x1024.Idx → Elt F .f32)

/-- The operands alone: what the logits are computed from. -/
def opnd : Data F := ⟨X, W, DY, fun _ => constant _ .bf16 0, fun _ => constant _ .bf16 0, fun _ => constant _ .f32 0⟩

/-- The logits of token tile `t`, unscaled. -/
def accT (t : ℕ) : S256x512.Idx → Elt F .f32 := ACC (opnd X W DY) t 7

def dl : ℕ → S512x256.Idx → Elt F .bf16
  | 0 => rDL0 c ids dg xs (accT X W DY 0)
  | t + 1 => if h : t < k0_t2_loop.trips then rDL c ids dg xs ⟨t, h⟩ (accT X W DY (t + 1)) else constant _ .bf16 0

def dls : ℕ → S256x512.Idx → Elt F .bf16
  | 0 => rDLS0 c ids dg xs (accT X W DY 0)
  | t + 1 => if h : t < k0_t2_loop.trips then rDLS c ids dg xs ⟨t, h⟩ (accT X W DY (t + 1)) else constant _ .bf16 0

def dlo : ℕ → S512x256.Idx → Elt F .f32
  | 0 => rDLO0 c ids dg xs (accT X W DY 0)
  | t + 1 => if h : t < k0_t2_loop.trips then rDLO c ids dg xs ⟨t, h⟩ (accT X W DY (t + 1)) else constant _ .f32 0

/-- What the kernel reads and what its router leaves. -/
def datOf : Data F := ⟨X, W, DY, dl c X W DY ids dg xs, dls c X W DY ids dg xs, dlo c X W DY ids dg xs⟩

theorem ACC_datOf (t : ℕ) : ∀ k, ACC (datOf c X W DY ids dg xs) t k = ACC (opnd X W DY) t k
  | 0 => rfl
  | k + 1 => by
    unfold ACC
    rw [ACC_datOf t k]
    rfl

theorem dl_zero : dl c X W DY ids dg xs 0 = rDL0 c ids dg xs (accT X W DY 0) := by rw [dl]

theorem dls_zero : dls c X W DY ids dg xs 0 = rDLS0 c ids dg xs (accT X W DY 0) := by rw [dls]

theorem dlo_zero : dlo c X W DY ids dg xs 0 = rDLO0 c ids dg xs (accT X W DY 0) := by rw [dlo]

theorem first_datOf : First c (datOf c X W DY ids dg xs) ids dg xs := by
  refine ⟨?_, ?_, ?_⟩
  · rw [ACC_datOf]; dsimp only [datOf]; rw [dl_zero, accT]
  · rw [ACC_datOf]; dsimp only [datOf]; rw [dls_zero, accT]
  · rw [ACC_datOf]; dsimp only [datOf]; rw [dlo_zero, accT]

theorem dl_succ (t : ℕ) (h : t < k0_t2_loop.trips) : dl c X W DY ids dg xs (t + 1) = rDL c ids dg xs ⟨t, h⟩ (accT X W DY (t + 1)) := by
  rw [dl]; exact dif_pos h

theorem dls_succ (t : ℕ) (h : t < k0_t2_loop.trips) : dls c X W DY ids dg xs (t + 1) = rDLS c ids dg xs ⟨t, h⟩ (accT X W DY (t + 1)) := by
  rw [dls]; exact dif_pos h

theorem dlo_succ (t : ℕ) (h : t < k0_t2_loop.trips) : dlo c X W DY ids dg xs (t + 1) = rDLO c ids dg xs ⟨t, h⟩ (accT X W DY (t + 1)) := by
  rw [dlo]; exact dif_pos h

theorem later_datOf : Later c (datOf c X W DY ids dg xs) ids dg xs := by
  refine ⟨fun t => ?_, fun t => ?_, fun t => ?_⟩
  · rw [ACC_datOf]; dsimp only [datOf]; rw [dl_succ c X W DY ids dg xs t.1 t.2, accT]
  · rw [ACC_datOf]; dsimp only [datOf]; rw [dls_succ c X W DY ids dg xs t.1 t.2, accT]
  · rw [ACC_datOf]; dsimp only [datOf]; rw [dlo_succ c X W DY ids dg xs t.1 t.2, accT]

end

/-! ## The launch -/

variable (m : (ℓ : Loc nD τ sig) → Buf (Elt F) ℓ) (ρ : Dev nD → PrngReg)

/-- What the kernel reads, of what the host hands it on core `c`, and what its router leaves. -/
def dat (c : Dev nD) : Data F := datOf c (V m c main_v0) (V m c main_arg2) (V m c main_v3) (V m c main_v1) (V m c main_v2) (V m c main_arg1)

/-- The buffers the kernel writes by its own copies. -/
def R0 : Finset (Ref sig .tc) := {main_v4_0, main_v4_1, main_v4_2}
/-- The buffers it reads by them. -/
def H0 : Finset (Ref sig .tc) := {main_v0, main_arg1, main_arg2, main_v1, main_v2, main_v3}

/-- What the buffers written end with. -/
def G (c : Dev nD) : (b : Ref sig .tc) → Buf (Elt F) ((c : Thread nD τ).loc b) :=
  Function.update (Function.update (Function.update (V m c) main_v4_0 (DH (dat m c))) main_v4_1 (DW (dat m c))) main_v4_2 (DLOA (dat m c))

theorem G_0 (c : Dev nD) : G m c main_v4_0 = DH (dat m c) := by
  unfold G
  rw [Function.update_of_ne (by decide), Function.update_of_ne (by decide), Function.update_self]
theorem G_1 (c : Dev nD) : G m c main_v4_1 = DW (dat m c) := by
  unfold G
  rw [Function.update_of_ne (by decide), Function.update_self]
theorem G_2 (c : Dev nD) : G m c main_v4_2 = DLOA (dat m c) := by
  unfold G
  rw [Function.update_self]

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The kernel's counters. -/
abbrev osem0 : Fin 20 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19] : Fin 20 → SemLoc sig) j
theorem ownSemFacts0 : Pipeline.OwnSemFacts (cfg0.spec) osem0 := by decide
theorem H0_sub : H0 ⊆ Pipeline.restRefs sig (cfg0.spec) := by decide
theorem R0_sub : R0 ⊆ Pipeline.restRefs sig (cfg0.spec) \ H0 := by decide

theorem ownSems00_eq (c : Dev nD) :
    (Pipeline.ownSems0 (Ix := Unit) (Name := ℕ) (U := Pipeline.UD sig nD τ) (Lvl := ℕ) (Val := Elt F) (τ := τ) osem0 c : sProp 𝕄) = Sems c := by
  rw [Pipeline.ownSems0_eq_of_list c osem0 [0, 1, 2, 3, 4, 5, 6, 7, 8, 9, 10, 11, 12, 13, 14, 15, 16, 17, 18, 19] (by decide) (by decide)]; rfl

theorem hbmPts0_eq (c : Dev nD) :
    (bigSep H0 (fun b => ((c : Thread nD τ).loc b) ↦{fullShare} V m c b) : sProp 𝕄)
      = iprop(((View.loc (c : Thread nD τ) A0.view) ↦{fullShare} V m c main_v0) ∗ ((View.loc (c : Thread nD τ) A1.view) ↦{fullShare} V m c main_arg1) ∗ ((View.loc (c : Thread nD τ) A2.view) ↦{fullShare} V m c main_arg2) ∗ ((View.loc (c : Thread nD τ) A3.view) ↦{fullShare} V m c main_v1) ∗ ((View.loc (c : Thread nD τ) A4.view) ↦{fullShare} V m c main_v2) ∗ ((View.loc (c : Thread nD τ) A5.view) ↦{fullShare} V m c main_v3)) := by
  rw [BI.bigSep_eq_bigSepL_of_eq [main_v0, main_arg1, main_arg2, main_v1, main_v2, main_v3] (by decide) (by decide)]; rfl

theorem routed_eq (c : Dev nD) (Y : (b : Ref sig .tc) → Buf (Elt F) ((c : Thread nD τ).loc b)) :
    (Pipeline.routed R0 c Y : sProp 𝕄)
      = iprop(((View.loc (c : Thread nD τ) A6.view) ↦{fullShare} Y main_v4_0) ∗ ((View.loc (c : Thread nD τ) A7.view) ↦{fullShare} Y main_v4_1)
          ∗ ((View.loc (c : Thread nD τ) A8.view) ↦{fullShare} Y main_v4_2)) := by
  unfold Pipeline.routed
  rw [BI.bigSep_eq_bigSepL_of_eq [main_v4_0, main_v4_1, main_v4_2] (by decide) (by decide)]; rfl

/-- The invariant, conjunct by conjunct. -/
theorem PhiDRG_eq (c : Dev nD) (Y : (c : Dev nD) → (b : Ref sig .tc) → Buf (Elt F) ((c : Thread nD τ).loc b)) :
    (Pipeline.ΦDRG osem0 (cfg0.spec) H0 R0 (V m) Y c : sProp 𝕄)
      = iprop(iprop((∃ f : Buf (Elt F) (View.loc (c : Thread nD τ) A9.view), (View.loc (c : Thread nD τ) A9.view) ↦{fullShare} f) ∗ (∃ f : Buf (Elt F) (View.loc (c : Thread nD τ) A10.view), (View.loc (c : Thread nD τ) A10.view) ↦{fullShare} f) ∗ (∃ f : Buf (Elt F) (View.loc (c : Thread nD τ) A11.view), (View.loc (c : Thread nD τ) A11.view) ↦{fullShare} f) ∗ (∃ f : Buf (Elt F) (View.loc (c : Thread nD τ) A12.view), (View.loc (c : Thread nD τ) A12.view) ↦{fullShare} f) ∗ (∃ f : Buf (Elt F) (View.loc (c : Thread nD τ) A13.view), (View.loc (c : Thread nD τ) A13.view) ↦{fullShare} f) ∗ (∃ f : Buf (Elt F) (View.loc (c : Thread nD τ) A14.view), (View.loc (c : Thread nD τ) A14.view) ↦{fullShare} f) ∗ (∃ f : Buf (Elt F) (View.loc (c : Thread nD τ) A15.view), (View.loc (c : Thread nD τ) A15.view) ↦{fullShare} f) ∗ (∃ f : Buf (Elt F) (View.loc (c : Thread nD τ) A16.view), (View.loc (c : Thread nD τ) A16.view) ↦{fullShare} f) ∗ (∃ f : Buf (Elt F) (View.loc (c : Thread nD τ) A17.view), (View.loc (c : Thread nD τ) A17.view) ↦{fullShare} f) ∗ (∃ f : Buf (Elt F) (View.loc (c : Thread nD τ) A18.view), (View.loc (c : Thread nD τ) A18.view) ↦{fullShare} f) ∗ (∃ f : Buf (Elt F) (View.loc (c : Thread nD τ) A19.view), (View.loc (c : Thread nD τ) A19.view) ↦{fullShare} f) ∗ (∃ f : Buf (Elt F) (View.loc (c : Thread nD τ) A20.view), (View.loc (c : Thread nD τ) A20.view) ↦{fullShare} f) ∗ (∃ f : Buf (Elt F) (View.loc (c : Thread nD τ) A21.view), (View.loc (c : Thread nD τ) A21.view) ↦{fullShare} f) ∗ (∃ f : Buf (Elt F) (View.loc (c : Thread nD τ) A22.view), (View.loc (c : Thread nD τ) A22.view) ↦{fullShare} f))
          ∗ (∃ r, prngReg c r) ∗ Sems c
          ∗ iprop(((View.loc (c : Thread nD τ) A0.view) ↦{fullShare} V m c main_v0) ∗ ((View.loc (c : Thread nD τ) A1.view) ↦{fullShare} V m c main_arg1) ∗ ((View.loc (c : Thread nD τ) A2.view) ↦{fullShare} V m c main_arg2) ∗ ((View.loc (c : Thread nD τ) A3.view) ↦{fullShare} V m c main_v1) ∗ ((View.loc (c : Thread nD τ) A4.view) ↦{fullShare} V m c main_v2) ∗ ((View.loc (c : Thread nD τ) A5.view) ↦{fullShare} V m c main_v3))
          ∗ iprop(((View.loc (c : Thread nD τ) A6.view) ↦{fullShare} Y c main_v4_0) ∗ ((View.loc (c : Thread nD τ) A7.view) ↦{fullShare} Y c main_v4_1)
          ∗ ((View.loc (c : Thread nD τ) A8.view) ↦{fullShare} Y c main_v4_2))) := by
  rw [Pipeline.ΦDRG_eq, scopedRest0_eq, ownSems00_eq, hbmPts0_eq, routed_eq]; rfl

/-- The proof data: before the point the buffers written hold what the launch found, after it the results. -/
def dats (_ : Fin 1) (c : Dev nD) : Dat τ (Elt F) Unit ℕ (Pipeline.UD sig nD τ) ℕ cfg0 c where
  A w := w.elim0
  after w t := w.elim0
  Φ t := if t = 0 then Pipeline.ΦDRG osem0 (cfg0.spec) H0 R0 (V m) (V m) c else Pipeline.ΦDRG osem0 (cfg0.spec) H0 R0 (V m) (G m) c
  q _ := fullShare
  owed _ := 0

theorem Phi_start (c : Dev nD) (t : Fin cfg0.N) : (dats m 0 c).Φ t.castSucc = Pipeline.ΦDRG osem0 (cfg0.spec) H0 R0 (V m) (V m) c := by
  have e : t.castSucc = 0 := by rw [fin_N0 t]; rfl
  rw [e]; dsimp only [dats]; rw [if_pos rfl]
theorem Phi_end (c : Dev nD) (t : Fin cfg0.N) : (dats m 0 c).Φ t.succ = Pipeline.ΦDRG osem0 (cfg0.spec) H0 R0 (V m) (G m) c := by
  dsimp only [dats]; rw [if_neg (Fin.succ_ne_zero _)]

set_option maxHeartbeats 4000000 in
theorem sound_body (c : Dev nD) (t : Fin cfg0.N) :
    iprop((dats m 0 c).Φ t.castSucc ∗ (dats m 0 c).owesAt () t.castSucc)
      ⊢ wp frame (wpE (defs₀ (F := F)) Variants.none c none) Set.univ (bodyAt0 t) (fun _ => iprop((dats m 0 c).Φ t.succ ∗ (dats m 0 c).owesAt () t.succ)) := by
  unfold bodyAt0
  rw [Phi_start, Phi_end, PhiDRG_eq, PhiDRG_eq, G_0, G_1, G_2]
  unfold Dat.owesAt Pipeline.owesWithin
  rw [show (dats m 0 c).owed t.castSucc = 0 from rfl, show (dats m 0 c).owed t.succ = 0 from rfl]
  iintro ⟨⟨⟨⟨%z9, H9⟩, ⟨%z10, H10⟩, ⟨%z11, H11⟩, ⟨%z12, H12⟩, ⟨%z13, H13⟩, ⟨%z14, H14⟩, ⟨%z15, H15⟩, ⟨%z16, H16⟩, ⟨%z17, H17⟩, ⟨%z18, H18⟩, ⟨%z19, H19⟩, ⟨%z20, H20⟩, ⟨%z21, H21⟩, ⟨%z22, H22⟩⟩, Hg, Hq, ⟨H0, H1, H2, H3, H4, H5⟩, ⟨H6, H7, H8⟩⟩, ⟨%W, -, HW⟩⟩
  ihave H0 := (own_of_pointsTo (c : Thread nD τ) (m := A0) (f := V m c main_v0) (View.set_whole _)) $$ H0
  ihave H1 := (own_of_pointsTo (c : Thread nD τ) (m := A1) (f := V m c main_arg1) (View.set_whole _)) $$ H1
  ihave H2 := (own_of_pointsTo (c : Thread nD τ) (m := A2) (f := V m c main_arg2) (View.set_whole _)) $$ H2
  ihave H3 := (own_of_pointsTo (c : Thread nD τ) (m := A3) (f := V m c main_v1) (View.set_whole _)) $$ H3
  ihave H4 := (own_of_pointsTo (c : Thread nD τ) (m := A4) (f := V m c main_v2) (View.set_whole _)) $$ H4
  ihave H5 := (own_of_pointsTo (c : Thread nD τ) (m := A5) (f := V m c main_v3) (View.set_whole _)) $$ H5
  ihave H6 := (own_of_pointsTo (c : Thread nD τ) (m := A6) (f := V m c main_v4_0) (View.set_whole _)) $$ H6
  ihave H7 := (own_of_pointsTo (c : Thread nD τ) (m := A7) (f := V m c main_v4_1) (View.set_whole _)) $$ H7
  ihave H8 := (own_of_pointsTo (c : Thread nD τ) (m := A8) (f := V m c main_v4_2) (View.set_whole _)) $$ H8
  ihave H9 := (own_of_pointsTo (c : Thread nD τ) (m := A9) (f := z9) (View.set_whole _)) $$ H9
  ihave H10 := (own_of_pointsTo (c : Thread nD τ) (m := A10) (f := z10) (View.set_whole _)) $$ H10
  ihave H11 := (own_of_pointsTo (c : Thread nD τ) (m := A11) (f := z11) (View.set_whole _)) $$ H11
  ihave H12 := (own_of_pointsTo (c : Thread nD τ) (m := A12) (f := z12) (View.set_whole _)) $$ H12
  ihave H13 := (own_of_pointsTo (c : Thread nD τ) (m := A13) (f := z13) (View.set_whole _)) $$ H13
  ihave H14 := (own_of_pointsTo (c : Thread nD τ) (m := A14) (f := z14) (View.set_whole _)) $$ H14
  ihave H15 := (own_of_pointsTo (c : Thread nD τ) (m := A15) (f := z15) (View.set_whole _)) $$ H15
  ihave H16 := (own_of_pointsTo (c : Thread nD τ) (m := A16) (f := z16) (View.set_whole _)) $$ H16
  ihave H17 := (own_of_pointsTo (c : Thread nD τ) (m := A17) (f := z17) (View.set_whole _)) $$ H17
  ihave H18 := (own_of_pointsTo (c : Thread nD τ) (m := A18) (f := z18) (View.set_whole _)) $$ H18
  ihave H19 := (own_of_pointsTo (c : Thread nD τ) (m := A19) (f := z19) (View.set_whole _)) $$ H19
  ihave H20 := (own_of_pointsTo (c : Thread nD τ) (m := A20) (f := z20) (View.set_whole _)) $$ H20
  ihave H21 := (own_of_pointsTo (c : Thread nD τ) (m := A21) (f := z21) (View.set_whole _)) $$ H21
  ihave H22 := (own_of_pointsTo (c : Thread nD τ) (m := A22) (f := z22) (View.set_whole _)) $$ H22
  iapply (top_run c (dat m c) (V m c main_v1) (V m c main_v2) (V m c main_arg1) (first_datOf c _ _ _ _ _ _) (later_datOf c _ _ _ _ _ _)) $$ [H0 H1 H2 H3 H4 H5 H6 H7 H8 H9 H10 H11 H12 H13 H14 H15 H16 H17 H18 H19 H20 H21 H22 Hq HW]
  · isplitl [H0 H1 H2 H3 H4 H5]
    · unfold Opd
      isplitl [H0]; · iexact H0
      isplitl [H1]; · iexact H1
      isplitl [H2]; · iexact H2
      isplitl [H3]; · iexact H3
      isplitl [H4]; · iexact H4
      iexact H5
    isplitl [H6 H7 H8]
    · unfold Res
      isplitl [H6]; · iexists _; iexact H6
      isplitl [H7]; · iexists _; iexact H7
      iexists _; iexact H8
    isplitl [H9 H10 H11 H12 H13 H14 H15 H16 H17 H18 H19 H20 H21 H22]
    · unfold Scr
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      iexists _; iexact H22
    isplitl [Hq]; · iexact Hq
    iexists W; iexact HW
  unfold Opd Wri Scr
  iintro ⟨⟨H0, H1, H2, H3, H4, H5⟩, ⟨H6, H7, H8⟩, ⟨⟨%z9, H9⟩, ⟨%z10, H10⟩, ⟨%z11, H11⟩, ⟨%z12, H12⟩, ⟨%z13, H13⟩, ⟨%z14, H14⟩, ⟨%z15, H15⟩, ⟨%z16, H16⟩, ⟨%z17, H17⟩, ⟨%z18, H18⟩, ⟨%z19, H19⟩, ⟨%z20, H20⟩, ⟨%z21, H21⟩, ⟨%z22, H22⟩⟩, Hq, ⟨%W', HW'⟩⟩
  ihave H0 := (pointsTo_of_own (c : Thread nD τ) (m := A0) (View.set_whole _)) $$ H0
  icases H0 with ⟨%f0, %h0, H0⟩
  ihave H1 := (pointsTo_of_own (c : Thread nD τ) (m := A1) (View.set_whole _)) $$ H1
  icases H1 with ⟨%f1, %h1, H1⟩
  ihave H2 := (pointsTo_of_own (c : Thread nD τ) (m := A2) (View.set_whole _)) $$ H2
  icases H2 with ⟨%f2, %h2, H2⟩
  ihave H3 := (pointsTo_of_own (c : Thread nD τ) (m := A3) (View.set_whole _)) $$ H3
  icases H3 with ⟨%f3, %h3, H3⟩
  ihave H4 := (pointsTo_of_own (c : Thread nD τ) (m := A4) (View.set_whole _)) $$ H4
  icases H4 with ⟨%f4, %h4, H4⟩
  ihave H5 := (pointsTo_of_own (c : Thread nD τ) (m := A5) (View.set_whole _)) $$ H5
  icases H5 with ⟨%f5, %h5, H5⟩
  ihave H6 := (pointsTo_of_own (c : Thread nD τ) (m := A6) (View.set_whole _)) $$ H6
  icases H6 with ⟨%f6, %h6, H6⟩
  ihave H7 := (pointsTo_of_own (c : Thread nD τ) (m := A7) (View.set_whole _)) $$ H7
  icases H7 with ⟨%f7, %h7, H7⟩
  ihave H8 := (pointsTo_of_own (c : Thread nD τ) (m := A8) (View.set_whole _)) $$ H8
  icases H8 with ⟨%f8, %h8, H8⟩
  ihave H9 := (pointsTo_of_own (c : Thread nD τ) (m := A9) (View.set_whole _)) $$ H9
  icases H9 with ⟨%f9, %h9, H9⟩
  ihave H10 := (pointsTo_of_own (c : Thread nD τ) (m := A10) (View.set_whole _)) $$ H10
  icases H10 with ⟨%f10, %h10, H10⟩
  ihave H11 := (pointsTo_of_own (c : Thread nD τ) (m := A11) (View.set_whole _)) $$ H11
  icases H11 with ⟨%f11, %h11, H11⟩
  ihave H12 := (pointsTo_of_own (c : Thread nD τ) (m := A12) (View.set_whole _)) $$ H12
  icases H12 with ⟨%f12, %h12, H12⟩
  ihave H13 := (pointsTo_of_own (c : Thread nD τ) (m := A13) (View.set_whole _)) $$ H13
  icases H13 with ⟨%f13, %h13, H13⟩
  ihave H14 := (pointsTo_of_own (c : Thread nD τ) (m := A14) (View.set_whole _)) $$ H14
  icases H14 with ⟨%f14, %h14, H14⟩
  ihave H15 := (pointsTo_of_own (c : Thread nD τ) (m := A15) (View.set_whole _)) $$ H15
  icases H15 with ⟨%f15, %h15, H15⟩
  ihave H16 := (pointsTo_of_own (c : Thread nD τ) (m := A16) (View.set_whole _)) $$ H16
  icases H16 with ⟨%f16, %h16, H16⟩
  ihave H17 := (pointsTo_of_own (c : Thread nD τ) (m := A17) (View.set_whole _)) $$ H17
  icases H17 with ⟨%f17, %h17, H17⟩
  ihave H18 := (pointsTo_of_own (c : Thread nD τ) (m := A18) (View.set_whole _)) $$ H18
  icases H18 with ⟨%f18, %h18, H18⟩
  ihave H19 := (pointsTo_of_own (c : Thread nD τ) (m := A19) (View.set_whole _)) $$ H19
  icases H19 with ⟨%f19, %h19, H19⟩
  ihave H20 := (pointsTo_of_own (c : Thread nD τ) (m := A20) (View.set_whole _)) $$ H20
  icases H20 with ⟨%f20, %h20, H20⟩
  ihave H21 := (pointsTo_of_own (c : Thread nD τ) (m := A21) (View.set_whole _)) $$ H21
  icases H21 with ⟨%f21, %h21, H21⟩
  ihave H22 := (pointsTo_of_own (c : Thread nD τ) (m := A22) (View.set_whole _)) $$ H22
  icases H22 with ⟨%f22, %h22, H22⟩
  have e0 : f0 = V m c main_v0 := h0
  subst e0
  have e1 : f1 = (V m c main_arg1) := h1
  subst e1
  have e2 : f2 = V m c main_arg2 := h2
  subst e2
  have e3 : f3 = (V m c main_v1) := h3
  subst e3
  have e4 : f4 = (V m c main_v2) := h4
  subst e4
  have e5 : f5 = V m c main_v3 := h5
  subst e5
  have e6 : f6 = (DH (dat m c)) := h6
  subst e6
  have e7 : f7 = (DW (dat m c)) := h7
  subst e7
  have e8 : f8 = (DLOA (dat m c)) := h8
  subst e8
  isplitr [HW']
  · isplitl [H9 H10 H11 H12 H13 H14 H15 H16 H17 H18 H19 H20 H21 H22]
    · isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      iexists _; iexact H22
    isplitl [Hg]; · iexact Hg
    isplitl [Hq]; · iexact Hq
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexact H6
    isplitl [H7]; · iexact H7
    iexact H8
  iexists W'
  isplitr; · ipureintro; exact fun _ _ => Or.inl trivial
  iexact HW'

theorem defs₀_row (t : Fin cfg0.N) : defs₀ (F := F) .tc cfg0.body (cfg0.bodyArgs t (cfg0.slots t)) = bodyAt0 t := by
  unfold defs₀; rw [Defs.onTc_tc]

/-- The launch has no window. -/
theorem no_windows (P : Fin cfg0.W → sProp 𝕄) : bigSep Finset.univ P = (BI.emp : sProp 𝕄) := by
  rw [show (Finset.univ : Finset (Fin cfg0.W)) = ∅ from by decide]
  exact BI.bigSep_empty

theorem body_obligation (c : Dev nD) : BodyObligation (dats (F := F) m 0 c) (defs₀ (F := F)) Variants.none () Set.univ := fun t => by
  rw [defs₀_row, no_windows, no_windows]
  refine triple_restated (sound_body m c t) rfl ?_ fun _ => ?_
  · iintro ⟨H, HW, -⟩
    isplitl [H]; · iexact H
    iexact HW
  · iintro ⟨H, HW⟩
    isplitl [H]; · iexact H
    isplitl [HW]; · iexact HW
    iempintro

set_option backward.isDefEq.respectTransparency.types false in
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := fun _ w => w.elim0) (G := G m)
    (hin := fun c => (Phi_start m c t0_0) ▸ BIBase.Entails.rfl)
    (hout := fun c => (Phi_end m c t0_0) ▸ BIBase.Entails.rfl)
    (hQ' := fun _ h => h)

/-- The program ends with its arguments as they were, its results written and every counter idle. -/
theorem run : θ_run defs (onTc (τ := τ) (main (F := F))) ⟨m, fun _ => 0, ρ⟩ (fun r => (∀ c : Dev nD,
      (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.mem ((c.tc : Thread nD τ).loc main_v4_0) = DH (dat m c)
      ∧ r.2.mem ((c.tc : Thread nD τ).loc main_v4_1) = DW (dat m c)
      ∧ r.2.mem ((c.tc : Thread nD τ).loc main_v4_2) = DLOA (dat m c))
      ∧ r.2.sem = fun _ => 0) :=
  (θ_run defs _ _).mono (fun r h => ⟨fun c => ⟨⟨((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c),
      ((h.1.1 c).2 main_arg5 (Finset.mem_sdiff.mpr ⟨Pipeline.mem_restRefs_of main_arg5 (by decide) (by decide), by decide⟩)).trans (V_main_arg5 m c)⟩,
    (h.1.2 c main_v4_0 (by decide)).trans (G_0 m c), (h.1.2 c main_v4_1 (by decide)).trans (G_1 m c), (h.1.2 c main_v4_2 (by decide)).trans (G_2 m c)⟩, h.2⟩) (run_main m ρ)

end Cert.KernelIdeal.Val

end
-- ==== Proof.Frames.lean ====
/-
  Termination without fault, arguments kept and counters idle, for the kernel at any reading of the floats.  The kernel as
  printed and its idealisation are one text, so the run proved of the second is a run of the first.
-/
module

public import proofs.«01_k».proof.Proof.Gen.Kernel
public import proofs.«01_k».proof.Proof.Launch

@[expose] public section

noncomputable section

namespace Cert.Proof

open Idealize.ShloMosaic Idealize.SL.Sem

variable {F : FTy → Type} [FloatOps F]

/-- The two printed programs are the same term. -/
theorem main_eq : @Cert.Kernel.main F _ = @Cert.KernelIdeal.main F _ := rfl

/-- Their tables of callables are the same. -/
theorem defs_eq : @Cert.Kernel.defs F _ Cert.Kernel.Gen.facts = @Cert.KernelIdeal.defs F _ Cert.KernelIdeal.Gen.facts := rfl

/-- The idealised kernel ends with its arguments as they were and its counters idle. -/
theorem kernelIdeal_frame (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0) :=
  (θ_run _ _ _).mono (fun _ h => ⟨fun c => (h.1 c).1, h.2⟩) (Cert.KernelIdeal.Val.run m g)

/-- So does the kernel as printed. -/
theorem kernel_frame (m : (ℓ : Loc Cert.Kernel.nD Cert.Kernel.τ Cert.Kernel.sig) → Buf (Elt F) ℓ)
    (g : Dev Cert.Kernel.nD → PrngReg) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0) :=
  kernelIdeal_frame m g

end Cert.Proof

end

end
-- ==== Proof.Args.lean ====
/-
  The three results as functions of the six arguments, over the extended reals.
-/
module

public import proofs.«01_k».proof.Proof.Spec

@[expose] public section

noncomputable section

namespace Cert.Spec

open Idealize.ShloMosaic

/-- The batch row of a token, -/
def bt (n : Fin 2048) : Fin 2 := ⟨(n : ℕ) / 1024, by omega⟩
/-- and its place in it. -/
def ps (n : Fin 2048) : Fin 1024 := ⟨(n : ℕ) % 1024, by omega⟩

variable (a0 : (⟨3, ![2, 1024, 7168]⟩ : Shape).Idx → EReal) (a1 : (⟨2, ![2, 1024]⟩ : Shape).Idx → EReal) (a2 : (⟨2, ![7168, 256]⟩ : Shape).Idx → EReal)
  (a3 : (⟨3, ![2, 1024, 8]⟩ : Shape).Idx → BitVec 32) (a4 : (⟨3, ![2, 1024, 8]⟩ : Shape).Idx → EReal) (a5 : (⟨3, ![2, 1024, 7168]⟩ : Shape).Idx → EReal)

/-- The gradient of token `n`'s logits. -/
def dlA (n : Fin 2048) (e : Fin 256) : EReal :=
  dlog (fun e => ∑ d : Fin 7168, a0 (ix3 (bt n) (ps n) d) * a2 (ix2 d e)) (a1 (ix2 (bt n) (ps n))) (fun k => a3 (ix3 (bt n) (ps n) k))
    (fun k => a4 (ix3 (bt n) (ps n) k)) e

/-- The token gradient. -/
def dhA (i : (⟨2, ![2048, 7168]⟩ : Shape).Idx) : EReal :=
  (∑ e : Fin 256, dlA a0 a1 a2 a3 a4 (i 0) e * a2 (ix2 (i 1) e)) + a5 (ix3 (bt (i 0)) (ps (i 0)) (i 1))

/-- The weight gradient. -/
def dwA (i : (⟨2, ![7168, 256]⟩ : Shape).Idx) : EReal :=
  ∑ n : Fin 2048, a0 (ix3 (bt n) (ps n) (i 0)) * (dlA a0 a1 a2 a3 a4 n (i 1) * a1 (ix2 (bt n) (ps n)))

/-- The gradient of the logits. -/
def dloA (i : (⟨2, ![2048, 256]⟩ : Shape).Idx) : EReal := dlA a0 a1 a2 a3 a4 (i 0) (i 1)

end Cert.Spec
-- ==== Proof.Route.lean ====
/-
  The router as one function of what it is handed for 128 tokens: their expert numbers, scales, incoming gate gradients
  and the blocks of 8 rows of the logits. What each of the kernel's lane groups stores is this function of its own loads.
-/
module

public import proofs.«01_k».proof.Proof.Launch

@[expose] public section

set_option maxRecDepth 16384

noncomputable section

namespace Cert.KernelIdeal.Val

open Cert.KernelIdeal Cert.KernelIdeal.Gen Cert.Own
open Idealize.ShloMosaic Idealize.ShloMosaic.TcCoe

variable {F : FTy → Type} [FloatOps F]

/-- Row `k` of a block of eight rows can be cut out of it. -/
theorem slices_row (k : Fin 8) : S8x128.Slices ![(k : ℕ), 0] S1x128 := by revert k; decide

/-- Row `k` of `x` in every row. -/
def rowB {α : Type} (k : Fin 8) (x : S8x128.Idx → α) : S8x128.Idx → α :=
  broadcastTo S8x128 (shapeCast S1x128 (extractStridedSlice S1x128 ![(k : ℕ), 0] x (slices_row k)) shapeCasts_S1x128_S1x128) broadcasts_S1x128_S8x128

/-- The rows of `A` that `q` names, lane by lane. -/
def gath (q : IVec S8x128 32) (A : FVec F S8x128 .f32) : FVec F S8x128 .f32 :=
  dynamicGather 0 A (shapeCast S8x128 (shapeCast S8x128x1 (select (cmpi .slt q (broadcast S8x128 0#32)) (addi q (broadcast S8x128 8#32)) q)
    shapeCasts_S8x128_S8x128x1) shapeCasts_S8x128x1_S8x128)

/-- The gathered logits after the first `n` blocks of rows: where the block number `w` is below `n`, row `q` of that block. -/
def selN (q w : IVec S8x128 32) (A : ℕ → FVec F S8x128 .f32) : ℕ → FVec F S8x128 .f32
  | 0 => broadcast S8x128 (Scalar.ofBits .f32 0x00000000#32)
  | r + 1 => select (cmpi .eq w (broadcast S8x128 (BitVec.ofNat 32 r))) (gath q (A r)) (selN q w A r)

/-- A sum or a maximum over the eight rows, in every row. -/
def downB (x : FVec F S128 .f32) : FVec F S8x128 .f32 :=
  broadcastTo S8x128 (shapeCast S1x128 x shapeCasts_S128_S1x128) broadcasts_S1x128_S8x128

/-- The exponentials of the scaled logits, less their maximum. -/
def unn (xs : FVec F S1x128 .f32) (l : FVec F S8x128 .f32) : FVec F S8x128 .f32 :=
  exp (subf (mulf l (broadcastTo S8x128 xs broadcasts_S1x128_S8x128))
    (downB (multiReduction .maximumf [0] S128 (mulf l (broadcastTo S8x128 xs broadcasts_S1x128_S8x128)) 0xFF800000#32 reduces_S8x128_S128 (.inl rfl) rfl)))

/-- The gates. -/
def gates (u : FVec F S8x128 .f32) : FVec F S8x128 .f32 :=
  divf u (downB (multiReduction .add [0] S128 u 0x00000000#32 reduces_S8x128_S128 (.inl rfl) rfl))

/-- The gates' gradients taken back through the softmax. -/
def dselV (g dg : FVec F S8x128 .f32) : FVec F S8x128 .f32 :=
  mulf g (subf dg (downB (multiReduction .add [0] S128 (mulf g dg) 0x00000000#32 reduces_S8x128_S128 (.inl rfl) rfl)))

/-- The distance of expert `k`'s number from the row. -/
def idk (i : IVec S8x128 32) (k : Fin 8) : IVec S8x128 32 := subi (rowB k i) (iota .tc S8x128 32 [0] iota_S8x128_d0_w32)

/-- One step of the scatter: the rows from `b` on take `g`'s row `k` where expert `k` is theirs. -/
def scatStep (i : IVec S8x128 32) (g : FVec F S8x128 .f32) (b : BitVec 32) (k : Fin 8) (prev : FVec F S8x128 .f32) : FVec F S8x128 .f32 :=
  select (cmpi .eq (idk i k) (broadcast S8x128 b)) (rowB k g) prev

/-- Eight rows of the logits' gradient, from row `b` on. -/
def scat (i : IVec S8x128 32) (g : FVec F S8x128 .f32) (b : BitVec 32) : FVec F S8x128 .f32 :=
  scatStep i g b 7 (scatStep i g b 6 (scatStep i g b 5 (scatStep i g b 4 (scatStep i g b 3 (scatStep i g b 2 (scatStep i g b 1 (scatStep i g b 0
    (broadcast S8x128 (Scalar.ofBits .f32 0x00000000#32)))))))))

/-- The logits' gradient, experts by tokens. -/
def dlT (i : IVec S8x128 32) (g : FVec F S8x128 .f32) : FVec F S256x128 .f32 :=
  concatenate S256x128 0 [⟨S8x128, scat i g 0#32⟩, ⟨S8x128, scat i g 8#32⟩, ⟨S8x128, scat i g 16#32⟩, ⟨S8x128, scat i g 24#32⟩, ⟨S8x128, scat i g 32#32⟩, ⟨S8x128, scat i g 40#32⟩, ⟨S8x128, scat i g 48#32⟩, ⟨S8x128, scat i g 56#32⟩, ⟨S8x128, scat i g 64#32⟩, ⟨S8x128, scat i g 72#32⟩, ⟨S8x128, scat i g 80#32⟩, ⟨S8x128, scat i g 88#32⟩, ⟨S8x128, scat i g 96#32⟩, ⟨S8x128, scat i g 104#32⟩, ⟨S8x128, scat i g 112#32⟩, ⟨S8x128, scat i g 120#32⟩, ⟨S8x128, scat i g 128#32⟩, ⟨S8x128, scat i g 136#32⟩, ⟨S8x128, scat i g 144#32⟩, ⟨S8x128, scat i g 152#32⟩, ⟨S8x128, scat i g 160#32⟩, ⟨S8x128, scat i g 168#32⟩, ⟨S8x128, scat i g 176#32⟩, ⟨S8x128, scat i g 184#32⟩, ⟨S8x128, scat i g 192#32⟩, ⟨S8x128, scat i g 200#32⟩, ⟨S8x128, scat i g 208#32⟩, ⟨S8x128, scat i g 216#32⟩, ⟨S8x128, scat i g 224#32⟩, ⟨S8x128, scat i g 232#32⟩, ⟨S8x128, scat i g 240#32⟩, ⟨S8x128, scat i g 248#32⟩]
    concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S256x128_d0

/-- The gradient that reaches the chosen logits. -/
def dsel (ids : Vec F S1x8x128 .i32) (xs : FVec F S1x128 .f32) (dg : Vec F S1x8x128 .bf16) (A : ℕ → FVec F S8x128 .f32) : FVec F S8x128 .f32 :=
  dselV (gates (unn xs (selN (k0_pay437 ids) (k0_pay438 ids) A 32))) (extf .f32 (shapeCast S8x128 dg shapeCasts_S1x8x128_S8x128) bitsLt_bf16_f32)

/-- The router's three results on 128 tokens: the logits' gradient, experts by tokens, -/
def route (ids : Vec F S1x8x128 .i32) (xs : FVec F S1x128 .f32) (dg : Vec F S1x8x128 .bf16) (A : ℕ → FVec F S8x128 .f32) : FVec F S256x128 .f32 :=
  dlT (k0_pay435 ids) (dsel ids xs dg A)

/-- its transpose, -/
def routeO (r : FVec F S256x128 .f32) : FVec F S128x256 .f32 :=
  shapeCast S128x256 (transpose S128x256 [1, 0] r transposes_S256x128_p1_0_S128x256) shapeCasts_S128x256_S128x256

/-- that rounded, -/
def routeL (r : FVec F S256x128 .f32) : FVec F S128x256 .bf16 :=
  shapeCast S128x256 (truncf .bf16 (transpose S128x256 [1, 0] r transposes_S256x128_p1_0_S128x256) bitsLt_bf16_f32) shapeCasts_S128x256_S128x256

/-- and the rounded gradient times the rounded scales. -/
def routeS (xs : FVec F S1x128 .f32) (r : FVec F S256x128 .f32) : FVec F S256x128 .bf16 :=
  shapeCast S256x128 (mulf (truncf .bf16 r bitsLt_bf16_f32) (broadcastTo S256x128 (truncf .bf16 xs bitsLt_bf16_f32) broadcasts_S1x128_S256x128)) shapeCasts_S256x128_S256x128

/-! ## The loads of a lane group -/

theorem inb_A (r g : ℕ) : ∀ a, ![8 * (r % 32), 128 * (g % 4)] a + S8x128.size a ≤ S256x512.size a := by
  intro a
  fin_cases a
  · show 8 * (r % 32) + 8 ≤ 256; omega
  · show 128 * (g % 4) + 128 ≤ 512; omega

/-- Block `r` of the logits' rows, lane group `g`. -/
def ldA (acc : S256x512.Idx → Elt F .f32) (g r : ℕ) : FVec F S8x128 .f32 :=
  View.readAt (Elt F) A13.view (Rect.unit (s := S256x512) ![8 * (r % 32), 128 * (g % 4)] S8x128.size (inb_A r g)).toLoadRect acc

variable (c : Dev nD) (ids : S2x8x1024.Idx → Elt F .i32) (dg : S2x8x1024.Idx → Elt F .bf16) (xs : S2x1024.Idx → Elt F .f32) (acc : S256x512.Idx → Elt F .f32)

theorem inb_0 (g : Fin 4) : ∀ a, ![0, 0, 128 * (g : ℕ)] a + S1x8x128.size a ≤ S2x8x1024.size a := by revert g; decide
theorem inb_0x (g : Fin 4) : ∀ a, ![0, 128 * (g : ℕ)] a + S2x128.size a ≤ S2x1024.size a := by revert g; decide

/-- What lane group `g` of the first token tile is handed, -/
def ids0 (g : Fin 4) : Vec F S1x8x128 .i32 := View.readAt (Elt F) A20.view (Rect.unit (s := S2x8x1024) ![0, 0, 128 * (g : ℕ)] S1x8x128.size (inb_0 g)).toLoadRect ids
def dg0 (g : Fin 4) : Vec F S1x8x128 .bf16 := View.readAt (Elt F) A21.view (Rect.unit (s := S2x8x1024) ![0, 0, 128 * (g : ℕ)] S1x8x128.size (inb_0 g)).toLoadRect dg
def xs0 (g : Fin 4) : FVec F S1x128 .f32 := k0_pay436 (View.readAt (Elt F) A22.view (Rect.unit (s := S2x1024) ![0, 128 * (g : ℕ)] S2x128.size (inb_0x g)).toLoadRect xs)

/-- and of a later one. -/
def idsT (t : Fin k0_t2_loop.trips) (g : Fin 4) : Vec F S1x8x128 .i32 := View.readAt (Elt F) A20.view (Rect.unit (s := S2x8x1024) (k0_off38 t (BitVec.ofNat 32 (128 * (g : ℕ)))) S1x8x128.size (k0_off38_inb t g)).toLoadRect ids
def dgT (t : Fin k0_t2_loop.trips) (g : Fin 4) : Vec F S1x8x128 .bf16 := View.readAt (Elt F) A21.view (Rect.unit (s := S2x8x1024) (k0_off38 t (BitVec.ofNat 32 (128 * (g : ℕ)))) S1x8x128.size (k0_off38_inb t g)).toLoadRect dg
def xsT (t : Fin k0_t2_loop.trips) (g : Fin 4) : FVec F S1x128 .f32 := k0_pay19 (bw t) (View.readAt (Elt F) A22.view (Rect.unit (s := S2x1024) (k0_off39 t (BitVec.ofNat 32 (128 * (g : ℕ)))) S2x128.size (k0_off39_inb t g)).toLoadRect xs)

/-- The logits' gradient of a lane group, experts by tokens. -/
def RR0 (g : Fin 4) : FVec F S256x128 .f32 := route (ids0 ids g) (xs0 xs g) (dg0 dg g) (ldA acc g)
def RT (t : Fin k0_t2_loop.trips) (g : Fin 4) : FVec F S256x128 .f32 := route (idsT ids t g) (xsT xs t g) (dgT dg t g) (ldA acc g)

theorem rt0_gen_O0 : rt0_gen.sl.H18_1 c A13 A20 A21 A22 acc ids dg xs = ⟨Rect.unit ![0, 0] S128x256.size inb_S512x256_S128x256_0_0, routeO (RR0 ids dg xs acc 0)⟩ :: [] := rfl

theorem rt0_gen_O1 : rt0_gen.sl.H18_2 c A13 A20 A21 A22 acc ids dg xs = ⟨Rect.unit ![128, 0] S128x256.size inb_S512x256_S128x256_128_0, routeO (RR0 ids dg xs acc 1)⟩ :: rt0_gen.sl.H18_1 c A13 A20 A21 A22 acc ids dg xs := rfl

theorem rt0_gen_O2 : rt0_gen.sl.H18_3 c A13 A20 A21 A22 acc ids dg xs = ⟨Rect.unit ![256, 0] S128x256.size inb_S512x256_S128x256_256_0, routeO (RR0 ids dg xs acc 2)⟩ :: rt0_gen.sl.H18_2 c A13 A20 A21 A22 acc ids dg xs := rfl

theorem rt0_gen_O3 : rt0_gen.sl.H18_4 c A13 A20 A21 A22 acc ids dg xs = ⟨Rect.unit ![384, 0] S128x256.size inb_S512x256_S128x256_384_0, routeO (RR0 ids dg xs acc 3)⟩ :: rt0_gen.sl.H18_3 c A13 A20 A21 A22 acc ids dg xs := rfl

theorem rt0_gen_L0 : rt0_gen.sl.H14_1 c A13 A20 A21 A22 acc ids dg xs = ⟨Rect.unit ![0, 0] S128x256.size inb_S512x256_S128x256_0_0, routeL (RR0 ids dg xs acc 0)⟩ :: [] := rfl

theorem rt0_gen_L1 : rt0_gen.sl.H14_2 c A13 A20 A21 A22 acc ids dg xs = ⟨Rect.unit ![128, 0] S128x256.size inb_S512x256_S128x256_128_0, routeL (RR0 ids dg xs acc 1)⟩ :: rt0_gen.sl.H14_1 c A13 A20 A21 A22 acc ids dg xs := rfl

theorem rt0_gen_L2 : rt0_gen.sl.H14_3 c A13 A20 A21 A22 acc ids dg xs = ⟨Rect.unit ![256, 0] S128x256.size inb_S512x256_S128x256_256_0, routeL (RR0 ids dg xs acc 2)⟩ :: rt0_gen.sl.H14_2 c A13 A20 A21 A22 acc ids dg xs := rfl

theorem rt0_gen_L3 : rt0_gen.sl.H14_4 c A13 A20 A21 A22 acc ids dg xs = ⟨Rect.unit ![384, 0] S128x256.size inb_S512x256_S128x256_384_0, routeL (RR0 ids dg xs acc 3)⟩ :: rt0_gen.sl.H14_3 c A13 A20 A21 A22 acc ids dg xs := rfl

theorem rt0_gen_S0 : rt0_gen.sl.H15_1 c A13 A20 A21 A22 acc ids dg xs = ⟨Rect.unit ![0, 0] S256x128.size inb_S256x512_S256x128_0_0, routeS (xs0 xs 0) (RR0 ids dg xs acc 0)⟩ :: [] := rfl

theorem rt0_gen_S1 : rt0_gen.sl.H15_2 c A13 A20 A21 A22 acc ids dg xs = ⟨Rect.unit ![0, 128] S256x128.size inb_S256x512_S256x128_0_128, routeS (xs0 xs 1) (RR0 ids dg xs acc 1)⟩ :: rt0_gen.sl.H15_1 c A13 A20 A21 A22 acc ids dg xs := rfl

theorem rt0_gen_S2 : rt0_gen.sl.H15_3 c A13 A20 A21 A22 acc ids dg xs = ⟨Rect.unit ![0, 256] S256x128.size inb_S256x512_S256x128_0_256, routeS (xs0 xs 2) (RR0 ids dg xs acc 2)⟩ :: rt0_gen.sl.H15_2 c A13 A20 A21 A22 acc ids dg xs := rfl

theorem rt0_gen_S3 : rt0_gen.sl.H15_4 c A13 A20 A21 A22 acc ids dg xs = ⟨Rect.unit ![0, 384] S256x128.size inb_S256x512_S256x128_0_384, routeS (xs0 xs 3) (RR0 ids dg xs acc 3)⟩ :: rt0_gen.sl.H15_3 c A13 A20 A21 A22 acc ids dg xs := rfl

theorem rt2_gen_O0 (t : Fin k0_t2_loop.trips) : rt2_gen.sl.H18_1 c A13 A20 A21 A22 t (bw t) acc ids dg xs = ⟨Rect.unit ![0, 0] S128x256.size inb_S512x256_S128x256_0_0, routeO (RT ids dg xs acc t 0)⟩ :: [] := rfl

theorem rt2_gen_O1 (t : Fin k0_t2_loop.trips) : rt2_gen.sl.H18_2 c A13 A20 A21 A22 t (bw t) acc ids dg xs = ⟨Rect.unit ![128, 0] S128x256.size inb_S512x256_S128x256_128_0, routeO (RT ids dg xs acc t 1)⟩ :: rt2_gen.sl.H18_1 c A13 A20 A21 A22 t (bw t) acc ids dg xs := rfl

theorem rt2_gen_O2 (t : Fin k0_t2_loop.trips) : rt2_gen.sl.H18_3 c A13 A20 A21 A22 t (bw t) acc ids dg xs = ⟨Rect.unit ![256, 0] S128x256.size inb_S512x256_S128x256_256_0, routeO (RT ids dg xs acc t 2)⟩ :: rt2_gen.sl.H18_2 c A13 A20 A21 A22 t (bw t) acc ids dg xs := rfl

theorem rt2_gen_O3 (t : Fin k0_t2_loop.trips) : rt2_gen.sl.H18_4 c A13 A20 A21 A22 t (bw t) acc ids dg xs = ⟨Rect.unit ![384, 0] S128x256.size inb_S512x256_S128x256_384_0, routeO (RT ids dg xs acc t 3)⟩ :: rt2_gen.sl.H18_3 c A13 A20 A21 A22 t (bw t) acc ids dg xs := rfl

theorem rt2_gen_L0 (t : Fin k0_t2_loop.trips) : rt2_gen.sl.H14_1 c A13 A20 A21 A22 t (bw t) acc ids dg xs = ⟨Rect.unit ![0, 0] S128x256.size inb_S512x256_S128x256_0_0, routeL (RT ids dg xs acc t 0)⟩ :: [] := rfl

theorem rt2_gen_L1 (t : Fin k0_t2_loop.trips) : rt2_gen.sl.H14_2 c A13 A20 A21 A22 t (bw t) acc ids dg xs = ⟨Rect.unit ![128, 0] S128x256.size inb_S512x256_S128x256_128_0, routeL (RT ids dg xs acc t 1)⟩ :: rt2_gen.sl.H14_1 c A13 A20 A21 A22 t (bw t) acc ids dg xs := rfl

theorem rt2_gen_L2 (t : Fin k0_t2_loop.trips) : rt2_gen.sl.H14_3 c A13 A20 A21 A22 t (bw t) acc ids dg xs = ⟨Rect.unit ![256, 0] S128x256.size inb_S512x256_S128x256_256_0, routeL (RT ids dg xs acc t 2)⟩ :: rt2_gen.sl.H14_2 c A13 A20 A21 A22 t (bw t) acc ids dg xs := rfl

theorem rt2_gen_L3 (t : Fin k0_t2_loop.trips) : rt2_gen.sl.H14_4 c A13 A20 A21 A22 t (bw t) acc ids dg xs = ⟨Rect.unit ![384, 0] S128x256.size inb_S512x256_S128x256_384_0, routeL (RT ids dg xs acc t 3)⟩ :: rt2_gen.sl.H14_3 c A13 A20 A21 A22 t (bw t) acc ids dg xs := rfl

theorem rt2_gen_S0 (t : Fin k0_t2_loop.trips) : rt2_gen.sl.H15_1 c A13 A20 A21 A22 t (bw t) acc ids dg xs = ⟨Rect.unit ![0, 0] S256x128.size inb_S256x512_S256x128_0_0, routeS (xsT xs t 0) (RT ids dg xs acc t 0)⟩ :: [] := rfl

theorem rt2_gen_S1 (t : Fin k0_t2_loop.trips) : rt2_gen.sl.H15_2 c A13 A20 A21 A22 t (bw t) acc ids dg xs = ⟨Rect.unit ![0, 128] S256x128.size inb_S256x512_S256x128_0_128, routeS (xsT xs t 1) (RT ids dg xs acc t 1)⟩ :: rt2_gen.sl.H15_1 c A13 A20 A21 A22 t (bw t) acc ids dg xs := rfl

theorem rt2_gen_S2 (t : Fin k0_t2_loop.trips) : rt2_gen.sl.H15_3 c A13 A20 A21 A22 t (bw t) acc ids dg xs = ⟨Rect.unit ![0, 256] S256x128.size inb_S256x512_S256x128_0_256, routeS (xsT xs t 2) (RT ids dg xs acc t 2)⟩ :: rt2_gen.sl.H15_2 c A13 A20 A21 A22 t (bw t) acc ids dg xs := rfl

theorem rt2_gen_S3 (t : Fin k0_t2_loop.trips) : rt2_gen.sl.H15_4 c A13 A20 A21 A22 t (bw t) acc ids dg xs = ⟨Rect.unit ![0, 384] S256x128.size inb_S256x512_S256x128_0_384, routeS (xsT xs t 3) (RT ids dg xs acc t 3)⟩ :: rt2_gen.sl.H15_3 c A13 A20 A21 A22 t (bw t) acc ids dg xs := rfl

end Cert.KernelIdeal.Val
-- ==== Proof.Words.lean ====
/-
  The router's arithmetic on expert numbers: a number's block of eight rows, and its row in the block.
-/
module

public import Idealize.ShloMosaic.Lib.WordCmp
public import Idealize.ShloMosaic.Lib.Affine
public import Idealize.ShloMosaic.Lib.Pointwise

@[expose] public section

noncomputable section

namespace Cert.Words

open Idealize.ShloMosaic

/-- A number's block of eight rows: its floor division by eight, as the router spells it. -/
def rowW (x : BitVec 32) : BitVec 32 :=
  Scalar.select (IntOp.andi (IntOp.cmpi .ne (IntOp.subi ((IntOp.cmpi .sgt x 0#32).setWidth 32) ((IntOp.cmpi .slt x 0#32).setWidth 32)) 1#32)
      (IntOp.cmpi .ne (IntOp.remsi .vector x 8#32) 0#32))
    (IntOp.subi (IntOp.divsi .vector x 8#32) 1#32) (IntOp.divsi .vector x 8#32)

theorem divsi8 (x : BitVec 32) : IntOp.divsi .vector x 8#32 = x.sdiv 8#32 := by
  unfold IntOp.divsi
  rw [if_neg]
  intro h
  unfold IntOp.SDivCorner at h
  revert h
  simp

theorem remsi8 (x : BitVec 32) : IntOp.remsi .vector x 8#32 = x.srem 8#32 := IntOp.remsi_of_pos _ (by decide)

theorem sdiv8_toInt (x : BitVec 32) : (x.sdiv 8#32).toInt = x.toInt.tdiv 8 := by
  have h1 := BitVec.le_toInt x
  have h2 := BitVec.toInt_lt (x := x)
  rw [BitVec.toInt_sdiv]
  show (x.toInt.tdiv 8).bmod (2 ^ 32) = x.toInt.tdiv 8
  apply Int.bmod_eq_of_le
  · rcases Int.le_total 0 x.toInt with h | h
    · have := Int.tdiv_nonneg h (by decide : (0 : ℤ) ≤ 8); omega
    · have e : x.toInt.tdiv 8 = -((-x.toInt) / 8) := by
        rw [← Int.tdiv_eq_ediv_of_nonneg (by omega), Int.neg_tdiv, neg_neg]
      omega
  · rcases Int.le_total 0 x.toInt with h | h
    · rw [Int.tdiv_eq_ediv_of_nonneg h]; omega
    · have e : x.toInt.tdiv 8 = -((-x.toInt) / 8) := by
        rw [← Int.tdiv_eq_ediv_of_nonneg (by omega), Int.neg_tdiv, neg_neg]
      omega

theorem rowW_nonneg (x : BitVec 32) (h : 0 ≤ x.toInt) : (rowW x).toInt = x.toInt / 8 := by
  have hs : (IntOp.cmpi .slt x 0#32) = 0#1 := by rw [WordCmp.cmpi_slt_eq, decide_eq_false (by simp; omega)]; rfl
  have hD : (x.sdiv 8#32).toInt = x.toInt / 8 := by rw [sdiv8_toInt, Int.tdiv_eq_ediv_of_nonneg h]
  unfold rowW
  rw [hs, divsi8, remsi8]
  by_cases h0 : 0 < x.toInt
  · have hg : (IntOp.cmpi .sgt x 0#32) = 1#1 := by rw [WordCmp.cmpi_sgt_eq, decide_eq_true (by simpa using h0)]; rfl
    rw [hg]
    have : IntOp.andi (IntOp.cmpi .ne (IntOp.subi (BitVec.setWidth 32 1#1) (BitVec.setWidth 32 0#1)) 1#32) (IntOp.cmpi .ne (x.srem 8#32) 0#32) = 0#1 := by
      have e : IntOp.cmpi .ne (IntOp.subi (BitVec.setWidth 32 1#1) (BitVec.setWidth 32 0#1)) 1#32 = 0#1 := by decide
      rw [e]; simp [IntOp.andi]
    rw [this]
    simpa [Scalar.select] using hD
  · have hx : x = 0#32 := by apply BitVec.eq_of_toInt_eq; simp; omega
    subst hx
    decide

theorem rowW_neg (x : BitVec 32) (h : x.toInt < 0) : (rowW x).toInt < 0 := by
  have h1 := BitVec.le_toInt x
  have e : x.toInt.tdiv 8 = -((-x.toInt) / 8) := by
    rw [← Int.tdiv_eq_ediv_of_nonneg (by omega), Int.neg_tdiv, neg_neg]
  have em : x.toInt.tmod 8 = -((-x.toInt) % 8) := by
    rw [← Int.tmod_eq_emod_of_nonneg (by omega), Int.neg_tmod, neg_neg]
  have hD : (x.sdiv 8#32).toInt = -((-x.toInt) / 8) := by rw [sdiv8_toInt, e]
  have hM : (x.srem 8#32).toInt = -((-x.toInt) % 8) := by rw [BitVec.toInt_srem]; exact em
  have hs : (IntOp.cmpi .slt x 0#32) = 1#1 := by rw [WordCmp.cmpi_slt_eq, decide_eq_true (by simpa using h)]; rfl
  have hg : (IntOp.cmpi .sgt x 0#32) = 0#1 := by rw [WordCmp.cmpi_sgt_eq, decide_eq_false (by simp; omega)]; rfl
  unfold rowW
  rw [hs, hg, divsi8, remsi8]
  have e1 : IntOp.cmpi .ne (IntOp.subi (BitVec.setWidth 32 0#1) (BitVec.setWidth 32 1#1)) 1#32 = 1#1 := by decide
  rw [e1]
  by_cases hr : x.srem 8#32 = 0#32
  · rw [hr]
    have e2 : IntOp.andi 1#1 (IntOp.cmpi .ne 0#32 0#32) = 0#1 := by decide
    rw [e2]
    rw [hr] at hM
    have : (0#32).toInt = 0 := by decide
    have h3 : (x.sdiv 8#32).toInt < 0 := by omega
    simpa [Scalar.select] using h3
  · have e2 : IntOp.cmpi .ne (x.srem 8#32) 0#32 = 1#1 := by rw [WordCmp.cmpi_ne_eq, decide_eq_true hr]; rfl
    rw [e2]
    have e3 : IntOp.andi 1#1 1#1 = 1#1 := by decide
    rw [e3]
    show (x.sdiv 8#32 - 1#32).toInt < 0
    rw [BitVec.toInt_sub, hD]
    have : (1#32).toInt = 1 := by decide
    rw [this, Int.bmod_eq_of_le (by omega) (by omega)]
    omega

/-- A number's block is block `r` exactly if its value divided by eight is `r`. -/
theorem rowW_eq_iff (x : BitVec 32) (r : ℕ) (hr : r < 32) : rowW x = BitVec.ofNat 32 r ↔ x.toNat / 8 = r := by
  have hri : (BitVec.ofNat 32 r).toInt = r := WordCmp.toInt_ofNat_of_lt (by omega)
  have hx := x.isLt
  rcases Int.lt_or_le x.toInt 0 with h | h
  · have h1 := rowW_neg x h
    have h2 : ¬x.toNat < 2 ^ 31 := fun h3 => by have := WordCmp.toInt_eq_toNat_of_lt_half (x := x) h3; omega
    constructor
    · intro e; rw [e, hri] at h1; omega
    · intro e; omega
  · have h1 := rowW_nonneg x h
    have h2 : x.toInt = x.toNat := WordCmp.toInt_eq_toNat_of_lt_half ((WordCmp.toInt_nonneg_iff_lt_half x).1 h)
    constructor
    · intro e; rw [e, hri, h2] at h1; omega
    · intro e
      apply BitVec.eq_of_toInt_eq
      rw [h1, hri, h2]; omega

/-- A number's row in its block, as the gather reads it. -/
theorem sub_row (x : BitVec 32) : (Scalar.select (IntOp.cmpi .slt (IntOp.andi x 7#32) 0#32) (IntOp.addi (IntOp.andi x 7#32) 8#32) (IntOp.andi x 7#32)).toNat % 8 = x.toNat % 8 := by
  have h : (IntOp.andi x 7#32).toNat = x.toNat % 8 := by
    show (x &&& 7#32).toNat = _
    rw [BitVec.toNat_and]
    exact Nat.and_two_pow_sub_one_eq_mod x.toNat 3
  have hs : IntOp.cmpi .slt (IntOp.andi x 7#32) 0#32 = 0#1 := by
    rw [WordCmp.cmpi_slt_zero, decide_eq_false (by omega)]; rfl
  rw [hs]
  show (IntOp.andi x 7#32).toNat % 8 = _
  omega

/-- Expert `x` is row `b + s` exactly if its distance from row `s` is `b`. -/
theorem sub_eq_iff (x : BitVec 32) (s b : ℕ) : x - BitVec.ofNat 32 s = BitVec.ofNat 32 b ↔ x = BitVec.ofNat 32 (b + s) := by
  constructor
  · intro h
    rw [BitVec.ofNat_add, ← h, BitVec.sub_add_cancel]
  · intro h
    rw [h, BitVec.ofNat_add, BitVec.add_sub_cancel]

/-- The numbers of the 256 experts. -/
theorem eq_ofNat_iff (x : BitVec 32) (e : Fin 256) : x = BitVec.ofNat 32 e ↔ x.toNat = e := by
  have := e.isLt
  constructor
  · intro h; rw [h, BitVec.toNat_ofNat]; omega
  · intro h; apply BitVec.eq_of_toNat_eq; rw [h, BitVec.toNat_ofNat]; omega

end Cert.Words
-- ==== Proof.RouteVal.lean ====
/-
  The router's results entry by entry: for every token, the gradient of its logits (`Spec.dlog`).
-/
module

public import proofs.«01_k».proof.Proof.Route
public import proofs.«01_k».proof.Proof.Spec
public import proofs.«01_k».proof.Proof.Words

@[expose] public section

set_option maxRecDepth 16384

noncomputable section

namespace Cert.KernelIdeal.Val

open Cert.KernelIdeal Cert.KernelIdeal.Gen Cert.Own Cert.Spec
open Idealize.ShloMosaic Idealize.ShloMosaic.TcCoe

theorem sel_eq {α : Type} {w : ℕ} (a b : BitVec w) (x y : α) : Scalar.select (IntOp.cmpi .eq a b) x y = if a = b then x else y := by
  by_cases h : a = b
  · simp [Scalar.select, IntOp.cmpi, h]
  · have h2 : (a == b) = false := by simpa using h
    simp [Scalar.select, IntOp.cmpi, h, h2]

theorem rowB_apply {α : Type} (k : Fin 8) (x : S8x128.Idx → α) (i : S8x128.Idx) : rowB k x i = x (ix2 k (i 1)) := by
  unfold rowB
  pointwise

theorem gath_apply (q : IVec S8x128 32) (A : FVec Ideal S8x128 .f32) (i : S8x128.Idx) :
    gath q A i = A (ix2 ⟨(Scalar.select (IntOp.cmpi .slt (q i) 0#32) (IntOp.addi (q i) 8#32) (q i)).toNat % 8, Nat.mod_lt _ (by decide)⟩ (i 1)) := by
  unfold gath
  pointwise

/-- The blocks read so far: where the token's number lies in one of them, its row's entry, else zero. -/
theorem selN_apply (v : Vec Ideal S1x8x128 .i32) (A : ℕ → FVec Ideal S8x128 .f32) (n : ℕ) (hn : n ≤ 32) (i : S8x128.Idx) :
    selN (k0_pay437 (F := Ideal) v) (k0_pay438 (F := Ideal) v) A n i =
      if (v (ix3 0 (i 0) (i 1))).toNat / 8 < n then A ((v (ix3 0 (i 0) (i 1))).toNat / 8) (ix2 ⟨(v (ix3 0 (i 0) (i 1))).toNat % 8, Nat.mod_lt _ (by decide)⟩ (i 1)) else 0 := by
  induction n with
  | zero =>
    rw [if_neg (by omega)]
    unfold selN
    pointwise
  | succ r ih =>
    unfold selN
    have e1 : k0_pay438 (F := Ideal) v i = Cert.Words.rowW (v (ix3 0 (i 0) (i 1))) := by
      unfold k0_pay438 k0_pay435
      pointwise
      rfl
    have e2 : k0_pay437 (F := Ideal) v i = IntOp.andi (v (ix3 0 (i 0) (i 1))) 7#32 := by
      unfold k0_pay437 k0_pay435
      pointwise
    show Scalar.select (IntOp.cmpi .eq (k0_pay438 (F := Ideal) v i) (BitVec.ofNat 32 r)) _ _ = _
    rw [sel_eq, e1, ih (by omega), gath_apply, e2]
    simp only [Cert.Words.sub_row]
    by_cases h : Cert.Words.rowW (v (ix3 0 (i 0) (i 1))) = BitVec.ofNat 32 r
    · have h2 := (Cert.Words.rowW_eq_iff _ r (by omega)).1 h
      rw [if_pos h, if_pos (by omega), h2]
    · have h2 := mt (Cert.Words.rowW_eq_iff _ r (by omega)).2 h
      rw [if_neg h]
      by_cases h3 : (v (ix3 0 (i 0) (i 1))).toNat / 8 < r
      · rw [if_pos h3, if_pos (by omega)]
      · rw [if_neg h3, if_neg (by omega)]

/-- One token's logits, by the blocks of eight rows. -/
def Lof (A : ℕ → FVec Ideal S8x128 .f32) (t : Fin 128) (e : Fin 256) : EReal :=
  A ((e : ℕ) / 8) (ix2 ⟨(e : ℕ) % 8, Nat.mod_lt _ (by decide)⟩ t)

/-- The chosen logit times the scale. -/
theorem pick_apply (v : Vec Ideal S1x8x128 .i32) (A : ℕ → FVec Ideal S8x128 .f32) (s : EReal) (i : S8x128.Idx) :
    selN (k0_pay437 (F := Ideal) v) (k0_pay438 (F := Ideal) v) A 32 i * s = pick (Lof A (i 1)) s (fun k => v (ix3 0 k (i 1))) (i 0) := by
  rw [selN_apply v A 32 le_rfl]
  unfold pick
  by_cases h : (v (ix3 0 (i 0) (i 1))).toNat / 8 < 32
  · rw [if_pos h]
    rw [Finset.sum_eq_single (⟨(v (ix3 0 (i 0) (i 1))).toNat, by omega⟩ : Fin 256)]
    · rw [if_pos]
      · rfl
      · exact (Cert.Words.eq_ofNat_iff _ _).2 rfl
    · intro e _ he
      rw [if_neg]
      intro h2
      exact he (Fin.ext ((Cert.Words.eq_ofNat_iff _ _).1 h2).symm)
    · intro h2
      exact absurd (Finset.mem_univ _) h2
  · rw [if_neg h, zero_mul]
    refine (Finset.sum_eq_zero fun e _ => ?_).symm
    rw [if_neg]
    intro h2
    have h3 : (v (ix3 0 (i 0) (i 1))).toNat = e := (Cert.Words.eq_ofNat_iff _ _).1 h2
    have := e.isLt
    omega

/-- The gradient that reaches the chosen logits. -/
theorem dsel_apply (ids : Vec Ideal S1x8x128 .i32) (xs : FVec Ideal S1x128 .f32) (dg : Vec Ideal S1x8x128 .bf16) (A : ℕ → FVec Ideal S8x128 .f32) (k : Fin 8) (t : Fin 128) :
    dsel ids xs dg A (ix2 k t) = ds (pick (Lof A t) (xs (ix2 0 t)) (fun k => ids (ix3 0 k t))) (fun k => dg (ix3 0 k t)) k := by
  have hp : ∀ k : Fin 8, selN (k0_pay437 (F := Ideal) ids) (k0_pay438 (F := Ideal) ids) A 32 (ix2 k t) * xs (ix2 0 t)
      = pick (Lof A t) (xs (ix2 0 t)) (fun k => ids (ix3 0 k t)) k := fun k => pick_apply ids A _ (ix2 k t)
  unfold dsel
  generalize selN (k0_pay437 (F := Ideal) ids) (k0_pay438 (F := Ideal) ids) A 32 = l at hp ⊢
  unfold ds gate un
  simp only [← hp]
  unfold dselV gates unn downB
  pointwise

/-- One step of the scatter. -/
theorem scatStep_apply (v : IVec S8x128 32) (g : FVec Ideal S8x128 .f32) (b : ℕ) (k : Fin 8) (prev : FVec Ideal S8x128 .f32) (i : S8x128.Idx) :
    scatStep v g (BitVec.ofNat 32 b) k prev i = if v (ix2 k (i 1)) = BitVec.ofNat 32 (b + (i 0 : ℕ)) then g (ix2 k (i 1)) else prev i := by
  have e : scatStep v g (BitVec.ofNat 32 b) k prev i =
      Scalar.select (IntOp.cmpi .eq (rowB k v i - BitVec.ofNat 32 (i 0 : ℕ)) (BitVec.ofNat 32 b)) (rowB k g i) (prev i) := by
    unfold scatStep idk
    pointwise
    try rfl
  rw [e, sel_eq, rowB_apply, rowB_apply]
  simp only [Cert.Words.sub_eq_iff]

/-- The last of eight choices, each of which at most one makes, is their sum. -/
theorem last_wins (id : Fin 8 → BitVec 32) (hd : Function.Injective id) (g : Fin 8 → EReal) (w : BitVec 32) :
    (if id 7 = w then g 7 else if id 6 = w then g 6 else if id 5 = w then g 5 else if id 4 = w then g 4 else
      if id 3 = w then g 3 else if id 2 = w then g 2 else if id 1 = w then g 1 else if id 0 = w then g 0 else 0)
    = ∑ k : Fin 8, if id k = w then g k else 0 := by
  by_cases h : ∃ k, id k = w
  · obtain ⟨k, hk⟩ := h
    have hj : ∀ j, (id j = w) = (j = k) := fun j => propext ⟨fun e => hd (e.trans hk.symm), fun e => e ▸ hk⟩
    simp only [hj]
    rw [Finset.sum_ite_eq' Finset.univ k g, if_pos (Finset.mem_univ k)]
    fin_cases k <;> rfl
  · have hj : ∀ j, (id j = w) = False := fun j => eq_false fun e => h ⟨j, e⟩
    simp only [hj, if_false, Finset.sum_const_zero]

/-- Eight rows of the gradient. -/
theorem scat_apply (v : IVec S8x128 32) (g : FVec Ideal S8x128 .f32) (b : ℕ) (i : S8x128.Idx) (hd : Function.Injective fun k : Fin 8 => v (ix2 k (i 1))) :
    scat v g (BitVec.ofNat 32 b) i = ∑ k : Fin 8, if v (ix2 k (i 1)) = BitVec.ofNat 32 (b + (i 0 : ℕ)) then g (ix2 k (i 1)) else 0 := by
  unfold scat
  simp only [scatStep_apply]
  rw [← last_wins (fun k => v (ix2 k (i 1))) hd (fun k => g (ix2 k (i 1)))]
  have : (broadcast S8x128 (Scalar.ofBits (F := Ideal) .f32 0x00000000#32) : FVec Ideal S8x128 .f32) i = 0 := by pointwise
  rw [this]

/-- All rows of the gradient. -/
theorem dlT_apply (v : IVec S8x128 32) (g : FVec Ideal S8x128 .f32) (e : Fin 256) (t : Fin 128) (hd : Function.Injective fun k : Fin 8 => v (ix2 k t)) :
    dlT v g (ix2 e t) = ∑ k : Fin 8, if v (ix2 k t) = BitVec.ofNat 32 (e : ℕ) then g (ix2 k t) else 0 := by
  have h := concatenate_ofFn_apply (t := S256x128) (s₁ := S8x128) 0 (fun n : Fin 32 => scat v g (BitVec.ofNat 32 (8 * (n : ℕ))))
    concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S256x128_d0
    rfl 8 rfl (ix2 e t) ⟨(e : ℕ) / 8, by omega⟩ rfl (ix2 ⟨(e : ℕ) % 8, Nat.mod_lt _ (by decide)⟩ t) rfl
    (by intro b hb; fin_cases b
        · exact absurd rfl hb
        · rfl)
  refine (show dlT v g (ix2 e t) = _ from h).trans ?_
  refine (scat_apply v g _ _ hd).trans ?_
  have : 8 * ((e : ℕ) / 8) + (e : ℕ) % 8 = e := by omega
  show (∑ k : Fin 8, if v (ix2 k t) = BitVec.ofNat 32 (8 * ((e : ℕ) / 8) + (e : ℕ) % 8) then g (ix2 k t) else 0) = _
  rw [this]

/-- The router's gradient of a token's logits. -/
theorem route_apply (ids : Vec Ideal S1x8x128 .i32) (xs : FVec Ideal S1x128 .f32) (dg : Vec Ideal S1x8x128 .bf16) (A : ℕ → FVec Ideal S8x128 .f32)
    (e : Fin 256) (t : Fin 128) (hd : Function.Injective fun k : Fin 8 => ids (ix3 0 k t)) :
    route ids xs dg A (ix2 e t) = dlog (Lof A t) (xs (ix2 0 t)) (fun k => ids (ix3 0 k t)) (fun k => dg (ix3 0 k t)) e := by
  have hi : ∀ k : Fin 8, k0_pay435 (F := Ideal) ids (ix2 k t) = ids (ix3 0 k t) := by
    intro k
    unfold k0_pay435
    pointwise
  unfold route
  rw [dlT_apply _ _ e t (by simpa only [hi] using hd)]
  simp only [hi, dsel_apply]
  rfl

theorem routeO_apply (r : FVec Ideal S256x128 .f32) (i : S128x256.Idx) : routeO r i = r (ix2 (i 1) (i 0)) := by
  unfold routeO
  pointwise

theorem routeL_apply (r : FVec Ideal S256x128 .f32) (i : S128x256.Idx) : routeL r i = r (ix2 (i 1) (i 0)) := by
  unfold routeL
  pointwise
  try rfl

theorem routeS_apply (xs : FVec Ideal S1x128 .f32) (r : FVec Ideal S256x128 .f32) (i : S256x128.Idx) : routeS xs r i = r i * xs (ix2 0 (i 1)) := by
  unfold routeS
  pointwise
  try rfl

end Cert.KernelIdeal.Val
-- ==== Proof.Tile.lean ====
/-
  What the router leaves of a token tile, entry by entry.
-/
module

public import proofs.«01_k».proof.Proof.RouteVal

@[expose] public section

set_option maxRecDepth 16384

noncomputable section

namespace Cert.KernelIdeal.Val

open Cert.KernelIdeal Cert.KernelIdeal.Gen Cert.Own Cert.Spec
open Idealize.ShloMosaic Idealize.ShloMosaic.TcCoe

variable (c : Dev nD) (ids : S2x8x1024.Idx → Elt Ideal .i32) (dg : S2x8x1024.Idx → Elt Ideal .bf16) (xs : S2x1024.Idx → Elt Ideal .f32)
  (acc : S256x512.Idx → Elt Ideal .f32)

/-- The scale of token `q` of tile `T`. -/
def sc (T : ℕ) (q : Fin 512) : EReal := xs (mk2 2 1024 (T / 2) (512 * (T % 2) + q))

/-- The gradient of the logits of token `q` of tile `T`. -/
def dlt (T : ℕ) (e : Fin 256) (q : Fin 512) : EReal :=
  dlog (fun e => acc (ix2 e q)) (sc xs T q) (fun k => ids (mk3 2 8 1024 (T / 2) k (512 * (T % 2) + q)))
    (fun k => dg (mk3 2 8 1024 (T / 2) k (512 * (T % 2) + q))) e

/-- Lane `t` of lane group `g`. -/
def lane (g : Fin 4) (t : Fin 128) : Fin 512 := ⟨128 * g + t, by omega⟩

/-! ## The loads -/

theorem Lof_ldA (g : Fin 4) (t : Fin 128) (e : Fin 256) : Lof (ldA acc g) t e = acc (ix2 e (lane g t)) := by
  have := g.isLt; have := e.isLt
  show acc ((Rect.unit (s := S256x512) ![8 * ((e : ℕ) / 8 % 32), 128 * ((g : ℕ) % 4)] S8x128.size (inb_A _ _)).emb (ix2 ⟨(e : ℕ) % 8, Nat.mod_lt _ (by decide)⟩ t)) = _
  rw [emb2 rfl rfl]
  refine congrArg acc (ext2 ?_ ?_)
  · show (8 * ((e : ℕ) / 8 % 32) + (e : ℕ) % 8) % 256 = e; omega
  · show (128 * ((g : ℕ) % 4) + (t : ℕ)) % 512 = 128 * g + t; omega

theorem ids0_apply (g : Fin 4) (k : Fin 8) (t : Fin 128) : ids0 ids g (ix3 0 k t) = ids (mk3 2 8 1024 (0 / 2) k (512 * (0 % 2) + lane g t)) := by
  show ids ((Rect.unit (s := S2x8x1024) ![0, 0, 128 * (g : ℕ)] S1x8x128.size (inb_0 g)).emb (ix3 0 k t)) = _
  rw [emb3 rfl rfl rfl]
  refine congrArg ids (ext3 rfl ?_ ?_)
  · show (0 + (k : ℕ)) % 8 = (k : ℕ) % 8; omega
  · show (128 * (g : ℕ) + (t : ℕ)) % 1024 = (512 * (0 % 2) + (128 * (g : ℕ) + (t : ℕ))) % 1024; omega

theorem dg0_apply (g : Fin 4) (k : Fin 8) (t : Fin 128) : dg0 dg g (ix3 0 k t) = dg (mk3 2 8 1024 (0 / 2) k (512 * (0 % 2) + lane g t)) := by
  show dg ((Rect.unit (s := S2x8x1024) ![0, 0, 128 * (g : ℕ)] S1x8x128.size (inb_0 g)).emb (ix3 0 k t)) = _
  rw [emb3 rfl rfl rfl]
  refine congrArg dg (ext3 rfl ?_ ?_)
  · show (0 + (k : ℕ)) % 8 = (k : ℕ) % 8; omega
  · show (128 * (g : ℕ) + (t : ℕ)) % 1024 = (512 * (0 % 2) + (128 * (g : ℕ) + (t : ℕ))) % 1024; omega

theorem pay436_apply (x : Vec Ideal S2x128 .f32) (t : Fin 128) : k0_pay436 x (ix2 0 t) = x (ix2 0 t) := by
  unfold k0_pay436
  show extractStridedSlice S1x128 ![0, 0] x slices_S2x128_o0_0_S1x128 (ix2 0 t) = _
  pointwise

theorem pay19_apply (b : BitVec 32) (x : Vec Ideal S2x128 .f32) (t : Fin 128) :
    k0_pay19 b x (ix2 0 t) = if b = 1#32 then x (ix2 1 t) else x (ix2 0 t) := by
  unfold k0_pay19
  show Scalar.select (IntOp.cmpi .eq b 1#32) (extractStridedSlice S1x128 ![1, 0] x slices_S2x128_o1_0_S1x128)
    (extractStridedSlice S1x128 ![0, 0] x slices_S2x128_o0_0_S1x128) (ix2 0 t) = _
  rw [sel_eq]
  split
  · pointwise
  · pointwise

theorem xs0_apply (g : Fin 4) (t : Fin 128) : xs0 xs g (ix2 0 t) = sc xs 0 (lane g t) := by
  unfold xs0
  rw [pay436_apply]
  show xs ((Rect.unit (s := S2x1024) ![0, 128 * (g : ℕ)] S2x128.size (inb_0x g)).emb (ix2 0 t)) = _
  rw [emb2 rfl rfl]
  refine congrArg xs (ext2 rfl ?_)
  show (128 * (g : ℕ) + (t : ℕ)) % 1024 = (512 * (0 % 2) + (128 * (g : ℕ) + (t : ℕ))) % 1024; omega

theorem off38_0 : ∀ (t : Fin k0_t2_loop.trips) (g : Fin 4), k0_off38 t (BitVec.ofNat 32 (128 * (g : ℕ))) 0 = ((t : ℕ) + 1) / 2 := by decide +kernel
theorem off38_1 : ∀ (t : Fin k0_t2_loop.trips) (g : Fin 4), k0_off38 t (BitVec.ofNat 32 (128 * (g : ℕ))) 1 = 0 := by decide +kernel
theorem off38_2 : ∀ (t : Fin k0_t2_loop.trips) (g : Fin 4), k0_off38 t (BitVec.ofNat 32 (128 * (g : ℕ))) 2 = 512 * (((t : ℕ) + 1) % 2) + 128 * (g : ℕ) := by decide +kernel
theorem off39_0 : ∀ (t : Fin k0_t2_loop.trips) (g : Fin 4), k0_off39 t (BitVec.ofNat 32 (128 * (g : ℕ))) 0 = 0 := by decide +kernel
theorem off39_1 : ∀ (t : Fin k0_t2_loop.trips) (g : Fin 4), k0_off39 t (BitVec.ofNat 32 (128 * (g : ℕ))) 1 = 512 * (((t : ℕ) + 1) % 2) + 128 * (g : ℕ) := by decide +kernel
theorem bw_one : ∀ t : Fin k0_t2_loop.trips, (bw t = 1#32) ↔ ((t : ℕ) + 1) / 2 = 1 := by decide +kernel
theorem bw_le : ∀ t : Fin k0_t2_loop.trips, ((t : ℕ) + 1) / 2 ≤ 1 := by decide +kernel

theorem idsT_apply (T : Fin k0_t2_loop.trips) (g : Fin 4) (k : Fin 8) (t : Fin 128) :
    idsT ids T g (ix3 0 k t) = ids (mk3 2 8 1024 (((T : ℕ) + 1) / 2) k (512 * (((T : ℕ) + 1) % 2) + lane g t)) := by
  show ids ((Rect.unit (s := S2x8x1024) (k0_off38 T (BitVec.ofNat 32 (128 * (g : ℕ)))) S1x8x128.size (k0_off38_inb T g)).emb (ix3 0 k t)) = _
  rw [emb3 (off38_0 T g) (off38_1 T g) (off38_2 T g)]
  refine congrArg ids (ext3 rfl ?_ ?_)
  · show (0 + (k : ℕ)) % 8 = (k : ℕ) % 8; omega
  · show (512 * (((T : ℕ) + 1) % 2) + 128 * (g : ℕ) + (t : ℕ)) % 1024 = (512 * (((T : ℕ) + 1) % 2) + (128 * (g : ℕ) + (t : ℕ))) % 1024; omega

theorem dgT_apply (T : Fin k0_t2_loop.trips) (g : Fin 4) (k : Fin 8) (t : Fin 128) :
    dgT dg T g (ix3 0 k t) = dg (mk3 2 8 1024 (((T : ℕ) + 1) / 2) k (512 * (((T : ℕ) + 1) % 2) + lane g t)) := by
  show dg ((Rect.unit (s := S2x8x1024) (k0_off38 T (BitVec.ofNat 32 (128 * (g : ℕ)))) S1x8x128.size (k0_off38_inb T g)).emb (ix3 0 k t)) = _
  rw [emb3 (off38_0 T g) (off38_1 T g) (off38_2 T g)]
  refine congrArg dg (ext3 rfl ?_ ?_)
  · show (0 + (k : ℕ)) % 8 = (k : ℕ) % 8; omega
  · show (512 * (((T : ℕ) + 1) % 2) + 128 * (g : ℕ) + (t : ℕ)) % 1024 = (512 * (((T : ℕ) + 1) % 2) + (128 * (g : ℕ) + (t : ℕ))) % 1024; omega

theorem xsT_apply (T : Fin k0_t2_loop.trips) (g : Fin 4) (t : Fin 128) : xsT xs T g (ix2 0 t) = sc xs ((T : ℕ) + 1) (lane g t) := by
  have hb := bw_one T; have hl := bw_le T
  have hr : ∀ r : Fin 2, View.readAt (Elt Ideal) A22.view (Rect.unit (s := S2x1024) (k0_off39 T (BitVec.ofNat 32 (128 * (g : ℕ)))) S2x128.size (k0_off39_inb T g)).toLoadRect xs (ix2 r t)
      = xs (mk2 2 1024 (0 + r) (512 * (((T : ℕ) + 1) % 2) + 128 * (g : ℕ) + t)) := by
    intro r
    show xs ((Rect.unit (s := S2x1024) (k0_off39 T (BitVec.ofNat 32 (128 * (g : ℕ)))) S2x128.size (k0_off39_inb T g)).emb (ix2 r t)) = _
    rw [emb2 (off39_0 T g) (off39_1 T g)]
    rfl
  unfold xsT
  rw [pay19_apply, hr 1, hr 0]
  split
  · rename_i h
    refine congrArg xs (ext2 ?_ ?_)
    · show 1 = (((T : ℕ) + 1) / 2) % 2; have := hb.1 h; omega
    · show (512 * (((T : ℕ) + 1) % 2) + 128 * (g : ℕ) + (t : ℕ)) % 1024 = (512 * (((T : ℕ) + 1) % 2) + (128 * (g : ℕ) + (t : ℕ))) % 1024; omega
  · rename_i h
    refine congrArg xs (ext2 ?_ ?_)
    · show 0 = (((T : ℕ) + 1) / 2) % 2; have := mt hb.2 h; omega
    · show (512 * (((T : ℕ) + 1) % 2) + 128 * (g : ℕ) + (t : ℕ)) % 1024 = (512 * (((T : ℕ) + 1) % 2) + (128 * (g : ℕ) + (t : ℕ))) % 1024; omega

/-! ## A lane group -/

variable (hd : ∀ b n : ℕ, Function.Injective fun k : Fin 8 => ids (mk3 2 8 1024 b k n))
include hd

theorem RR0_apply (g : Fin 4) (e : Fin 256) (t : Fin 128) : RR0 ids dg xs acc g (ix2 e t) = dlt ids dg xs acc 0 e (lane g t) := by
  unfold RR0 dlt
  rw [route_apply _ _ _ _ e t (by simpa only [ids0_apply] using hd _ _)]
  simp only [ids0_apply, dg0_apply, xs0_apply, show Lof (ldA acc g) t = fun e => acc (ix2 e (lane g t)) from funext fun e => Lof_ldA acc g t e]

theorem RT_apply (T : Fin k0_t2_loop.trips) (g : Fin 4) (e : Fin 256) (t : Fin 128) :
    RT ids dg xs acc T g (ix2 e t) = dlt ids dg xs acc ((T : ℕ) + 1) e (lane g t) := by
  unfold RT dlt
  rw [route_apply _ _ _ _ e t (by simpa only [idsT_apply] using hd _ _)]
  simp only [idsT_apply, dgT_apply, xsT_apply, show Lof (ldA acc g) t = fun e => acc (ix2 e (lane g t)) from funext fun e => Lof_ldA acc g t e]

omit hd

/-! ## Four lane groups make a tile -/

variable (R : Fin 4 → FVec Ideal S256x128 .f32) (D : Fin 256 → Fin 512 → EReal) (hR : ∀ g e t, R g (ix2 e t) = D e (lane g t))
include hR

theorem pieceR (g : Fin 4) {off : Fin 2 → ℕ} {inb} (h0 : off 0 = 128 * (g : ℕ)) (h1 : off 1 = 0) (x : S128x256.Idx) :
    R g (ix2 (x 1) (x 0)) = D ((Rect.unit (s := S512x256) off S128x256.size inb).emb x 1) ((Rect.unit (s := S512x256) off S128x256.size inb).emb x 0) := by
  have := lt0 x; have := lt1 x
  rw [emb2 h0 h1]
  refine (hR g (x 1) (x 0)).trans (congrArg₂ D (Fin.ext ?_) (Fin.ext ?_))
  · show (x 1 : ℕ) = (0 + (x 1 : ℕ)) % 256; omega
  · show 128 * (g : ℕ) + (x 0 : ℕ) = (128 * (g : ℕ) + (x 0 : ℕ)) % 512; omega

theorem read4O (i0 i1 i2 i3) (i : S512x256.Idx) :
    A18.view.read (Elt Ideal) (A18.view.writes (Elt Ideal) A18.view.junk
      [⟨Rect.unit ![384, 0] S128x256.size i3, routeO (R 3)⟩, ⟨Rect.unit ![256, 0] S128x256.size i2, routeO (R 2)⟩,
        ⟨Rect.unit ![128, 0] S128x256.size i1, routeO (R 1)⟩, ⟨Rect.unit ![0, 0] S128x256.size i0, routeO (R 0)⟩]) i = D (i 1) (i 0) := by
  have := lt0 i; have := lt1 i
  refine View.read_writes_apply_of_pieces (Val := Elt Ideal) A18.view _ (G := fun i : S512x256.Idx => (D (i 1) (i 0) : Elt Ideal .f32)) _ ?_ i ?_
  · intro p hp
    simp only [List.mem_cons, List.not_mem_nil, or_false] at hp
    rcases hp with rfl | rfl | rfl | rfl <;> intro x <;> refine (routeO_apply _ x).trans ?_
    · exact pieceR R D hR (inb := i3) 3 rfl rfl x
    · exact pieceR R D hR (inb := i2) 2 rfl rfl x
    · exact pieceR R D hR (inb := i1) 1 rfl rfl x
    · exact pieceR R D hR (inb := i0) 0 rfl rfl x
  · rcases (by omega : (i 0 : ℕ) < 128 ∨ (128 ≤ (i 0 : ℕ) ∧ (i 0 : ℕ) < 256) ∨ (256 ≤ (i 0 : ℕ) ∧ (i 0 : ℕ) < 384) ∨ 384 ≤ (i 0 : ℕ)) with h | h | h | h
    · exact ⟨_, .tail _ (.tail _ (.tail _ (.head _))), (mem2 (inb := i0) rfl rfl i).2 (by simp; omega)⟩
    · exact ⟨_, .tail _ (.tail _ (.head _)), (mem2 (inb := i1) rfl rfl i).2 (by simp; omega)⟩
    · exact ⟨_, .tail _ (.head _), (mem2 (inb := i2) rfl rfl i).2 (by simp; omega)⟩
    · exact ⟨_, .head _, (mem2 (inb := i3) rfl rfl i).2 (by simp; omega)⟩

theorem read4L (i0 i1 i2 i3) (i : S512x256.Idx) :
    A14.view.read (Elt Ideal) (A14.view.writes (Elt Ideal) A14.view.junk
      [⟨Rect.unit ![384, 0] S128x256.size i3, routeL (R 3)⟩, ⟨Rect.unit ![256, 0] S128x256.size i2, routeL (R 2)⟩,
        ⟨Rect.unit ![128, 0] S128x256.size i1, routeL (R 1)⟩, ⟨Rect.unit ![0, 0] S128x256.size i0, routeL (R 0)⟩]) i = D (i 1) (i 0) := by
  have := lt0 i; have := lt1 i
  refine View.read_writes_apply_of_pieces (Val := Elt Ideal) A14.view _ (G := fun i : S512x256.Idx => (D (i 1) (i 0) : Elt Ideal .bf16)) _ ?_ i ?_
  · intro p hp
    simp only [List.mem_cons, List.not_mem_nil, or_false] at hp
    rcases hp with rfl | rfl | rfl | rfl <;> intro x <;> refine (routeL_apply _ x).trans ?_
    · exact pieceR R D hR (inb := i3) 3 rfl rfl x
    · exact pieceR R D hR (inb := i2) 2 rfl rfl x
    · exact pieceR R D hR (inb := i1) 1 rfl rfl x
    · exact pieceR R D hR (inb := i0) 0 rfl rfl x
  · rcases (by omega : (i 0 : ℕ) < 128 ∨ (128 ≤ (i 0 : ℕ) ∧ (i 0 : ℕ) < 256) ∨ (256 ≤ (i 0 : ℕ) ∧ (i 0 : ℕ) < 384) ∨ 384 ≤ (i 0 : ℕ)) with h | h | h | h
    · exact ⟨_, .tail _ (.tail _ (.tail _ (.head _))), (mem2 (inb := i0) rfl rfl i).2 (by simp; omega)⟩
    · exact ⟨_, .tail _ (.tail _ (.head _)), (mem2 (inb := i1) rfl rfl i).2 (by simp; omega)⟩
    · exact ⟨_, .tail _ (.head _), (mem2 (inb := i2) rfl rfl i).2 (by simp; omega)⟩
    · exact ⟨_, .head _, (mem2 (inb := i3) rfl rfl i).2 (by simp; omega)⟩

variable (S : Fin 4 → FVec Ideal S1x128 .f32) (s : Fin 512 → EReal) (hS : ∀ g t, S g (ix2 0 t) = s (lane g t))
include hS

theorem pieceS (g : Fin 4) {off : Fin 2 → ℕ} {inb} (h0 : off 0 = 0) (h1 : off 1 = 128 * (g : ℕ)) (x : S256x128.Idx) :
    routeS (S g) (R g) x = D ((Rect.unit (s := S256x512) off S256x128.size inb).emb x 0) ((Rect.unit (s := S256x512) off S256x128.size inb).emb x 1)
      * s ((Rect.unit (s := S256x512) off S256x128.size inb).emb x 1) := by
  have := lt0 x; have := lt1 x
  have hl : lane g (x 1) = (Rect.unit (s := S256x512) off S256x128.size inb).emb x 1 := by
    rw [emb2 h0 h1]
    refine Fin.ext ?_
    show 128 * (g : ℕ) + (x 1 : ℕ) = (128 * (g : ℕ) + (x 1 : ℕ)) % 512; omega
  have he : (x 0 : Fin 256) = (Rect.unit (s := S256x512) off S256x128.size inb).emb x 0 := by
    rw [emb2 h0 h1]
    refine Fin.ext ?_
    show (x 0 : ℕ) = (0 + (x 0 : ℕ)) % 256; omega
  rw [routeS_apply]
  refine congrArg₂ _ (((congrArg (R g) (show x = ix2 (x 0) (x 1) from ext2 rfl rfl)).trans (hR g (x 0) (x 1))).trans (congrArg₂ D he hl)) ((hS g (x 1)).trans (congrArg s hl))

theorem read4S (i0 i1 i2 i3) (i : S256x512.Idx) :
    A15.view.read (Elt Ideal) (A15.view.writes (Elt Ideal) A15.view.junk
      [⟨Rect.unit ![0, 384] S256x128.size i3, routeS (S 3) (R 3)⟩, ⟨Rect.unit ![0, 256] S256x128.size i2, routeS (S 2) (R 2)⟩,
        ⟨Rect.unit ![0, 128] S256x128.size i1, routeS (S 1) (R 1)⟩, ⟨Rect.unit ![0, 0] S256x128.size i0, routeS (S 0) (R 0)⟩]) i = D (i 0) (i 1) * s (i 1) := by
  have := lt0 i; have := lt1 i
  refine View.read_writes_apply_of_pieces (Val := Elt Ideal) A15.view _ (G := fun i : S256x512.Idx => (show EReal from D (i 0) (i 1) * s (i 1) : Elt Ideal .bf16)) _ ?_ i ?_
  · intro p hp
    simp only [List.mem_cons, List.not_mem_nil, or_false] at hp
    rcases hp with rfl | rfl | rfl | rfl <;> intro x
    · exact pieceS R D hR S s hS (inb := i3) 3 rfl rfl x
    · exact pieceS R D hR S s hS (inb := i2) 2 rfl rfl x
    · exact pieceS R D hR S s hS (inb := i1) 1 rfl rfl x
    · exact pieceS R D hR S s hS (inb := i0) 0 rfl rfl x
  · rcases (by omega : (i 1 : ℕ) < 128 ∨ (128 ≤ (i 1 : ℕ) ∧ (i 1 : ℕ) < 256) ∨ (256 ≤ (i 1 : ℕ) ∧ (i 1 : ℕ) < 384) ∨ 384 ≤ (i 1 : ℕ)) with h | h | h | h
    · exact ⟨_, .tail _ (.tail _ (.tail _ (.head _))), (mem2 (inb := i0) rfl rfl i).2 (by simp; omega)⟩
    · exact ⟨_, .tail _ (.tail _ (.head _)), (mem2 (inb := i1) rfl rfl i).2 (by simp; omega)⟩
    · exact ⟨_, .tail _ (.head _), (mem2 (inb := i2) rfl rfl i).2 (by simp; omega)⟩
    · exact ⟨_, .head _, (mem2 (inb := i3) rfl rfl i).2 (by simp; omega)⟩

omit hR hS

/-! ## The tiles -/

include hd

theorem rDLO0_apply (i : S512x256.Idx) : rDLO0 c ids dg xs acc i = dlt ids dg xs acc 0 (i 1) (i 0) := by
  unfold rDLO0
  rw [rt0_gen_O3, rt0_gen_O2, rt0_gen_O1, rt0_gen_O0]
  exact read4O (RR0 ids dg xs acc) _ (RR0_apply ids dg xs acc hd) _ _ _ _ i

theorem rDL0_apply (i : S512x256.Idx) : rDL0 c ids dg xs acc i = dlt ids dg xs acc 0 (i 1) (i 0) := by
  unfold rDL0
  rw [rt0_gen_L3, rt0_gen_L2, rt0_gen_L1, rt0_gen_L0]
  exact read4L (RR0 ids dg xs acc) _ (RR0_apply ids dg xs acc hd) _ _ _ _ i

theorem rDLS0_apply (i : S256x512.Idx) : rDLS0 c ids dg xs acc i = dlt ids dg xs acc 0 (i 0) (i 1) * sc xs 0 (i 1) := by
  unfold rDLS0
  rw [rt0_gen_S3, rt0_gen_S2, rt0_gen_S1, rt0_gen_S0]
  exact read4S (RR0 ids dg xs acc) _ (RR0_apply ids dg xs acc hd) (xs0 xs) _ (xs0_apply xs) _ _ _ _ i

variable (T : Fin k0_t2_loop.trips)

theorem rDLO_apply (i : S512x256.Idx) : rDLO c ids dg xs T acc i = dlt ids dg xs acc ((T : ℕ) + 1) (i 1) (i 0) := by
  unfold rDLO
  rw [rt2_gen_O3, rt2_gen_O2, rt2_gen_O1, rt2_gen_O0]
  exact read4O (RT ids dg xs acc T) _ (RT_apply ids dg xs acc hd T) _ _ _ _ i

theorem rDL_apply (i : S512x256.Idx) : rDL c ids dg xs T acc i = dlt ids dg xs acc ((T : ℕ) + 1) (i 1) (i 0) := by
  unfold rDL
  rw [rt2_gen_L3, rt2_gen_L2, rt2_gen_L1, rt2_gen_L0]
  exact read4L (RT ids dg xs acc T) _ (RT_apply ids dg xs acc hd T) _ _ _ _ i

theorem rDLS_apply (i : S256x512.Idx) : rDLS c ids dg xs T acc i = dlt ids dg xs acc ((T : ℕ) + 1) (i 0) (i 1) * sc xs ((T : ℕ) + 1) (i 1) := by
  unfold rDLS
  rw [rt2_gen_S3, rt2_gen_S2, rt2_gen_S1, rt2_gen_S0]
  exact read4S (RT ids dg xs acc T) _ (RT_apply ids dg xs acc hd T) (xsT xs T) _ (xsT_apply xs T) _ _ _ _ i

end Cert.KernelIdeal.Val
-- ==== Proof.Sums.lean ====
/-
  The kernel's blocked products as sums over whole rows: the logits, the token gradient and the weight gradient.
-/
module

public import proofs.«01_k».proof.Proof.Contents
public import Idealize.ShloMosaic.Lib.Pointwise

@[expose] public section

set_option maxRecDepth 16384

noncomputable section

namespace Cert.KernelIdeal.Val

open Cert.KernelIdeal Cert.KernelIdeal.Gen Cert.Own
open Idealize.ShloMosaic Idealize.ShloMosaic.TcCoe

variable (d : Data Ideal)

/-! ## The payloads -/

theorem pay1_apply (x : Vec Ideal S1024x256 .bf16) (i : S256x1024.Idx) : k0_pay1 x i = x (ix2 (i 1) (i 0)) := by
  unfold k0_pay1
  pointwise

theorem pay5_apply (a : Vec Ideal S256x256 .f32) (b : Vec Ideal S256x1024 .bf16) (x : Vec Ideal S256x1024 .fp8e4m3) (i : S256x256.Idx) :
    k0_pay5 a b x i = a i + ∑ k : Fin 1024, b (ix2 (i 0) k) * x (ix2 (i 1) k) := by
  unfold k0_pay5
  pointwise
  try rfl

theorem pay6_apply (a : Vec Ideal S256x512 .bf16) (x : Vec Ideal S512x256 .fp8e4m3) (b : Vec Ideal S256x256 .f32) (i : S256x256.Idx) :
    k0_pay6 a x b i = b i + ∑ k : Fin 512, a (ix2 (i 0) k) * x (ix2 k (i 1)) := by
  unfold k0_pay6
  pointwise
  try rfl

theorem pay34_apply (a : Vec Ideal S256x256 .bf16) (b : Vec Ideal S256x512 .bf16) (y : Vec Ideal S1x256x512 .bf16) (i : S1x256x512.Idx) :
    k0_pay4 (k0_pay3 a b y) i = (∑ k : Fin 256, a (ix2 (i 1) k) * b (ix2 k (i 2))) + y (ix3 0 (i 1) (i 2)) := by
  unfold k0_pay4 k0_pay3
  pointwise
  refine congrArg₂ _ rfl (congrArg y (ext3 ?_ rfl rfl))
  have := lt30 i
  show (i 0 : ℕ) = 0; omega

theorem pay42_apply (a : Vec Ideal S256x512 .bf16) (x : Vec Ideal S512x256 .fp8e4m3) (b : Vec Ideal S256x256 .f32) (i : S1x256x256.Idx) :
    k0_pay421 (k0_pay420 a x b) i = b (ix2 (i 2) (i 1)) + ∑ k : Fin 512, a (ix2 (i 2) k) * x (ix2 k (i 1)) := by
  unfold k0_pay421 k0_pay420
  pointwise
  try rfl

/-! ## The arrays -/

/-- The transposed weight. -/
theorem WT_apply (i : S256x7168.Idx) : WT d i = d.W (mk2 7168 256 (i 1) (i 0)) := by
  have := lt0 i; have := lt1 i
  unfold WT
  rw [pay1_apply]
  refine congrArg d.W (ext2 ?_ ?_)
  · show (1024 * ((i 1 : ℕ) / 1024) + ((i 1 : ℕ) % 1024) % 1024) % 7168 = (i 1 : ℕ) % 7168; omega
  · show (0 + (i 0 : ℕ) % 256) % 256 = (i 0 : ℕ) % 256; omega

/-- The logits after `c` column blocks. -/
theorem ACC_apply (t c : ℕ) (ht : t < 4) (hc : c ≤ 7) (i : S256x512.Idx) :
    ACC d t c i = ∑ k ∈ Finset.range (1024 * c), d.W (mk2 7168 256 k (i 0)) * d.X (mk2 2048 7168 (512 * t + i 1) k) := by
  have h0 := lt0 i; have h1 := lt1 i
  induction c generalizing i with
  | zero =>
    simp only [Nat.mul_zero, Finset.range_zero, Finset.sum_empty]
    unfold ACC zeroAcc
    pointwise
  | succ c ih =>
    rw [show 1024 * (c + 1) = 1024 * c + 1024 from by omega, Finset.sum_range_add, Finset.sum_range _ (n := 1024), ← ih (by omega) i h0 h1]
    rw [ACC]
    refine (pay5_apply _ _ _ _).trans ?_
    refine congrArg₂ _ ?_ (Finset.sum_congr rfl fun k _ => ?_)
    · refine congrArg (ACC d t c) (ext2 ?_ ?_)
      · show (0 + (i 0 : ℕ) % 256) % 256 = (i 0 : ℕ); omega
      · show (256 * ((i 1 : ℕ) / 256) + ((i 1 : ℕ) % 256) % 256) % 512 = (i 1 : ℕ); omega
    · have hk := k.isLt
      show WT d (mk2 256 7168 (0 + (i 0 : ℕ) % 256) (1024 * c + k)) * d.X (mk2 2048 7168 (512 * t + 256 * ((i 1 : ℕ) / 256) + ((i 1 : ℕ) % 256) % 256) (1024 * c + k)) = _
      rw [WT_apply]
      refine congrArg₂ _ (congrArg d.W (ext2 ?_ ?_)) (congrArg d.X (ext2 ?_ rfl))
      · show (1024 * c + (k : ℕ)) % 7168 % 7168 = (1024 * c + (k : ℕ)) % 7168; omega
      · show (0 + (i 0 : ℕ) % 256) % 256 % 256 = (i 0 : ℕ) % 256; omega
      · show (512 * t + 256 * ((i 1 : ℕ) / 256) + ((i 1 : ℕ) % 256) % 256) % 2048 = (512 * t + (i 1 : ℕ)) % 2048; omega

/-- The logits of a tile's token. -/
theorem ACC_all (t : ℕ) (ht : t < 4) (i : S256x512.Idx) :
    ACC d t 7 i = ∑ k : Fin 7168, d.X (mk2 2048 7168 (512 * t + i 1) k) * d.W (ix2 k (i 0)) := by
  have h0 := lt0 i
  rw [ACC_apply d t 7 ht le_rfl, Finset.sum_range _ (n := 7168)]
  refine Finset.sum_congr rfl fun k _ => ?_
  have hk := k.isLt
  rw [mul_comm]
  refine congrArg₂ _ rfl (congrArg d.W (ext2 ?_ ?_))
  · show (k : ℕ) % 7168 = k; omega
  · show (i 0 : ℕ) % 256 = i 0; omega

/-- The weight gradient's sum over the first token tiles. -/
theorem DWT_apply (t : ℕ) (ht : t ≤ 3) (i : S256x7168.Idx) :
    DWT d t i = ∑ n ∈ Finset.range (512 * t), d.DLS (n / 512) (mk2 256 512 (i 0) (n % 512)) * d.X (mk2 2048 7168 n (i 1)) := by
  have h0 := lt0 i; have h1 := lt1 i
  induction t generalizing i with
  | zero =>
    simp only [Nat.mul_zero, Finset.range_zero, Finset.sum_empty]
    unfold DWT zeroDw
    pointwise
  | succ t ih =>
    rw [show 512 * (t + 1) = 512 * t + 512 from by omega, Finset.sum_range_add, Finset.sum_range _ (n := 512), ← ih (by omega) i h0 h1]
    rw [DWT]
    refine (pay6_apply _ _ _ _).trans ?_
    refine congrArg₂ _ ?_ (Finset.sum_congr rfl fun k _ => ?_)
    · refine congrArg (DWT d t) (ext2 ?_ ?_)
      · show (0 + (i 0 : ℕ) % 256) % 256 = (i 0 : ℕ); omega
      · show (256 * ((i 1 : ℕ) / 256) + ((i 1 : ℕ) % 256) % 256) % 7168 = (i 1 : ℕ); omega
    · have hk := k.isLt
      have e : (512 * t + (k : ℕ)) / 512 = t := by omega
      rw [e]
      refine congrArg₂ _ (congrArg (d.DLS t) (ext2 ?_ ?_)) (congrArg d.X (ext2 ?_ ?_))
      · show (0 + (i 0 : ℕ) % 256) % 256 = (i 0 : ℕ) % 256; omega
      · show (0 + (k : ℕ)) % 512 = (512 * t + (k : ℕ)) % 512 % 512; omega
      · show (512 * t + (k : ℕ)) % 2048 = (512 * t + (k : ℕ)) % 2048; rfl
      · show (256 * ((i 1 : ℕ) / 256) + ((i 1 : ℕ) % 256) % 256) % 7168 = (i 1 : ℕ) % 7168; omega

/-- The weight gradient: a sum over all tokens. -/
theorem DW_apply (i : S7168x256.Idx) :
    DW d i = ∑ n : Fin 2048, d.DLS ((n : ℕ) / 512) (mk2 256 512 (i 1) ((n : ℕ) % 512)) * d.X (ix2 n (i 0)) := by
  have h0 := lt0 i; have h1 := lt1 i
  have hs : (∑ n : Fin 2048, d.DLS ((n : ℕ) / 512) (mk2 256 512 (i 1) ((n : ℕ) % 512)) * d.X (ix2 n (i 0)))
      = ∑ n ∈ Finset.range (512 * 3 + 512), d.DLS (n / 512) (mk2 256 512 (i 1) (n % 512)) * d.X (mk2 2048 7168 n (i 0)) := by
    rw [Finset.sum_range]
    refine Finset.sum_congr rfl fun n _ => congrArg₂ _ rfl (congrArg d.X (ext2 ?_ ?_))
    · show (n : ℕ) = (n : ℕ) % 2048; have := n.isLt; omega
    · show (i 0 : ℕ) = (i 0 : ℕ) % 7168; omega
  rw [hs, Finset.sum_range_add, Finset.sum_range _ (n := 512)]
  unfold DW slotDW
  rw [pay42_apply]
  refine congrArg₂ _ ?_ (Finset.sum_congr rfl fun k _ => ?_)
  · refine (DWT_apply d 3 le_rfl _).trans (Finset.sum_congr rfl fun n _ => congrArg₂ _ (congrArg (d.DLS _) (ext2 ?_ rfl)) (congrArg d.X (ext2 rfl ?_)))
    · show (0 + (i 1 : ℕ) % 256 % 256) % 256 % 256 = (i 1 : ℕ) % 256; omega
    · show (1024 * ((i 0 : ℕ) / 1024) + 256 * ((i 0 : ℕ) % 1024 % 1024 / 256) + (i 0 : ℕ) % 1024 % 1024 % 256 % 256) % 7168 % 7168 = (i 0 : ℕ) % 7168; omega
  · have hk := k.isLt
    have e : (512 * 3 + (k : ℕ)) / 512 = 3 := by omega
    rw [e]
    refine congrArg₂ _ (congrArg (d.DLS 3) (ext2 ?_ ?_)) (congrArg d.X (ext2 ?_ ?_))
    · show (0 + (i 1 : ℕ) % 256 % 256) % 256 = (i 1 : ℕ) % 256; omega
    · show (0 + (k : ℕ)) % 512 = (512 * 3 + (k : ℕ)) % 512 % 512; omega
    · show (1536 + (k : ℕ)) % 2048 = (512 * 3 + (k : ℕ)) % 2048; rfl
    · show (1024 * ((i 0 : ℕ) / 1024) + 256 * ((i 0 : ℕ) % 1024 % 1024 / 256) + (i 0 : ℕ) % 1024 % 1024 % 256 % 256) % 7168 = (i 0 : ℕ) % 7168; omega

/-- The token gradient. -/
theorem DH_apply (i : S2048x7168.Idx) :
    DH d i = (∑ e : Fin 256, d.DL ((i 0 : ℕ) / 512) (mk2 512 256 ((i 0 : ℕ) % 512) e) * d.W (ix2 (i 1) e)) + d.DY i := by
  have h0 := lt0 i; have h1 := lt1 i
  have e7 : (7 * ((i 0 : ℕ) / 512) + (i 1 : ℕ) / 1024) / 7 = (i 0 : ℕ) / 512 := by omega
  have e8 : (7 * ((i 0 : ℕ) / 512) + (i 1 : ℕ) / 1024) % 7 = (i 1 : ℕ) / 1024 := by omega
  unfold DH slotDH dhP
  rw [pay34_apply, e7, e8]
  refine congrArg₂ _ (Finset.sum_congr rfl fun e _ => ?_) ?_
  · have he := e.isLt
    show d.DL _ (mk2 512 256 (256 * ((i 0 : ℕ) % 512 % 512 / 256) + (i 0 : ℕ) % 512 % 512 % 256 % 256) (0 + (e : ℕ)))
      * WT d (mk2 256 7168 (0 + (e : ℕ)) (1024 * ((i 1 : ℕ) / 1024) + 512 * ((i 1 : ℕ) % 1024 % 1024 / 512) + (i 1 : ℕ) % 1024 % 1024 % 512 % 512)) = _
    rw [WT_apply]
    refine congrArg₂ _ (congrArg (d.DL _) (ext2 ?_ ?_)) (congrArg d.W (ext2 ?_ ?_))
    · show (256 * ((i 0 : ℕ) % 512 % 512 / 256) + (i 0 : ℕ) % 512 % 512 % 256 % 256) % 512 = (i 0 : ℕ) % 512 % 512; omega
    · show (0 + (e : ℕ)) % 256 = (e : ℕ) % 256; omega
    · show (1024 * ((i 1 : ℕ) / 1024) + 512 * ((i 1 : ℕ) % 1024 % 1024 / 512) + (i 1 : ℕ) % 1024 % 1024 % 512 % 512) % 7168 % 7168 = (i 1 : ℕ); omega
    · show (0 + (e : ℕ)) % 256 % 256 = (e : ℕ); omega
  · show d.DY _ = d.DY i
    rw [e7, e8]
    refine congrArg d.DY (ext2 ?_ ?_)
    · show (512 * ((i 0 : ℕ) / 512) + (256 * ((i 0 : ℕ) % 512 % 512 / 256) + (i 0 : ℕ) % 512 % 512 % 256 % 256) % 512) % 2048 = (i 0 : ℕ); omega
    · show (1024 * ((i 1 : ℕ) / 1024) + (512 * ((i 1 : ℕ) % 1024 % 1024 / 512) + (i 1 : ℕ) % 1024 % 1024 % 512 % 512) % 1024) % 7168 = (i 1 : ℕ); omega

end Cert.KernelIdeal.Val
-- ==== Proof.KerVal.lean ====
/-
  The kernel's three results as functions of its arguments, when no token names an expert twice.
-/
module

public import proofs.«01_k».proof.Proof.Args
public import proofs.«01_k».proof.Proof.Tile
public import proofs.«01_k».proof.Proof.Sums
public import Idealize.ShloMosaic.Lib.Claim

@[expose] public section

set_option maxRecDepth 16384

noncomputable section

namespace Cert.KernelIdeal.Val

open Cert.KernelIdeal Cert.KernelIdeal.Gen Cert.Own Cert.Spec
open Idealize.ShloMosaic Idealize.ShloMosaic.TcCoe

variable (m : (ℓ : Loc nD τ sig) → Buf (Elt Ideal) ℓ) (c : Dev nD)

/-- The arguments. -/
def g0 : S2x1024x7168.Idx → EReal := m ((c : Thread nD τ).loc main_arg0)
def g1 : S2x1024.Idx → EReal := m ((c : Thread nD τ).loc main_arg1)
def g2 : S7168x256.Idx → EReal := m ((c : Thread nD τ).loc main_arg2)
def g3 : S2x1024x8.Idx → BitVec 32 := m ((c : Thread nD τ).loc main_arg3)
def g4 : S2x1024x8.Idx → EReal := m ((c : Thread nD τ).loc main_arg4)
def g5 : S2x1024x7168.Idx → EReal := m ((c : Thread nD τ).loc main_arg5)

/-! ## The operands -/

theorem V0 (i : S2048x7168.Idx) : V m c main_v0 i = g0 m c (ix3 (bt (i 0)) (ps (i 0)) (i 1)) := by
  entry_read
  pointwise
  rfl

theorem V3 (i : S2048x7168.Idx) : V m c main_v3 i = g5 m c (ix3 (bt (i 0)) (ps (i 0)) (i 1)) := by
  entry_read
  pointwise
  rfl

theorem V1 (i : S2x8x1024.Idx) : V m c main_v1 i = g3 m c (ix3 (i 0) (i 2) (i 1)) := by
  entry_read
  pointwise
  rfl

theorem V2 (i : S2x8x1024.Idx) : V m c main_v2 i = g4 m c (ix3 (i 0) (i 2) (i 1)) := by
  entry_read
  pointwise
  rfl

/-! ## The router -/

/-- A token's tile and place in it. -/
def til (n : Fin 2048) : Fin 512 := ⟨(n : ℕ) % 512, by omega⟩

variable (hd : ∀ (b : Fin 2) (p : Fin 1024), Function.Injective fun k : Fin 8 => g3 m c (ix3 b p k))
include hd

theorem hdV (b n : ℕ) : Function.Injective fun k : Fin 8 => V m c main_v1 (mk3 2 8 1024 b k n) := by
  intro k k' h
  have h1 := (V1 m c (mk3 2 8 1024 b k n)).symm.trans ((show V m c main_v1 (mk3 2 8 1024 b k n) = V m c main_v1 (mk3 2 8 1024 b k' n) from h).trans (V1 m c (mk3 2 8 1024 b k' n)))
  have e : ∀ k : Fin 8, g3 m c (ix3 (mk3 2 8 1024 b k n 0) (mk3 2 8 1024 b k n 2) (mk3 2 8 1024 b k n 1)) = g3 m c (ix3 (mk3 2 8 1024 b 0 n 0) (mk3 2 8 1024 b 0 n 2) k) := fun k =>
    congrArg (g3 m c) (ext3 rfl rfl (show (k : ℕ) % 8 = k by omega))
  exact hd (mk3 2 8 1024 b 0 n 0) (mk3 2 8 1024 b 0 n 2) ((e k).symm.trans (h1.trans (e k')))

omit hd in
/-- The gradient of the logits of a token, found by its tile. -/
theorem dlt_eq (n : Fin 2048) (e : Fin 256) :
    dlt (V m c main_v1) (V m c main_v2) (V m c main_arg1) (accT (V m c main_v0) (V m c main_arg2) (V m c main_v3) ((n : ℕ) / 512)) ((n : ℕ) / 512) e (til n)
      = dlA (g0 m c) (g1 m c) (g2 m c) (g3 m c) (g4 m c) n e := by
  have hn := n.isLt
  have hb : ((n : ℕ) / 512 / 2) % 2 = (n : ℕ) / 1024 := by omega
  have hp : (512 * ((n : ℕ) / 512 % 2) + (n : ℕ) % 512) % 1024 = (n : ℕ) % 1024 := by omega
  unfold dlt dlA
  have hA : ∀ e : Fin 256, accT (V m c main_v0) (V m c main_arg2) (V m c main_v3) ((n : ℕ) / 512) (ix2 e (til n))
      = ∑ d : Fin 7168, g0 m c (ix3 (bt n) (ps n) d) * g2 m c (ix2 d e) := by
    intro e
    unfold accT
    rw [ACC_all _ _ (by omega)]
    refine Finset.sum_congr rfl fun d _ => congrArg₂ _ ?_ ?_
    · show V m c main_v0 _ = _
      rw [V0]
      refine congrArg (g0 m c) (ext3 ?_ ?_ ?_)
      · show ((512 * ((n : ℕ) / 512) + (n : ℕ) % 512) % 2048) / 1024 = (n : ℕ) / 1024; omega
      · show ((512 * ((n : ℕ) / 512) + (n : ℕ) % 512) % 2048) % 1024 = (n : ℕ) % 1024; omega
      · show (d : ℕ) % 7168 = d; have := d.isLt; omega
    · show V m c main_arg2 _ = _
      rw [V_main_arg2]
      rfl
  have hS : sc (V m c main_arg1) ((n : ℕ) / 512) (til n) = g1 m c (ix2 (bt n) (ps n)) := by
    unfold sc
    rw [V_main_arg1]
    exact congrArg (g1 m c) (ext2 hb hp)
  have hI : ∀ k : Fin 8, V m c main_v1 (mk3 2 8 1024 ((n : ℕ) / 512 / 2) k (512 * ((n : ℕ) / 512 % 2) + til n)) = g3 m c (ix3 (bt n) (ps n) k) := by
    intro k
    rw [V1]
    exact congrArg (g3 m c) (ext3 hb hp (show (k : ℕ) % 8 = k by omega))
  have hG : ∀ k : Fin 8, V m c main_v2 (mk3 2 8 1024 ((n : ℕ) / 512 / 2) k (512 * ((n : ℕ) / 512 % 2) + til n)) = g4 m c (ix3 (bt n) (ps n) k) := by
    intro k
    rw [V2]
    exact congrArg (g4 m c) (ext3 hb hp (show (k : ℕ) % 8 = k by omega))
  simp only [hA, hS, hI, hG]

theorem trips_eq : k0_t2_loop.trips = 3 := by decide +kernel

theorem DLO_eq (n : Fin 2048) (e : Fin 256) :
    (dat m c).DLO ((n : ℕ) / 512) (ix2 (til n) e) = dlA (g0 m c) (g1 m c) (g2 m c) (g3 m c) (g4 m c) n e := by
  have hn := n.isLt
  rw [← dlt_eq]
  show dlo c _ _ _ _ _ _ _ _ = _
  rcases h : (n : ℕ) / 512 with _ | t
  · rw [dlo_zero, rDLO0_apply _ _ _ _ _ (hdV m c hd)]
    rfl
  · rw [dlo_succ _ _ _ _ _ _ _ t (by rw [trips_eq m c hd]; omega), rDLO_apply _ _ _ _ _ (hdV m c hd)]
    rfl

theorem DL_eq (n : Fin 2048) (e : Fin 256) :
    (dat m c).DL ((n : ℕ) / 512) (ix2 (til n) e) = dlA (g0 m c) (g1 m c) (g2 m c) (g3 m c) (g4 m c) n e := by
  have hn := n.isLt
  rw [← dlt_eq]
  show dl c _ _ _ _ _ _ _ _ = _
  rcases h : (n : ℕ) / 512 with _ | t
  · rw [dl_zero, rDL0_apply _ _ _ _ _ (hdV m c hd)]
    rfl
  · rw [dl_succ _ _ _ _ _ _ _ t (by rw [trips_eq m c hd]; omega), rDL_apply _ _ _ _ _ (hdV m c hd)]
    rfl

theorem DLS_eq (n : Fin 2048) (e : Fin 256) :
    (dat m c).DLS ((n : ℕ) / 512) (ix2 e (til n)) = dlA (g0 m c) (g1 m c) (g2 m c) (g3 m c) (g4 m c) n e * g1 m c (ix2 (bt n) (ps n)) := by
  have hn := n.isLt
  have hS : sc (V m c main_arg1) ((n : ℕ) / 512) (til n) = g1 m c (ix2 (bt n) (ps n)) := by
    unfold sc
    rw [V_main_arg1]
    refine congrArg (g1 m c) (ext2 ?_ ?_)
    · show ((n : ℕ) / 512 / 2) % 2 = (n : ℕ) / 1024; omega
    · show (512 * ((n : ℕ) / 512 % 2) + (n : ℕ) % 512) % 1024 = (n : ℕ) % 1024; omega
  rw [← dlt_eq, ← hS]
  show dls c _ _ _ _ _ _ _ _ = _
  rcases h : (n : ℕ) / 512 with _ | t
  · rw [dls_zero, rDLS0_apply _ _ _ _ _ (hdV m c hd)]
    rfl
  · rw [dls_succ _ _ _ _ _ _ _ t (by rw [trips_eq m c hd]; omega), rDLS_apply _ _ _ _ _ (hdV m c hd)]
    rfl

/-! ## The results -/

theorem DLOA_eq : DLOA (dat m c) = dloA (g0 m c) (g1 m c) (g2 m c) (g3 m c) (g4 m c) := by
  funext i
  have h0 := lt0 i; have h1 := lt1 i
  unfold DLOA dloA
  refine Eq.trans ?_ (DLO_eq m c hd (i 0) (i 1))
  refine congrArg ((dat m c).DLO _) (ext2 ?_ ?_)
  · show (i 0 : ℕ) % 512 % 512 = (i 0 : ℕ) % 512; omega
  · show (i 1 : ℕ) % 256 = i 1; omega

theorem DH_eq : DH (dat m c) = dhA (g0 m c) (g1 m c) (g2 m c) (g3 m c) (g4 m c) (g5 m c) := by
  funext i
  unfold dhA
  refine (DH_apply _ i).trans (congrArg₂ _ (Finset.sum_congr rfl fun e _ => congrArg₂ _ ?_ ?_) ?_)
  · refine Eq.trans ?_ (DL_eq m c hd (i 0) e)
    refine congrArg ((dat m c).DL _) (ext2 ?_ ?_)
    · show (i 0 : ℕ) % 512 % 512 = (i 0 : ℕ) % 512; omega
    · show (e : ℕ) % 256 = e; omega
  · show V m c main_arg2 _ = _
    rw [V_main_arg2]
    rfl
  · exact V3 m c i

theorem DW_eq : DW (dat m c) = dwA (g0 m c) (g1 m c) (g2 m c) (g3 m c) (g4 m c) := by
  funext i
  have h1 := lt1 i
  unfold dwA
  refine (DW_apply _ i).trans (Finset.sum_congr rfl fun n _ => ?_)
  rw [mul_comm]
  refine congrArg₂ _ (V0 m c _) ?_
  refine Eq.trans ?_ (DLS_eq m c hd n (i 1))
  refine congrArg ((dat m c).DLS _) (ext2 ?_ ?_)
  · show (i 1 : ℕ) % 256 = i 1; omega
  · show (n : ℕ) % 512 % 512 = (n : ℕ) % 512; omega

end Cert.KernelIdeal.Val
-- ==== Proof.RefRun.lean ====
/-
  The reference's three results as functions of its arguments.
-/
module

public import proofs.«01_k».proof.Proof.Args
public import proofs.«01_k».proof.Proof.RefVal
public import Idealize.ShloMosaic.Lib.Claim

@[expose] public section

set_option maxRecDepth 16384

noncomputable section

namespace Cert.ReferenceIdeal.Val

open Cert.ReferenceIdeal Cert.ReferenceIdeal.Gen Cert.Spec
open Idealize.ShloMosaic Idealize.ShloMosaic.TcCoe Idealize.SL.Sem

variable (m : (ℓ : Loc nD τ sig) → Buf (Elt Ideal) ℓ) (c : Dev nD)

/-- The arguments. -/
def g0 : S2x1024x7168.Idx → EReal := m ((c : Thread nD τ).loc main_arg0)
def g1 : S2x1024.Idx → EReal := m ((c : Thread nD τ).loc main_arg1)
def g2 : S7168x256.Idx → EReal := m ((c : Thread nD τ).loc main_arg2)
def g3 : S2x1024x8.Idx → BitVec 32 := m ((c : Thread nD τ).loc main_arg3)
def g4 : S2x1024x8.Idx → EReal := m ((c : Thread nD τ).loc main_arg4)
def g5 : S2x1024x7168.Idx → EReal := m ((c : Thread nD τ).loc main_arg5)

/-! ## The operands -/

theorem V0 (i : S2048x7168.Idx) : V m c main_v0 i = g0 m c (ix3 (bt (i 0)) (ps (i 0)) (i 1)) := by
  entry_read
  pointwise
  rfl

theorem V1 (i : S2048x1.Idx) : V m c main_v1 i = g1 m c (ix2 (bt (i 0)) (ps (i 0))) := by
  entry_read
  pointwise
  rfl

theorem V2 (i : S2048x8.Idx) : V m c main_v2 i = g3 m c (ix3 (bt (i 0)) (ps (i 0)) (i 1)) := by
  entry_read
  pointwise
  rfl

theorem V3 (i : S2048x8.Idx) : V m c main_v3 i = g4 m c (ix3 (bt (i 0)) (ps (i 0)) (i 1)) := by
  entry_read
  pointwise
  rfl

theorem V4 (i : S2048x7168.Idx) : V m c main_v4 i = g5 m c (ix3 (bt (i 0)) (ps (i 0)) (i 1)) := by
  entry_read
  pointwise
  rfl

/-! ## The windows: each block is its whole array -/

variable (t : Fin cfg0.N)

theorem ib0 : iblk m c 0 t = V m c main_v0 := Memref.read_access_unit_zero (Elt Ideal) main_v0 (by funext a; fin_cases a <;> rfl) _ _
theorem ib1 : iblk m c 1 t = V m c main_v1 := Memref.read_access_unit_zero (Elt Ideal) main_v1 (by funext a; fin_cases a <;> rfl) _ _
theorem ib2 : iblk m c 2 t = V m c main_arg2 := Memref.read_access_unit_zero (Elt Ideal) main_arg2 (by funext a; fin_cases a <;> rfl) _ _
theorem ib3 : iblk m c 3 t = V m c main_v2 := Memref.read_access_unit_zero (Elt Ideal) main_v2 (by funext a; fin_cases a <;> rfl) _ _
theorem ib4 : iblk m c 4 t = V m c main_v3 := Memref.read_access_unit_zero (Elt Ideal) main_v3 (by funext a; fin_cases a <;> rfl) _ _
theorem ib5 : iblk m c 5 t = V m c main_v4 := Memref.read_access_unit_zero (Elt Ideal) main_v4 (by funext a; fin_cases a <;> rfl) _ _

theorem arr6 : (dats m 0 c).arrAt 6 cfg0.N = out0_6 (V m c main_v0) (V m c main_v1) (V m c main_arg2) (V m c main_v2) (V m c main_v3) (V m c main_v4) := by
  have h := (Value.blocks6 m c t0_0 rfl).trans (Value.flushed6 m c t0_0)
  rw [ib0, ib1, ib2, ib3, ib4, ib5] at h
  exact (Memref.read_access_unit_zero (Elt Ideal) main_v5_0 (by funext a; fin_cases a <;> rfl) _ _).symm.trans h

theorem arr7 : (dats m 0 c).arrAt 7 cfg0.N = out0_7 (V m c main_v0) (V m c main_v1) (V m c main_arg2) (V m c main_v2) (V m c main_v3) (V m c main_v4) := by
  have h := (Value.blocks7 m c t0_0 rfl).trans (Value.flushed7 m c t0_0)
  rw [ib0, ib1, ib2, ib3, ib4, ib5] at h
  exact (Memref.read_access_unit_zero (Elt Ideal) main_v5_1 (by funext a; fin_cases a <;> rfl) _ _).symm.trans h

theorem arr8 : (dats m 0 c).arrAt 8 cfg0.N = out0_8 (V m c main_v0) (V m c main_v1) (V m c main_arg2) (V m c main_v2) (V m c main_v3) (V m c main_v4) := by
  have h := (Value.blocks8 m c t0_0 rfl).trans (Value.flushed8 m c t0_0)
  rw [ib0, ib1, ib2, ib3, ib4, ib5] at h
  exact (Memref.read_access_unit_zero (Elt Ideal) main_v5_2 (by funext a; fin_cases a <;> rfl) _ _).symm.trans h

/-! ## The results -/

theorem dlog_congr {L L' : Fin 256 → EReal} {s s' : EReal} {id id' : Fin 8 → BitVec 32} {dg dg' : Fin 8 → EReal}
    (hL : L = L') (hs : s = s') (hi : id = id') (hg : dg = dg') (e : Fin 256) : dlog L s id dg e = dlog L' s' id' dg' e := by
  subst hL hs hi hg; rfl

theorem dlR_eq (n : Fin 2048) (e : Fin 256) :
    dlR (V m c main_v0) (V m c main_v1) (V m c main_arg2) (V m c main_v2) (V m c main_v3) n e = dlA (g0 m c) (g1 m c) (g2 m c) (g3 m c) (g4 m c) n e :=
  dlog_congr (funext fun e => Finset.sum_congr rfl fun d _ => congrArg₂ _ (V0 m c (ix2 n d)) (congrFun (V_main_arg2 m c) (ix2 d e))) (V1 m c (ix2 n 0))
    (funext fun k => V2 m c (ix2 n k)) (funext fun k => V3 m c (ix2 n k)) e

theorem out6_eq : (dats m 0 c).arrAt 6 cfg0.N = dhA (g0 m c) (g1 m c) (g2 m c) (g3 m c) (g4 m c) (g5 m c) :=
  (arr6 m c).trans (funext fun i => (out6 _ _ _ _ _ _ i).trans (congrArg₂ (fun a b : EReal => a + b)
    (Finset.sum_congr rfl fun e _ => congrArg₂ (fun a b : EReal => a * b) (dlR_eq m c (i 0) e) (congrFun (V_main_arg2 m c) (ix2 (i 1) e))) (V4 m c i)))

theorem out7_eq : (dats m 0 c).arrAt 7 cfg0.N = dwA (g0 m c) (g1 m c) (g2 m c) (g3 m c) (g4 m c) :=
  (arr7 m c).trans (funext fun i => (out7 _ _ _ _ _ _ i).trans (Finset.sum_congr rfl fun n _ => congrArg₂ (fun a b : EReal => a * b)
    (V0 m c (ix2 n (i 0))) (congrArg₂ (fun a b : EReal => a * b) (dlR_eq m c n (i 1)) (V1 m c (ix2 n 0)))))

theorem out8_eq : (dats m 0 c).arrAt 8 cfg0.N = dloA (g0 m c) (g1 m c) (g2 m c) (g3 m c) (g4 m c) :=
  (arr8 m c).trans (funext fun i => (out8 _ _ _ _ _ _ i).trans (dlR_eq m c (i 0) (i 1)))

end Cert.ReferenceIdeal.Val
-- ==== Proof.Algebra.lean ====
/-
  The kernel and the reference agree over the extended reals, on arguments in which no token names an expert twice.
-/
module

public import proofs.«01_k».proof.Defs
public import proofs.«01_k».proof.Proof.KerVal
public import proofs.«01_k».proof.Proof.RefRun
public import proofs.«01_k».proof.Proof.Launch

@[expose] public section

set_option maxRecDepth 16384

noncomputable section

namespace Cert.Proof

open Idealize.ShloMosaic Idealize.ShloMosaic.TcCoe Idealize.SL.Sem

/-- The shape relations of the predicate `distinct`. -/
theorem distinctFacts : Cert.Pre_distinct.Facts where
  bcast_S2x1024x8_S2x1024x8x1_0_1_2 := by decide
  bcast_S2x1024x8_S2x1024x1x8_0_1_3 := by decide
  bcast_S2x1024x8x1_S2x1024x8x8_0_1_2_3 := by decide
  bcast_S2x1024x1x8_S2x1024x8x8_0_1_2_3 := by decide
  bcast_S8_S8x1_0 := by decide
  bcast_S8_S1x8_1 := by decide
  bcast_S8x1_S8x8_0_1 := by decide
  bcast_S1x8_S8x8_0_1 := by decide
  bcast_S8x8_S1x1x8x8_2_3 := by decide
  bcast_S1x1x8x8_S2x1024x8x8_0_1_2_3 := by decide

/-- The predicate at one token and two of its places: either the ids there differ or the places are the same. -/
theorem fn_apply [Cert.Pre_distinct.Facts] (a0 : FVec Ideal Cert.Pre_distinct.S2x1024x7168 .fp8e4m3) (a1 : FVec Ideal Cert.Pre_distinct.S2x1024 .f32)
    (a2 : FVec Ideal Cert.Pre_distinct.S7168x256 .bf16) (a3 : IVec Cert.Pre_distinct.S2x1024x8 32) (a4 : FVec Ideal Cert.Pre_distinct.S2x1024x8 .bf16)
    (a5 : FVec Ideal Cert.Pre_distinct.S2x1024x7168 .bf16) (b : Fin 2) (p : Fin 1024) (k k' : Fin 8) :
    Cert.Pre_distinct.fn (F := Ideal) a0 a1 a2 a3 a4 a5 (ix4 b p k k')
      = ~~~ (IntOp.cmpi .eq (a3 (ix3 b p k)) (a3 (ix3 b p k'))) ||| IntOp.cmpi .eq (BitVec.ofNat 32 (k : ℕ)) (BitVec.ofNat 32 (k' : ℕ)) := by
  unfold Cert.Pre_distinct.fn
  pointwise
  rfl

/-- Under the predicate a token's eight ids are pairwise distinct. -/
theorem distinct_inj [Cert.Pre_distinct.Facts] (m : (ℓ : Loc Cert.KernelIdeal.nD Cert.KernelIdeal.τ Cert.KernelIdeal.sig) → Buf (Elt Ideal) ℓ)
    (h : Cert.Pre_KernelIdeal_distinct m) (c : Dev Cert.KernelIdeal.nD) (b : Fin 2) (p : Fin 1024) :
    Function.Injective fun k : Fin 8 => Cert.KernelIdeal.Val.g3 m c (ix3 b p k) := by
  intro k k' e
  have e1 : Cert.KernelIdeal.Val.g3 m c (ix3 b p k) = Cert.KernelIdeal.Val.g3 m c (ix3 b p k') := e
  have h1 := (fn_apply (Cert.KernelIdeal.Val.g0 m c) (Cert.KernelIdeal.Val.g1 m c) (Cert.KernelIdeal.Val.g2 m c) (Cert.KernelIdeal.Val.g3 m c)
    (Cert.KernelIdeal.Val.g4 m c) (Cert.KernelIdeal.Val.g5 m c) b p k k').symm.trans (congrFun (h c) (ix4 b p k k'))
  rw [e1] at h1
  by_contra hk
  have hall : ∀ k k' : Fin 8, ¬k = k' → (BitVec.ofNat 32 (k : ℕ) == BitVec.ofNat 32 (k' : ℕ)) = false := by decide
  have hne := hall k k' hk
  simp [IntOp.cmpi, hne] at h1

/-- Both programs end with the same three results. -/
theorem algebra [Cert.Pre_distinct.Facts] : Cert.algebraic_KernelIdeal_ReferenceIdeal_pre_distinct (hKernelIdeal := Cert.KernelIdeal.Gen.facts)
    (hReferenceIdeal := Cert.ReferenceIdeal.Gen.facts) := by
  intro m g m' g' hpre hag
  have hd := fun c => distinct_inj m hpre c
  refine ⟨fun c => Cert.KernelIdeal.Val.DH (Cert.KernelIdeal.Val.dat m c), fun c => Cert.KernelIdeal.Val.DW (Cert.KernelIdeal.Val.dat m c),
    fun c => Cert.KernelIdeal.Val.DLOA (Cert.KernelIdeal.Val.dat m c), ?_, ?_⟩
  · exact (θ_run _ _ _).mono (fun r h c => ⟨(h.1 c).2.1, (h.1 c).2.2.1, (h.1 c).2.2.2, (h.1 c).1⟩) (Cert.KernelIdeal.Val.run m g)
  · refine (θ_run _ _ _).mono (fun r h c => ?_) (Cert.ReferenceIdeal.Value.run_blocks m' g')
    obtain ⟨h6, h7, h8, hk⟩ := h c
    obtain ⟨q0, q1, q2, q3, q4, q5⟩ := hag c
    have e0 : Cert.ReferenceIdeal.Val.g0 m' c = Cert.KernelIdeal.Val.g0 m c := q0
    have e1 : Cert.ReferenceIdeal.Val.g1 m' c = Cert.KernelIdeal.Val.g1 m c := q1
    have e2 : Cert.ReferenceIdeal.Val.g2 m' c = Cert.KernelIdeal.Val.g2 m c := q2
    have e3 : Cert.ReferenceIdeal.Val.g3 m' c = Cert.KernelIdeal.Val.g3 m c := q3
    have e4 : Cert.ReferenceIdeal.Val.g4 m' c = Cert.KernelIdeal.Val.g4 m c := q4
    have e5 : Cert.ReferenceIdeal.Val.g5 m' c = Cert.KernelIdeal.Val.g5 m c := q5
    have r6 := Cert.ReferenceIdeal.Val.out6_eq m' c
    have r7 := Cert.ReferenceIdeal.Val.out7_eq m' c
    have r8 := Cert.ReferenceIdeal.Val.out8_eq m' c
    rw [e0, e1, e2, e3, e4, e5] at r6
    rw [e0, e1, e2, e3, e4] at r7 r8
    exact ⟨h6.trans (r6.trans (Cert.KernelIdeal.Val.DH_eq m c (hd c)).symm), h7.trans (r7.trans (Cert.KernelIdeal.Val.DW_eq m c (hd c)).symm),
      h8.trans (r8.trans (Cert.KernelIdeal.Val.DLOA_eq m c (hd c)).symm), hk⟩

end Cert.Proof

end
-- ==== Proof.lean ====
/-
  The claims: the kernel terminates without fault, as printed and read over the extended reals; so does the reference;
  and over the extended reals the two end with equal results, when no token names an expert twice.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.RefVal
public import proofs.«01_k».proof.Proof.Frames
public import proofs.«01_k».proof.Proof.Algebra

@[expose] public section

namespace Cert.Proof

/-- Every claim. -/
theorem claim : Cert.Claim := ⟨Cert.Kernel.Gen.facts, Cert.KernelIdeal.Gen.facts, Cert.ReferenceIdeal.Gen.facts, distinctFacts,
  fun m g _ => kernel_frame m g, fun m g _ => kernelIdeal_frame m g, fun m g _ => kernelIdeal_frame m g,
  fun m g _ => Cert.ReferenceIdeal.Gen.frame m g, fun m g _ => Cert.ReferenceIdeal.Gen.frame m g, trivial,
  @algebra distinctFacts⟩

end Cert.Proof

end
